-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9)
      ∧ r.2.mem ((c.tc : Thread Cert.Kernel13.nD Cert.Kernel13.τ).loc Cert.Kernel13.main_arg10) = m ((c.tc : Thread Cert.Kernel13.nD Cert.Kernel13.τ).loc Cert.Kernel13.main_arg10)
      ∧ r.2.mem ((c.tc : Thread Cert.Kernel13.nD Cert.Kernel13.τ).loc Cert.Kernel13.main_arg11) = m ((c.tc : Thread Cert.Kernel13.nD Cert.Kernel13.τ).loc Cert.Kernel13.main_arg11)
      ∧ r.2.mem ((c.tc : Thread Cert.Kernel13.nD Cert.Kernel13.τ).loc Cert.Kernel13.main_arg12) = m ((c.tc : Thread Cert.Kernel13.nD Cert.Kernel13.τ).loc Cert.Kernel13.main_arg12)
      ∧ r.2.mem ((c.tc : Thread Cert.Kernel13.nD Cert.Kernel13.τ).loc Cert.Kernel13.main_arg13) = m ((c.tc : Thread Cert.Kernel13.nD Cert.Kernel13.τ).loc Cert.Kernel13.main_arg13)
      ∧ r.2.mem ((c.tc : Thread Cert.Kernel13.nD Cert.Kernel13.τ).loc Cert.Kernel13.main_arg14) = m ((c.tc : Thread Cert.Kernel13.nD Cert.Kernel13.τ).loc Cert.Kernel13.main_arg14)
      ∧ r.2.mem ((c.tc : Thread Cert.Kernel13.nD Cert.Kernel13.τ).loc Cert.Kernel13.main_arg15) = m ((c.tc : Thread Cert.Kernel13.nD Cert.Kernel13.τ).loc Cert.Kernel13.main_arg15))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
      ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
      ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11)
      ∧ r.2.mem ((c.tc : Thread Cert.Kernel13Ideal.nD Cert.Kernel13Ideal.τ).loc Cert.Kernel13Ideal.main_arg12) = m ((c.tc : Thread Cert.Kernel13Ideal.nD Cert.Kernel13Ideal.τ).loc Cert.Kernel13Ideal.main_arg12)
      ∧ r.2.mem ((c.tc : Thread Cert.Kernel13Ideal.nD Cert.Kernel13Ideal.τ).loc Cert.Kernel13Ideal.main_arg13) = m ((c.tc : Thread Cert.Kernel13Ideal.nD Cert.Kernel13Ideal.τ).loc Cert.Kernel13Ideal.main_arg13)
      ∧ r.2.mem ((c.tc : Thread Cert.Kernel13Ideal.nD Cert.Kernel13Ideal.τ).loc Cert.Kernel13Ideal.main_arg14) = m ((c.tc : Thread Cert.Kernel13Ideal.nD Cert.Kernel13Ideal.τ).loc Cert.Kernel13Ideal.main_arg14)
      ∧ r.2.mem ((c.tc : Thread Cert.Kernel13Ideal.nD Cert.Kernel13Ideal.τ).loc Cert.Kernel13Ideal.main_arg15) = m ((c.tc : Thread Cert.Kernel13Ideal.nD Cert.Kernel13Ideal.τ).loc Cert.Kernel13Ideal.main_arg15))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9)
      ∧ r.2.mem ((c.tc : Thread Cert.Reference13Ideal.nD Cert.Reference13Ideal.τ).loc Cert.Reference13Ideal.main_arg10) = m ((c.tc : Thread Cert.Reference13Ideal.nD Cert.Reference13Ideal.τ).loc Cert.Reference13Ideal.main_arg10)
      ∧ r.2.mem ((c.tc : Thread Cert.Reference13Ideal.nD Cert.Reference13Ideal.τ).loc Cert.Reference13Ideal.main_arg11) = m ((c.tc : Thread Cert.Reference13Ideal.nD Cert.Reference13Ideal.τ).loc Cert.Reference13Ideal.main_arg11)
      ∧ r.2.mem ((c.tc : Thread Cert.Reference13Ideal.nD Cert.Reference13Ideal.τ).loc Cert.Reference13Ideal.main_arg12) = m ((c.tc : Thread Cert.Reference13Ideal.nD Cert.Reference13Ideal.τ).loc Cert.Reference13Ideal.main_arg12)
      ∧ r.2.mem ((c.tc : Thread Cert.Reference13Ideal.nD Cert.Reference13Ideal.τ).loc Cert.Reference13Ideal.main_arg13) = m ((c.tc : Thread Cert.Reference13Ideal.nD Cert.Reference13Ideal.τ).loc Cert.Reference13Ideal.main_arg13)
      ∧ r.2.mem ((c.tc : Thread Cert.Reference13Ideal.nD Cert.Reference13Ideal.τ).loc Cert.Reference13Ideal.main_arg14) = m ((c.tc : Thread Cert.Reference13Ideal.nD Cert.Reference13Ideal.τ).loc Cert.Reference13Ideal.main_arg14)
      ∧ r.2.mem ((c.tc : Thread Cert.Reference13Ideal.nD Cert.Reference13Ideal.τ).loc Cert.Reference13Ideal.main_arg15) = m ((c.tc : Thread Cert.Reference13Ideal.nD Cert.Reference13Ideal.τ).loc Cert.Reference13Ideal.main_arg15))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_v237) = v1 c
          ∧ r.2.mem ((c.tc : Thread Cert.ReferenceIdeal.nD Cert.ReferenceIdeal.τ).loc Cert.ReferenceIdeal.main_v233) = v2 c
          ∧ r.2.mem ((c.tc : Thread Cert.ReferenceIdeal.nD Cert.ReferenceIdeal.τ).loc Cert.ReferenceIdeal.main_v238) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v39_0)) (v1 : (c : Dev Cert.Kernel3Ideal.nD) → Buf (Elt Ideal) ((c.tc : Thread Cert.Kernel3Ideal.nD Cert.Kernel3Ideal.τ).loc Cert.Kernel3Ideal.main_v39_1)) (v2 : (c : Dev Cert.Kernel3Ideal.nD) → Buf (Elt Ideal) ((c.tc : Thread Cert.Kernel3Ideal.nD Cert.Kernel3Ideal.τ).loc Cert.Kernel3Ideal.main_v39_2)) (v3 : (c : Dev Cert.Kernel3Ideal.nD) → Buf (Elt Ideal) ((c.tc : Thread Cert.Kernel3Ideal.nD Cert.Kernel3Ideal.τ).loc Cert.Kernel3Ideal.main_v39_3)) (v4 : (c : Dev Cert.Kernel3Ideal.nD) → Buf (Elt Ideal) ((c.tc : Thread Cert.Kernel3Ideal.nD Cert.Kernel3Ideal.τ).loc Cert.Kernel3Ideal.main_v39_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v39_0) = v0 c
          ∧ r.2.mem ((c.tc : Thread Cert.Kernel3Ideal.nD Cert.Kernel3Ideal.τ).loc Cert.Kernel3Ideal.main_v39_1) = v1 c
          ∧ r.2.mem ((c.tc : Thread Cert.Kernel3Ideal.nD Cert.Kernel3Ideal.τ).loc Cert.Kernel3Ideal.main_v39_2) = v2 c
          ∧ r.2.mem ((c.tc : Thread Cert.Kernel3Ideal.nD Cert.Kernel3Ideal.τ).loc Cert.Kernel3Ideal.main_v39_3) = v3 c
          ∧ r.2.mem ((c.tc : Thread Cert.Kernel3Ideal.nD Cert.Kernel3Ideal.τ).loc Cert.Kernel3Ideal.main_v39_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_v54) = v1 c
          ∧ r.2.mem ((c.tc : Thread Cert.Reference3Ideal.nD Cert.Reference3Ideal.τ).loc Cert.Reference3Ideal.main_v58) = v2 c
          ∧ r.2.mem ((c.tc : Thread Cert.Reference3Ideal.nD Cert.Reference3Ideal.τ).loc Cert.Reference3Ideal.main_v62) = v3 c
          ∧ r.2.mem ((c.tc : Thread Cert.Reference3Ideal.nD Cert.Reference3Ideal.τ).loc Cert.Reference3Ideal.main_v66) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_v14) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v15_0)) (v1 : (c : Dev Cert.Kernel6Ideal.nD) → Buf (Elt Ideal) ((c.tc : Thread Cert.Kernel6Ideal.nD Cert.Kernel6Ideal.τ).loc Cert.Kernel6Ideal.main_v15_1)) (v2 : (c : Dev Cert.Kernel6Ideal.nD) → Buf (Elt Ideal) ((c.tc : Thread Cert.Kernel6Ideal.nD Cert.Kernel6Ideal.τ).loc Cert.Kernel6Ideal.main_v15_2)) (v3 : (c : Dev Cert.Kernel6Ideal.nD) → Buf (Elt Ideal) ((c.tc : Thread Cert.Kernel6Ideal.nD Cert.Kernel6Ideal.τ).loc Cert.Kernel6Ideal.main_v15_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15_0) = v0 c
          ∧ r.2.mem ((c.tc : Thread Cert.Kernel6Ideal.nD Cert.Kernel6Ideal.τ).loc Cert.Kernel6Ideal.main_v15_1) = v1 c
          ∧ r.2.mem ((c.tc : Thread Cert.Kernel6Ideal.nD Cert.Kernel6Ideal.τ).loc Cert.Kernel6Ideal.main_v15_2) = v2 c
          ∧ r.2.mem ((c.tc : Thread Cert.Kernel6Ideal.nD Cert.Kernel6Ideal.τ).loc Cert.Kernel6Ideal.main_v15_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_v22) = v1 c
          ∧ r.2.mem ((c.tc : Thread Cert.Reference6Ideal.nD Cert.Reference6Ideal.τ).loc Cert.Reference6Ideal.main_v26) = v2 c
          ∧ r.2.mem ((c.tc : Thread Cert.Reference6Ideal.nD Cert.Reference6Ideal.τ).loc Cert.Reference6Ideal.main_v27) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)
      ∧ m' ((c.tc : Thread Cert.Reference13Ideal.nD Cert.Reference13Ideal.τ).loc Cert.Reference13Ideal.main_arg10) = m ((c.tc : Thread Cert.Kernel13Ideal.nD Cert.Kernel13Ideal.τ).loc Cert.Kernel13Ideal.main_arg10)
      ∧ m' ((c.tc : Thread Cert.Reference13Ideal.nD Cert.Reference13Ideal.τ).loc Cert.Reference13Ideal.main_arg11) = m ((c.tc : Thread Cert.Kernel13Ideal.nD Cert.Kernel13Ideal.τ).loc Cert.Kernel13Ideal.main_arg11)
      ∧ m' ((c.tc : Thread Cert.Reference13Ideal.nD Cert.Reference13Ideal.τ).loc Cert.Reference13Ideal.main_arg12) = m ((c.tc : Thread Cert.Kernel13Ideal.nD Cert.Kernel13Ideal.τ).loc Cert.Kernel13Ideal.main_arg12)
      ∧ m' ((c.tc : Thread Cert.Reference13Ideal.nD Cert.Reference13Ideal.τ).loc Cert.Reference13Ideal.main_arg13) = m ((c.tc : Thread Cert.Kernel13Ideal.nD Cert.Kernel13Ideal.τ).loc Cert.Kernel13Ideal.main_arg13)
      ∧ m' ((c.tc : Thread Cert.Reference13Ideal.nD Cert.Reference13Ideal.τ).loc Cert.Reference13Ideal.main_arg14) = m ((c.tc : Thread Cert.Kernel13Ideal.nD Cert.Kernel13Ideal.τ).loc Cert.Kernel13Ideal.main_arg14)
      ∧ m' ((c.tc : Thread Cert.Reference13Ideal.nD Cert.Reference13Ideal.τ).loc Cert.Reference13Ideal.main_arg15) = m ((c.tc : Thread Cert.Kernel13Ideal.nD Cert.Kernel13Ideal.τ).loc Cert.Kernel13Ideal.main_arg15)) →
    ∃ (v0 : (c : Dev Cert.Kernel13Ideal.nD) → Buf (Elt Ideal) ((c.tc : Thread Cert.Kernel13Ideal.nD Cert.Kernel13Ideal.τ).loc Cert.Kernel13Ideal.main_v18)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v18) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
          ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
          ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11)
          ∧ r.2.mem ((c.tc : Thread Cert.Kernel13Ideal.nD Cert.Kernel13Ideal.τ).loc Cert.Kernel13Ideal.main_arg12) = m ((c.tc : Thread Cert.Kernel13Ideal.nD Cert.Kernel13Ideal.τ).loc Cert.Kernel13Ideal.main_arg12)
          ∧ r.2.mem ((c.tc : Thread Cert.Kernel13Ideal.nD Cert.Kernel13Ideal.τ).loc Cert.Kernel13Ideal.main_arg13) = m ((c.tc : Thread Cert.Kernel13Ideal.nD Cert.Kernel13Ideal.τ).loc Cert.Kernel13Ideal.main_arg13)
          ∧ r.2.mem ((c.tc : Thread Cert.Kernel13Ideal.nD Cert.Kernel13Ideal.τ).loc Cert.Kernel13Ideal.main_arg14) = m ((c.tc : Thread Cert.Kernel13Ideal.nD Cert.Kernel13Ideal.τ).loc Cert.Kernel13Ideal.main_arg14)
          ∧ r.2.mem ((c.tc : Thread Cert.Kernel13Ideal.nD Cert.Kernel13Ideal.τ).loc Cert.Kernel13Ideal.main_arg15) = m ((c.tc : Thread Cert.Kernel13Ideal.nD Cert.Kernel13Ideal.τ).loc Cert.Kernel13Ideal.main_arg15))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v82) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9)
          ∧ r.2.mem ((c.tc : Thread Cert.Reference13Ideal.nD Cert.Reference13Ideal.τ).loc Cert.Reference13Ideal.main_arg10) = m' ((c.tc : Thread Cert.Reference13Ideal.nD Cert.Reference13Ideal.τ).loc Cert.Reference13Ideal.main_arg10)
          ∧ r.2.mem ((c.tc : Thread Cert.Reference13Ideal.nD Cert.Reference13Ideal.τ).loc Cert.Reference13Ideal.main_arg11) = m' ((c.tc : Thread Cert.Reference13Ideal.nD Cert.Reference13Ideal.τ).loc Cert.Reference13Ideal.main_arg11)
          ∧ r.2.mem ((c.tc : Thread Cert.Reference13Ideal.nD Cert.Reference13Ideal.τ).loc Cert.Reference13Ideal.main_arg12) = m' ((c.tc : Thread Cert.Reference13Ideal.nD Cert.Reference13Ideal.τ).loc Cert.Reference13Ideal.main_arg12)
          ∧ r.2.mem ((c.tc : Thread Cert.Reference13Ideal.nD Cert.Reference13Ideal.τ).loc Cert.Reference13Ideal.main_arg13) = m' ((c.tc : Thread Cert.Reference13Ideal.nD Cert.Reference13Ideal.τ).loc Cert.Reference13Ideal.main_arg13)
          ∧ r.2.mem ((c.tc : Thread Cert.Reference13Ideal.nD Cert.Reference13Ideal.τ).loc Cert.Reference13Ideal.main_arg14) = m' ((c.tc : Thread Cert.Reference13Ideal.nD Cert.Reference13Ideal.τ).loc Cert.Reference13Ideal.main_arg14)
          ∧ r.2.mem ((c.tc : Thread Cert.Reference13Ideal.nD Cert.Reference13Ideal.τ).loc Cert.Reference13Ideal.main_arg15) = m' ((c.tc : Thread Cert.Reference13Ideal.nD Cert.Reference13Ideal.τ).loc Cert.Reference13Ideal.main_arg15))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v31) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel7 : Cert.Kernel7.Facts) (hKernel7Ideal : Cert.Kernel7Ideal.Facts) (hReference7Ideal : Cert.Reference7Ideal.Facts) (hKernel6 : Cert.Kernel6.Facts) (hKernel6Ideal : Cert.Kernel6Ideal.Facts) (hReference6Ideal : Cert.Reference6Ideal.Facts) (hKernel13 : Cert.Kernel13.Facts) (hKernel13Ideal : Cert.Kernel13Ideal.Facts) (hReference13Ideal : Cert.Reference13Ideal.Facts) (hKernel15 : Cert.Kernel15.Facts) (hKernel15Ideal : Cert.Kernel15Ideal.Facts) (hReference15Ideal : Cert.Reference15Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel7_Kernel7Ideal
    ∧ algebraic_Kernel7Ideal_Reference7Ideal (hKernel7Ideal := hKernel7Ideal) (hReference7Ideal := hReference7Ideal)
    ∧ preserves_Kernel6_Kernel6Ideal
    ∧ algebraic_Kernel6Ideal_Reference6Ideal (hKernel6Ideal := hKernel6Ideal) (hReference6Ideal := hReference6Ideal)
    ∧ preserves_Kernel13_Kernel13Ideal
    ∧ algebraic_Kernel13Ideal_Reference13Ideal (hKernel13Ideal := hKernel13Ideal) (hReference13Ideal := hReference13Ideal)
    ∧ preserves_Kernel15_Kernel15Ideal
    ∧ algebraic_Kernel15Ideal_Reference15Ideal (hKernel15Ideal := hKernel15Ideal) (hReference15Ideal := hReference15Ideal)
-- ==== Pre_finite.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg5 : FVec F S2816x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg5
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  main_v23

def fn {F : FTy → Type} [FloatOps F] (main_arg0 : FVec F S2048x1024 .f32) (main_arg1 : FVec F S2048x1024 .f32) (main_arg2 : FVec F S1024 .f32) (main_arg3 : FVec F S1024x2816 .f32) (main_arg4 : FVec F S1024x2816 .f32) (main_arg5 : FVec F S2816x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x2816 .f32 := Host.absf main_arg4
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg5 main_v13 main_v16
-- ==== Kernel.lean ====
abbrev S2048x512 : Shape := ⟨2, ![2048, 512]⟩
abbrev S2048x5120 : Shape := ⟨2, ![2048, 5120]⟩
abbrev S31x512 : Shape := ⟨2, ![31, 512]⟩
abbrev S8x32x64 : Shape := ⟨3, ![8, 32, 64]⟩
abbrev S1x512 : Shape := ⟨2, ![1, 512]⟩
abbrev S256x512 : Shape := ⟨2, ![256, 512]⟩
abbrev S32x512 : Shape := ⟨2, ![32, 512]⟩
abbrev S288x512 : Shape := ⟨2, ![288, 512]⟩
abbrev S512 : Shape := ⟨1, ![512]⟩
abbrev S32x64 : Shape := ⟨2, ![32, 64]⟩
abbrev S1x32x64 : Shape := ⟨3, ![1, 32, 64]⟩

abbrev nBuf : Space → Nat
  | .hbm => 7
  | .vmem => 22
  | .smem => 0
  | _ => 0

abbrev bufTy : (tb : Table) → Fin (tcTables nBuf tb) → BufTy
  | .hbm, ⟨0, _⟩ => ⟨S2048x512, .f32⟩
  | .hbm, ⟨1, _⟩ => ⟨S2048x5120, .f32⟩
  | .hbm, ⟨2, _⟩ => ⟨S31x512, .f32⟩
  | .hbm, ⟨3, _⟩ => ⟨S2048x512, .bf16⟩
  | .hbm, ⟨4, _⟩ => ⟨S2048x512, .bf16⟩
  | .hbm, ⟨5, _⟩ => ⟨S8x32x64, .f32⟩
  | .hbm, ⟨6, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S32x512, .f32⟩
  | .local _ .vmem, ⟨3, _⟩ => ⟨S32x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S31x512, .f32⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S8x32x64, .f32⟩
  | .local _ .vmem, ⟨18, _⟩ => ⟨S1x512, .f32⟩
  | .local _ .vmem, ⟨19, _⟩ => ⟨S288x512, .f32⟩
  | .local _ .vmem, ⟨20, _⟩ => ⟨S288x512, .f32⟩
  | .local _ .vmem, ⟨21, _⟩ => ⟨S32x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_224 : BitVec 32 := 7#32
  let v336 : BitVec 1 := Scalar.cmpi .eq arg0 c7_i32_224
  let v337 : BitVec 32 := Scalar.extui v336
  let c0_i32_225 : BitVec 32 := 0#32
  let v338 : BitVec 1 := Scalar.cmpi .ne v337 c0_i32_225
  v338

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S2048x512 : Shape := ⟨2, ![2048, 512]⟩
abbrev S2048x5120 : Shape := ⟨2, ![2048, 5120]⟩
abbrev S31x512 : Shape := ⟨2, ![31, 512]⟩
abbrev S2048x1024 : Shape := ⟨2, ![2048, 1024]⟩
abbrev S_ : Shape := ⟨0, ![]⟩
abbrev S512 : Shape := ⟨1, ![512]⟩
abbrev S30x512 : Shape := ⟨2, ![30, 512]⟩
abbrev S2078x512 : Shape := ⟨2, ![2078, 512]⟩
abbrev S1x2048x512 : Shape := ⟨3, ![1, 2048, 512]⟩
abbrev S16x2048x512 : Shape := ⟨3, ![16, 2048, 512]⟩
abbrev S15x2048x512 : Shape := ⟨3, ![15, 2048, 512]⟩
abbrev S31x2048x512 : Shape := ⟨3, ![31, 2048, 512]⟩
abbrev S31x1x512 : Shape := ⟨3, ![31, 1, 512]⟩
abbrev S1x512 : Shape := ⟨2, ![1, 512]⟩
abbrev S32x512 : Shape := ⟨2, ![32, 512]⟩
abbrev S32x8x64 : Shape := ⟨3, ![32, 8, 64]⟩
abbrev S8x32x64 : Shape := ⟨3, ![8, 32, 64]⟩

abbrev nBuf : Space → Nat
  | .hbm => 288
  | .vmem => 0
  | .smem => 0
  | _ => 0

abbrev hbmTy0_0 (i : Nat) : BufTy := match i % 128 with
  | 0 => ⟨S2048x512, .f32⟩
  | 1 => ⟨S2048x5120, .f32⟩
  | 2 => ⟨S31x512, .f32⟩
  | 3 => ⟨S2048x1024, .f32⟩
  | 4 => ⟨S_, .f32⟩
  | 5 => ⟨S512, .f32⟩
  | 6 => ⟨S2048x512, .f32⟩
  | 7 => ⟨S2048x512, .f32⟩
  | 8 => ⟨S2048x512, .f32⟩
  | 9 => ⟨S2048x512, .f32⟩
  | 10 => ⟨S_, .f32⟩
  | 11 => ⟨S2048x512, .f32⟩
  | 12 => ⟨S2048x512, .f32⟩
  | 13 => ⟨S_, .f32⟩
  | 14 => ⟨S2048x512, .f32⟩
  | 15 => ⟨S2048x512, .f32⟩
  | 16 => ⟨S_, .f32⟩
  | 17 => ⟨S2048x512, .f32⟩
  | 18 => ⟨S2048x512, .f32⟩
  | 19 => ⟨S2048x512, .f32⟩
  | 20 => ⟨S2048x512, .f32⟩
  | 21 => ⟨S_, .f32⟩
  | 22 => ⟨S30x512, .f32⟩
  | 23 => ⟨S2078x512, .f32⟩
  | 24 => ⟨S_, .f32⟩
  | 25 => ⟨S30x512, .f32⟩
  | 26 => ⟨S2048x512, .f32⟩
  | 27 => ⟨S2048x512, .f32⟩
  | 28 => ⟨S2048x512, .f32⟩
  | 29 => ⟨S2048x512, .f32⟩
  | 30 => ⟨S2048x512, .f32⟩
  | 31 => ⟨S2048x512, .f32⟩
  | 32 => ⟨S2048x512, .f32⟩
  | 33 => ⟨S2048x512, .f32⟩
  | 34 => ⟨S2048x512, .f32⟩
  | 35 => ⟨S2048x512, .f32⟩
  | 36 => ⟨S2048x512, .f32⟩
  | 37 => ⟨S2048x512, .f32⟩
  | 38 => ⟨S2048x512, .f32⟩
  | 39 => ⟨S2048x512, .f32⟩
  | 40 => ⟨S2048x512, .f32⟩
  | 41 => ⟨S2048x512, .f32⟩
  | 42 => ⟨S2048x512, .f32⟩
  | 43 => ⟨S2048x512, .f32⟩
  | 44 => ⟨S2048x512, .f32⟩
  | 45 => ⟨S2048x512, .f32⟩
  | 46 => ⟨S2048x512, .f32⟩
  | 47 => ⟨S2048x512, .f32⟩
  | 48 => ⟨S2048x512, .f32⟩
  | 49 => ⟨S2048x512, .f32⟩
  | 50 => ⟨S2048x512, .f32⟩
  | 51 => ⟨S2048x512, .f32⟩
  | 52 => ⟨S2048x512, .f32⟩
  | 53 => ⟨S2048x512, .f32⟩
  | 54 => ⟨S2048x512, .f32⟩
  | 55 => ⟨S2048x512, .f32⟩
  | 56 => ⟨S2048x512, .f32⟩
  | 57 => ⟨S1x2048x512, .f32⟩
  | 58 => ⟨S1x2048x512, .f32⟩
  | 59 => ⟨S1x2048x512, .f32⟩
  | 60 => ⟨S1x2048x512, .f32⟩
  | 61 => ⟨S1x2048x512, .f32⟩
  | 62 => ⟨S1x2048x512, .f32⟩
  | 63 => ⟨S1x2048x512, .f32⟩
  | 64 => ⟨S1x2048x512, .f32⟩
  | 65 => ⟨S1x2048x512, .f32⟩
  | 66 => ⟨S1x2048x512, .f32⟩
  | 67 => ⟨S1x2048x512, .f32⟩
  | 68 => ⟨S1x2048x512, .f32⟩
  | 69 => ⟨S1x2048x512, .f32⟩
  | 70 => ⟨S1x2048x512, .f32⟩
  | 71 => ⟨S1x2048x512, .f32⟩
  | 72 => ⟨S1x2048x512, .f32⟩
  | 73 => ⟨S1x2048x512, .f32⟩
  | 74 => ⟨S1x2048x512, .f32⟩
  | 75 => ⟨S1x2048x512, .f32⟩
  | 76 => ⟨S1x2048x512, .f32⟩
  | 77 => ⟨S1x2048x512, .f32⟩
  | 78 => ⟨S1x2048x512, .f32⟩
  | 79 => ⟨S1x2048x512, .f32⟩
  | 80 => ⟨S1x2048x512, .f32⟩
  | 81 => ⟨S1x2048x512, .f32⟩
  | 82 => ⟨S1x2048x512, .f32⟩
  | 83 => ⟨S1x2048x512, .f32⟩
  | 84 => ⟨S1x2048x512, .f32⟩
  | 85 => ⟨S1x2048x512, .f32⟩
  | 86 => ⟨S1x2048x512, .f32⟩
  | 87 => ⟨S1x2048x512, .f32⟩
  | 88 => ⟨S16x2048x512, .f32⟩
  | 89 => ⟨S15x2048x512, .f32⟩
  | 90 => ⟨S31x2048x512, .f32⟩
  | 91 => ⟨S31x1x512, .f32⟩
  | 92 => ⟨S31x2048x512, .f32⟩
  | 93 => ⟨S31x2048x512, .f32⟩
  | 94 => ⟨S_, .f32⟩
  | 95 => ⟨S2048x512, .f32⟩
  | 96 => ⟨S1x512, .f32⟩
  | 97 => ⟨S2048x512, .f32⟩
  | 98 => ⟨S2048x512, .f32⟩
  | 99 => ⟨S2048x512, .f32⟩
  | 100 => ⟨S_, .f32⟩
  | 101 => ⟨S512, .f32⟩
  | 102 => ⟨S1x512, .f32⟩
  | 103 => ⟨S_, .f32⟩
  | 104 => ⟨S512, .f32⟩
  | 105 => ⟨S31x2048x512, .f32⟩
  | 106 => ⟨S31x2048x512, .f32⟩
  | 107 => ⟨S_, .f32⟩
  | 108 => ⟨S31x512, .f32⟩
  | 109 => ⟨S31x1x512, .f32⟩
  | 110 => ⟨S31x2048x512, .f32⟩
  | 111 => ⟨S31x2048x512, .f32⟩
  | 112 => ⟨S_, .f32⟩
  | 113 => ⟨S31x512, .f32⟩
  | 114 => ⟨S1x2048x512, .f32⟩
  | 115 => ⟨S2048x512, .f32⟩
  | 116 => ⟨S1x2048x512, .f32⟩
  | 117 => ⟨S2048x512, .f32⟩
  | 118 => ⟨S1x2048x512, .f32⟩
  | 119 => ⟨S2048x512, .f32⟩
  | 120 => ⟨S1x2048x512, .f32⟩
  | 121 => ⟨S2048x512, .f32⟩
  | 122 => ⟨S1x2048x512, .f32⟩
  | 123 => ⟨S2048x512, .f32⟩
  | 124 => ⟨S1x2048x512, .f32⟩
  | 125 => ⟨S2048x512, .f32⟩
  | 126 => ⟨S1x2048x512, .f32⟩
  | 127 => ⟨S2048x512, .f32⟩
  | _ => ⟨S2048x512, .f32⟩

abbrev hbmTy0_1 (i : Nat) : BufTy := match i % 128 with
  | 0 => ⟨S1x2048x512, .f32⟩
  | 1 => ⟨S2048x512, .f32⟩
  | 2 => ⟨S1x2048x512, .f32⟩
  | 3 => ⟨S2048x512, .f32⟩
  | 4 => ⟨S1x2048x512, .f32⟩
  | 5 => ⟨S2048x512, .f32⟩
  | 6 => ⟨S1x2048x512, .f32⟩
  | 7 => ⟨S2048x512, .f32⟩
  | 8 => ⟨S1x2048x512, .f32⟩
  | 9 => ⟨S2048x512, .f32⟩
  | 10 => ⟨S1x2048x512, .f32⟩
  | 11 => ⟨S2048x512, .f32⟩
  | 12 => ⟨S1x2048x512, .f32⟩
  | 13 => ⟨S2048x512, .f32⟩
  | 14 => ⟨S1x2048x512, .f32⟩
  | 15 => ⟨S2048x512, .f32⟩
  | 16 => ⟨S1x2048x512, .f32⟩
  | 17 => ⟨S2048x512, .f32⟩
  | 18 => ⟨S1x2048x512, .f32⟩
  | 19 => ⟨S2048x512, .f32⟩
  | 20 => ⟨S1x2048x512, .f32⟩
  | 21 => ⟨S2048x512, .f32⟩
  | 22 => ⟨S1x2048x512, .f32⟩
  | 23 => ⟨S2048x512, .f32⟩
  | 24 => ⟨S1x2048x512, .f32⟩
  | 25 => ⟨S2048x512, .f32⟩
  | 26 => ⟨S1x2048x512, .f32⟩
  | 27 => ⟨S2048x512, .f32⟩
  | 28 => ⟨S1x2048x512, .f32⟩
  | 29 => ⟨S2048x512, .f32⟩
  | 30 => ⟨S1x2048x512, .f32⟩
  | 31 => ⟨S2048x512, .f32⟩
  | 32 => ⟨S1x2048x512, .f32⟩
  | 33 => ⟨S2048x512, .f32⟩
  | 34 => ⟨S1x2048x512, .f32⟩
  | 35 => ⟨S2048x512, .f32⟩
  | 36 => ⟨S1x2048x512, .f32⟩
  | 37 => ⟨S2048x512, .f32⟩
  | 38 => ⟨S1x2048x512, .f32⟩
  | 39 => ⟨S2048x512, .f32⟩
  | 40 => ⟨S1x2048x512, .f32⟩
  | 41 => ⟨S2048x512, .f32⟩
  | 42 => ⟨S1x2048x512, .f32⟩
  | 43 => ⟨S2048x512, .f32⟩
  | 44 => ⟨S1x2048x512, .f32⟩
  | 45 => ⟨S2048x512, .f32⟩
  | 46 => ⟨S1x2048x512, .f32⟩
  | 47 => ⟨S2048x512, .f32⟩
  | 48 => ⟨S_, .f32⟩
  | 49 => ⟨S2078x512, .f32⟩
  | 50 => ⟨S_, .f32⟩
  | 51 => ⟨S2078x512, .f32⟩
  | 52 => ⟨S2078x512, .f32⟩
  | 53 => ⟨S_, .f32⟩
  | 54 => ⟨S2078x512, .f32⟩
  | 55 => ⟨S2078x512, .f32⟩
  | 56 => ⟨S_, .f32⟩
  | 57 => ⟨S2078x512, .f32⟩
  | 58 => ⟨S2078x512, .f32⟩
  | 59 => ⟨S_, .f32⟩
  | 60 => ⟨S2078x512, .f32⟩
  | 61 => ⟨S2078x512, .f32⟩
  | 62 => ⟨S_, .f32⟩
  | 63 => ⟨S2078x512, .f32⟩
  | 64 => ⟨S2078x512, .f32⟩
  | 65 => ⟨S_, .f32⟩
  | 66 => ⟨S2078x512, .f32⟩
  | 67 => ⟨S2078x512, .f32⟩
  | 68 => ⟨S_, .f32⟩
  | 69 => ⟨S2078x512, .f32⟩
  | 70 => ⟨S2078x512, .f32⟩
  | 71 => ⟨S_, .f32⟩
  | 72 => ⟨S2078x512, .f32⟩
  | 73 => ⟨S2078x512, .f32⟩
  | 74 => ⟨S_, .f32⟩
  | 75 => ⟨S2078x512, .f32⟩
  | 76 => ⟨S2078x512, .f32⟩
  | 77 => ⟨S_, .f32⟩
  | 78 => ⟨S2078x512, .f32⟩
  | 79 => ⟨S2078x512, .f32⟩
  | 80 => ⟨S_, .f32⟩
  | 81 => ⟨S2078x512, .f32⟩
  | 82 => ⟨S2078x512, .f32⟩
  | 83 => ⟨S_, .f32⟩
  | 84 => ⟨S2078x512, .f32⟩
  | 85 => ⟨S2078x512, .f32⟩
  | 86 => ⟨S_, .f32⟩
  | 87 => ⟨S2078x512, .f32⟩
  | 88 => ⟨S2078x512, .f32⟩
  | 89 => ⟨S_, .f32⟩
  | 90 => ⟨S2078x512, .f32⟩
  | 91 => ⟨S2078x512, .f32⟩
  | 92 => ⟨S_, .f32⟩
  | 93 => ⟨S2078x512, .f32⟩
  | 94 => ⟨S2078x512, .f32⟩
  | 95 => ⟨S_, .f32⟩
  | 96 => ⟨S2078x512, .f32⟩
  | 97 => ⟨S2078x512, .f32⟩
  | 98 => ⟨S_, .f32⟩
  | 99 => ⟨S2078x512, .f32⟩
  | 100 => ⟨S2078x512, .f32⟩
  | 101 => ⟨S_, .f32⟩
  | 102 => ⟨S2078x512, .f32⟩
  | 103 => ⟨S2078x512, .f32⟩
  | 104 => ⟨S_, .f32⟩
  | 105 => ⟨S2078x512, .f32⟩
  | 106 => ⟨S2078x512, .f32⟩
  | 107 => ⟨S_, .f32⟩
  | 108 => ⟨S2078x512, .f32⟩
  | 109 => ⟨S2078x512, .f32⟩
  | 110 => ⟨S_, .f32⟩
  | 111 => ⟨S2078x512, .f32⟩
  | 112 => ⟨S2078x512, .f32⟩
  | 113 => ⟨S_, .f32⟩
  | 114 => ⟨S2078x512, .f32⟩
  | 115 => ⟨S2078x512, .f32⟩
  | 116 => ⟨S_, .f32⟩
  | 117 => ⟨S2078x512, .f32⟩
  | 118 => ⟨S2078x512, .f32⟩
  | 119 => ⟨S_, .f32⟩
  | 120 => ⟨S2078x512, .f32⟩
  | 121 => ⟨S2078x512, .f32⟩
  | 122 => ⟨S_, .f32⟩
  | 123 => ⟨S2078x512, .f32⟩
  | 124 => ⟨S2078x512, .f32⟩
  | 125 => ⟨S_, .f32⟩
  | 126 => ⟨S2078x512, .f32⟩
  | 127 => ⟨S2078x512, .f32⟩
  | _ => ⟨S2048x512, .f32⟩

abbrev hbmTy0_2 (i : Nat) : BufTy := match i % 128 with
  | 0 => ⟨S_, .f32⟩
  | 1 => ⟨S2078x512, .f32⟩
  | 2 => ⟨S2078x512, .f32⟩
  | 3 => ⟨S_, .f32⟩
  | 4 => ⟨S2078x512, .f32⟩
  | 5 => ⟨S2078x512, .f32⟩
  | 6 => ⟨S_, .f32⟩
  | 7 => ⟨S2078x512, .f32⟩
  | 8 => ⟨S2078x512, .f32⟩
  | 9 => ⟨S_, .f32⟩
  | 10 => ⟨S2078x512, .f32⟩
  | 11 => ⟨S2078x512, .f32⟩
  | 12 => ⟨S30x512, .f32⟩
  | 13 => ⟨S2048x512, .f32⟩
  | 14 => ⟨S2048x512, .f32⟩
  | 15 => ⟨S2048x512, .f32⟩
  | 16 => ⟨S2048x512, .f32⟩
  | 17 => ⟨S_, .f32⟩
  | 18 => ⟨S2048x1024, .f32⟩
  | 19 => ⟨S_, .f32⟩
  | 20 => ⟨S2048x1024, .f32⟩
  | 21 => ⟨S2048x1024, .f32⟩
  | 22 => ⟨S_, .i32⟩
  | 23 => ⟨S_, .f32⟩
  | 24 => ⟨S32x512, .f32⟩
  | 25 => ⟨S32x8x64, .f32⟩
  | 26 => ⟨S8x32x64, .f32⟩
  | 27 => ⟨S2048x512, .f32⟩
  | 28 => ⟨S2048x512, .bf16⟩
  | 29 => ⟨S2048x512, .f32⟩
  | 30 => ⟨S2048x512, .bf16⟩
  | 31 => ⟨S1x512, .f32⟩
  | _ => ⟨S2048x512, .f32⟩

abbrev hbmTy (i : Nat) : BufTy := match i / 128 with
  | 0 => hbmTy0_0 i
  | 1 => hbmTy0_1 i
  | 2 => hbmTy0_2 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_cst_5 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_cst_6 : Ref sig .tc := ⟨.hbm, 100, rfl⟩
abbrev main_v90 : Ref sig .tc := ⟨.hbm, 101, rfl⟩
abbrev main_v91 : Ref sig .tc := ⟨.hbm, 102, rfl⟩
abbrev main_cst_7 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_cst_8 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_cst_9 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_cst_10 : Ref sig .tc := ⟨.hbm, 176, rfl⟩
abbrev main_v162 : Ref sig .tc := ⟨.hbm, 177, rfl⟩
abbrev main_cst_11 : Ref sig .tc := ⟨.hbm, 178, rfl⟩
abbrev main_v163 : Ref sig .tc := ⟨.hbm, 179, rfl⟩
abbrev main_v164 : Ref sig .tc := ⟨.hbm, 180, rfl⟩
abbrev main_cst_12 : Ref sig .tc := ⟨.hbm, 181, rfl⟩
abbrev main_v165 : Ref sig .tc := ⟨.hbm, 182, rfl⟩
abbrev main_v166 : Ref sig .tc := ⟨.hbm, 183, rfl⟩
abbrev main_cst_13 : Ref sig .tc := ⟨.hbm, 184, rfl⟩
abbrev main_v167 : Ref sig .tc := ⟨.hbm, 185, rfl⟩
abbrev main_v168 : Ref sig .tc := ⟨.hbm, 186, rfl⟩
abbrev main_cst_14 : Ref sig .tc := ⟨.hbm, 187, rfl⟩
abbrev main_v169 : Ref sig .tc := ⟨.hbm, 188, rfl⟩
abbrev main_v170 : Ref sig .tc := ⟨.hbm, 189, rfl⟩
abbrev main_cst_15 : Ref sig .tc := ⟨.hbm, 190, rfl⟩
abbrev main_v171 : Ref sig .tc := ⟨.hbm, 191, rfl⟩
abbrev main_v172 : Ref sig .tc := ⟨.hbm, 192, rfl⟩
abbrev main_cst_16 : Ref sig .tc := ⟨.hbm, 193, rfl⟩
abbrev main_v173 : Ref sig .tc := ⟨.hbm, 194, rfl⟩
abbrev main_v174 : Ref sig .tc := ⟨.hbm, 195, rfl⟩
abbrev main_cst_17 : Ref sig .tc := ⟨.hbm, 196, rfl⟩
abbrev main_v175 : Ref sig .tc := ⟨.hbm, 197, rfl⟩
abbrev main_v176 : Ref sig .tc := ⟨.hbm, 198, rfl⟩
abbrev main_cst_18 : Ref sig .tc := ⟨.hbm, 199, rfl⟩
abbrev main_v177 : Ref sig .tc := ⟨.hbm, 200, rfl⟩
abbrev main_v178 : Ref sig .tc := ⟨.hbm, 201, rfl⟩
abbrev main_cst_19 : Ref sig .tc := ⟨.hbm, 202, rfl⟩
abbrev main_v179 : Ref sig .tc := ⟨.hbm, 203, rfl⟩
abbrev main_v180 : Ref sig .tc := ⟨.hbm, 204, rfl⟩
abbrev main_cst_20 : Ref sig .tc := ⟨.hbm, 205, rfl⟩
abbrev main_v181 : Ref sig .tc := ⟨.hbm, 206, rfl⟩
abbrev main_v182 : Ref sig .tc := ⟨.hbm, 207, rfl⟩
abbrev main_cst_21 : Ref sig .tc := ⟨.hbm, 208, rfl⟩
abbrev main_v183 : Ref sig .tc := ⟨.hbm, 209, rfl⟩
abbrev main_v184 : Ref sig .tc := ⟨.hbm, 210, rfl⟩
abbrev main_cst_22 : Ref sig .tc := ⟨.hbm, 211, rfl⟩
abbrev main_v185 : Ref sig .tc := ⟨.hbm, 212, rfl⟩
abbrev main_v186 : Ref sig .tc := ⟨.hbm, 213, rfl⟩
abbrev main_cst_23 : Ref sig .tc := ⟨.hbm, 214, rfl⟩
abbrev main_v187 : Ref sig .tc := ⟨.hbm, 215, rfl⟩
abbrev main_v188 : Ref sig .tc := ⟨.hbm, 216, rfl⟩
abbrev main_cst_24 : Ref sig .tc := ⟨.hbm, 217, rfl⟩
abbrev main_v189 : Ref sig .tc := ⟨.hbm, 218, rfl⟩
abbrev main_v190 : Ref sig .tc := ⟨.hbm, 219, rfl⟩
abbrev main_cst_25 : Ref sig .tc := ⟨.hbm, 220, rfl⟩
abbrev main_v191 : Ref sig .tc := ⟨.hbm, 221, rfl⟩
abbrev main_v192 : Ref sig .tc := ⟨.hbm, 222, rfl⟩
abbrev main_cst_26 : Ref sig .tc := ⟨.hbm, 223, rfl⟩
abbrev main_v193 : Ref sig .tc := ⟨.hbm, 224, rfl⟩
abbrev main_v194 : Ref sig .tc := ⟨.hbm, 225, rfl⟩
abbrev main_cst_27 : Ref sig .tc := ⟨.hbm, 226, rfl⟩
abbrev main_v195 : Ref sig .tc := ⟨.hbm, 227, rfl⟩
abbrev main_v196 : Ref sig .tc := ⟨.hbm, 228, rfl⟩
abbrev main_cst_28 : Ref sig .tc := ⟨.hbm, 229, rfl⟩
abbrev main_v197 : Ref sig .tc := ⟨.hbm, 230, rfl⟩
abbrev main_v198 : Ref sig .tc := ⟨.hbm, 231, rfl⟩
abbrev main_cst_29 : Ref sig .tc := ⟨.hbm, 232, rfl⟩
abbrev main_v199 : Ref sig .tc := ⟨.hbm, 233, rfl⟩
abbrev main_v200 : Ref sig .tc := ⟨.hbm, 234, rfl⟩
abbrev main_cst_30 : Ref sig .tc := ⟨.hbm, 235, rfl⟩
abbrev main_v201 : Ref sig .tc := ⟨.hbm, 236, rfl⟩
abbrev main_v202 : Ref sig .tc := ⟨.hbm, 237, rfl⟩
abbrev main_cst_31 : Ref sig .tc := ⟨.hbm, 238, rfl⟩
abbrev main_v203 : Ref sig .tc := ⟨.hbm, 239, rfl⟩
abbrev main_v204 : Ref sig .tc := ⟨.hbm, 240, rfl⟩
abbrev main_cst_32 : Ref sig .tc := ⟨.hbm, 241, rfl⟩
abbrev main_v205 : Ref sig .tc := ⟨.hbm, 242, rfl⟩
abbrev main_v206 : Ref sig .tc := ⟨.hbm, 243, rfl⟩
abbrev main_cst_33 : Ref sig .tc := ⟨.hbm, 244, rfl⟩
abbrev main_v207 : Ref sig .tc := ⟨.hbm, 245, rfl⟩
abbrev main_v208 : Ref sig .tc := ⟨.hbm, 246, rfl⟩
abbrev main_cst_34 : Ref sig .tc := ⟨.hbm, 247, rfl⟩
abbrev main_v209 : Ref sig .tc := ⟨.hbm, 248, rfl⟩
abbrev main_v210 : Ref sig .tc := ⟨.hbm, 249, rfl⟩
abbrev main_cst_35 : Ref sig .tc := ⟨.hbm, 250, rfl⟩
abbrev main_v211 : Ref sig .tc := ⟨.hbm, 251, rfl⟩
abbrev main_v212 : Ref sig .tc := ⟨.hbm, 252, rfl⟩
abbrev main_cst_36 : Ref sig .tc := ⟨.hbm, 253, rfl⟩
abbrev main_v213 : Ref sig .tc := ⟨.hbm, 254, rfl⟩
abbrev main_v214 : Ref sig .tc := ⟨.hbm, 255, rfl⟩
abbrev main_cst_37 : Ref sig .tc := ⟨.hbm, 256, rfl⟩
abbrev main_v215 : Ref sig .tc := ⟨.hbm, 257, rfl⟩
abbrev main_v216 : Ref sig .tc := ⟨.hbm, 258, rfl⟩
abbrev main_cst_38 : Ref sig .tc := ⟨.hbm, 259, rfl⟩
abbrev main_v217 : Ref sig .tc := ⟨.hbm, 260, rfl⟩
abbrev main_v218 : Ref sig .tc := ⟨.hbm, 261, rfl⟩
abbrev main_cst_39 : Ref sig .tc := ⟨.hbm, 262, rfl⟩
abbrev main_v219 : Ref sig .tc := ⟨.hbm, 263, rfl⟩
abbrev main_v220 : Ref sig .tc := ⟨.hbm, 264, rfl⟩
abbrev main_cst_40 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_cst_41 : Ref sig .tc := ⟨.hbm, 273, rfl⟩
abbrev main_v228 : Ref sig .tc := ⟨.hbm, 274, rfl⟩
abbrev main_cst_42 : Ref sig .tc := ⟨.hbm, 275, rfl⟩
abbrev main_v229 : Ref sig .tc := ⟨.hbm, 276, rfl⟩
abbrev main_v230 : Ref sig .tc := ⟨.hbm, 277, rfl⟩
abbrev main_c : Ref sig .tc := ⟨.hbm, 278, rfl⟩
abbrev main_call0_v0 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_v234 : Ref sig .tc := ⟨.hbm, 283, rfl⟩
abbrev main_v235 : Ref sig .tc := ⟨.hbm, 284, rfl⟩
abbrev main_v236 : Ref sig .tc := ⟨.hbm, 285, rfl⟩
abbrev main_v237 : Ref sig .tc := ⟨.hbm, 286, rfl⟩
abbrev main_v238 : Ref sig .tc := ⟨.hbm, 287, rfl⟩

abbrev nD : Nat := 1
abbrev τ : Topo := Topo.v7x

variable {F : FTy → Type} [FloatOps F]
-- ==== Kernel2.lean ====
abbrev S2048x2816 : Shape := ⟨2, ![2048, 2816]⟩
abbrev S2048x1024 : Shape := ⟨2, ![2048, 1024]⟩
abbrev S2048x8x352 : Shape := ⟨3, ![2048, 8, 352]⟩
abbrev S_ : Shape := ⟨0, ![]⟩
abbrev S2048x8x384 : Shape := ⟨3, ![2048, 8, 384]⟩
abbrev S2048x3072 : Shape := ⟨2, ![2048, 3072]⟩
abbrev S3072x1024 : Shape := ⟨2, ![3072, 1024]⟩
abbrev S1024x1024 : Shape := ⟨2, ![1024, 1024]⟩

abbrev nBuf : Space → Nat
  | .hbm => 10
  | .vmem => 6
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S2048x8x352, .f32⟩
  | .hbm, ⟨3, _⟩ => ⟨S_, .i32⟩
  | .hbm, ⟨4, _⟩ => ⟨S_, .f32⟩
  | .hbm, ⟨5, _⟩ => ⟨S2048x8x384, .f32⟩
  | .hbm, ⟨6, _⟩ => ⟨S2048x3072, .f32⟩
  | .hbm, ⟨7, _⟩ => ⟨S2048x3072, .bf16⟩
  | .hbm, ⟨8, _⟩ => ⟨S2048x1024, .bf16⟩
  | .hbm, ⟨9, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x2816 : Shape := ⟨2, ![2048, 2816]⟩
abbrev S2048x1024 : Shape := ⟨2, ![2048, 1024]⟩
abbrev S_ : Shape := ⟨0, ![]⟩
abbrev S1024x2816 : Shape := ⟨2, ![1024, 2816]⟩
abbrev S2816x1024 : Shape := ⟨2, ![2816, 1024]⟩
abbrev S8x352x1024 : Shape := ⟨3, ![8, 352, 1024]⟩
abbrev S8x384x1024 : Shape := ⟨3, ![8, 384, 1024]⟩
abbrev S3072x1024 : Shape := ⟨2, ![3072, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S_, .f32⟩
  | .hbm, ⟨3, _⟩ => ⟨S1024x2816, .f32⟩
  | .hbm, ⟨4, _⟩ => ⟨S2048x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S8x352x1024, .f32⟩
  | .hbm, ⟨9, _⟩ => ⟨S_, .i32⟩
  | .hbm, ⟨10, _⟩ => ⟨S_, .f32⟩
  | .hbm, ⟨11, _⟩ => ⟨S8x384x1024, .f32⟩
  | .hbm, ⟨12, _⟩ => ⟨S3072x1024, .f32⟩
  | .hbm, ⟨13, _⟩ => ⟨S3072x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel3.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2816 : Shape := ⟨2, ![2048, 2816]⟩
abbrev S2048x8x352 : Shape := ⟨3, ![2048, 8, 352]⟩
abbrev S2048x8x384 : Shape := ⟨3, ![2048, 8, 384]⟩
abbrev S2048x3072 : Shape := ⟨2, ![2048, 3072]⟩
abbrev S8x352x1024 : Shape := ⟨3, ![8, 352, 1024]⟩
abbrev S8x384x1024 : Shape := ⟨3, ![8, 384, 1024]⟩
abbrev S3072x1024 : Shape := ⟨2, ![3072, 1024]⟩
abbrev S8x128 : Shape := ⟨2, ![8, 128]⟩
abbrev S1024x1024 : Shape := ⟨2, ![1024, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 64
  | .vmem => 26
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x2816, .f32⟩
  | .hbm, ⟨23, _⟩ => ⟨S2048x8x352, .f32⟩
  | .hbm, ⟨24, _⟩ => ⟨S_, .i32⟩
  | .hbm, ⟨25, _⟩ => ⟨S_, .f32⟩
  | .hbm, ⟨26, _⟩ => ⟨S2048x8x384, .f32⟩
  | .hbm, ⟨27, _⟩ => ⟨S2048x3072, .f32⟩
  | .hbm, ⟨28, _⟩ => ⟨S2048x3072, .bf16⟩
  | .hbm, ⟨29, _⟩ => ⟨S2048x2816, .f32⟩
  | .hbm, ⟨30, _⟩ => ⟨S2048x8x352, .f32⟩
  | .hbm, ⟨31, _⟩ => ⟨S_, .i32⟩
  | .hbm, ⟨32, _⟩ => ⟨S_, .f32⟩
  | .hbm, ⟨33, _⟩ => ⟨S2048x8x384, .f32⟩
  | .hbm, ⟨34, _⟩ => ⟨S2048x3072, .f32⟩
  | .hbm, ⟨35, _⟩ => ⟨S2048x3072, .bf16⟩
  | .hbm, ⟨36, _⟩ => ⟨S1x1024, .f32⟩
  | .hbm, ⟨37, _⟩ => ⟨S2816x1024, .f32⟩
  | .hbm, ⟨38, _⟩ => ⟨S8x352x1024, .f32⟩
  | .hbm, ⟨39, _⟩ => ⟨S_, .i32⟩
  | .hbm, ⟨40, _⟩ => ⟨S_, .f32⟩
  | .hbm, ⟨41, _⟩ => ⟨S8x384x1024, .f32⟩
  | .hbm, ⟨42, _⟩ => ⟨S3072x1024, .f32⟩
  | .hbm, ⟨43, _⟩ => ⟨S3072x1024, .bf16⟩
  | .hbm, ⟨44, _⟩ => ⟨S2816x1024, .f32⟩
  | .hbm, ⟨45, _⟩ => ⟨S8x352x1024, .f32⟩
  | .hbm, ⟨46, _⟩ => ⟨S_, .i32⟩
  | .hbm, ⟨47, _⟩ => ⟨S_, .f32⟩
  | .hbm, ⟨48, _⟩ => ⟨S8x384x1024, .f32⟩
  | .hbm, ⟨49, _⟩ => ⟨S3072x1024, .f32⟩
  | .hbm, ⟨50, _⟩ => ⟨S3072x1024, .bf16⟩
  | .hbm, ⟨51, _⟩ => ⟨S8x352x1024, .f32⟩
  | .hbm, ⟨52, _⟩ => ⟨S_, .i32⟩
  | .hbm, ⟨53, _⟩ => ⟨S_, .f32⟩
  | .hbm, ⟨54, _⟩ => ⟨S8x384x1024, .f32⟩
  | .hbm, ⟨55, _⟩ => ⟨S3072x1024, .f32⟩
  | .hbm, ⟨56, _⟩ => ⟨S3072x1024, .bf16⟩
  | .hbm, ⟨57, _⟩ => ⟨S_, .f32⟩
  | .hbm, ⟨58, _⟩ => ⟨S8x128, .f32⟩
  | .hbm, ⟨59, _⟩ => ⟨S2048x1024, .f32⟩
  | .hbm, ⟨60, _⟩ => ⟨S1x1024, .f32⟩
  | .hbm, ⟨61, _⟩ => ⟨S2048x3072, .bf16⟩
  | .hbm, ⟨62, _⟩ => ⟨S2048x3072, .bf16⟩
  | .hbm, ⟨63, _⟩ => ⟨S2048x3072, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S8x128, .f32⟩
  | .local _ .vmem, ⟨16, _⟩ => ⟨S1024x1024, .f32⟩
  | .local _ .vmem, ⟨17, _⟩ => ⟨S1024x1024, .f32⟩
  | .local _ .vmem, ⟨18, _⟩ => ⟨S1x1024, .f32⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_call1_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_call2_v0 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_4 : Ref sig .tc := ⟨.hbm, 46, rfl⟩
abbrev main_call3_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_call4_v0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39_0 : Ref sig .tc := ⟨.hbm, 59, rfl⟩
abbrev main_v39_1 : Ref sig .tc := ⟨.hbm, 60, rfl⟩
abbrev main_v39_2 : Ref sig .tc := ⟨.hbm, 61, rfl⟩
abbrev main_v39_3 : Ref sig .tc := ⟨.hbm, 62, rfl⟩
abbrev main_v39_4 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![2, 6], ![false, false]⟩

def k0_cond3 (i : grid0.Coords) : BitVec 1 :=
  let arg1 : BitVec 32 := BitVec.ofNat 32 (i 1).val
  let c5_i32 : BitVec 32 := 5#32
  let v49 : BitVec 1 := Scalar.cmpi .eq arg1 c5_i32
  let v50 : BitVec 32 := Scalar.extui v49
  let c0_i32_29 : BitVec 32 := 0#32
  let v51 : BitVec 1 := Scalar.cmpi .ne v50 c0_i32_29
  v51

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2048x2816 : Shape := ⟨2, ![2048, 2816]⟩
abbrev S2048 : Shape := ⟨1, ![2048]⟩
abbrev S2048x1 : Shape := ⟨2, ![2048, 1]⟩
abbrev S1x1024 : Shape := ⟨2, ![1, 1024]⟩
abbrev S2048x8x352 : Shape := ⟨3, ![2048, 8, 352]⟩
abbrev S2048x8x384 : Shape := ⟨3, ![2048, 8, 384]⟩
abbrev S2048x3072 : Shape := ⟨2, ![2048, 3072]⟩

abbrev nBuf : Space → Nat
  | .hbm => 104
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S_, .f32⟩
  | .hbm, ⟨7, _⟩ => ⟨S2048x2816, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S_, .f32⟩
  | .hbm, ⟨33, _⟩ => ⟨S2048x2816, .f32⟩
  | .hbm, ⟨34, _⟩ => ⟨S2048x2816, .f32⟩
  | .hbm, ⟨35, _⟩ => ⟨S_, .f32⟩
  | .hbm, ⟨36, _⟩ => ⟨S2048x2816, .f32⟩
  | .hbm, ⟨37, _⟩ => ⟨S2048x2816, .f32⟩
  | .hbm, ⟨38, _⟩ => ⟨S_, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x2816, .f32⟩
  | .hbm, ⟨43, _⟩ => ⟨S2048x2816, .f32⟩
  | .hbm, ⟨44, _⟩ => ⟨S2048x2816, .f32⟩
  | .hbm, ⟨45, _⟩ => ⟨S2048x2816, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x2816, .f32⟩
  | .hbm, ⟨50, _⟩ => ⟨S2048x2816, .f32⟩
  | .hbm, ⟨51, _⟩ => ⟨S2048x2816, .f32⟩
  | .hbm, ⟨52, _⟩ => ⟨S2048x1024, .f32⟩
  | .hbm, ⟨53, _⟩ => ⟨S2048x2816, .f32⟩
  | .hbm, ⟨54, _⟩ => ⟨S2048x2816, .f32⟩
  | .hbm, ⟨55, _⟩ => ⟨S2048x2816, .f32⟩
  | .hbm, ⟨56, _⟩ => ⟨S2048x2816, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S1024, .f32⟩
  | .hbm, ⟨67, _⟩ => ⟨S2048x1024, .f32⟩
  | .hbm, ⟨68, _⟩ => ⟨S_, .f32⟩
  | .hbm, ⟨69, _⟩ => ⟨S2048, .f32⟩
  | .hbm, ⟨70, _⟩ => ⟨S2048x1, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S_, .f32⟩
  | .hbm, ⟨79, _⟩ => ⟨S2048, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S1x1024, .f32⟩
  | .hbm, ⟨86, _⟩ => ⟨S2048x8x352, .f32⟩
  | .hbm, ⟨87, _⟩ => ⟨S_, .i32⟩
  | .hbm, ⟨88, _⟩ => ⟨S_, .f32⟩
  | .hbm, ⟨89, _⟩ => ⟨S2048x8x384, .f32⟩
  | .hbm, ⟨90, _⟩ => ⟨S2048x3072, .f32⟩
  | .hbm, ⟨91, _⟩ => ⟨S2048x3072, .bf16⟩
  | .hbm, ⟨92, _⟩ => ⟨S2048x8x352, .f32⟩
  | .hbm, ⟨93, _⟩ => ⟨S_, .i32⟩
  | .hbm, ⟨94, _⟩ => ⟨S_, .f32⟩
  | .hbm, ⟨95, _⟩ => ⟨S2048x8x384, .f32⟩
  | .hbm, ⟨96, _⟩ => ⟨S2048x3072, .f32⟩
  | .hbm, ⟨97, _⟩ => ⟨S2048x3072, .bf16⟩
  | .hbm, ⟨98, _⟩ => ⟨S2048x8x352, .f32⟩
  | .hbm, ⟨99, _⟩ => ⟨S_, .i32⟩
  | .hbm, ⟨100, _⟩ => ⟨S_, .f32⟩
  | .hbm, ⟨101, _⟩ => ⟨S2048x8x384, .f32⟩
  | .hbm, ⟨102, _⟩ => ⟨S2048x3072, .f32⟩
  | .hbm, ⟨103, _⟩ => ⟨S2048x3072, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v19_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v19_1 : Ref sig .tc := ⟨.hbm, 41, rfl⟩
abbrev main_v19_0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_5 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_v47 : Ref sig .tc := ⟨.hbm, 77, rfl⟩
abbrev main_cst_8 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_c : Ref sig .tc := ⟨.hbm, 87, rfl⟩
abbrev main_call2_v0 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_c_9 : Ref sig .tc := ⟨.hbm, 93, rfl⟩
abbrev main_call3_v0 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_10 : Ref sig .tc := ⟨.hbm, 99, rfl⟩
abbrev main_call4_v0 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩

abbrev nD : Nat := 1
abbrev τ : Topo := Topo.v7x

variable {F : FTy → Type} [FloatOps F]
-- ==== Kernel4.lean ====
abbrev S2048x5120 : Shape := ⟨2, ![2048, 5120]⟩
abbrev S2048x1024 : Shape := ⟨2, ![2048, 1024]⟩
abbrev S1024 : Shape := ⟨1, ![1024]⟩
abbrev S1024x5120 : Shape := ⟨2, ![1024, 5120]⟩
abbrev S1x1024 : Shape := ⟨2, ![1, 1024]⟩
abbrev S1024x8x640 : Shape := ⟨3, ![1024, 8, 640]⟩
abbrev S8x1024x640 : Shape := ⟨3, ![8, 1024, 640]⟩
abbrev S_ : Shape := ⟨0, ![]⟩
abbrev S8x128 : Shape := ⟨2, ![8, 128]⟩
abbrev S1024x1280 : Shape := ⟨2, ![1024, 1280]⟩
abbrev S1024x1024 : Shape := ⟨2, ![1024, 1024]⟩
abbrev S2x1024x640 : Shape := ⟨3, ![2, 1024, 640]⟩
abbrev S1024x640 : Shape := ⟨2, ![1024, 640]⟩
abbrev S1x1024x640 : Shape := ⟨3, ![1, 1024, 640]⟩
abbrev S1024x1 : Shape := ⟨2, ![1024, 1]⟩

abbrev nBuf : Space → Nat
  | .hbm => 14
  | .vmem => 14
  | .smem => 0
  | _ => 0

abbrev bufTy : (tb : Table) → Fin (tcTables nBuf tb) → BufTy
  | .hbm, ⟨0, _⟩ => ⟨S2048x5120, .f32⟩
  | .hbm, ⟨1, _⟩ => ⟨S2048x1024, .f32⟩
  | .hbm, ⟨2, _⟩ => ⟨S2048x1024, .f32⟩
  | .hbm, ⟨3, _⟩ => ⟨S1024, .f32⟩
  | .hbm, ⟨4, _⟩ => ⟨S1024x5120, .f32⟩
  | .hbm, ⟨5, _⟩ => ⟨S2048x5120, .bf16⟩
  | .hbm, ⟨6, _⟩ => ⟨S1x1024, .f32⟩
  | .hbm, ⟨7, _⟩ => ⟨S1024x8x640, .f32⟩
  | .hbm, ⟨8, _⟩ => ⟨S8x1024x640, .f32⟩
  | .hbm, ⟨9, _⟩ => ⟨S8x1024x640, .bf16⟩
  | .hbm, ⟨10, _⟩ => ⟨S_, .f32⟩
  | .hbm, ⟨11, _⟩ => ⟨S8x128, .f32⟩
  | .hbm, ⟨12, _⟩ => ⟨S2048x1024, .f32⟩
  | .hbm, ⟨13, _⟩ => ⟨S1x1024, .f32⟩
  | .local _ .vmem, ⟨0, _⟩ => ⟨S1024x1280, .bf16⟩
  | .local _ .vmem, ⟨1, _⟩ => ⟨S1024x1280, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S2x1024x640, .bf16⟩
  | .local _ .vmem, ⟨8, _⟩ => ⟨S2x1024x640, .bf16⟩
  | .local _ .vmem, ⟨9, _⟩ => ⟨S8x128, .f32⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S1024x1024, .f32⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v28 : BitVec 1 := Scalar.cmpi .eq arg1 c3_i32
  let v29 : BitVec 32 := Scalar.extui v28
  let c0_i32_20 : BitVec 32 := 0#32
  let v30 : BitVec 1 := Scalar.cmpi .ne v29 c0_i32_20
  v30

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2x1024x640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference4Ideal.lean ====
abbrev S2048x5120 : Shape := ⟨2, ![2048, 5120]⟩
abbrev S2048x1024 : Shape := ⟨2, ![2048, 1024]⟩
abbrev S1024 : Shape := ⟨1, ![1024]⟩
abbrev S1024x5120 : Shape := ⟨2, ![1024, 5120]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x5120, .f32⟩
  | .hbm, ⟨1, _⟩ => ⟨S2048x1024, .f32⟩
  | .hbm, ⟨2, _⟩ => ⟨S2048x1024, .f32⟩
  | .hbm, ⟨3, _⟩ => ⟨S1024, .f32⟩
  | .hbm, ⟨4, _⟩ => ⟨S1024x5120, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x5120, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S1x1024, .f32⟩
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel5.lean ====
abbrev S2048x5120 : Shape := ⟨2, ![2048, 5120]⟩
abbrev S2048x1024 : Shape := ⟨2, ![2048, 1024]⟩
abbrev S8x1024x640 : Shape := ⟨3, ![8, 1024, 640]⟩
abbrev S2048x1280 : Shape := ⟨2, ![2048, 1280]⟩
abbrev S2x1024x640 : Shape := ⟨3, ![2, 1024, 640]⟩
abbrev S1024x1280 : Shape := ⟨2, ![1024, 1280]⟩
abbrev S1024x640 : Shape := ⟨2, ![1024, 640]⟩
abbrev S1x1024x640 : Shape := ⟨3, ![1, 1024, 640]⟩

abbrev nBuf : Space → Nat
  | .hbm => 5
  | .vmem => 6
  | .smem => 0
  | _ => 0

abbrev bufTy : (tb : Table) → Fin (tcTables nBuf tb) → BufTy
  | .hbm, ⟨0, _⟩ => ⟨S2048x5120, .f32⟩
  | .hbm, ⟨1, _⟩ => ⟨S2048x1024, .f32⟩
  | .hbm, ⟨2, _⟩ => ⟨S2048x1024, .bf16⟩
  | .hbm, ⟨3, _⟩ => ⟨S2048x5120, .bf16⟩
  | .hbm, ⟨4, _⟩ => ⟨S8x1024x640, .bf16⟩
  | .local _ .vmem, ⟨0, _⟩ => ⟨S2048x1024, .bf16⟩
  | .local _ .vmem, ⟨1, _⟩ => ⟨S2048x1280, .bf16⟩
  | .local _ .vmem, ⟨2, _⟩ => ⟨S2048x1280, .bf16⟩
  | .local _ .vmem, ⟨3, _⟩ => ⟨S2x1024x640, .bf16⟩
  | .local _ .vmem, ⟨4, _⟩ => ⟨S2x1024x640, .bf16⟩
  | .local _ .vmem, ⟨5, _⟩ => ⟨S1024x1280, .f32⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x5120 : Shape := ⟨2, ![2048, 5120]⟩
abbrev S2048x1024 : Shape := ⟨2, ![2048, 1024]⟩
abbrev S_ : Shape := ⟨0, ![]⟩
abbrev S1024x5120 : Shape := ⟨2, ![1024, 5120]⟩
abbrev S5120x1024 : Shape := ⟨2, ![5120, 1024]⟩
abbrev S1024x8x640 : Shape := ⟨3, ![1024, 8, 640]⟩
abbrev S8x1024x640 : Shape := ⟨3, ![8, 1024, 640]⟩

abbrev nBuf : Space → Nat
  | .hbm => 10
  | .vmem => 0
  | .smem => 0
  | _ => 0

abbrev bufTy : (tb : Table) → Fin (tcTables nBuf tb) → BufTy
  | .hbm, ⟨0, _⟩ => ⟨S2048x5120, .f32⟩
  | .hbm, ⟨1, _⟩ => ⟨S2048x1024, .f32⟩
  | .hbm, ⟨2, _⟩ => ⟨S_, .f32⟩
  | .hbm, ⟨3, _⟩ => ⟨S1024x5120, .f32⟩
  | .hbm, ⟨4, _⟩ => ⟨S2048x5120, .f32⟩
  | .hbm, ⟨5, _⟩ => ⟨S5120x1024, .f32⟩
  | .hbm, ⟨6, _⟩ => ⟨S1024x5120, .f32⟩
  | .hbm, ⟨7, _⟩ => ⟨S1024x8x640, .f32⟩
  | .hbm, ⟨8, _⟩ => ⟨S8x1024x640, .f32⟩
  | .hbm, ⟨9, _⟩ => ⟨S8x1024x640, .bf16⟩
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S2048x2816 : Shape := ⟨2, ![2048, 2816]⟩
abbrev S2048x1024 : Shape := ⟨2, ![2048, 1024]⟩
abbrev S2048x8x352 : Shape := ⟨3, ![2048, 8, 352]⟩
abbrev S_ : Shape := ⟨0, ![]⟩
abbrev S2048x8x384 : Shape := ⟨3, ![2048, 8, 384]⟩
abbrev S2048x3072 : Shape := ⟨2, ![2048, 3072]⟩
abbrev S3072x1024 : Shape := ⟨2, ![3072, 1024]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S2048x8x352, .f32⟩
  | .hbm, ⟨3, _⟩ => ⟨S_, .i32⟩
  | .hbm, ⟨4, _⟩ => ⟨S_, .f32⟩
  | .hbm, ⟨5, _⟩ => ⟨S2048x8x384, .f32⟩
  | .hbm, ⟨6, _⟩ => ⟨S2048x3072, .f32⟩
  | .hbm, ⟨7, _⟩ => ⟨S2048x3072, .bf16⟩
  | .hbm, ⟨8, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩
abbrev S8x352x1024 : Shape := ⟨3, ![8, 352, 1024]⟩
abbrev S8x384x1024 : Shape := ⟨3, ![8, 384, 1024]⟩
abbrev S3072x1024 : Shape := ⟨2, ![3072, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x1024, .f32⟩
  | .hbm, ⟨5, _⟩ => ⟨S1024x2816, .f32⟩
  | .hbm, ⟨6, _⟩ => ⟨S2816x1024, .f32⟩
  | .hbm, ⟨7, _⟩ => ⟨S8x352x1024, .f32⟩
  | .hbm, ⟨8, _⟩ => ⟨S_, .i32⟩
  | .hbm, ⟨9, _⟩ => ⟨S_, .f32⟩
  | .hbm, ⟨10, _⟩ => ⟨S8x384x1024, .f32⟩
  | .hbm, ⟨11, _⟩ => ⟨S3072x1024, .f32⟩
  | .hbm, ⟨12, _⟩ => ⟨S3072x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel9.lean ====
abbrev S2048x1024 : Shape := ⟨2, ![2048, 1024]⟩
abbrev S1024x1024 : Shape := ⟨2, ![1024, 1024]⟩

abbrev nBuf : Space → Nat
  | .hbm => 4
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S1024x1024, .bf16⟩
  | .local _ .vmem, ⟨0, _⟩ => ⟨S2048x1024, .bf16⟩
  | .local _ .vmem, ⟨1, _⟩ => ⟨S2048x1024, .f32⟩
  | .local _ .vmem, ⟨2, _⟩ => ⟨S1024x1024, .bf16⟩
  | .local _ .vmem, ⟨3, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S2048x512 : Shape := ⟨2, ![2048, 512]⟩
abbrev S2048x1024 : Shape := ⟨2, ![2048, 1024]⟩
abbrev S8x512x128 : Shape := ⟨3, ![8, 512, 128]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 5
  | .vmem => 4
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S2048x512, .bf16⟩
  | .hbm, ⟨3, _⟩ => ⟨S2048x1024, .bf16⟩
  | .hbm, ⟨4, _⟩ => ⟨S8x512x128, .bf16⟩
  | .local _ .vmem, ⟨0, _⟩ => ⟨S2048x512, .bf16⟩
  | .local _ .vmem, ⟨1, _⟩ => ⟨S2048x1024, .bf16⟩
  | .local _ .vmem, ⟨2, _⟩ => ⟨S8x512x128, .bf16⟩
  | .local _ .vmem, ⟨3, _⟩ => ⟨S512x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S8x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S2048x512 : Shape := ⟨2, ![2048, 512]⟩
abbrev S2048x1024 : Shape := ⟨2, ![2048, 1024]⟩
abbrev S_ : Shape := ⟨0, ![]⟩
abbrev S512x1024 : Shape := ⟨2, ![512, 1024]⟩
abbrev S1024x512 : Shape := ⟨2, ![1024, 512]⟩
abbrev S512x8x128 : Shape := ⟨3, ![512, 8, 128]⟩
abbrev S8x512x128 : Shape := ⟨3, ![8, 512, 128]⟩

abbrev nBuf : Space → Nat
  | .hbm => 10
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S_, .f32⟩
  | .hbm, ⟨3, _⟩ => ⟨S512x1024, .f32⟩
  | .hbm, ⟨4, _⟩ => ⟨S2048x1024, .f32⟩
  | .hbm, ⟨5, _⟩ => ⟨S1024x512, .f32⟩
  | .hbm, ⟨6, _⟩ => ⟨S512x1024, .f32⟩
  | .hbm, ⟨7, _⟩ => ⟨S512x8x128, .f32⟩
  | .hbm, ⟨8, _⟩ => ⟨S8x512x128, .f32⟩
  | .hbm, ⟨9, _⟩ => ⟨S8x512x128, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S2048x512 : Shape := ⟨2, ![2048, 512]⟩
abbrev S512x512 : Shape := ⟨2, ![512, 512]⟩

abbrev nBuf : Space → Nat
  | .hbm => 5
  | .vmem => 4
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .bf16⟩
  | .hbm, ⟨3, _⟩ => ⟨S2048x512, .bf16⟩
  | .hbm, ⟨4, _⟩ => ⟨S512x512, .bf16⟩
  | .local _ .vmem, ⟨0, _⟩ => ⟨S2048x512, .bf16⟩
  | .local _ .vmem, ⟨1, _⟩ => ⟨S2048x512, .bf16⟩
  | .local _ .vmem, ⟨2, _⟩ => ⟨S512x512, .bf16⟩
  | .local _ .vmem, ⟨3, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S2048x512 : Shape := ⟨2, ![2048, 512]⟩
abbrev S_ : Shape := ⟨0, ![]⟩
abbrev S512x512 : Shape := ⟨2, ![512, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S_, .f32⟩
  | .hbm, ⟨3, _⟩ => ⟨S512x512, .f32⟩
  | .hbm, ⟨4, _⟩ => ⟨S2048x512, .f32⟩
  | .hbm, ⟨5, _⟩ => ⟨S512x512, .f32⟩
  | .hbm, ⟨6, _⟩ => ⟨S512x512, .f32⟩
  | .hbm, ⟨7, _⟩ => ⟨S512x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S2048x512 : Shape := ⟨2, ![2048, 512]⟩
abbrev S4x128x128 : Shape := ⟨3, ![4, 128, 128]⟩
abbrev S2048x128 : Shape := ⟨2, ![2048, 128]⟩
abbrev S1x128x128 : Shape := ⟨3, ![1, 128, 128]⟩
abbrev S128x128 : Shape := ⟨2, ![128, 128]⟩

abbrev nBuf : Space → Nat
  | .hbm => 5
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .bf16⟩
  | .hbm, ⟨3, _⟩ => ⟨S2048x512, .bf16⟩
  | .hbm, ⟨4, _⟩ => ⟨S4x128x128, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S1x128x128, .f32⟩
  | .local _ .vmem, ⟨5, _⟩ => ⟨S1x128x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S2048x512 : Shape := ⟨2, ![2048, 512]⟩
abbrev S2048x4x128 : Shape := ⟨3, ![2048, 4, 128]⟩
abbrev S_ : Shape := ⟨0, ![]⟩
abbrev S4x128x128 : Shape := ⟨3, ![4, 128, 128]⟩
abbrev S4x128x2048 : Shape := ⟨3, ![4, 128, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x4x128, .f32⟩
  | .hbm, ⟨3, _⟩ => ⟨S2048x4x128, .f32⟩
  | .hbm, ⟨4, _⟩ => ⟨S_, .f32⟩
  | .hbm, ⟨5, _⟩ => ⟨S4x128x128, .f32⟩
  | .hbm, ⟨6, _⟩ => ⟨S4x128x2048, .f32⟩
  | .hbm, ⟨7, _⟩ => ⟨S2048x4x128, .f32⟩
  | .hbm, ⟨8, _⟩ => ⟨S4x128x2048, .f32⟩
  | .hbm, ⟨9, _⟩ => ⟨S4x128x128, .f32⟩
  | .hbm, ⟨10, _⟩ => ⟨S4x128x128, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S2048x1024 : Shape := ⟨2, ![2048, 1024]⟩
abbrev S1024 : Shape := ⟨1, ![1024]⟩
abbrev S1024x5120 : Shape := ⟨2, ![1024, 5120]⟩
abbrev S1x1024 : Shape := ⟨2, ![1, 1024]⟩
abbrev S1024x8x640 : Shape := ⟨3, ![1024, 8, 640]⟩
abbrev S8x1024x640 : Shape := ⟨3, ![8, 1024, 640]⟩
abbrev S_ : Shape := ⟨0, ![]⟩
abbrev S8x128 : Shape := ⟨2, ![8, 128]⟩
abbrev S2048x5120 : Shape := ⟨2, ![2048, 5120]⟩
abbrev S1024x1024 : Shape := ⟨2, ![1024, 1024]⟩
abbrev S2x1024x640 : Shape := ⟨3, ![2, 1024, 640]⟩
abbrev S1024x1280 : Shape := ⟨2, ![1024, 1280]⟩
abbrev S1024x1 : Shape := ⟨2, ![1024, 1]⟩
abbrev S1x1024x640 : Shape := ⟨3, ![1, 1024, 640]⟩
abbrev S1024x640 : Shape := ⟨2, ![1024, 640]⟩

abbrev nBuf : Space → Nat
  | .hbm => 11
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x5120, .f32⟩
  | .hbm, ⟨3, _⟩ => ⟨S1x1024, .f32⟩
  | .hbm, ⟨4, _⟩ => ⟨S1024x8x640, .f32⟩
  | .hbm, ⟨5, _⟩ => ⟨S8x1024x640, .f32⟩
  | .hbm, ⟨6, _⟩ => ⟨S8x1024x640, .bf16⟩
  | .hbm, ⟨7, _⟩ => ⟨S_, .f32⟩
  | .hbm, ⟨8, _⟩ => ⟨S8x128, .f32⟩
  | .hbm, ⟨9, _⟩ => ⟨S2048x5120, .f32⟩
  | .hbm, ⟨10, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2x1024x640, .bf16⟩
  | .local _ .vmem, ⟨4, _⟩ => ⟨S2x1024x640, .bf16⟩
  | .local _ .vmem, ⟨5, _⟩ => ⟨S8x128, .f32⟩
  | .local _ .vmem, ⟨6, _⟩ => ⟨S1024x1280, .f32⟩
  | .local _ .vmem, ⟨7, _⟩ => ⟨S1024x1280, .f32⟩
  | .local _ .vmem, ⟨8, _⟩ => ⟨S1024x1024, .bf16⟩
  | .local _ .vmem, ⟨9, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference7Ideal.lean ====
abbrev S2048x1024 : Shape := ⟨2, ![2048, 1024]⟩
abbrev S1024 : Shape := ⟨1, ![1024]⟩
abbrev S1024x5120 : Shape := ⟨2, ![1024, 5120]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x5120 : Shape := ⟨2, ![2048, 5120]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x5120, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x5120, .f32⟩
  | .hbm, ⟨20, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel6.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S8x352x1024 : Shape := ⟨3, ![8, 352, 1024]⟩
abbrev S_ : Shape := ⟨0, ![]⟩
abbrev S8x384x1024 : Shape := ⟨3, ![8, 384, 1024]⟩
abbrev S3072x1024 : Shape := ⟨2, ![3072, 1024]⟩
abbrev S2048x3072 : Shape := ⟨2, ![2048, 3072]⟩
abbrev S1024x1024 : Shape := ⟨2, ![1024, 1024]⟩
abbrev S512x1024 : Shape := ⟨2, ![512, 1024]⟩
abbrev S1024x512 : Shape := ⟨2, ![1024, 512]⟩
abbrev S1024x1 : Shape := ⟨2, ![1024, 1]⟩

abbrev nBuf : Space → Nat
  | .hbm => 30
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S2816x1024, .f32⟩
  | .hbm, ⟨7, _⟩ => ⟨S8x352x1024, .f32⟩
  | .hbm, ⟨8, _⟩ => ⟨S_, .i32⟩
  | .hbm, ⟨9, _⟩ => ⟨S_, .f32⟩
  | .hbm, ⟨10, _⟩ => ⟨S8x384x1024, .f32⟩
  | .hbm, ⟨11, _⟩ => ⟨S3072x1024, .f32⟩
  | .hbm, ⟨12, _⟩ => ⟨S3072x1024, .bf16⟩
  | .hbm, ⟨13, _⟩ => ⟨S2816x1024, .f32⟩
  | .hbm, ⟨14, _⟩ => ⟨S8x352x1024, .f32⟩
  | .hbm, ⟨15, _⟩ => ⟨S_, .i32⟩
  | .hbm, ⟨16, _⟩ => ⟨S_, .f32⟩
  | .hbm, ⟨17, _⟩ => ⟨S8x384x1024, .f32⟩
  | .hbm, ⟨18, _⟩ => ⟨S3072x1024, .f32⟩
  | .hbm, ⟨19, _⟩ => ⟨S3072x1024, .bf16⟩
  | .hbm, ⟨20, _⟩ => ⟨S8x352x1024, .f32⟩
  | .hbm, ⟨21, _⟩ => ⟨S_, .i32⟩
  | .hbm, ⟨22, _⟩ => ⟨S_, .f32⟩
  | .hbm, ⟨23, _⟩ => ⟨S8x384x1024, .f32⟩
  | .hbm, ⟨24, _⟩ => ⟨S3072x1024, .f32⟩
  | .hbm, ⟨25, _⟩ => ⟨S3072x1024, .bf16⟩
  | .hbm, ⟨26, _⟩ => ⟨S2048x1024, .f32⟩
  | .hbm, ⟨27, _⟩ => ⟨S2048x3072, .bf16⟩
  | .hbm, ⟨28, _⟩ => ⟨S2048x3072, .bf16⟩
  | .hbm, ⟨29, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_call2_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 6], ![false, false]⟩

def k0_cond2 (i : grid0.Coords) : BitVec 1 :=
  let arg1 : BitVec 32 := BitVec.ofNat 32 (i 1).val
  let c5_i32 : BitVec 32 := 5#32
  let v29 : BitVec 1 := Scalar.cmpi .eq arg1 c5_i32
  let v30 : BitVec 32 := Scalar.extui v29
  let c0_i32_20 : BitVec 32 := 0#32
  let v31 : BitVec 1 := Scalar.cmpi .ne v30 c0_i32_20
  v31

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference6Ideal.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2816 : Shape := ⟨2, ![2048, 2816]⟩
abbrev S2048x8x352 : Shape := ⟨3, ![2048, 8, 352]⟩
abbrev S2048x8x384 : Shape := ⟨3, ![2048, 8, 384]⟩
abbrev S2048x3072 : Shape := ⟨2, ![2048, 3072]⟩

abbrev nBuf : Space → Nat
  | .hbm => 48
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S_, .f32⟩
  | .hbm, ⟨26, _⟩ => ⟨S2048x2816, .f32⟩
  | .hbm, ⟨27, _⟩ => ⟨S2048x2816, .f32⟩
  | .hbm, ⟨28, _⟩ => ⟨S_, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x1024, .f32⟩
  | .hbm, ⟨34, _⟩ => ⟨S2048x1024, .f32⟩
  | .hbm, ⟨35, _⟩ => ⟨S2048x8x352, .f32⟩
  | .hbm, ⟨36, _⟩ => ⟨S_, .i32⟩
  | .hbm, ⟨37, _⟩ => ⟨S_, .f32⟩
  | .hbm, ⟨38, _⟩ => ⟨S2048x8x384, .f32⟩
  | .hbm, ⟨39, _⟩ => ⟨S2048x3072, .f32⟩
  | .hbm, ⟨40, _⟩ => ⟨S2048x3072, .bf16⟩
  | .hbm, ⟨41, _⟩ => ⟨S2048x8x352, .f32⟩
  | .hbm, ⟨42, _⟩ => ⟨S_, .i32⟩
  | .hbm, ⟨43, _⟩ => ⟨S_, .f32⟩
  | .hbm, ⟨44, _⟩ => ⟨S2048x8x384, .f32⟩
  | .hbm, ⟨45, _⟩ => ⟨S2048x3072, .f32⟩
  | .hbm, ⟨46, _⟩ => ⟨S2048x3072, .bf16⟩
  | .hbm, ⟨47, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_call1_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_2 : Ref sig .tc := ⟨.hbm, 42, rfl⟩
abbrev main_call2_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩

abbrev nD : Nat := 1
abbrev τ : Topo := Topo.v7x

variable {F : FTy → Type} [FloatOps F]
-- ==== Kernel13.lean ====
abbrev S2048x1024 : Shape := ⟨2, ![2048, 1024]⟩
abbrev S2048x512 : Shape := ⟨2, ![2048, 512]⟩
abbrev S2048x5120 : Shape := ⟨2, ![2048, 5120]⟩
abbrev S512x512 : Shape := ⟨2, ![512, 512]⟩
abbrev S512 : Shape := ⟨1, ![512]⟩
abbrev S512x1024 : Shape := ⟨2, ![512, 1024]⟩
abbrev S4x128x128 : Shape := ⟨3, ![4, 128, 128]⟩
abbrev S3072 : Shape := ⟨1, ![3072]⟩
abbrev S1024x1024 : Shape := ⟨2, ![1024, 1024]⟩
abbrev S1x512 : Shape := ⟨2, ![1, 512]⟩
abbrev S512x8x128 : Shape := ⟨3, ![512, 8, 128]⟩
abbrev S8x512x128 : Shape := ⟨3, ![8, 512, 128]⟩
abbrev S1x3072 : Shape := ⟨2, ![1, 3072]⟩
abbrev S_ : Shape := ⟨0, ![]⟩
abbrev S8x128 : Shape := ⟨2, ![8, 128]⟩
abbrev S1x512x128 : Shape := ⟨3, ![1, 512, 128]⟩
abbrev S512x128 : Shape := ⟨2, ![512, 128]⟩
abbrev S512x3072 : Shape := ⟨2, ![512, 3072]⟩
abbrev S512x1 : Shape := ⟨2, ![512, 1]⟩
abbrev S1x128x128 : Shape := ⟨3, ![1, 128, 128]⟩
abbrev S128x128 : Shape := ⟨2, ![128, 128]⟩

abbrev nBuf : Space → Nat
  | .hbm => 36
  | .vmem => 28
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x5120, .f32⟩
  | .hbm, ⟨5, _⟩ => ⟨S512x512, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S512, .f32⟩
  | .hbm, ⟨10, _⟩ => ⟨S512x1024, .f32⟩
  | .hbm, ⟨11, _⟩ => ⟨S4x128x128, .f32⟩
  | .hbm, ⟨12, _⟩ => ⟨S512, .f32⟩
  | .hbm, ⟨13, _⟩ => ⟨S512x1024, .f32⟩
  | .hbm, ⟨14, _⟩ => ⟨S3072, .f32⟩
  | .hbm, ⟨15, _⟩ => ⟨S1024x1024, .f32⟩
  | .hbm, ⟨16, _⟩ => ⟨S512x512, .bf16⟩
  | .hbm, ⟨17, _⟩ => ⟨S1x512, .f32⟩
  | .hbm, ⟨18, _⟩ => ⟨S512x8x128, .f32⟩
  | .hbm, ⟨19, _⟩ => ⟨S8x512x128, .f32⟩
  | .hbm, ⟨20, _⟩ => ⟨S8x512x128, .bf16⟩
  | .hbm, ⟨21, _⟩ => ⟨S1x512, .f32⟩
  | .hbm, ⟨22, _⟩ => ⟨S1x512, .f32⟩
  | .hbm, ⟨23, _⟩ => ⟨S512x8x128, .f32⟩
  | .hbm, ⟨24, _⟩ => ⟨S8x512x128, .f32⟩
  | .hbm, ⟨25, _⟩ => ⟨S8x512x128, .bf16⟩
  | .hbm, ⟨26, _⟩ => ⟨S4x128x128, .bf16⟩
  | .hbm, ⟨27, _⟩ => ⟨S1x512, .f32⟩
  | .hbm, ⟨28, _⟩ => ⟨S512x8x128, .f32⟩
  | .hbm, ⟨29, _⟩ => ⟨S8x512x128, .f32⟩
  | .hbm, ⟨30, _⟩ => ⟨S8x512x128, .bf16⟩
  | .hbm, ⟨31, _⟩ => ⟨S1x3072, .f32⟩
  | .hbm, ⟨32, _⟩ => ⟨S1024x1024, .bf16⟩
  | .hbm, ⟨33, _⟩ => ⟨S_, .f32⟩
  | .hbm, ⟨34, _⟩ => ⟨S8x128, .f32⟩
  | .hbm, ⟨35, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x512, .bf16⟩
  | .local _ .vmem, ⟨15, _⟩ => ⟨S1x512, .f32⟩
  | .local _ .vmem, ⟨16, _⟩ => ⟨S8x512x128, .bf16⟩
  | .local _ .vmem, ⟨17, _⟩ => ⟨S1x512, .f32⟩
  | .local _ .vmem, ⟨18, _⟩ => ⟨S1x512, .f32⟩
  | .local _ .vmem, ⟨19, _⟩ => ⟨S8x512x128, .bf16⟩
  | .local _ .vmem, ⟨20, _⟩ => ⟨S4x128x128, .bf16⟩
  | .local _ .vmem, ⟨21, _⟩ => ⟨S1x512, .f32⟩
  | .local _ .vmem, ⟨22, _⟩ => ⟨S8x512x128, .bf16⟩
  | .local _ .vmem, ⟨23, _⟩ => ⟨S1x3072, .f32⟩
  | .local _ .vmem, ⟨24, _⟩ => ⟨S1024x1024, .bf16⟩
  | .local _ .vmem, ⟨25, _⟩ => ⟨S8x128, .f32⟩
  | .local _ .vmem, ⟨26, _⟩ => ⟨S512x1024, .f32⟩
  | .local _ .vmem, ⟨27, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg19_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x512x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x512x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x3072 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference13Ideal.lean ====
abbrev S2048x1024 : Shape := ⟨2, ![2048, 1024]⟩
abbrev S2048x512 : Shape := ⟨2, ![2048, 512]⟩
abbrev S2048x5120 : Shape := ⟨2, ![2048, 5120]⟩
abbrev S512x512 : Shape := ⟨2, ![512, 512]⟩
abbrev S512 : Shape := ⟨1, ![512]⟩
abbrev S512x1024 : Shape := ⟨2, ![512, 1024]⟩
abbrev S4x128x128 : Shape := ⟨3, ![4, 128, 128]⟩
abbrev S3072 : Shape := ⟨1, ![3072]⟩
abbrev S1024x1024 : Shape := ⟨2, ![1024, 1024]⟩
abbrev S2048x3072 : Shape := ⟨2, ![2048, 3072]⟩
abbrev S1x3072 : Shape := ⟨2, ![1, 3072]⟩
abbrev S_ : Shape := ⟨0, ![]⟩
abbrev S2048x3x1024 : Shape := ⟨3, ![2048, 3, 1024]⟩
abbrev S1x512 : Shape := ⟨2, ![1, 512]⟩
abbrev S2048 : Shape := ⟨1, ![2048]⟩
abbrev S2048x1 : Shape := ⟨2, ![2048, 1]⟩
abbrev S2048x4x128 : Shape := ⟨3, ![2048, 4, 128]⟩
abbrev S4x128x2048 : Shape := ⟨3, ![4, 128, 2048]⟩
abbrev S2048x1x1024 : Shape := ⟨3, ![2048, 1, 1024]⟩

abbrev nBuf : Space → Nat
  | .hbm => 120
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x5120, .f32⟩
  | .hbm, ⟨5, _⟩ => ⟨S512x512, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S512, .f32⟩
  | .hbm, ⟨10, _⟩ => ⟨S512x1024, .f32⟩
  | .hbm, ⟨11, _⟩ => ⟨S4x128x128, .f32⟩
  | .hbm, ⟨12, _⟩ => ⟨S512, .f32⟩
  | .hbm, ⟨13, _⟩ => ⟨S512x1024, .f32⟩
  | .hbm, ⟨14, _⟩ => ⟨S3072, .f32⟩
  | .hbm, ⟨15, _⟩ => ⟨S1024x1024, .f32⟩
  | .hbm, ⟨16, _⟩ => ⟨S2048x3072, .f32⟩
  | .hbm, ⟨17, _⟩ => ⟨S1x3072, .f32⟩
  | .hbm, ⟨18, _⟩ => ⟨S2048x3072, .f32⟩
  | .hbm, ⟨19, _⟩ => ⟨S2048x3072, .f32⟩
  | .hbm, ⟨20, _⟩ => ⟨S2048x3072, .f32⟩
  | .hbm, ⟨21, _⟩ => ⟨S2048x3072, .f32⟩
  | .hbm, ⟨22, _⟩ => ⟨S_, .f32⟩
  | .hbm, ⟨23, _⟩ => ⟨S2048x3072, .f32⟩
  | .hbm, ⟨24, _⟩ => ⟨S2048x3072, .f32⟩
  | .hbm, ⟨25, _⟩ => ⟨S_, .f32⟩
  | .hbm, ⟨26, _⟩ => ⟨S2048x3072, .f32⟩
  | .hbm, ⟨27, _⟩ => ⟨S2048x3072, .f32⟩
  | .hbm, ⟨28, _⟩ => ⟨S2048x3x1024, .f32⟩
  | .hbm, ⟨29, _⟩ => ⟨S2048x512, .f32⟩
  | .hbm, ⟨30, _⟩ => ⟨S2048x512, .f32⟩
  | .hbm, ⟨31, _⟩ => ⟨S_, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S_, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S_, .f32⟩
  | .hbm, ⟨40, _⟩ => ⟨S2048x512, .f32⟩
  | .hbm, ⟨41, _⟩ => ⟨S2048x512, .f32⟩
  | .hbm, ⟨42, _⟩ => ⟨S_, .f32⟩
  | .hbm, ⟨43, _⟩ => ⟨S2048x512, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S1x512, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S_, .f32⟩
  | .hbm, ⟨53, _⟩ => ⟨S2048x512, .f32⟩
  | .hbm, ⟨54, _⟩ => ⟨S2048x512, .f32⟩
  | .hbm, ⟨55, _⟩ => ⟨S_, .f32⟩
  | .hbm, ⟨56, _⟩ => ⟨S2048x512, .f32⟩
  | .hbm, ⟨57, _⟩ => ⟨S2048x512, .f32⟩
  | .hbm, ⟨58, _⟩ => ⟨S2048x512, .f32⟩
  | .hbm, ⟨59, _⟩ => ⟨S2048x1024, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S2048x512, .f32⟩
  | .hbm, ⟨67, _⟩ => ⟨S2048x512, .f32⟩
  | .hbm, ⟨68, _⟩ => ⟨S2048x512, .f32⟩
  | .hbm, ⟨69, _⟩ => ⟨S_, .f32⟩
  | .hbm, ⟨70, _⟩ => ⟨S2048, .f32⟩
  | .hbm, ⟨71, _⟩ => ⟨S2048x1, .f32⟩
  | .hbm, ⟨72, _⟩ => ⟨S_, .f32⟩
  | .hbm, ⟨73, _⟩ => ⟨S2048x1, .f32⟩
  | .hbm, ⟨74, _⟩ => ⟨S2048x1, .f32⟩
  | .hbm, ⟨75, _⟩ => ⟨S2048x512, .f32⟩
  | .hbm, ⟨76, _⟩ => ⟨S2048x512, .f32⟩
  | .hbm, ⟨77, _⟩ => ⟨S_, .f32⟩
  | .hbm, ⟨78, _⟩ => ⟨S2048x1, .f32⟩
  | .hbm, ⟨79, _⟩ => ⟨S2048x1, .f32⟩
  | .hbm, ⟨80, _⟩ => ⟨S2048x1, .f32⟩
  | .hbm, ⟨81, _⟩ => ⟨S2048x512, .f32⟩
  | .hbm, ⟨82, _⟩ => ⟨S2048x512, .f32⟩
  | .hbm, ⟨83, _⟩ => ⟨S1x512, .f32⟩
  | .hbm, ⟨84, _⟩ => ⟨S2048x512, .f32⟩
  | .hbm, ⟨85, _⟩ => ⟨S2048x512, .f32⟩
  | .hbm, ⟨86, _⟩ => ⟨S1x512, .f32⟩
  | .hbm, ⟨87, _⟩ => ⟨S2048x512, .f32⟩
  | .hbm, ⟨88, _⟩ => ⟨S2048x512, .f32⟩
  | .hbm, ⟨89, _⟩ => ⟨S2048x512, .f32⟩
  | .hbm, ⟨90, _⟩ => ⟨S2048x512, .f32⟩
  | .hbm, ⟨91, _⟩ => ⟨S_, .f32⟩
  | .hbm, ⟨92, _⟩ => ⟨S2048x512, .f32⟩
  | .hbm, ⟨93, _⟩ => ⟨S2048x512, .f32⟩
  | .hbm, ⟨94, _⟩ => ⟨S_, .f32⟩
  | .hbm, ⟨95, _⟩ => ⟨S2048x512, .f32⟩
  | .hbm, ⟨96, _⟩ => ⟨S2048x512, .f32⟩
  | .hbm, ⟨97, _⟩ => ⟨S2048x512, .f32⟩
  | .hbm, ⟨98, _⟩ => ⟨S2048x1024, .f32⟩
  | .hbm, ⟨99, _⟩ => ⟨S2048x4x128, .f32⟩
  | .hbm, ⟨100, _⟩ => ⟨S4x128x2048, .f32⟩
  | .hbm, ⟨101, _⟩ => ⟨S2048x4x128, .f32⟩
  | .hbm, ⟨102, _⟩ => ⟨S2048x512, .f32⟩
  | .hbm, ⟨103, _⟩ => ⟨S1x512, .f32⟩
  | .hbm, ⟨104, _⟩ => ⟨S2048x512, .f32⟩
  | .hbm, ⟨105, _⟩ => ⟨S2048x512, .f32⟩
  | .hbm, ⟨106, _⟩ => ⟨S2048x1024, .f32⟩
  | .hbm, ⟨107, _⟩ => ⟨S2048x1x1024, .f32⟩
  | .hbm, ⟨108, _⟩ => ⟨S2048x1024, .f32⟩
  | .hbm, ⟨109, _⟩ => ⟨S2048x1024, .f32⟩
  | .hbm, ⟨110, _⟩ => ⟨S2048x1x1024, .f32⟩
  | .hbm, ⟨111, _⟩ => ⟨S2048x1024, .f32⟩
  | .hbm, ⟨112, _⟩ => ⟨S2048x1024, .f32⟩
  | .hbm, ⟨113, _⟩ => ⟨S2048x1024, .f32⟩
  | .hbm, ⟨114, _⟩ => ⟨S2048x1x1024, .f32⟩
  | .hbm, ⟨115, _⟩ => ⟨S2048x1024, .f32⟩
  | .hbm, ⟨116, _⟩ => ⟨S2048x1024, .f32⟩
  | .hbm, ⟨117, _⟩ => ⟨S2048x1024, .f32⟩
  | .hbm, ⟨118, _⟩ => ⟨S2048x1024, .f32⟩
  | .hbm, ⟨119, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_cst_10 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_11 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_call0_v0 : Ref sig .tc := ⟨.hbm, 89, rfl⟩
abbrev main_call0_v1 : Ref sig .tc := ⟨.hbm, 90, rfl⟩
abbrev main_call0_cst : Ref sig .tc := ⟨.hbm, 91, rfl⟩
abbrev main_call0_v2 : Ref sig .tc := ⟨.hbm, 92, rfl⟩
abbrev main_call0_v3 : Ref sig .tc := ⟨.hbm, 93, rfl⟩
abbrev main_call0_cst_0 : Ref sig .tc := ⟨.hbm, 94, rfl⟩
abbrev main_call0_v4 : Ref sig .tc := ⟨.hbm, 95, rfl⟩
abbrev main_call0_v5 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩

abbrev nD : Nat := 1
abbrev τ : Topo := Topo.v7x

variable {F : FTy → Type} [FloatOps F]
-- ==== Kernel15.lean ====
abbrev S2048x5120 : Shape := ⟨2, ![2048, 5120]⟩
abbrev S31x512 : Shape := ⟨2, ![31, 512]⟩
abbrev S512 : Shape := ⟨1, ![512]⟩
abbrev S1x512 : Shape := ⟨2, ![1, 512]⟩
abbrev S2048x512 : Shape := ⟨2, ![2048, 512]⟩
abbrev S256x512 : Shape := ⟨2, ![256, 512]⟩
abbrev S32x512 : Shape := ⟨2, ![32, 512]⟩
abbrev S288x512 : Shape := ⟨2, ![288, 512]⟩

abbrev nBuf : Space → Nat
  | .hbm => 5
  | .vmem => 13
  | .smem => 0
  | _ => 0

abbrev bufTy : (tb : Table) → Fin (tcTables nBuf tb) → BufTy
  | .hbm, ⟨0, _⟩ => ⟨S2048x5120, .f32⟩
  | .hbm, ⟨1, _⟩ => ⟨S31x512, .f32⟩
  | .hbm, ⟨2, _⟩ => ⟨S512, .f32⟩
  | .hbm, ⟨3, _⟩ => ⟨S1x512, .f32⟩
  | .hbm, ⟨4, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S31x512, .f32⟩
  | .local _ .vmem, ⟨9, _⟩ => ⟨S1x512, .f32⟩
  | .local _ .vmem, ⟨10, _⟩ => ⟨S256x512, .f32⟩
  | .local _ .vmem, ⟨11, _⟩ => ⟨S256x512, .f32⟩
  | .local _ .vmem, ⟨12, _⟩ => ⟨S288x512, .f32⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S31x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S2048x5120 : Shape := ⟨2, ![2048, 5120]⟩
abbrev S31x512 : Shape := ⟨2, ![31, 512]⟩
abbrev S512 : Shape := ⟨1, ![512]⟩
abbrev S2048x512 : Shape := ⟨2, ![2048, 512]⟩
abbrev S_ : Shape := ⟨0, ![]⟩
abbrev S30x512 : Shape := ⟨2, ![30, 512]⟩
abbrev S2078x512 : Shape := ⟨2, ![2078, 512]⟩
abbrev S31 : Shape := ⟨1, ![31]⟩
abbrev S31x1 : Shape := ⟨2, ![31, 1]⟩
abbrev S2048 : Shape := ⟨1, ![2048]⟩
abbrev S1x2048 : Shape := ⟨2, ![1, 2048]⟩
abbrev S31x2048 : Shape := ⟨2, ![31, 2048]⟩
abbrev S31x2048x1 : Shape := ⟨3, ![31, 2048, 1]⟩
abbrev S31x2048x512 : Shape := ⟨3, ![31, 2048, 512]⟩
abbrev S31x1x512 : Shape := ⟨3, ![31, 1, 512]⟩
abbrev S1x512 : Shape := ⟨2, ![1, 512]⟩

abbrev nBuf : Space → Nat
  | .hbm => 41
  | .vmem => 0
  | .smem => 0
  | _ => 0

abbrev bufTy : (tb : Table) → Fin (tcTables nBuf tb) → BufTy
  | .hbm, ⟨0, _⟩ => ⟨S2048x5120, .f32⟩
  | .hbm, ⟨1, _⟩ => ⟨S31x512, .f32⟩
  | .hbm, ⟨2, _⟩ => ⟨S512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S30x512, .f32⟩
  | .hbm, ⟨16, _⟩ => ⟨S2078x512, .f32⟩
  | .hbm, ⟨17, _⟩ => ⟨S31, .i32⟩
  | .hbm, ⟨18, _⟩ => ⟨S31x1, .i32⟩
  | .hbm, ⟨19, _⟩ => ⟨S2048, .i32⟩
  | .hbm, ⟨20, _⟩ => ⟨S1x2048, .i32⟩
  | .hbm, ⟨21, _⟩ => ⟨S31x2048, .i32⟩
  | .hbm, ⟨22, _⟩ => ⟨S31x2048, .i32⟩
  | .hbm, ⟨23, _⟩ => ⟨S31x2048, .i32⟩
  | .hbm, ⟨24, _⟩ => ⟨S_, .i32⟩
  | .hbm, ⟨25, _⟩ => ⟨S31x2048, .i32⟩
  | .hbm, ⟨26, _⟩ => ⟨S31x2048, .i1⟩
  | .hbm, ⟨27, _⟩ => ⟨S_, .i32⟩
  | .hbm, ⟨28, _⟩ => ⟨S31x2048, .i32⟩
  | .hbm, ⟨29, _⟩ => ⟨S31x2048, .i32⟩
  | .hbm, ⟨30, _⟩ => ⟨S31x2048, .i32⟩
  | .hbm, ⟨31, _⟩ => ⟨S31x2048x1, .i32⟩
  | .hbm, ⟨32, _⟩ => ⟨S31x2048x512, .f32⟩
  | .hbm, ⟨33, _⟩ => ⟨S31x1x512, .f32⟩
  | .hbm, ⟨34, _⟩ => ⟨S31x2048x512, .f32⟩
  | .hbm, ⟨35, _⟩ => ⟨S31x2048x512, .f32⟩
  | .hbm, ⟨36, _⟩ => ⟨S_, .f32⟩
  | .hbm, ⟨37, _⟩ => ⟨S2048x512, .f32⟩
  | .hbm, ⟨38, _⟩ => ⟨S1x512, .f32⟩
  | .hbm, ⟨39, _⟩ => ⟨S2048x512, .f32⟩
  | .hbm, ⟨40, _⟩ => ⟨S2048x512, .f32⟩
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Proof.Conv.Math.lean ====
module

public import Idealize.ShloMosaic.Lib.Pipeline.Value
public import Idealize.ShloMosaic.Lib.KernelVsHost
public import Idealize.ShloMosaic.Lib.Pointwise
public import Idealize.ShloMosaic.PureOps.Ideal.Laws

@[expose] public section

/-! # The gradient of the gated causal convolution, as plain sums

The layer cuts two blocks `va`, `vb` of 512 columns out of `z`, forms `h = va · σ(vb)`, and convolves `h` along the
tokens with 31 taps per column: token `n` sees the tokens `n - 30 … n`. For a cotangent `d` of the convolution's value
this file names what the gradient is, with arrays read at natural numbers and zero outside their bounds, so that
neither the padding in front of the sequence nor the end of it needs a case of its own. -/

noncomputable section

open Idealize Idealize.ShloMosaic
open scoped BigOperators

namespace Cert.Conv

/-- An array of two axes read at two natural numbers: its element there, and zero outside the array. -/
def at2 {a b : Nat} (x : (⟨2, ![a, b]⟩ : Shape).Idx → EReal) (n c : Nat) : EReal :=
  if h : n < a ∧ c < b then x (ix2 ⟨n, h.1⟩ ⟨c, h.2⟩) else 0

theorem at2_idx {a b : Nat} (x : (⟨2, ![a, b]⟩ : Shape).Idx → EReal) (j : (⟨2, ![a, b]⟩ : Shape).Idx) :
    at2 x (j 0).val (j 1).val = x j := by
  have h0 : (j 0).val < a := (j 0).isLt
  have h1 : (j 1).val < b := (j 1).isLt
  rw [at2, dif_pos ⟨h0, h1⟩]
  exact congrArg x (ix2_eta j)

/-- An element named by its index is the array read at the index's two coordinates, however these are written. -/
theorem eq_at2 {a b : Nat} (x : (⟨2, ![a, b]⟩ : Shape).Idx → EReal) (j : (⟨2, ![a, b]⟩ : Shape).Idx) (n c : Nat)
    (hn : (j 0).val = n) (hc : (j 1).val = c) : x j = at2 x n c := by
  subst hn; subst hc; exact (at2_idx x j).symm

theorem at2_of_le {a b : Nat} (x : (⟨2, ![a, b]⟩ : Shape).Idx → EReal) (n c : Nat) (h : a ≤ n) : at2 x n c = 0 := by
  rw [at2, dif_neg (fun hh => absurd hh.1 (Nat.not_lt.mpr h))]

/-- The gate `σ(vb)` at token `n` and column `c`: `vb` is the third block of 512 columns of `z`. -/
def gate (z : (⟨2, ![2048, 5120]⟩ : Shape).Idx → EReal) (n c : Nat) : EReal := Ideal.logistic (at2 z n (1024 + c))

/-- The gated value `h = va · σ(vb)`: `va` is the second block of 512 columns of `z`. -/
def glu (z : (⟨2, ![2048, 5120]⟩ : Shape).Idx → EReal) (n c : Nat) : EReal := at2 z n (512 + c) * gate z n c

theorem glu_of_le (z : (⟨2, ![2048, 5120]⟩ : Shape).Idx → EReal) (n c : Nat) (h : 2048 ≤ n) : glu z n c = 0 := by
  rw [glu, at2_of_le z n _ h, zero_mul]

/-- The gated value behind 32 rows of zeros. -/
def past (z : (⟨2, ![2048, 5120]⟩ : Shape).Idx → EReal) (n c : Nat) : EReal := if 32 ≤ n then glu z (n - 32) c else 0

/-- The gradient of `h`: token `n` is read by the tokens `n … n + 30`, the last of them through tap 0. -/
def dh (d : (⟨2, ![2048, 512]⟩ : Shape).Idx → EReal) (w : (⟨2, ![31, 512]⟩ : Shape).Idx → EReal) (n c : Nat) : EReal :=
  ∑ k : Fin 31, at2 w k.val c * at2 d (n + 30 - k.val) c

/-- The gradient of tap `k`: over all tokens, the cotangent times the gated value the tap reads there. -/
def dw (d : (⟨2, ![2048, 512]⟩ : Shape).Idx → EReal) (z : (⟨2, ![2048, 5120]⟩ : Shape).Idx → EReal) (k c : Nat) : EReal :=
  ∑ n : Fin 2048, at2 d n.val c * past z (n.val + 2 + k) c

/-- The gradient of the bias. -/
def db (d : (⟨2, ![2048, 512]⟩ : Shape).Idx → EReal) (c : Nat) : EReal := ∑ n : Fin 2048, at2 d n.val c

/-- The gradient of `va`. -/
def dva (d : (⟨2, ![2048, 512]⟩ : Shape).Idx → EReal) (z : (⟨2, ![2048, 5120]⟩ : Shape).Idx → EReal)
    (w : (⟨2, ![31, 512]⟩ : Shape).Idx → EReal) (n c : Nat) : EReal := dh d w n c * gate z n c

/-- The gradient of `vb`, through the derivative `σ · (1 - σ)` of the gate. -/
def dvb (d : (⟨2, ![2048, 512]⟩ : Shape).Idx → EReal) (z : (⟨2, ![2048, 5120]⟩ : Shape).Idx → EReal)
    (w : (⟨2, ![31, 512]⟩ : Shape).Idx → EReal) (n c : Nat) : EReal :=
  dh d w n c * at2 z n (512 + c) * (gate z n c * (1 - gate z n c))

/-- The gradient of the taps as the 8 × 32 × 64 array it is handed on in: 8 groups of 64 columns, and a 32nd row of
    zeros below the 31 taps. -/
def dw8 (d : (⟨2, ![2048, 512]⟩ : Shape).Idx → EReal) (z : (⟨2, ![2048, 5120]⟩ : Shape).Idx → EReal) (q k c : Nat) : EReal :=
  if k < 31 then dw d z k (64 * q + c) else 0

/-- A sum over 2048 tokens is the sum over 8 blocks of 256. -/
theorem sum_blocks (f : Nat → EReal) :
    ∑ n : Fin 2048, f n.val = ∑ t : Fin 8, ∑ r : Fin 256, f (256 * t.val + r.val) := by
  rw [← Fintype.sum_prod_type']
  refine (Fintype.sum_equiv (finProdFinEquiv (m := 8) (n := 256)) _ _ fun p => ?_).symm
  exact congrArg f (Nat.add_comm _ _)

end Cert.Conv

end
-- ==== Proof.Conv.Blocks.lean ====
module

public import proofs.«01_k».proof.Proof.Conv.Math
public import proofs.«01_k».proof.Proof.Gen.KernelIdeal.Skeleton

@[expose] public section

/-! # One grid point of the kernel

At a grid point the kernel holds a block of 256 tokens. It writes two windows of 288 rows: the cotangent with the 32 rows
that follow the block, and the gated value with the 32 rows that precede it. The 31 taps read both windows at a row
offset. This file says what the windows hold and what the sums over the taps come to. -/

set_option maxRecDepth 16384

noncomputable section

open Idealize Idealize.ShloMosaic Idealize.ShloMosaic.TcCoe Idealize.SL.Sem
open scoped BigOperators
open Cert.KernelIdeal Cert.KernelIdeal.Gen

namespace Cert.Conv

abbrev B256 : Type := Vec Ideal S256x512 .f32
abbrev B288 : Type := Vec Ideal S288x512 .f32
abbrev B32 : Type := Vec Ideal S32x512 .f32
abbrev B31 : Type := Vec Ideal S31x512 .f32
abbrev B1 : Type := Vec Ideal S1x512 .f32

theorem kzero_bits : (FloatOps.ofBits (F := Ideal) .f32 0x00000000#32) = (0 : EReal) := Ideal.ofBits_zero_f32

theorem kone_bits : (FloatOps.ofBits (F := Ideal) .f32 0x3F800000#32) = (1 : EReal) := Ideal.ofBits_one_f32

/-- The window of the cotangent: the block, and under it the 32 rows that follow. -/
def cotWin (i : grid0.Coords) (x0 : B256) (x1 : B32) : B288 :=
  View.canon
    [⟨Rect.unit ![256, 0] ![32, 512] inb_S288x512_S32x512_256_0, k0_pay18 x1 (k0_pay17 i)⟩,
      ⟨Rect.unit ![0, 0] ![256, 512] inb_S288x512_S256x512_0_0, k0_pay16 x0⟩]

/-- The window of the gated value: the 32 rows that precede, and under them the block. -/
def gluWin (i : grid0.Coords) (x2 x3 : B256) (x4 x5 : B32) : B288 :=
  View.canon
    [⟨Rect.unit ![32, 0] ![256, 512] inb_S288x512_S256x512_32_0, k0_pay15 x2 x3⟩,
      ⟨Rect.unit ![0, 0] ![32, 512] inb_S288x512_S32x512_0_0, k0_pay14 i x4 x5⟩]

theorem rows_inb (o : Fin 33) : ∀ a, (![o.val, 0] : Fin 2 → Nat) a + (![256, 512] : Fin 2 → Nat) a ≤ S288x512.size a := by
  revert o; decide

theorem tap_inb (k : Fin 31) : ∀ a, (![k.val, 0] : Fin 2 → Nat) a + (![1, 512] : Fin 2 → Nat) a ≤ S31x512.size a := by
  revert k; decide

/-- 256 rows of a window from an offset on. -/
def rows (D : B288) (o : Fin 33) : B256 := fun j => D ((Rect.unit (s := S288x512) ![o.val, 0] ![256, 512] (rows_inb o)).idx j)

/-- One row of the taps. -/
def tap (x6 : B31) (k : Fin 31) : B1 := View.ld x6 (Rect.unit ![k.val, 0] ![1, 512] (tap_inb k))

theorem rows_apply (D : B288) (o : Fin 33) (j : S256x512.Idx) :
    rows D o j = at2 (a := 288) (b := 512) D (o.val + (j 0).val) (j 1).val := by
  exact eq_at2 (a := 288) (b := 512) D _ _ _ (show o.val + 1 * (j 0).val = _ by omega) (show 0 + 1 * (j 1).val = _ by omega)

theorem tap_apply (x6 : B31) (k : Fin 31) (j : S1x512.Idx) :
    tap x6 k j = at2 (a := 31) (b := 512) x6 k.val (j 1).val := by
  have h0 : (j 0).val < 1 := (j 0).isLt
  exact eq_at2 (a := 31) (b := 512) x6 _ _ _ (show k.val + 1 * (j 0).val = _ by omega) (show 0 + 1 * (j 1).val = _ by omega)

/-! ## The sum over the taps -/

/-- The sum the kernel has formed after the tap 28. -/
def taps28 (W : Fin 31 → B1) (D : Fin 33 → B256) : B256 :=
  k0_pay57 (F := Ideal) (k0_pay53 (k0_pay47 (k0_pay42 (k0_pay36 (k0_pay32 (k0_pay26 (k0_pay21
    (W 0) (D 30) (W 1) (D 29) (W 2) (D 28)) (W 3) (D 27) (W 4) (D 26) (W 5) (D 25) (W 6) (D 24))
    (W 7) (D 23) (W 8) (D 22) (W 9) (D 21) (W 10) (D 20)) (W 11) (D 19) (W 12) (D 18) (W 13) (D 17))
    (D 16) (k0_pay38 (W 14)) (W 15) (D 15) (W 16) (D 14) (W 17) (D 13))
    (W 18) (D 12) (W 19) (D 11) (W 20) (D 10) (W 21) (D 9))
    (W 22) (D 8) (W 23) (D 7) (W 24) (D 6) (W 25) (D 5)) (W 26) (D 4) (W 27) (D 3) (W 28) (D 2)

/-- The sum over all 31 taps: tap `k` meets the window at the row offset `30 - k`. -/
def tapSum (W : Fin 31 → B1) (D : Fin 33 → B256) : B256 :=
  k0_pay60 (F := Ideal) (taps28 W D) (D 1) (k0_pay59 (W 29)) (W 30) (D 0)

theorem spread_apply (v : B1) (j : S256x512.Idx) :
    broadcastTo S256x512 v broadcasts_S1x512_S256x512 j = v (ix2 0 (j 1)) := by
  exact broadcastTo_apply v _ j (ix2 0 (j 1)) (fun a => match a with | ⟨0, _⟩ => rfl | ⟨1, _⟩ => rfl)

theorem tapSum_apply (W : Fin 31 → B1) (D : Fin 33 → B256) (j : S256x512.Idx) :
    tapSum W D j = ∑ k : Fin 31, W k (ix2 0 (j 1)) * D ⟨30 - k.val, by omega⟩ j := by
  unfold tapSum taps28
  simp only [k0_pay21, k0_pay26, k0_pay32, k0_pay36, k0_pay38, k0_pay42, k0_pay47, k0_pay53, k0_pay57, k0_pay59, k0_pay60]
  simp only [Fin.sum_univ_castSucc, Fin.sum_univ_zero]
  simp only [← spread_apply]
  rw [← kzero_bits]
  rfl

/-! ## The sums over the block's tokens -/

theorem red_apply (v : B256) (j : S1x512.Idx) :
    shapeCast S1x512 (multiReduction (F := Ideal) .add [0] S512 v 0x00000000#32 reduces_S256x512_S512 (.inl rfl) rfl) shapeCasts_S512_S1x512 j
      = ∑ r : Fin 256, v (ix2 r (j 1)) := by
  have h1 : (j 1).val < 512 := (j 1).isLt
  have h0 : (j 0).val < 1 := (j 0).isLt
  rw [shapeCast_apply _ _ _ (ix1 ⟨(j 1).val, h1⟩) (by
    rw [Shape.rowMajor_val_two, Shape.rowMajor_val_one]
    show (j 1).val = (j 0).val * 512 + (j 1).val
    omega)]
  refine (Ideal.multiReduction_add_single v _ reduces_S256x512_S512 (.inl rfl) rfl _).trans ?_
  exact Finset.sum_congr rfl fun r _ => congrArg v (eq_ix2 _)

/-- What the block adds to one row of the taps' gradient. -/
def tapRow (x0 : B256) (H : Fin 33 → B256) (k : Fin 32) : B1 :=
  if h : k.val < 31 then
    shapeCast S1x512 (multiReduction (F := Ideal) .add [0] S512 (mulf x0 (H ⟨k.val + 2, by omega⟩)) 0x00000000#32
      reduces_S256x512_S512 (.inl rfl) rfl) shapeCasts_S512_S1x512
  else broadcast S1x512 (Scalar.ofBits (F := Ideal) .f32 0x00000000#32)

/-- The taps' gradient with one block's share added. -/
def tapsAdd (x0 : B256) (H : Fin 33 → B256) (acc : B32) : B32 :=
  k0_pay61 (F := Ideal) x0 (k0_pay19 x0 (H 2)) (k0_pay20 x0 (H 3)) (k0_pay22 x0 (H 4)) (k0_pay23 x0 (H 5))
    (k0_pay24 x0 (H 6)) (k0_pay25 x0 (H 7)) (k0_pay28 (k0_pay27 x0 (H 8))) (k0_pay29 x0 (H 9)) (k0_pay30 x0 (H 10))
    (k0_pay31 x0 (H 11)) (k0_pay33 x0 (H 12)) (k0_pay34 x0 (H 13)) (k0_pay35 x0 (H 14)) (k0_pay37 x0 (H 15))
    (k0_pay39 x0 (H 16)) (k0_pay40 x0 (H 17)) (k0_pay41 x0 (H 18)) (k0_pay43 x0 (H 19)) (k0_pay44 x0 (H 20))
    (k0_pay45 x0 (H 21)) (k0_pay46 x0 (H 22)) (k0_pay49 (k0_pay48 x0 (H 23))) (k0_pay50 x0 (H 24)) (k0_pay51 x0 (H 25))
    (k0_pay52 x0 (H 26)) (k0_pay54 x0 (H 27)) (k0_pay55 x0 (H 28)) (k0_pay56 x0 (H 29)) (k0_pay58 x0 (H 30))
    (H 31) (H 32) acc

theorem tapsAdd_eq (x0 : B256) (H : Fin 33 → B256) (acc : B32) : tapsAdd x0 H acc
    = addf (F := Ideal) (φ := .f32) acc (concatenate S32x512 0 (List.ofFn fun k : Fin 32 => (⟨S1x512, tapRow x0 H k⟩ : (s : Shape) × (s.Idx → EReal)))
      (by exact concatenates_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S32x512_d0)) := by
  unfold tapsAdd k0_pay61
  dsimp only
  rw [shapeCast_self]
  rfl

theorem tapsAdd_apply (x0 : B256) (H : Fin 33 → B256) (acc : B32) (j : S32x512.Idx) :
    tapsAdd x0 H acc j = acc j + (if h : (j 0).val < 31 then
      ∑ r : Fin 256, x0 (ix2 r (j 1)) * H ⟨(j 0).val + 2, by omega⟩ (ix2 r (j 1)) else 0) := by
  have h0 : (j 0).val < 32 := (j 0).isLt
  have h1 : (j 1).val < 512 := (j 1).isLt
  rw [tapsAdd_eq]
  refine congrArg (acc j + ·) ?_
  rw [concatenate_ofFn_unit_apply (t := S32x512) (s₁ := S1x512) 0 (fun k : Fin 32 => tapRow x0 H k) _ rfl rfl _ ⟨(j 0).val, h0⟩ rfl (ix2 0 ⟨(j 1).val, h1⟩)
      (fun b hb => match b with | ⟨0, _⟩ => absurd rfl hb | ⟨1, _⟩ => rfl)]
  unfold tapRow
  by_cases h : (j 0).val < 31
  · rw [dif_pos h, dif_pos h, red_apply]
    rfl
  · rw [dif_neg h, dif_neg h]
    exact kzero_bits

/-! ## What the windows hold -/

/-- The kernel's flag for a block that has a successor. -/
theorem next_flag (i : grid0.Coords) :
    Scalar.select (Scalar.cmpi .slt (BitVec.ofNat 32 (i 0).val) 7#32) (1 : EReal) 0 = if (i 0).val < 7 then 1 else 0 := by
  have h : ∀ t : Fin 8, Scalar.select (Scalar.cmpi .slt (BitVec.ofNat 32 t.val) 7#32) (1 : EReal) 0 = if t.val < 7 then 1 else 0 := by
    intro t
    fin_cases t <;> rfl
  exact h (i 0)

/-- The kernel's flag for a block that has a predecessor. -/
theorem prev_flag (i : grid0.Coords) :
    Scalar.select (Scalar.cmpi .sgt (BitVec.ofNat 32 (i 0).val) 0#32) (1 : EReal) 0 = if 0 < (i 0).val then 1 else 0 := by
  have h : ∀ t : Fin 8, Scalar.select (Scalar.cmpi .sgt (BitVec.ofNat 32 t.val) 0#32) (1 : EReal) 0 = if 0 < t.val then 1 else 0 := by
    intro t
    fin_cases t <;> rfl
  exact h (i 0)

theorem next_rows (i : grid0.Coords) (x1 : B32) (y : S32x512.Idx) :
    k0_pay18 (F := Ideal) x1 (k0_pay17 i) y = x1 y * (if (i 0).val < 7 then 1 else 0) := by
  rw [← next_flag, ← kone_bits, ← kzero_bits]
  unfold k0_pay18
  dsimp only
  rw [shapeCast_self]
  rfl

theorem prev_rows (i : grid0.Coords) (x4 x5 : B32) (y : S32x512.Idx) :
    k0_pay14 (F := Ideal) i x4 x5 y = x4 y * Ideal.logistic (x5 y) * (if 0 < (i 0).val then 1 else 0) := by
  rw [← prev_flag, ← kone_bits, ← kzero_bits]
  unfold k0_pay14
  dsimp only
  rw [shapeCast_self]
  rfl

theorem glu_rows (x2 x3 : B256) (y : S256x512.Idx) :
    k0_pay15 (F := Ideal) x2 x3 y = x2 y * Ideal.logistic (x3 y) := by
  unfold k0_pay15
  rw [shapeCast_self]
  rfl

/-- An index of a window lies in the upper or in the lower of two pieces that share its rows out. -/
theorem two_pieces (p : Nat) (y : S288x512.Idx) {n m : Nat} (hn : n = p) (hm : p + m = 288)
    (h1 : ∀ a, (![p, 0] : Fin 2 → Nat) a + (![m, 512] : Fin 2 → Nat) a ≤ S288x512.size a)
    (h2 : ∀ a, (![0, 0] : Fin 2 → Nat) a + (![n, 512] : Fin 2 → Nat) a ≤ S288x512.size a) :
    y ∈ (Rect.unit (s := S288x512) ![p, 0] ![m, 512] h1).set ∨ y ∈ (Rect.unit (s := S288x512) ![0, 0] ![n, 512] h2).set := by
  have y0 : (y 0).val < 288 := (y 0).isLt
  have y1 : (y 1).val < 512 := (y 1).isLt
  rcases Nat.lt_or_ge (y 0).val p with h | h
  · exact .inr (Rect.mem_set_unit.mpr fun a => match a with
      | ⟨0, _⟩ => ⟨Nat.zero_le _, (by show (y 0).val < 0 + n; omega)⟩
      | ⟨1, _⟩ => ⟨Nat.zero_le _, (by show (y 1).val < 0 + 512; omega)⟩)
  · exact .inl (Rect.mem_set_unit.mpr fun a => match a with
      | ⟨0, _⟩ => ⟨h, (by show (y 0).val < p + m; omega)⟩
      | ⟨1, _⟩ => ⟨Nat.zero_le _, (by show (y 1).val < 0 + 512; omega)⟩)

variable (d : (⟨2, ![2048, 512]⟩ : Shape).Idx → EReal) (z : (⟨2, ![2048, 5120]⟩ : Shape).Idx → EReal)

/-- The window of the cotangent at block `t` is the cotangent from row `256 t` on, with zeros past its end. -/
theorem cotWin_apply (i : grid0.Coords) (t : Nat) (hi : (i 0).val = t) (ht : t < 8) (x0 : B256) (x1 : B32)
    (h0 : ∀ y : S256x512.Idx, x0 y = at2 d (256 * t + (y 0).val) (y 1).val)
    (h1 : t < 7 → ∀ y : S32x512.Idx, x1 y = at2 d (256 * t + 256 + (y 0).val) (y 1).val) (y : S288x512.Idx) :
    cotWin i x0 x1 y = at2 d (256 * t + (y 0).val) (y 1).val := by
  refine View.canon_apply_of_pieces (Val := Elt Ideal) (e := .f32) (fun y => at2 d (256 * t + (y 0).val) (y 1).val) _ ?_ y ?_
  · intro p hp
    rcases List.mem_cons.mp hp with rfl | hp
    · intro x
      refine (next_rows i x1 x).trans ?_
      have hx : (x 0).val < 32 := (x 0).isLt
      show _ = at2 d (256 * t + (256 + 1 * (x 0).val)) (0 + 1 * (x 1).val)
      rw [hi]
      by_cases h : t < 7
      · rw [if_pos h, h1 h, mul_one]
        exact congrArg₂ (at2 d) (by omega) (by omega)
      · rw [if_neg h, mul_zero, at2_of_le d _ _ (by omega)]
    · rcases List.mem_singleton.mp hp with rfl
      intro x
      refine (congrFun (shapeCast_self _ _) x).trans ?_
      show _ = at2 d (256 * t + (0 + 1 * (x 0).val)) (0 + 1 * (x 1).val)
      rw [h0]
      exact congrArg₂ (at2 d) (by omega) (by omega)
  · rcases two_pieces 256 y (n := 256) (m := 32) rfl rfl inb_S288x512_S32x512_256_0 inb_S288x512_S256x512_0_0 with h | h
    · exact ⟨_, List.mem_cons_self, h⟩
    · exact ⟨_, List.mem_cons_of_mem _ List.mem_cons_self, h⟩

/-- The window of the gated value at block `t` is the padded gated value from row `256 t` on. -/
theorem gluWin_apply (i : grid0.Coords) (t : Nat) (hi : (i 0).val = t) (x2 x3 : B256) (x4 x5 : B32)
    (h2 : ∀ y : S256x512.Idx, x2 y = at2 z (256 * t + (y 0).val) (512 + (y 1).val))
    (h3 : ∀ y : S256x512.Idx, x3 y = at2 z (256 * t + (y 0).val) (1024 + (y 1).val))
    (h4 : 0 < t → ∀ y : S32x512.Idx, x4 y = at2 z (256 * t - 32 + (y 0).val) (512 + (y 1).val))
    (h5 : 0 < t → ∀ y : S32x512.Idx, x5 y = at2 z (256 * t - 32 + (y 0).val) (1024 + (y 1).val)) (y : S288x512.Idx) :
    gluWin i x2 x3 x4 x5 y = past z (256 * t + (y 0).val) (y 1).val := by
  refine View.canon_apply_of_pieces (Val := Elt Ideal) (e := .f32) (fun y => past z (256 * t + (y 0).val) (y 1).val) _ ?_ y ?_
  · intro p hp
    rcases List.mem_cons.mp hp with rfl | hp
    · intro x
      refine (glu_rows x2 x3 x).trans ?_
      show _ = past z (256 * t + (32 + 1 * (x 0).val)) (0 + 1 * (x 1).val)
      rw [h2, h3, past, if_pos (by omega)]
      exact congrArg₂ (glu z) (by omega) (by omega)
    · rcases List.mem_singleton.mp hp with rfl
      intro x
      refine (prev_rows i x4 x5 x).trans ?_
      have hx : (x 0).val < 32 := (x 0).isLt
      show _ = past z (256 * t + (0 + 1 * (x 0).val)) (0 + 1 * (x 1).val)
      rw [hi]
      by_cases h : 0 < t
      · rw [if_pos h, h4 h, h5 h, mul_one, past, if_pos (by omega)]
        exact congrArg₂ (glu z) (by omega) (by omega)
      · rw [if_neg h, mul_zero, past, if_neg (by omega)]
  · rcases two_pieces 32 y (n := 32) (m := 256) rfl rfl inb_S288x512_S256x512_32_0 inb_S288x512_S32x512_0_0 with h | h
    · exact ⟨_, List.mem_cons_self, h⟩
    · exact ⟨_, List.mem_cons_of_mem _ List.mem_cons_self, h⟩

/-! ## The block's results -/

/-- The bias's gradient with one block's share added. -/
theorem biasAdd_apply (x0 : B256) (acc : B1) (j : S1x512.Idx) :
    k0_pay62 (F := Ideal) x0 acc j = acc j + ∑ r : Fin 256, x0 (ix2 r (j 1)) := by
  unfold k0_pay62
  rw [shapeCast_self]
  exact congrArg (acc j + ·) (red_apply x0 j)

theorem zeroTaps_apply (j : S32x512.Idx) : k0_pay11 (F := Ideal) j = 0 := by
  unfold k0_pay11
  rw [shapeCast_self]
  exact kzero_bits

theorem zeroBias_apply (j : S1x512.Idx) : k0_pay12 (F := Ideal) j = 0 := kzero_bits

/-- The taps' gradient cut into 8 groups of 64 columns, as the kernel stores them one after the other. -/
def groups (acc : B32) : Vec Ideal S8x32x64 .f32 :=
  View.canon (Val := Elt Ideal) (e := .f32)
    [⟨Rect.unit ![7, 0, 0] ![1, 32, 64] inb_S8x32x64_S1x32x64_7_0_0, k0_pay2 (k0_pay10 acc)⟩,
      ⟨Rect.unit ![6, 0, 0] ![1, 32, 64] inb_S8x32x64_S1x32x64_6_0_0, k0_pay9 acc⟩,
      ⟨Rect.unit ![5, 0, 0] ![1, 32, 64] inb_S8x32x64_S1x32x64_5_0_0, k0_pay8 acc⟩,
      ⟨Rect.unit ![4, 0, 0] ![1, 32, 64] inb_S8x32x64_S1x32x64_4_0_0, k0_pay7 acc⟩,
      ⟨Rect.unit ![3, 0, 0] ![1, 32, 64] inb_S8x32x64_S1x32x64_3_0_0, k0_pay6 acc⟩,
      ⟨Rect.unit ![2, 0, 0] ![1, 32, 64] inb_S8x32x64_S1x32x64_2_0_0, k0_pay5 acc⟩,
      ⟨Rect.unit ![1, 0, 0] ![1, 32, 64] inb_S8x32x64_S1x32x64_1_0_0, k0_pay4 acc⟩,
      ⟨Rect.unit ![0, 0, 0] ![1, 32, 64] inb_S8x32x64_S1x32x64_0_0_0, k0_pay3 acc⟩]

/-- A group of 64 columns from column `o` on. -/
theorem group_apply (acc : B32) (o : Nat) (hs : S32x512.Slices ![0, o] S32x64) (x : S1x32x64.Idx) :
    shapeCast S1x32x64 (extractStridedSlice S32x64 ![0, o] acc hs) shapeCasts_S32x64_S1x32x64 x
      = at2 (a := 32) (b := 512) acc (x 1).val (o + (x 2).val) := by
  have h0 : (x 0).val < 1 := (x 0).isLt
  have h1 : (x 1).val < 32 := (x 1).isLt
  have h2 : (x 2).val < 64 := (x 2).isLt
  rw [shapeCast_apply _ _ _ (ix2 ⟨(x 1).val, h1⟩ ⟨(x 2).val, h2⟩) (by
    rw [Shape.rowMajor_val_two, Shape.rowMajor_val_three]
    show (x 1).val * 64 + (x 2).val = ((x 0).val * 32 + (x 1).val) * 64 + (x 2).val
    omega)]
  exact eq_at2 (a := 32) (b := 512) acc _ _ _ (show 0 + (x 1).val = _ by omega) rfl

theorem groups_apply (acc : B32) (y : S8x32x64.Idx) :
    groups acc y = at2 (a := 32) (b := 512) acc (y 1).val (64 * (y 0).val + (y 2).val) := by
  have y0 : (y 0).val < 8 := (y 0).isLt
  have y1 : (y 1).val < 32 := (y 1).isLt
  have y2 : (y 2).val < 64 := (y 2).isLt
  have piece : ∀ (q o : Nat) (ho : o = 64 * q) (hb : ∀ a, (![q, 0, 0] : Fin 3 → Nat) a + (![1, 32, 64] : Fin 3 → Nat) a ≤ S8x32x64.size a)
      (hs : S32x512.Slices ![0, o] S32x64) (x : S1x32x64.Idx),
      shapeCast S1x32x64 (extractStridedSlice S32x64 ![0, o] acc hs) shapeCasts_S32x64_S1x32x64 x
        = (fun y : S8x32x64.Idx => at2 (a := 32) (b := 512) acc (y 1).val (64 * (y 0).val + (y 2).val))
            ((Rect.unit (s := S8x32x64) ![q, 0, 0] ![1, 32, 64] hb).emb x) := by
    intro q o ho hb hs x
    have h0 : (x 0).val < 1 := (x 0).isLt
    rw [group_apply]
    show _ = at2 (a := 32) (b := 512) acc (0 + 1 * (x 1).val) (64 * (q + 1 * (x 0).val) + (0 + 1 * (x 2).val))
    exact congrArg₂ (at2 (a := 32) (b := 512) acc) (by omega) (by omega)
  have mem : ∀ (q : Nat) (_ : (y 0).val = q) (hb : ∀ a, (![q, 0, 0] : Fin 3 → Nat) a + (![1, 32, 64] : Fin 3 → Nat) a ≤ S8x32x64.size a),
      y ∈ (Rect.unit (s := S8x32x64) ![q, 0, 0] ![1, 32, 64] hb).set := fun q hq hb =>
    Rect.mem_set_unit.mpr fun a => match a with
      | ⟨0, _⟩ => ⟨hq.symm.le, (by show (y 0).val < q + 1; omega)⟩
      | ⟨1, _⟩ => ⟨Nat.zero_le _, (by show (y 1).val < 0 + 32; omega)⟩
      | ⟨2, _⟩ => ⟨Nat.zero_le _, (by show (y 2).val < 0 + 64; omega)⟩
  refine View.canon_apply_of_pieces (Val := Elt Ideal) (e := .f32)
    (fun y => at2 (a := 32) (b := 512) acc (y 1).val (64 * (y 0).val + (y 2).val)) _ ?_ y ?_
  · intro p hp
    simp only [List.mem_cons, List.not_mem_nil, or_false] at hp
    rcases hp with rfl | rfl | rfl | rfl | rfl | rfl | rfl | rfl
    · exact piece 7 448 rfl inb_S8x32x64_S1x32x64_7_0_0 slices_S32x512_o0_448_S32x64
    · exact piece 6 384 rfl inb_S8x32x64_S1x32x64_6_0_0 slices_S32x512_o0_384_S32x64
    · exact piece 5 320 rfl inb_S8x32x64_S1x32x64_5_0_0 slices_S32x512_o0_320_S32x64
    · exact piece 4 256 rfl inb_S8x32x64_S1x32x64_4_0_0 slices_S32x512_o0_256_S32x64
    · exact piece 3 192 rfl inb_S8x32x64_S1x32x64_3_0_0 slices_S32x512_o0_192_S32x64
    · exact piece 2 128 rfl inb_S8x32x64_S1x32x64_2_0_0 slices_S32x512_o0_128_S32x64
    · exact piece 1 64 rfl inb_S8x32x64_S1x32x64_1_0_0 slices_S32x512_o0_64_S32x64
    · exact piece 0 0 rfl inb_S8x32x64_S1x32x64_0_0_0 slices_S32x512_o0_0_S32x64
  · have : (y 0).val = 7 ∨ (y 0).val = 6 ∨ (y 0).val = 5 ∨ (y 0).val = 4 ∨ (y 0).val = 3 ∨ (y 0).val = 2
        ∨ (y 0).val = 1 ∨ (y 0).val = 0 := by omega
    simp only [List.mem_cons, List.not_mem_nil, or_false]
    rcases this with h | h | h | h | h | h | h | h
    · exact ⟨_, .inl rfl, mem 7 h inb_S8x32x64_S1x32x64_7_0_0⟩
    · exact ⟨_, .inr (.inl rfl), mem 6 h inb_S8x32x64_S1x32x64_6_0_0⟩
    · exact ⟨_, .inr (.inr (.inl rfl)), mem 5 h inb_S8x32x64_S1x32x64_5_0_0⟩
    · exact ⟨_, .inr (.inr (.inr (.inl rfl))), mem 4 h inb_S8x32x64_S1x32x64_4_0_0⟩
    · exact ⟨_, .inr (.inr (.inr (.inr (.inl rfl)))), mem 3 h inb_S8x32x64_S1x32x64_3_0_0⟩
    · exact ⟨_, .inr (.inr (.inr (.inr (.inr (.inl rfl))))), mem 2 h inb_S8x32x64_S1x32x64_2_0_0⟩
    · exact ⟨_, .inr (.inr (.inr (.inr (.inr (.inr (.inl rfl)))))), mem 1 h inb_S8x32x64_S1x32x64_1_0_0⟩
    · exact ⟨_, .inr (.inr (.inr (.inr (.inr (.inr (.inr rfl)))))), mem 0 h inb_S8x32x64_S1x32x64_0_0_0⟩

/-- What one block adds to the taps' gradient, in the arrays of the whole sequence. -/
theorem tapsAdd_block (i : grid0.Coords) (t : Nat) (hi : (i 0).val = t) (x0 x2 x3 : B256) (x4 x5 acc : B32)
    (h0 : ∀ y : S256x512.Idx, x0 y = at2 d (256 * t + (y 0).val) (y 1).val)
    (h2 : ∀ y : S256x512.Idx, x2 y = at2 z (256 * t + (y 0).val) (512 + (y 1).val))
    (h3 : ∀ y : S256x512.Idx, x3 y = at2 z (256 * t + (y 0).val) (1024 + (y 1).val))
    (h4 : 0 < t → ∀ y : S32x512.Idx, x4 y = at2 z (256 * t - 32 + (y 0).val) (512 + (y 1).val))
    (h5 : 0 < t → ∀ y : S32x512.Idx, x5 y = at2 z (256 * t - 32 + (y 0).val) (1024 + (y 1).val)) (j : S32x512.Idx) :
    tapsAdd x0 (rows (gluWin i x2 x3 x4 x5)) acc j = acc j + (if (j 0).val < 31 then
      ∑ r : Fin 256, at2 d (256 * t + r.val) (j 1).val * past z (256 * t + r.val + 2 + (j 0).val) (j 1).val else 0) := by
  rw [tapsAdd_apply]
  refine congrArg (acc j + ·) ?_
  by_cases h : (j 0).val < 31
  · rw [dif_pos h, if_pos h]
    refine Finset.sum_congr rfl fun r _ => ?_
    refine congrArg₂ (· * ·) (h0 _) ((gluWin_apply z i t hi x2 x3 x4 x5 h2 h3 h4 h5 _).trans ?_)
    show past z (256 * t + ((j 0).val + 2 + 1 * r.val)) (0 + 1 * (j 1).val) = _
    exact congrArg₂ (past z) (by omega) (by omega)
  · rw [dif_neg h, if_neg h]

/-- The kernel's block of the gradient of `va`. -/
def vaBlock (i : grid0.Coords) (x0 : B256) (x1 : B32) (x3 : B256) (x6 : B31) : Vec Ideal S256x512 .bf16 :=
  k0_pay63 (F := Ideal) (k0_pay13 x3) (taps28 (tap x6) (rows (cotWin i x0 x1))) (rows (cotWin i x0 x1) 1)
    (k0_pay59 (tap x6 29)) (tap x6 30) (rows (cotWin i x0 x1) 0)

/-- The kernel's block of the gradient of `vb`. -/
def vbBlock (i : grid0.Coords) (x0 : B256) (x1 : B32) (x2 x3 : B256) (x6 : B31) : Vec Ideal S256x512 .bf16 :=
  k0_pay1 (F := Ideal) (k0_pay13 x3) (k0_pay64 x2 (k0_pay13 x3) (taps28 (tap x6) (rows (cotWin i x0 x1)))
    (rows (cotWin i x0 x1) 1) (k0_pay59 (tap x6 29)) (tap x6 30) (rows (cotWin i x0 x1) 0)) k0_pay65

theorem vaBlock_eq (i : grid0.Coords) (x0 : B256) (x1 : B32) (x3 : B256) (x6 : B31) (j : S256x512.Idx) :
    vaBlock i x0 x1 x3 x6 j = tapSum (tap x6) (rows (cotWin i x0 x1)) j * Ideal.logistic (x3 j) := rfl

theorem vbBlock_eq (i : grid0.Coords) (x0 : B256) (x1 : B32) (x2 x3 : B256) (x6 : B31) (j : S256x512.Idx) :
    vbBlock i x0 x1 x2 x3 x6 j = tapSum (tap x6) (rows (cotWin i x0 x1)) j * x2 j * Ideal.logistic (x3 j)
      * (1 - Ideal.logistic (x3 j)) := by
  rw [← kone_bits]
  rfl

/-- The sum over the taps at block `t` is the gradient of the gated value. -/
theorem tapSum_dh (w : (⟨2, ![31, 512]⟩ : Shape).Idx → EReal) (i : grid0.Coords) (t : Nat) (hi : (i 0).val = t) (ht : t < 8)
    (x0 : B256) (x1 : B32) (x6 : B31)
    (h0 : ∀ y : S256x512.Idx, x0 y = at2 d (256 * t + (y 0).val) (y 1).val)
    (h1 : t < 7 → ∀ y : S32x512.Idx, x1 y = at2 d (256 * t + 256 + (y 0).val) (y 1).val)
    (h6 : ∀ y : S31x512.Idx, x6 y = w y) (j : S256x512.Idx) :
    tapSum (tap x6) (rows (cotWin i x0 x1)) j = dh d w (256 * t + (j 0).val) (j 1).val := by
  rw [tapSum_apply, dh]
  refine Finset.sum_congr rfl fun k _ => ?_
  have hj0 : (j 0).val < 256 := (j 0).isLt
  have hj1 : (j 1).val < 512 := (j 1).isLt
  have hk := k.isLt
  rw [tap_apply, show x6 = w from funext h6]
  refine congrArg (at2 (a := 31) (b := 512) w k.val (j 1).val * ·) ?_
  refine (cotWin_apply d i t hi ht x0 x1 h0 h1 _).trans ?_
  show at2 d (256 * t + (30 - k.val + 1 * (j 0).val)) (0 + 1 * (j 1).val) = _
  exact congrArg₂ (at2 d) (by omega) (by omega)

end Cert.Conv

end
-- ==== Proof.Conv.Points.lean ====
module

public import proofs.«01_k».proof.Proof.Conv.Blocks
public import proofs.«01_k».proof.Proof.Gen.KernelIdeal.Frame

@[expose] public section

/-! # What each kind of grid point leaves

The first grid point clears the two accumulators before it adds to them, the last one hands the taps' gradient on, and the
points between only add. For each kind this file names what a point leaves in its output blocks and accumulators. -/

set_option maxRecDepth 16384

noncomputable section

open Idealize Idealize.ShloMosaic Idealize.ShloMosaic.TcCoe Idealize.SL.Sem
open Cert.KernelIdeal Cert.KernelIdeal.Gen

namespace Cert.Conv

theorem origin2 : (![0, 0] : Fin 2 → Nat) = fun _ => 0 := funext fun a => match a with | ⟨0, _⟩ => rfl | ⟨1, _⟩ => rfl

theorem cotWin_def (i : grid0.Coords) (x0 : B256) (x1 : B32) : cotWin i x0 x1 = View.canon
    [⟨Rect.unit ![256, 0] ![32, 512] inb_S288x512_S32x512_256_0, k0_pay18 x1 (k0_pay17 i)⟩,
      ⟨Rect.unit ![0, 0] ![256, 512] inb_S288x512_S256x512_0_0, k0_pay16 x0⟩] := rfl

theorem gluWin_def (i : grid0.Coords) (x2 x3 : B256) (x4 x5 : B32) : gluWin i x2 x3 x4 x5 = View.canon
    [⟨Rect.unit ![32, 0] ![256, 512] inb_S288x512_S256x512_32_0, k0_pay15 x2 x3⟩,
      ⟨Rect.unit ![0, 0] ![32, 512] inb_S288x512_S32x512_0_0, k0_pay14 i x4 x5⟩] := rfl

variable (c : Dev nD) (i : grid0.Coords) (arg1 : Memref sig .tc .vmem S256x512 .f32) (harg1 : arg1.IsWhole) (arg2 : Memref sig .tc .vmem S32x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S32x512 .f32) (harg5 : arg5.IsWhole) (arg6 : Memref sig .tc .vmem S32x512 .f32) (harg6 : arg6.IsWhole) (arg7 : Memref sig .tc .vmem S31x512 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S8x32x64 .f32) (harg10 : arg10.IsWhole) (arg11 : Memref sig .tc .vmem S1x512 .f32) (harg11 : arg11.IsWhole) (arg12 : Memref sig .tc .vmem S288x512 .f32) (harg12 : arg12.IsWhole) (arg13 : Memref sig .tc .vmem S288x512 .f32) (harg13 : arg13.IsWhole) (arg14 : Memref sig .tc .vmem S32x512 .f32) (harg14 : arg14.IsWhole)
  (x0 : Vec Ideal S256x512 .f32) (x1 : Vec Ideal S32x512 .f32) (x2 : Vec Ideal S256x512 .f32) (x3 : Vec Ideal S256x512 .f32) (x4 : Vec Ideal S32x512 .f32) (x5 : Vec Ideal S32x512 .f32) (x6 : Vec Ideal S31x512 .f32) (xo10 : Vec Ideal S1x512 .f32) (xs2 : Vec Ideal S32x512 .f32)

/-! ## The first point -/

theorem out0_A_7_eq (hc0 : cond0_0 i) (hc1 : ¬cond0_1 i) :
    out0_A_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 (F := Ideal) = vaBlock i x0 x1 x3 x6 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_cons_unit_zero origin2]
  simp only [View.readAt_eq_ld, harg1.read_unread, harg2.read_unread, harg3.read_unread, harg4.read_unread,
    harg5.read_unread, harg6.read_unread, harg7.read_unread, harg11.read_unread, harg14.read_unread,
    View.ld_unit_zero (S := S256x512) origin2, View.ld_unit_zero (S := S32x512) origin2,
    View.ld_unit_zero (S := S31x512) origin2, View.ld_unit_zero (S := S1x512) origin2,
    View.readCov_unit_zero (S := S1x512) _ origin2, View.readCov_unit_zero (S := S32x512) _ origin2, View.readCov_eq_canon']
  unfold vaBlock taps28
  simp only [← cotWin_def]
  generalize cotWin i x0 x1 = D
  unfold rows tap
  rfl

theorem out0_A_8_eq (hc0 : cond0_0 i) (hc1 : ¬cond0_1 i) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 (F := Ideal) = vbBlock i x0 x1 x2 x3 x6 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_cons_unit_zero origin2]
  simp only [View.readAt_eq_ld, harg1.read_unread, harg2.read_unread, harg3.read_unread, harg4.read_unread,
    harg5.read_unread, harg6.read_unread, harg7.read_unread, harg11.read_unread, harg14.read_unread,
    View.ld_unit_zero (S := S256x512) origin2, View.ld_unit_zero (S := S32x512) origin2,
    View.ld_unit_zero (S := S31x512) origin2, View.ld_unit_zero (S := S1x512) origin2,
    View.readCov_unit_zero (S := S1x512) _ origin2, View.readCov_unit_zero (S := S32x512) _ origin2, View.readCov_eq_canon']
  unfold vbBlock taps28
  simp only [← cotWin_def]
  generalize cotWin i x0 x1 = D
  unfold rows tap
  rfl

theorem out0_A_10_eq (hc0 : cond0_0 i) (hc1 : ¬cond0_1 i) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 (F := Ideal) = k0_pay62 x0 (k0_pay12 (F := Ideal)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_cons_unit_zero origin2]
  simp only [View.readAt_eq_ld, harg1.read_unread, harg2.read_unread, harg3.read_unread, harg4.read_unread,
    harg5.read_unread, harg6.read_unread, harg7.read_unread, harg11.read_unread, harg14.read_unread,
    View.ld_unit_zero (S := S256x512) origin2, View.ld_unit_zero (S := S32x512) origin2,
    View.ld_unit_zero (S := S31x512) origin2, View.ld_unit_zero (S := S1x512) origin2,
    View.readCov_unit_zero (S := S1x512) _ origin2, View.readCov_unit_zero (S := S32x512) _ origin2, View.readCov_eq_canon']

theorem sout0_A_2_eq (hc0 : cond0_0 i) (hc1 : ¬cond0_1 i) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 (F := Ideal) = tapsAdd x0 (rows (gluWin i x2 x3 x4 x5)) (k0_pay11 (F := Ideal)) := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_cons_unit_zero origin2]
  simp only [View.readAt_eq_ld, harg1.read_unread, harg2.read_unread, harg3.read_unread, harg4.read_unread,
    harg5.read_unread, harg6.read_unread, harg7.read_unread, harg11.read_unread, harg14.read_unread,
    View.ld_unit_zero (S := S256x512) origin2, View.ld_unit_zero (S := S32x512) origin2,
    View.ld_unit_zero (S := S31x512) origin2, View.ld_unit_zero (S := S1x512) origin2,
    View.readCov_unit_zero (S := S1x512) _ origin2, View.readCov_unit_zero (S := S32x512) _ origin2, View.readCov_eq_canon']
  unfold tapsAdd
  simp only [← gluWin_def]
  generalize gluWin i x2 x3 x4 x5 = D
  unfold rows
  rfl

/-! ## A point between -/

theorem out0_B_7_eq (hc0 : ¬cond0_0 i) (hc1 : ¬cond0_1 i) :
    out0_B_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10 xs2 (F := Ideal) = vaBlock i x0 x1 x3 x6 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10 xs2)]
  unfold kernelRun0_B
  dsimp only
  sl_unfold_words
  rw [View.canon_cons_unit_zero origin2]
  simp only [View.readAt_eq_ld, harg1.read_unread, harg2.read_unread, harg3.read_unread, harg4.read_unread,
    harg5.read_unread, harg6.read_unread, harg7.read_unread, harg11.read_unread, harg14.read_unread,
    View.ld_unit_zero (S := S256x512) origin2, View.ld_unit_zero (S := S32x512) origin2,
    View.ld_unit_zero (S := S31x512) origin2, View.ld_unit_zero (S := S1x512) origin2,
    View.readCov_unit_zero (S := S1x512) _ origin2, View.readCov_unit_zero (S := S32x512) _ origin2, View.readCov_eq_canon']
  unfold vaBlock taps28
  simp only [← cotWin_def]
  generalize cotWin i x0 x1 = D
  unfold rows tap
  rfl

theorem out0_B_8_eq (hc0 : ¬cond0_0 i) (hc1 : ¬cond0_1 i) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10 xs2 (F := Ideal) = vbBlock i x0 x1 x2 x3 x6 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10 xs2)]
  unfold kernelRun0_B
  dsimp only
  sl_unfold_words
  rw [View.canon_cons_unit_zero origin2]
  simp only [View.readAt_eq_ld, harg1.read_unread, harg2.read_unread, harg3.read_unread, harg4.read_unread,
    harg5.read_unread, harg6.read_unread, harg7.read_unread, harg11.read_unread, harg14.read_unread,
    View.ld_unit_zero (S := S256x512) origin2, View.ld_unit_zero (S := S32x512) origin2,
    View.ld_unit_zero (S := S31x512) origin2, View.ld_unit_zero (S := S1x512) origin2,
    View.readCov_unit_zero (S := S1x512) _ origin2, View.readCov_unit_zero (S := S32x512) _ origin2, View.readCov_eq_canon']
  unfold vbBlock taps28
  simp only [← cotWin_def]
  generalize cotWin i x0 x1 = D
  unfold rows tap
  rfl

theorem out0_B_10_eq (hc0 : ¬cond0_0 i) (hc1 : ¬cond0_1 i) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10 xs2 (F := Ideal) = k0_pay62 x0 xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10 xs2)]
  unfold kernelRun0_B
  dsimp only
  sl_unfold_words
  rw [View.canon_cons_unit_zero origin2]
  simp only [View.readAt_eq_ld, harg1.read_unread, harg2.read_unread, harg3.read_unread, harg4.read_unread,
    harg5.read_unread, harg6.read_unread, harg7.read_unread, harg11.read_unread, harg14.read_unread,
    View.ld_unit_zero (S := S256x512) origin2, View.ld_unit_zero (S := S32x512) origin2,
    View.ld_unit_zero (S := S31x512) origin2, View.ld_unit_zero (S := S1x512) origin2,
    View.readCov_unit_zero (S := S1x512) _ origin2, View.readCov_unit_zero (S := S32x512) _ origin2, View.readCov_eq_canon']

theorem sout0_B_2_eq (hc0 : ¬cond0_0 i) (hc1 : ¬cond0_1 i) :
    sout0_B_2 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10 xs2 (F := Ideal) = tapsAdd x0 (rows (gluWin i x2 x3 x4 x5)) xs2 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10 xs2)]
  unfold kernelRun0_B
  dsimp only
  sl_unfold_words
  rw [View.canon_cons_unit_zero origin2]
  simp only [View.readAt_eq_ld, harg1.read_unread, harg2.read_unread, harg3.read_unread, harg4.read_unread,
    harg5.read_unread, harg6.read_unread, harg7.read_unread, harg11.read_unread, harg14.read_unread,
    View.ld_unit_zero (S := S256x512) origin2, View.ld_unit_zero (S := S32x512) origin2,
    View.ld_unit_zero (S := S31x512) origin2, View.ld_unit_zero (S := S1x512) origin2,
    View.readCov_unit_zero (S := S1x512) _ origin2, View.readCov_unit_zero (S := S32x512) _ origin2, View.readCov_eq_canon']
  unfold tapsAdd
  simp only [← gluWin_def]
  generalize gluWin i x2 x3 x4 x5 = D
  unfold rows
  rfl

/-! ## The last point -/

theorem out0_C_7_eq (hc0 : ¬cond0_0 i) (hc1 : cond0_1 i) :
    out0_C_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10 xs2 (F := Ideal) = vaBlock i x0 x1 x3 x6 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10 xs2)]
  unfold kernelRun0_C
  dsimp only
  sl_unfold_words
  rw [View.canon_cons_unit_zero origin2]
  simp only [View.readAt_eq_ld, harg1.read_unread, harg2.read_unread, harg3.read_unread, harg4.read_unread,
    harg5.read_unread, harg6.read_unread, harg7.read_unread, harg11.read_unread, harg14.read_unread,
    View.ld_unit_zero (S := S256x512) origin2, View.ld_unit_zero (S := S32x512) origin2,
    View.ld_unit_zero (S := S31x512) origin2, View.ld_unit_zero (S := S1x512) origin2,
    View.readCov_unit_zero (S := S1x512) _ origin2, View.readCov_unit_zero (S := S32x512) _ origin2, View.readCov_eq_canon']
  unfold vaBlock taps28
  simp only [← cotWin_def]
  generalize cotWin i x0 x1 = D
  unfold rows tap
  rfl

theorem out0_C_8_eq (hc0 : ¬cond0_0 i) (hc1 : cond0_1 i) :
    out0_C_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10 xs2 (F := Ideal) = vbBlock i x0 x1 x2 x3 x6 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10 xs2)]
  unfold kernelRun0_C
  dsimp only
  sl_unfold_words
  rw [View.canon_cons_unit_zero origin2]
  simp only [View.readAt_eq_ld, harg1.read_unread, harg2.read_unread, harg3.read_unread, harg4.read_unread,
    harg5.read_unread, harg6.read_unread, harg7.read_unread, harg11.read_unread, harg14.read_unread,
    View.ld_unit_zero (S := S256x512) origin2, View.ld_unit_zero (S := S32x512) origin2,
    View.ld_unit_zero (S := S31x512) origin2, View.ld_unit_zero (S := S1x512) origin2,
    View.readCov_unit_zero (S := S1x512) _ origin2, View.readCov_unit_zero (S := S32x512) _ origin2, View.readCov_eq_canon']
  unfold vbBlock taps28
  simp only [← cotWin_def]
  generalize cotWin i x0 x1 = D
  unfold rows tap
  rfl

theorem out0_C_10_eq (hc0 : ¬cond0_0 i) (hc1 : cond0_1 i) :
    out0_C_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10 xs2 (F := Ideal) = k0_pay62 x0 xo10 := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10 xs2)]
  unfold kernelRun0_C
  dsimp only
  sl_unfold_words
  rw [View.canon_cons_unit_zero origin2]
  simp only [View.readAt_eq_ld, harg1.read_unread, harg2.read_unread, harg3.read_unread, harg4.read_unread,
    harg5.read_unread, harg6.read_unread, harg7.read_unread, harg11.read_unread, harg14.read_unread,
    View.ld_unit_zero (S := S256x512) origin2, View.ld_unit_zero (S := S32x512) origin2,
    View.ld_unit_zero (S := S31x512) origin2, View.ld_unit_zero (S := S1x512) origin2,
    View.readCov_unit_zero (S := S1x512) _ origin2, View.readCov_unit_zero (S := S32x512) _ origin2, View.readCov_eq_canon']

theorem sout0_C_2_eq (hc0 : ¬cond0_0 i) (hc1 : cond0_1 i) :
    sout0_C_2 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10 xs2 (F := Ideal) = tapsAdd x0 (rows (gluWin i x2 x3 x4 x5)) xs2 := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10 xs2)]
  unfold kernelRun0_C
  dsimp only
  sl_unfold_words
  rw [View.canon_cons_unit_zero origin2]
  simp only [View.readAt_eq_ld, harg1.read_unread, harg2.read_unread, harg3.read_unread, harg4.read_unread,
    harg5.read_unread, harg6.read_unread, harg7.read_unread, harg11.read_unread, harg14.read_unread,
    View.ld_unit_zero (S := S256x512) origin2, View.ld_unit_zero (S := S32x512) origin2,
    View.ld_unit_zero (S := S31x512) origin2, View.ld_unit_zero (S := S1x512) origin2,
    View.readCov_unit_zero (S := S1x512) _ origin2, View.readCov_unit_zero (S := S32x512) _ origin2, View.readCov_eq_canon']
  unfold tapsAdd
  simp only [← gluWin_def]
  generalize gluWin i x2 x3 x4 x5 = D
  unfold rows
  rfl

theorem out0_C_9_eq (hc0 : ¬cond0_0 i) (hc1 : cond0_1 i) :
    out0_C_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10 xs2 (F := Ideal) = groups (tapsAdd x0 (rows (gluWin i x2 x3 x4 x5)) xs2) := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10 xs2)]
  unfold kernelRun0_C
  dsimp only
  sl_unfold_words
  simp only [View.readAt_eq_ld, harg1.read_unread, harg2.read_unread, harg3.read_unread, harg4.read_unread,
    harg5.read_unread, harg6.read_unread, harg7.read_unread, harg11.read_unread, harg14.read_unread,
    View.ld_unit_zero (S := S256x512) origin2, View.ld_unit_zero (S := S32x512) origin2,
    View.ld_unit_zero (S := S31x512) origin2, View.ld_unit_zero (S := S1x512) origin2,
    View.readCov_unit_zero (S := S1x512) _ origin2, View.readCov_unit_zero (S := S32x512) _ origin2, View.readCov_eq_canon']
  unfold groups tapsAdd
  simp only [← gluWin_def]
  generalize gluWin i x2 x3 x4 x5 = D
  unfold rows
  rfl

end Cert.Conv

end
-- ==== Proof.Conv.Grid.lean ====
module

public import proofs.«01_k».proof.Proof.Conv.Points
public import Idealize.ShloMosaic.Lib.Pipeline.ValueKit

@[expose] public section

/-! # From the grid points to the result arrays

The 8 grid points walk the sequence in blocks of 256 tokens. By induction over the points the two accumulators hold the
shares of the blocks so far; the last point's accumulators are the gradients of the bias and of the taps. The gradients
of `va` and `vb` are written block by block. -/

set_option maxRecDepth 16384

noncomputable section

open Idealize Idealize.ShloMosaic Idealize.ShloMosaic.TcCoe Idealize.SL.Sem
open Idealize.ShloMosaic.Pipeline (Dat)
open scoped BigOperators
open Cert.KernelIdeal Cert.KernelIdeal.Gen

namespace Cert.Conv

variable (m : (ℓ : Loc nD τ sig) → Buf (Elt Ideal) ℓ) (ρ : Dev nD → PrngReg) (c : Dev nD)

/-- The cotangent, the layer's input and the taps, as the launch finds them. -/
abbrev argD : (⟨2, ![2048, 512]⟩ : Shape).Idx → EReal := m ((c : Thread nD τ).loc main_arg0)
abbrev argZ : (⟨2, ![2048, 5120]⟩ : Shape).Idx → EReal := m ((c : Thread nD τ).loc main_arg1)
abbrev argW : (⟨2, ![31, 512]⟩ : Shape).Idx → EReal := m ((c : Thread nD τ).loc main_arg2)

/-! ## The blocks a point reads -/

theorem at_index0 : ∀ t : Fin cfg0.N, win0_0.index t 0 = t.val ∧ win0_0.index t 1 = 0 := (by decide +kernel : ∀ t : Fin grid0.N, _)
theorem at_index1 : ∀ t : Fin cfg0.N, (t.val < 7 → win0_1.index t 0 = 8 * t.val + 8) ∧ win0_1.index t 1 = 0 := (by decide +kernel : ∀ t : Fin grid0.N, _)
theorem at_index2 : ∀ t : Fin cfg0.N, win0_2.index t 0 = t.val ∧ win0_2.index t 1 = 1 := (by decide +kernel : ∀ t : Fin grid0.N, _)
theorem at_index3 : ∀ t : Fin cfg0.N, win0_3.index t 0 = t.val ∧ win0_3.index t 1 = 2 := (by decide +kernel : ∀ t : Fin grid0.N, _)
theorem at_index4 : ∀ t : Fin cfg0.N, (0 < t.val → win0_4.index t 0 = 8 * t.val - 1) ∧ win0_4.index t 1 = 1 := (by decide +kernel : ∀ t : Fin grid0.N, _)
theorem at_index5 : ∀ t : Fin cfg0.N, (0 < t.val → win0_5.index t 0 = 8 * t.val - 1) ∧ win0_5.index t 1 = 2 := (by decide +kernel : ∀ t : Fin grid0.N, _)
theorem at_index6 : ∀ t : Fin cfg0.N, win0_6.index t 0 = 0 ∧ win0_6.index t 1 = 0 := (by decide +kernel : ∀ t : Fin grid0.N, _)
theorem at_coord : ∀ t : Fin cfg0.N, (grid0.coords t 0).val = t.val := (by decide +kernel : ∀ t : Fin grid0.N, _)

theorem read0 (t : Fin cfg0.N) (y : S256x512.Idx) : iblk m c 0 t y = at2 (argD m c) (256 * t.val + (y 0).val) (y 1).val := by
  obtain ⟨e0, e1⟩ := at_index0 t
  exact eq_at2 (argD m c) _ _ _ (show win0_0.index t 0 * 256 + 1 * (y 0).val = _ by rw [e0]; omega)
    (show win0_0.index t 1 * 512 + 1 * (y 1).val = _ by rw [e1]; omega)

theorem read1 (t : Fin cfg0.N) (ht : t.val < 7) (y : S32x512.Idx) :
    iblk m c 1 t y = at2 (argD m c) (256 * t.val + 256 + (y 0).val) (y 1).val := by
  obtain ⟨e0, e1⟩ := at_index1 t
  exact eq_at2 (argD m c) _ _ _ (show win0_1.index t 0 * 32 + 1 * (y 0).val = _ by rw [e0 ht]; omega)
    (show win0_1.index t 1 * 512 + 1 * (y 1).val = _ by rw [e1]; omega)

theorem read2 (t : Fin cfg0.N) (y : S256x512.Idx) : iblk m c 2 t y = at2 (argZ m c) (256 * t.val + (y 0).val) (512 + (y 1).val) := by
  obtain ⟨e0, e1⟩ := at_index2 t
  exact eq_at2 (argZ m c) _ _ _ (show win0_2.index t 0 * 256 + 1 * (y 0).val = _ by rw [e0]; omega)
    (show win0_2.index t 1 * 512 + 1 * (y 1).val = _ by rw [e1]; omega)

theorem read3 (t : Fin cfg0.N) (y : S256x512.Idx) : iblk m c 3 t y = at2 (argZ m c) (256 * t.val + (y 0).val) (1024 + (y 1).val) := by
  obtain ⟨e0, e1⟩ := at_index3 t
  exact eq_at2 (argZ m c) _ _ _ (show win0_3.index t 0 * 256 + 1 * (y 0).val = _ by rw [e0]; omega)
    (show win0_3.index t 1 * 512 + 1 * (y 1).val = _ by rw [e1]; omega)

theorem read4 (t : Fin cfg0.N) (ht : 0 < t.val) (y : S32x512.Idx) :
    iblk m c 4 t y = at2 (argZ m c) (256 * t.val - 32 + (y 0).val) (512 + (y 1).val) := by
  obtain ⟨e0, e1⟩ := at_index4 t
  exact eq_at2 (argZ m c) _ _ _ (show win0_4.index t 0 * 32 + 1 * (y 0).val = _ by rw [e0 ht]; omega)
    (show win0_4.index t 1 * 512 + 1 * (y 1).val = _ by rw [e1]; omega)

theorem read5 (t : Fin cfg0.N) (ht : 0 < t.val) (y : S32x512.Idx) :
    iblk m c 5 t y = at2 (argZ m c) (256 * t.val - 32 + (y 0).val) (1024 + (y 1).val) := by
  obtain ⟨e0, e1⟩ := at_index5 t
  exact eq_at2 (argZ m c) _ _ _ (show win0_5.index t 0 * 32 + 1 * (y 0).val = _ by rw [e0 ht]; omega)
    (show win0_5.index t 1 * 512 + 1 * (y 1).val = _ by rw [e1]; omega)

theorem read6 (t : Fin cfg0.N) (y : S31x512.Idx) : iblk m c 6 t y = argW m c y := by
  obtain ⟨e0, e1⟩ := at_index6 t
  exact (eq_at2 (argW m c) _ _ _ (show win0_6.index t 0 * 31 + 1 * (y 0).val = (y 0).val by rw [e0]; omega)
    (show win0_6.index t 1 * 512 + 1 * (y 1).val = (y 1).val by rw [e1]; omega)).trans (at2_idx (argW m c) y)

theorem points8 : cfg0.N = 8 := N_0

/-! ## The gradients of `va` and `vb` -/

theorem va_point (t : Fin cfg0.N) (j : S256x512.Idx) :
    (outsAt0 m c t.val t.isLt).1 j = dva (argD m c) (argZ m c) (argW m c) (256 * t.val + (j 0).val) (j 1).val := by
  have ht : t.val < 8 := lt_of_lt_of_eq t.isLt points8
  have h : (outsAt0 m c t.val t.isLt).1 = vaBlock (grid0.coords t) (iblk m c 0 t) (iblk m c 1 t) (iblk m c 3 t) (iblk m c 6 t) := by
    by_cases h0 : t.val % 8 = 0
    · rw [outsAt0_A m c t h0 (by omega)]
      dsimp only
      rw [out0_A_7_eq]
    · by_cases h1 : t.val % 8 = 7
      · rw [outsAt0_C m c t h0 h1]
        dsimp only
        rw [out0_C_7_eq]
      · rw [outsAt0_B m c t h0 h1]
        dsimp only
        rw [out0_B_7_eq]
  rw [h, vaBlock_eq, tapSum_dh (argD m c) (argW m c) _ t.val (at_coord t) ht _ _ _ (read0 m c t) (read1 m c t) (read6 m c t), read3]
  rfl

theorem vb_point (t : Fin cfg0.N) (j : S256x512.Idx) :
    (outsAt0 m c t.val t.isLt).2.1 j = dvb (argD m c) (argZ m c) (argW m c) (256 * t.val + (j 0).val) (j 1).val := by
  have ht : t.val < 8 := lt_of_lt_of_eq t.isLt points8
  have h : (outsAt0 m c t.val t.isLt).2.1
      = vbBlock (grid0.coords t) (iblk m c 0 t) (iblk m c 1 t) (iblk m c 2 t) (iblk m c 3 t) (iblk m c 6 t) := by
    by_cases h0 : t.val % 8 = 0
    · rw [outsAt0_A m c t h0 (by omega)]
      dsimp only
      rw [out0_A_8_eq]
    · by_cases h1 : t.val % 8 = 7
      · rw [outsAt0_C m c t h0 h1]
        dsimp only
        rw [out0_C_8_eq]
      · rw [outsAt0_B m c t h0 h1]
        dsimp only
        rw [out0_B_8_eq]
  rw [h, vbBlock_eq, tapSum_dh (argD m c) (argW m c) _ t.val (at_coord t) ht _ _ _ (read0 m c t) (read1 m c t) (read6 m c t), read2, read3]
  exact mul_assoc _ _ _

/-! ## The accumulators -/

/-- One block's share of the bias's gradient. -/
def biasShare (t col : Nat) : EReal := ∑ r : Fin 256, at2 (argD m c) (256 * t + r.val) col

/-- One block's share of a tap's gradient. -/
def tapShare (t k col : Nat) : EReal :=
  ∑ r : Fin 256, at2 (argD m c) (256 * t + r.val) col * past (argZ m c) (256 * t + r.val + 2 + k) col

theorem bias_step (t : Fin cfg0.N) (acc : B1) (j : S1x512.Idx) :
    k0_pay62 (F := Ideal) (iblk m c 0 t) acc j = acc j + biasShare m c t.val (j 1).val := by
  rw [biasAdd_apply]
  exact congrArg (acc j + ·) (Finset.sum_congr rfl fun r _ => read0 m c t _)

theorem taps_step (t : Fin cfg0.N) (acc : B32) (j : S32x512.Idx) :
    tapsAdd (iblk m c 0 t) (rows (gluWin (grid0.coords t) (iblk m c 2 t) (iblk m c 3 t) (iblk m c 4 t) (iblk m c 5 t))) acc j
      = acc j + (if (j 0).val < 31 then tapShare m c t.val (j 0).val (j 1).val else 0) :=
  tapsAdd_block (argD m c) (argZ m c) _ t.val (at_coord t) _ _ _ _ _ _ (read0 m c t) (read2 m c t) (read3 m c t)
    (read4 m c t) (read5 m c t) j

/-- After point `n` the accumulators hold the shares of the blocks `0 … n`. -/
theorem accs (n : Nat) : ∀ h : n < cfg0.N,
    (∀ j : S1x512.Idx, (outsAt0 m c n h).2.2.2.1 j = ∑ t ∈ Finset.range (n + 1), biasShare m c t (j 1).val)
    ∧ (∀ j : S32x512.Idx, (outsAt0 m c n h).2.2.2.2 j
        = if (j 0).val < 31 then ∑ t ∈ Finset.range (n + 1), tapShare m c t (j 0).val (j 1).val else 0) := by
  induction n with
  | zero =>
    intro h
    have e := outsAt0_A m c ⟨0, h⟩ rfl (by decide : ¬ 0 % 8 = 7)
    dsimp only at e
    rw [e]
    dsimp only
    constructor
    · intro j
      rw [out0_A_10_eq, bias_step, zeroBias_apply, zero_add, Finset.sum_range_one]
    · intro j
      rw [sout0_A_2_eq, taps_step, zeroTaps_apply, zero_add, Finset.sum_range_one]
  | succ n ih =>
    intro h
    have hn : n + 1 < 8 := lt_of_lt_of_eq h points8
    obtain ⟨ihb, iht⟩ := ih (Nat.lt_of_succ_lt h)
    have h0 : ¬ (n + 1) % 8 = 0 := by omega
    have both : (∀ j : S1x512.Idx, (outsAt0 m c (n + 1) h).2.2.2.1 j
          = (outsAt0 m c n (Nat.lt_of_succ_lt h)).2.2.2.1 j + biasShare m c (n + 1) (j 1).val)
        ∧ (∀ j : S32x512.Idx, (outsAt0 m c (n + 1) h).2.2.2.2 j
          = (outsAt0 m c n (Nat.lt_of_succ_lt h)).2.2.2.2 j
            + (if (j 0).val < 31 then tapShare m c (n + 1) (j 0).val (j 1).val else 0)) := by
      by_cases h1 : (n + 1) % 8 = 7
      · have e := outsAt0_C m c ⟨n + 1, h⟩ h0 h1
        dsimp only at e
        rw [e]
        dsimp only
        rw [out0_C_10_eq, sout0_C_2_eq]
        exact ⟨bias_step m c ⟨n + 1, h⟩ _, taps_step m c ⟨n + 1, h⟩ _⟩
      · have e := outsAt0_B m c ⟨n + 1, h⟩ h0 h1
        dsimp only at e
        rw [e]
        dsimp only
        rw [out0_B_10_eq, sout0_B_2_eq]
        exact ⟨bias_step m c ⟨n + 1, h⟩ _, taps_step m c ⟨n + 1, h⟩ _⟩
    constructor
    · intro j
      rw [both.1 j, ihb j, Finset.sum_range_succ _ (n + 1)]
    · intro j
      rw [both.2 j, iht j]
      by_cases hj : (j 0).val < 31
      · rw [if_pos hj, if_pos hj, if_pos hj, Finset.sum_range_succ _ (n + 1)]
      · rw [if_neg hj, if_neg hj, if_neg hj, add_zero]

theorem bias_last (t : Fin cfg0.N) (ht : t.val % 8 = 7) (j : S1x512.Idx) :
    (outsAt0 m c t.val t.isLt).2.2.2.1 j = db (argD m c) (j 1).val := by
  have h8 : t.val < 8 := lt_of_lt_of_eq t.isLt points8
  have h7 : t.val + 1 = 8 := by omega
  rw [(accs m c t.val t.isLt).1 j, h7, Finset.sum_range, db, sum_blocks (fun n => at2 (argD m c) n (j 1).val)]
  rfl

/-- The last point hands on the taps' gradient in its 8 groups. -/
theorem taps_last (t : Fin cfg0.N) (ht : t.val % 8 = 7) (j : S8x32x64.Idx) :
    (outsAt0 m c t.val t.isLt).2.2.1 j = dw8 (argD m c) (argZ m c) (j 0).val (j 1).val (j 2).val := by
  have h8 : t.val < 8 := lt_of_lt_of_eq t.isLt points8
  have h7 : t.val + 1 = 8 := by omega
  have j0 : (j 0).val < 8 := (j 0).isLt
  have j1 : (j 1).val < 32 := (j 1).isLt
  have j2 : (j 2).val < 64 := (j 2).isLt
  have hg : (outsAt0 m c t.val t.isLt).2.2.1 = groups (outsAt0 m c t.val t.isLt).2.2.2.2 := by
    rw [outsAt0_C m c t (by omega) ht]
    dsimp only
    rw [out0_C_9_eq, sout0_C_2_eq]
  rw [hg, groups_apply, at2, dif_pos ⟨j1, (by omega : 64 * (j 0).val + (j 2).val < 512)⟩]
  refine ((accs m c t.val t.isLt).2 _).trans ?_
  show (if (j 1).val < 31 then ∑ s ∈ Finset.range (t.val + 1), tapShare m c s (j 1).val (64 * (j 0).val + (j 2).val) else 0) = _
  rw [dw8, h7, Finset.sum_range, dw,
    sum_blocks (fun n => at2 (argD m c) n (64 * (j 0).val + (j 2).val) * past (argZ m c) (n + 2 + (j 1).val) (64 * (j 0).val + (j 2).val))]
  rfl

/-! ## The result arrays -/

theorem at_index7 : ∀ t : Fin cfg0.N, win0_7.index t 0 = t.val ∧ win0_7.index t 1 = 0 := (by decide +kernel : ∀ t : Fin grid0.N, _)
theorem at_index8 : ∀ t : Fin cfg0.N, win0_8.index t 0 = t.val ∧ win0_8.index t 1 = 0 := (by decide +kernel : ∀ t : Fin grid0.N, _)
theorem at_index9 : ∀ t : Fin cfg0.N, win0_9.index t 0 = 0 ∧ win0_9.index t 1 = 0 ∧ win0_9.index t 2 = 0 := (by decide +kernel : ∀ t : Fin grid0.N, _)
theorem at_index10 : ∀ t : Fin cfg0.N, win0_10.index t 0 = 0 ∧ win0_10.index t 1 = 0 := (by decide +kernel : ∀ t : Fin grid0.N, _)

def resVa (d : (⟨2, ![2048, 512]⟩ : Shape).Idx → EReal) (z : (⟨2, ![2048, 5120]⟩ : Shape).Idx → EReal)
    (w : (⟨2, ![31, 512]⟩ : Shape).Idx → EReal) : S2048x512.Idx → EReal := fun j => dva d z w (j 0).val (j 1).val
def resVb (d : (⟨2, ![2048, 512]⟩ : Shape).Idx → EReal) (z : (⟨2, ![2048, 5120]⟩ : Shape).Idx → EReal)
    (w : (⟨2, ![31, 512]⟩ : Shape).Idx → EReal) : S2048x512.Idx → EReal := fun j => dvb d z w (j 0).val (j 1).val
def resDw (d : (⟨2, ![2048, 512]⟩ : Shape).Idx → EReal) (z : (⟨2, ![2048, 5120]⟩ : Shape).Idx → EReal) :
    S8x32x64.Idx → EReal := fun j => dw8 d z (j 0).val (j 1).val (j 2).val
def resDb (d : (⟨2, ![2048, 512]⟩ : Shape).Idx → EReal) : S1x512.Idx → EReal := fun j => db d (j 1).val

theorem final_va : (dats m 0 c).arrAt 7 cfg0.N = resVa (argD m c) (argZ m c) (argW m c) := by
  refine (dats m 0 c).arrAt_eq_of_covers 7 _ (by decide +kernel) fun t hf y => ?_
  obtain ⟨e0, e1⟩ := at_index7 t
  blk_simp
  rw [after0_7]
  refine (va_point m c t y).trans (congrArg₂ (dva (argD m c) (argZ m c) (argW m c)) ?_ ?_)
  · show _ = win0_7.index t 0 * 256 + 1 * (y 0).val
    rw [e0]; omega
  · show _ = win0_7.index t 1 * 512 + 1 * (y 1).val
    rw [e1]; omega

theorem final_vb : (dats m 0 c).arrAt 8 cfg0.N = resVb (argD m c) (argZ m c) (argW m c) := by
  refine (dats m 0 c).arrAt_eq_of_covers 8 _ (by decide +kernel) fun t hf y => ?_
  obtain ⟨e0, e1⟩ := at_index8 t
  blk_simp
  rw [after0_8]
  refine (vb_point m c t y).trans (congrArg₂ (dvb (argD m c) (argZ m c) (argW m c)) ?_ ?_)
  · show _ = win0_8.index t 0 * 256 + 1 * (y 0).val
    rw [e0]; omega
  · show _ = win0_8.index t 1 * 512 + 1 * (y 1).val
    rw [e1]; omega

theorem final_dw : (dats m 0 c).arrAt 9 cfg0.N = resDw (argD m c) (argZ m c) := by
  refine (dats m 0 c).arrAt_eq_of_covers 9 _ (by decide +kernel) fun t hf y => ?_
  obtain ⟨e0, e1, e2⟩ := at_index9 t
  blk_simp
  rw [after0_9]
  have q0 : (((win0_9.blk t).view.emb y) 0).val = (y 0).val := by
    show win0_9.index t 0 * 8 + 1 * (y 0).val = _
    rw [e0]; omega
  have q1 : (((win0_9.blk t).view.emb y) 1).val = (y 1).val := by
    show win0_9.index t 1 * 32 + 1 * (y 1).val = _
    rw [e1]; omega
  have q2 : (((win0_9.blk t).view.emb y) 2).val = (y 2).val := by
    show win0_9.index t 2 * 64 + 1 * (y 2).val = _
    rw [e2]; omega
  refine (taps_last m c t ((flush0_9 t).mp hf) y).trans ?_
  rw [resDw, q0, q1, q2]

theorem final_db : (dats m 0 c).arrAt 10 cfg0.N = resDb (argD m c) := by
  refine (dats m 0 c).arrAt_eq_of_covers 10 _ (by decide +kernel) fun t hf y => ?_
  obtain ⟨e0, e1⟩ := at_index10 t
  blk_simp
  rw [after0_10]
  refine (bias_last m c t ((flush0_10 t).mp hf) y).trans (congrArg (db (argD m c)) ?_)
  show _ = win0_10.index t 1 * 512 + 1 * (y 1).val
  rw [e1]; omega

/-! ## The run -/

/-- From any memory the kernel ends with the four gradients in its results, its arguments as they were. -/
theorem kernel_run : θ_run defs (onTc (τ := τ) (main (F := Ideal))) ⟨m, fun _ => 0, ρ⟩ fun r => ∀ c : Dev nD,
      r.2.mem ((c.tc : Thread nD τ).loc main_v0_0) = resVa (argD m c) (argZ m c) (argW m c)
      ∧ r.2.mem ((c.tc : Thread nD τ).loc main_v0_1) = resVb (argD m c) (argZ m c) (argW m c)
      ∧ r.2.mem ((c.tc : Thread nD τ).loc main_v0_2) = resDw (argD m c) (argZ m c)
      ∧ r.2.mem ((c.tc : Thread nD τ).loc main_v0_3) = resDb (argD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 7).trans (final_va m c), ((h c).1 8).trans (final_vb m c),
      ((h c).1 9).trans (final_dw m c), ((h c).1 10).trans (final_db m c),
      ((h c).1 1).trans (((dats m 0 c).arrAt_in 1 rfl _).trans ((A_eq m c 1).trans (V_main_arg0 m c))),
      ((h c).1 5).trans (((dats m 0 c).arrAt_in 5 rfl _).trans ((A_eq m c 5).trans (V_main_arg1 m c))),
      ((h c).1 6).trans (((dats m 0 c).arrAt_in 6 rfl _).trans ((A_eq m c 6).trans (V_main_arg2 m c)))⟩)
    (run_main m ρ)

end Cert.Conv

end
-- ==== Proof.Conv.Reference.lean ====
module

public import proofs.«01_k».proof.Proof.Conv.Math
public import proofs.«01_k».proof.Proof.Gen.ReferenceIdeal.Read

@[expose] public section

/-! # What the reference computes

Each result of the differentiated forward pass, read at an index, is the sum `Cert.Conv` names for it. -/

set_option maxRecDepth 16384

noncomputable section

open Idealize Idealize.ShloMosaic
open scoped BigOperators
open Cert.ReferenceIdeal Cert.ReferenceIdeal.Gen Cert.ReferenceIdeal.Value Cert.ReferenceIdeal.Read

namespace Cert.Conv

abbrev ArrD : Type := (⟨S2048x512, .f32⟩ : BufTy).Contents (Elt Ideal)
abbrev ArrZ : Type := (⟨S2048x5120, .f32⟩ : BufTy).Contents (Elt Ideal)
abbrev ArrW : Type := (⟨S31x512, .f32⟩ : BufTy).Contents (Elt Ideal)

/-- The constant zero, as the programs print it. -/
theorem zero_bits : (FloatOps.ofBits (F := Ideal) .f32 0x00000000#32) = (0 : EReal) := Ideal.ofBits_zero_f32

/-- The constant one, as the programs print it. -/
theorem one_bits : (FloatOps.ofBits (F := Ideal) .f32 0x3F800000#32) = (1 : EReal) := Ideal.ofBits_one_f32

/-! ## The gate and the gated value -/

theorem ref_gate (z : ArrZ) (j : S2048x512.Idx) : val_main_v9 (F := Ideal) z j = gate z (j 0).val (j 1).val := by
  simp only [val_main_v9_apply, val_main_v8_apply, val_main_v7_apply, val_main_v6_apply, val_main_v5_apply,
    val_main_v4_apply, val_main_v3_apply, val_main_v0_apply, val_main_cst_0_apply, val_main_cst_1_apply]
  rw [gate, ← eq_at2 z (idx_main_v0 (idx_main_v3 j)) _ _ rfl
    (show 512 + (512 + (j 1).val) = 1024 + (j 1).val by omega), one_bits]
  rfl

theorem ref_va (z : ArrZ) (j : S2048x512.Idx) : val_main_v2 (F := Ideal) z j = at2 z (j 0).val (512 + (j 1).val) := by
  simp only [val_main_v2_apply, val_main_v0_apply]
  exact eq_at2 z _ _ _ rfl rfl

theorem ref_glu (z : ArrZ) (j : S2048x512.Idx) : val_main_v13 (F := Ideal) z j = glu z (j 0).val (j 1).val := by
  rw [val_main_v13_apply, ref_gate, ref_va]
  rfl

/-! ## The stacked windows -/

/-- The gated value behind 30 rows of zeros. -/
theorem ref_padded (z : ArrZ) (j : S2078x512.Idx) :
    val_main_v15 (F := Ideal) z j = past z ((j 0).val + 2) (j 1).val := by
  unfold val_main_v15
  by_cases h : (j 0).val < 30
  · have h1 : (j 1).val < 512 := (j 1).isLt
    rw [concatenate_pair_apply_left (s₁ := S30x512) (s₂ := S2048x512) 0 _ _ _ j rfl (ix2 ⟨(j 0).val, h⟩ ⟨(j 1).val, h1⟩)
      (fun b => match b with | ⟨0, _⟩ => rfl | ⟨1, _⟩ => rfl)]
    rw [past, if_neg (by omega)]
    simp only [val_main_v14_apply, val_main_cst_3_apply, zero_bits]
  · have h0 : (j 0).val < 2078 := (j 0).isLt
    have h1 : (j 1).val < 512 := (j 1).isLt
    rw [concatenate_pair_apply_right (s₁ := S30x512) (s₂ := S2048x512) 0 _ _ _ j rfl rfl (ix2 ⟨(j 0).val - 30, by omega⟩ ⟨(j 1).val, h1⟩)
      (fun b hb => match b with | ⟨0, _⟩ => absurd rfl hb | ⟨1, _⟩ => rfl) (show (j 0).val - 30 + 30 = (j 0).val by omega)]
    rw [ref_glu, past, if_pos (by omega)]
    exact congrArg (fun n => glu z n (j 1).val) (show (j 0).val - 30 = (j 0).val + 2 - 32 by omega)

/-- A window of the padded rows, at any offset up to 30. -/
theorem window_slices (k : Fin 31) : S2078x512.Slices ![k.val, 0] S2048x512 := by revert k; decide

/-- The window the tap `k` reads, as a slab of one row. -/
def window (z : ArrZ) (k : Fin 31) : S1x2048x512.Idx → EReal :=
  broadcastInDim S1x2048x512 ![1, 2] bcast_S2048x512_S1x2048x512_1_2
    (extractStridedSlice S2048x512 ![k.val, 0] (val_main_v15 (F := Ideal) z) (window_slices k))

theorem window_apply (z : ArrZ) (k : Fin 31) (i : S1x2048x512.Idx) :
    window z k i = past z ((i 1).val + 2 + k.val) (i 2).val := by
  have h1 : (i 1).val < 2048 := (i 1).isLt
  have h2 : (i 2).val < 512 := (i 2).isLt
  have hk := k.isLt
  unfold window
  rw [broadcastInDim_apply _ _ _ i (ix2 ⟨(i 1).val, h1⟩ ⟨(i 2).val, h2⟩)
    (fun b => match b with | ⟨0, _⟩ => rfl | ⟨1, _⟩ => rfl)]
  rw [extractStridedSlice_apply _ _ _ _ (ix2 ⟨k.val + (i 1).val, by omega⟩ ⟨(i 2).val, h2⟩)
    (fun b => match b with | ⟨0, _⟩ => rfl | ⟨1, _⟩ => (Nat.zero_add _).symm)]
  rw [ref_padded]
  exact congrArg (fun n => past z n (i 2).val) (show k.val + (i 1).val + 2 = (i 1).val + 2 + k.val by omega)

theorem stack_low (z : ArrZ) : val_main_v79 (F := Ideal) z
    = concatenate S16x2048x512 0 (List.ofFn fun n : Fin 16 => (⟨S1x2048x512, window z ⟨n.val, by omega⟩⟩ : (s : Shape) × (s.Idx → EReal)))
      (by exact concatenates_S1x2048x512_S1x2048x512_S1x2048x512_S1x2048x512_S1x2048x512_S1x2048x512_S1x2048x512_S1x2048x512_S1x2048x512_S1x2048x512_S1x2048x512_S1x2048x512_S1x2048x512_S1x2048x512_S1x2048x512_S1x2048x512_S16x2048x512_d0) := rfl

theorem stack_high (z : ArrZ) : val_main_v80 (F := Ideal) z
    = concatenate S15x2048x512 0 (List.ofFn fun n : Fin 15 => (⟨S1x2048x512, window z ⟨16 + n.val, by omega⟩⟩ : (s : Shape) × (s.Idx → EReal)))
      (by exact concatenates_S1x2048x512_S1x2048x512_S1x2048x512_S1x2048x512_S1x2048x512_S1x2048x512_S1x2048x512_S1x2048x512_S1x2048x512_S1x2048x512_S1x2048x512_S1x2048x512_S1x2048x512_S1x2048x512_S1x2048x512_S15x2048x512_d0) := rfl

/-- The stack of the 31 windows: row `k` of it is the window tap `k` reads. -/
theorem ref_stack (z : ArrZ) (j : S31x2048x512.Idx) :
    val_main_v81 (F := Ideal) z j = past z ((j 1).val + 2 + (j 0).val) (j 2).val := by
  have h0 : (j 0).val < 31 := (j 0).isLt
  have h1 : (j 1).val < 2048 := (j 1).isLt
  have h2 : (j 2).val < 512 := (j 2).isLt
  unfold val_main_v81
  by_cases h : (j 0).val < 16
  · rw [concatenate_pair_apply_left (s₁ := S16x2048x512) (s₂ := S15x2048x512) 0 _ _ _ j rfl (ix3 ⟨(j 0).val, h⟩ ⟨(j 1).val, h1⟩ ⟨(j 2).val, h2⟩)
      (fun b => match b with | ⟨0, _⟩ => rfl | ⟨1, _⟩ => rfl | ⟨2, _⟩ => rfl), stack_low,
      concatenate_ofFn_unit_apply (t := S16x2048x512) (s₁ := S1x2048x512) 0 (fun n : Fin 16 => window z ⟨n.val, by omega⟩) _ rfl rfl _ ⟨(j 0).val, h⟩ rfl (ix3 0 ⟨(j 1).val, h1⟩ ⟨(j 2).val, h2⟩)
      (fun b hb => match b with | ⟨0, _⟩ => absurd rfl hb | ⟨1, _⟩ => rfl | ⟨2, _⟩ => rfl), window_apply]
    rfl
  · rw [concatenate_pair_apply_right (s₁ := S16x2048x512) (s₂ := S15x2048x512) 0 _ _ _ j rfl rfl (ix3 ⟨(j 0).val - 16, by omega⟩ ⟨(j 1).val, h1⟩ ⟨(j 2).val, h2⟩)
      (fun b hb => match b with | ⟨0, _⟩ => absurd rfl hb | ⟨1, _⟩ => rfl | ⟨2, _⟩ => rfl) (show (j 0).val - 16 + 16 = (j 0).val by omega), stack_high,
      concatenate_ofFn_unit_apply (t := S15x2048x512) (s₁ := S1x2048x512) 0 (fun n : Fin 15 => window z ⟨16 + n.val, by omega⟩) _ rfl rfl _ ⟨(j 0).val - 16, by omega⟩ rfl (ix3 0 ⟨(j 1).val, h1⟩ ⟨(j 2).val, h2⟩)
      (fun b hb => match b with | ⟨0, _⟩ => absurd rfl hb | ⟨1, _⟩ => rfl | ⟨2, _⟩ => rfl), window_apply]
    exact congrArg (fun n => past z n (j 2).val) (show (j 1).val + 2 + (16 + ((j 0).val - 16)) = _ by omega)

/-! ## The gradients of the taps and of the bias -/

theorem ref_ct (d : ArrD) (j : S31x2048x512.Idx) : val_main_v93 (F := Ideal) d j = at2 d (j 1).val (j 2).val := by
  rw [val_main_v93_apply, val_main_v89_apply]
  have h2 : (j 2).val < 512 := (j 2).isLt
  exact eq_at2 d _ _ _ (show ((j 1).val * 512 + (j 2).val) / 512 = (j 1).val by omega)
    (show ((j 1).val * 512 + (j 2).val) % 512 = (j 2).val by omega)

theorem ref_dw (d : ArrD) (z : ArrZ) (j : S31x512.Idx) : val_main_v99 (F := Ideal) d z j = dw d z (j 0).val (j 1).val := by
  rw [val_main_v99_apply, val_main_cst_9_apply, zero_bits, zero_add, Fin.sum_univ_one, val_main_v96_apply,
    val_main_v95_apply, val_main_cst_8_apply, zero_bits, zero_add, dw]
  refine Finset.sum_congr rfl fun n _ => ?_
  rw [val_main_v94_apply, ref_stack, ref_ct]
  have h1 : (j 1).val < 512 := (j 1).isLt
  exact (mul_comm _ _).trans (by
    exact congrArg₂ (fun k c => at2 d n.val c * past z (n.val + 2 + k) c)
      (show (((j 0).val * 1 + 0) * 512 + (j 1).val) / 512 = (j 0).val by omega)
      (show (((j 0).val * 1 + 0) * 512 + (j 1).val) % 512 = (j 1).val by omega))

theorem ref_db (d : ArrD) (j : S1x512.Idx) : val_main_v238 (F := Ideal) d j = db d (j 1).val := by
  rw [val_main_v238_apply, val_main_v92_apply, val_main_cst_7_apply, zero_bits, zero_add, Fin.sum_univ_one, val_main_v91_apply,
    val_main_v90_apply, val_main_cst_6_apply, zero_bits, zero_add, db]
  refine Finset.sum_congr rfl fun n _ => ?_
  have h0 : (j 0).val < 1 := (j 0).isLt
  exact eq_at2 d _ _ _ rfl (show 0 * 512 + ((j 0).val * 512 + (j 1).val) = (j 1).val by omega)

/-! ## The gradient of the gated value -/

/-- The products of the cotangent with tap `k` make up row `k` of the array the gradient is cut from. -/
theorem ref_products (d : ArrD) (w : ArrW) (j : S31x2048x512.Idx) :
    val_main_v98 (F := Ideal) d w j = at2 w (j 0).val (j 2).val * at2 d (j 1).val (j 2).val := by
  rw [val_main_v98_apply, ref_ct, val_main_v97_apply, val_main_v82_apply]
  exact (mul_comm _ _).trans (congrArg (· * _) (eq_at2 w _ _ _ rfl rfl))

theorem tap_slices (k : Fin 31) : S31x2048x512.Slices ![k.val, 0, 0] S1x2048x512 := by revert k; decide

theorem tap_pads (k : Fin 31) : S2048x512.Pads ![k.val, 0] ![30 - k.val, 0] ![0, 0] S2078x512 := by revert k; decide

/-- Tap `k`'s products moved down `k` rows in an array of 2078 rows, zeros around them. -/
def shifted (d : ArrD) (w : ArrW) (k : Fin 31) : S2078x512.Idx → EReal :=
  pad S2078x512 ![k.val, 0] ![30 - k.val, 0] ![0, 0]
    (shapeCast S2048x512 (extractStridedSlice S1x2048x512 ![k.val, 0, 0] (val_main_v98 (F := Ideal) d w) (tap_slices k))
      shapeCasts_S1x2048x512_S2048x512) (constant (F := Ideal) S_ .f32 0x00000000#32) (tap_pads k) h_S_

theorem shifted_apply (d : ArrD) (w : ArrW) (k : Fin 31) (j : S2078x512.Idx) (hj : 30 ≤ (j 0).val) :
    shifted d w k j = at2 w k.val (j 1).val * at2 d ((j 0).val - k.val) (j 1).val := by
  have hk := k.isLt
  have h1 : (j 1).val < 512 := (j 1).isLt
  unfold shifted
  by_cases h : (j 0).val < k.val + 2048
  · rw [pad_apply_of_inside _ _ _ _ _ _ _ j (ix2 ⟨(j 0).val - k.val, by omega⟩ ⟨(j 1).val, h1⟩)
      (fun a => match a with
        | ⟨0, _⟩ => show (j 0).val = k.val + ((j 0).val - k.val) * 1 by omega
        | ⟨1, _⟩ => show (j 1).val = 0 + (j 1).val * 1 by omega),
      shapeCast_apply _ _ _ (ix3 0 ⟨(j 0).val - k.val, by omega⟩ ⟨(j 1).val, h1⟩) (by
        rewrite [Shape.rowMajor_val_two, Shape.rowMajor_val_three]
        show (0 * 2048 + ((j 0).val - k.val)) * 512 + (j 1).val = ((j 0).val - k.val) * 512 + (j 1).val
        omega),
      extractStridedSlice_apply _ _ _ _ (ix3 k ⟨(j 0).val - k.val, by omega⟩ ⟨(j 1).val, h1⟩)
        (fun a => match a with
          | ⟨0, _⟩ => rfl
          | ⟨1, _⟩ => (Nat.zero_add _).symm
          | ⟨2, _⟩ => (Nat.zero_add _).symm), ref_products]
    rfl
  · rw [pad_apply_of_not_inside _ _ _ _ _ _ _ j 0 (by
        show ¬(k.val ≤ (j 0).val ∧ ((j 0).val - k.val) % 1 = 0 ∧ ((j 0).val - k.val) / 1 < 2048)
        omega), at2_of_le d _ _ (by omega), mul_zero]
    exact zero_bits

theorem ref_total (d : ArrD) (w : ArrW) (j : S2078x512.Idx) :
    val_main_v222 (F := Ideal) d w j = ∑ k : Fin 31, shifted d w (Fin.rev k) j := by
  simp only [Fin.sum_univ_castSucc, Fin.sum_univ_zero, zero_add]
  rfl

theorem ref_dh (d : ArrD) (w : ArrW) (j : S2048x512.Idx) :
    val_main_v224 (F := Ideal) d w j = dh d w (j 0).val (j 1).val := by
  rw [val_main_v224_apply, ref_total, dh]
  refine (Fintype.sum_equiv Fin.revPerm _ (fun k => shifted d w k (idx_main_v224 j)) (fun k => rfl)).trans ?_
  refine Finset.sum_congr rfl fun k _ => ?_
  have hk := k.isLt
  rw [shifted_apply d w k _ (show 30 ≤ 30 + (j 0).val by omega)]
  exact congrArg (fun n => _ * at2 d n (j 1).val) (show 30 + (j 0).val - k.val = (j 0).val + 30 - k.val by omega)

/-! ## The four results -/

/-- The gradient of the two blocks side by side, `b` right of `a`, as the sum of two arrays each padded with zeros: its
    left half is `a`. -/
theorem joined_left (a b : ArrD) (j : S2048x1024.Idx) (i : S2048x512.Idx) (h0 : (j 0).val = (i 0).val) (h1 : (j 1).val = (i 1).val) :
    addf (F := Ideal) (φ := .f32) (pad S2048x1024 ![0, 512] ![0, 0] ![0, 0] b (constant (F := Ideal) S_ .f32 0x00000000#32) pads_S2048x512_S2048x1024_000_51200 h_S_)
      (pad S2048x1024 ![0, 0] ![0, 512] ![0, 0] a (constant (F := Ideal) S_ .f32 0x00000000#32) pads_S2048x512_S2048x1024_000_05120 h_S_) j = a i := by
  have hi : (i 1).val < 512 := (i 1).isLt
  refine (congrArg₂ (· + ·) (pad_apply_of_not_inside _ _ _ b _ _ _ j 1 ?_) (pad_apply_of_inside _ _ _ a _ _ _ j i ?_)).trans
    ((congrArg (· + a i) zero_bits).trans (zero_add _))
  · show ¬(512 ≤ (j 1).val ∧ ((j 1).val - 512) % 1 = 0 ∧ ((j 1).val - 512) / 1 < 512)
    omega
  · exact fun x => match x with
      | ⟨0, _⟩ => show (j 0).val = 0 + (i 0).val * 1 by omega
      | ⟨1, _⟩ => show (j 1).val = 0 + (i 1).val * 1 by omega

/-- … and its right half is `b`. -/
theorem joined_right (a b : ArrD) (j : S2048x1024.Idx) (i : S2048x512.Idx) (h0 : (j 0).val = (i 0).val) (h1 : (j 1).val = 512 + (i 1).val) :
    addf (F := Ideal) (φ := .f32) (pad S2048x1024 ![0, 512] ![0, 0] ![0, 0] b (constant (F := Ideal) S_ .f32 0x00000000#32) pads_S2048x512_S2048x1024_000_51200 h_S_)
      (pad S2048x1024 ![0, 0] ![0, 512] ![0, 0] a (constant (F := Ideal) S_ .f32 0x00000000#32) pads_S2048x512_S2048x1024_000_05120 h_S_) j = b i := by
  have hi : (i 1).val < 512 := (i 1).isLt
  refine (congrArg₂ (· + ·) (pad_apply_of_inside _ _ _ b _ _ _ j i ?_) (pad_apply_of_not_inside _ _ _ a _ _ _ j 1 ?_)).trans
    ((congrArg (b i + ·) zero_bits).trans (add_zero _))
  · exact fun x => match x with
      | ⟨0, _⟩ => show (j 0).val = 0 + (i 0).val * 1 by omega
      | ⟨1, _⟩ => show (j 1).val = 512 + (i 1).val * 1 by omega
  · show ¬(0 ≤ (j 1).val ∧ ((j 1).val - 0) % 1 = 0 ∧ ((j 1).val - 0) / 1 < 512)
    omega

theorem ref_dva (d : ArrD) (z : ArrZ) (w : ArrW) (j : S2048x512.Idx) :
    val_main_v235 (F := Ideal) d z w j = dva d z w (j 0).val (j 1).val := by
  show val_main_v234 (F := Ideal) d z w j = _
  rw [val_main_v234_apply]
  refine (joined_left (val_main_v226 (F := Ideal) d z w) (val_main_v227 (F := Ideal) d z w) (idx_main_v234 j) j rfl rfl).trans ?_
  rw [val_main_v226_apply, ref_dh, ref_gate]
  rfl

theorem ref_dvb (d : ArrD) (z : ArrZ) (w : ArrW) (j : S2048x512.Idx) :
    val_main_v237 (F := Ideal) d z w j = dvb d z w (j 0).val (j 1).val := by
  show val_main_v236 (F := Ideal) d z w j = _
  rw [val_main_v236_apply]
  refine (joined_right (val_main_v226 (F := Ideal) d z w) (val_main_v227 (F := Ideal) d z w) (idx_main_v236 j) j rfl rfl).trans ?_
  rw [val_main_v227_apply, val_main_v225_apply, val_main_v12_apply, val_main_v11_apply, val_main_v10_apply, val_main_cst_2_apply,
    ref_dh, ref_gate, ref_va, one_bits, dvb]
  exact congrArg (· * _) (mul_comm _ _)

theorem ref_dw8 (d : ArrD) (z : ArrZ) (j : S8x32x64.Idx) :
    val_main_v233 (F := Ideal) d z j = dw8 d z (j 0).val (j 1).val (j 2).val := by
  have h0 : (j 0).val < 8 := (j 0).isLt
  have h1 : (j 1).val < 32 := (j 1).isLt
  have h2 : (j 2).val < 64 := (j 2).isLt
  rw [val_main_v233_apply, val_main_v232_apply, dw8]
  unfold val_main_v231
  by_cases h : (j 1).val < 31
  · rw [pad_apply_of_inside _ _ _ _ _ _ _ _ (ix2 ⟨(j 1).val, h⟩ ⟨64 * (j 0).val + (j 2).val, by omega⟩) (fun a => match a with
        | ⟨0, _⟩ => show (((j 1).val * 8 + (j 0).val) * 64 + (j 2).val) / 512 = 0 + (j 1).val * 1 by omega
        | ⟨1, _⟩ => show (((j 1).val * 8 + (j 0).val) * 64 + (j 2).val) % 512 = 0 + (64 * (j 0).val + (j 2).val) * 1 by omega),
      ref_dw, if_pos h]
    rfl
  · rw [pad_apply_of_not_inside _ _ _ _ _ _ _ _ 0 (by
        show ¬(0 ≤ (((j 1).val * 8 + (j 0).val) * 64 + (j 2).val) / 512 ∧ ((((j 1).val * 8 + (j 0).val) * 64 + (j 2).val) / 512 - 0) % 1 = 0
          ∧ ((((j 1).val * 8 + (j 0).val) * 64 + (j 2).val) / 512 - 0) / 1 < 31)
        omega), if_neg h]
    show ((((0 : BitVec 32).toInt : ℤ) : ℝ) : EReal) = 0
    simp

end Cert.Conv

end
-- ==== Proof.Conv.Agree.lean ====
module

public import proofs.«01_k».proof.Proof.Conv.Grid
public import proofs.«01_k».proof.Proof.Conv.Reference

@[expose] public section

/-! # The reference's run, in the terms of the kernel's results -/

set_option maxRecDepth 16384

noncomputable section

open Idealize Idealize.ShloMosaic Idealize.SL.Sem
open Cert.ReferenceIdeal Cert.ReferenceIdeal.Gen Cert.ReferenceIdeal.Value Cert.ReferenceIdeal.Read

namespace Cert.Conv

variable (m : (ℓ : Loc nD τ sig) → Buf (Elt Ideal) ℓ) (ρ : Dev nD → PrngReg)

/-- From any memory the reference ends with the four gradients of its arguments, the arguments as they were. -/
theorem reference_run : θ_run defs (onTc (τ := τ) (main (F := Ideal))) ⟨m, fun _ => 0, ρ⟩ fun r => ∀ c : Dev nD,
      r.2.mem ((c.tc : Thread nD τ).loc main_v235) = resVa (m ((c.tc : Thread nD τ).loc main_arg0)) (m ((c.tc : Thread nD τ).loc main_arg1)) (m ((c.tc : Thread nD τ).loc main_arg2))
      ∧ r.2.mem ((c.tc : Thread nD τ).loc main_v237) = resVb (m ((c.tc : Thread nD τ).loc main_arg0)) (m ((c.tc : Thread nD τ).loc main_arg1)) (m ((c.tc : Thread nD τ).loc main_arg2))
      ∧ r.2.mem ((c.tc : Thread nD τ).loc main_v233) = resDw (m ((c.tc : Thread nD τ).loc main_arg0)) (m ((c.tc : Thread nD τ).loc main_arg1))
      ∧ r.2.mem ((c.tc : Thread nD τ).loc main_v238) = resDb (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨hva, hvb, hdw, hdb, h0, h1, h2⟩ := h c
    exact ⟨hva.trans ((val_main_v235_eq _).trans (funext fun j => ref_dva _ _ _ j)),
      hvb.trans ((val_main_v237_eq _).trans (funext fun j => ref_dvb _ _ _ j)),
      hdw.trans ((val_main_v233_eq _).trans (funext fun j => ref_dw8 _ _ j)),
      hdb.trans ((val_main_v238_eq _).trans (funext fun j => ref_db _ j)), h0, h1, h2⟩)
    (Cert.ReferenceIdeal.Value.run m ρ)

end Cert.Conv

end
-- ==== Proof.Step.Math.lean ====
module

public import proofs.«01_k».proof.Proof.Conv.Math

@[expose] public section

/-! # Sums cut into blocks, and columns spread over padded groups

The step keeps its 2816 hidden columns as 8 groups of 352, each group padded with zeros to 384, so 3072 columns in all.
This file names where a padded column comes from, and says that a sum over the padded columns is the sum over the
columns. It also cuts a sum into blocks of any size. -/

noncomputable section

open Idealize Idealize.ShloMosaic
open scoped BigOperators

namespace Cert.Step

open Cert.Conv

theorem origin2 : (![0, 0] : Fin 2 → Nat) = fun _ => 0 := funext fun a => match a with | ⟨0, _⟩ => rfl | ⟨1, _⟩ => rfl

theorem zero_at : ∀ a, (![0, 0] : Fin 2 → Nat) a = 0 := fun a => match a with | ⟨0, _⟩ => rfl | ⟨1, _⟩ => rfl

/-- An array of two axes of extended reals. -/
abbrev Arr (a b : Nat) : Type := (⟨2, ![a, b]⟩ : Shape).Idx → EReal

theorem at2_ix2 {a b : Nat} (x : Arr a b) (n : Fin a) (c : Fin b) : at2 x n.val c.val = x (ix2 n c) := by
  rw [at2, dif_pos ⟨n.isLt, c.isLt⟩]

theorem at2_lt {a b : Nat} (x : Arr a b) (n c : Nat) (hn : n < a) (hc : c < b) : at2 x n c = x (ix2 ⟨n, hn⟩ ⟨c, hc⟩) := by
  rw [at2, dif_pos ⟨hn, hc⟩]

/-- Column `p` of the 8 padded groups, out of the 2816 columns of `f`: zero in a group's padding. -/
def spread (f : Nat → EReal) (p : Nat) : EReal := if p % 384 < 352 then f (352 * (p / 384) + p % 384) else 0

/-- Reading a column out of the groups, as the groups' layout spells it. -/
theorem spread_dif (f : Nat → EReal) (p : Nat) (hp : p < 3072) (g : p / 384 < 8 ∧ p % 384 < 352 → EReal) (z : EReal)
    (hz : z = 0) (hg : ∀ h, g h = f (p / 384 * 352 + p % 384)) :
    (if h : p / 384 < 8 ∧ p % 384 < 352 then g h else z) = spread f p := by
  have h8 : p / 384 < 8 := by omega
  unfold spread
  by_cases h : p % 384 < 352
  · rw [dif_pos ⟨h8, h⟩, if_pos h, hg, Nat.mul_comm]
  · rw [dif_neg (fun hh => h hh.2), if_neg h, hz]

theorem int_zero : (FloatOps.sitofp (F := Ideal) .f32 (0#32)) = (0 : EReal) := by
  simp [FloatOps.sitofp]

/-- A sum over `q · b` terms is the sum over `q` blocks of `b`. -/
theorem sum_cut (q b : Nat) (f : Nat → EReal) :
    ∑ n : Fin (q * b), f n.val = ∑ t : Fin q, ∑ r : Fin b, f (b * t.val + r.val) := by
  rw [← Fintype.sum_prod_type']
  refine (Fintype.sum_equiv (finProdFinEquiv (m := q) (n := b)) _ _ fun p => ?_).symm
  exact congrArg f (Nat.add_comm _ _)

/-- A sum over the padded columns is the sum over the columns. -/
theorem sum_spread (f : Nat → EReal) : ∑ p : Fin 3072, spread f p.val = ∑ k : Fin 2816, f k.val := by
  rw [show ∑ p : Fin 3072, spread f p.val = ∑ p : Fin (8 * 384), spread f p.val from rfl,
    show ∑ k : Fin 2816, f k.val = ∑ k : Fin (8 * 352), f k.val from rfl, sum_cut, sum_cut]
  refine Finset.sum_congr rfl fun g _ => ?_
  have hf : ∀ r : Fin 384, spread f (384 * g.val + r.val) = if r.val < 352 then f (352 * g.val + r.val) else 0 := by
    intro r
    have hr := r.isLt
    rw [spread, show (384 * g.val + r.val) % 384 = r.val by omega, show (384 * g.val + r.val) / 384 = g.val by omega]
  rw [Finset.sum_congr rfl fun r _ => hf r,
    show ∑ r : Fin 384, (if r.val < 352 then f (352 * g.val + r.val) else 0)
      = ∑ r : Fin (352 + 32), (if r.val < 352 then f (352 * g.val + r.val) else 0) from rfl, Fin.sum_univ_add]
  rw [Finset.sum_congr rfl fun (r : Fin 352) _ => if_pos (show (Fin.castAdd 32 r).val < 352 from r.isLt),
    Finset.sum_congr rfl fun (r : Fin 32) _ => if_neg (show ¬ (Fin.natAdd 352 r).val < 352 by simp)]
  rw [Finset.sum_const_zero, add_zero]
  rfl

theorem spread_mul_left (f : Nat → EReal) (e : EReal) (p : Nat) : spread (fun k => f k * e) p = spread f p * e := by
  unfold spread
  split
  · rfl
  · rw [zero_mul]

/-- Two padded columns of a product are the padded product. -/
theorem spread_mul (f g : Nat → EReal) (p : Nat) : spread f p * spread g p = spread (fun k => f k * g k) p := by
  unfold spread
  split
  · rfl
  · rw [zero_mul]

end Cert.Step

end
-- ==== Proof.TnGate.Points.lean ====
module

public import proofs.«01_k».proof.Proof.Step.Math
public import proofs.«01_k».proof.Proof.Gen.Kernel2Ideal.Frame
public import Idealize.ShloMosaic.Lib.Pipeline.ValueKit
public import Idealize.ShloMosaic.Lib.StableHlo.ReadAt

@[expose] public section

/-! # The gradient of the gate's weights: one grid point, and the result array

Every grid point clears its accumulator, adds one product over all 2048 tokens and hands it on. The padded cotangent is
the host's work in front of the launch. -/

set_option maxRecDepth 16384

noncomputable section

open Idealize Idealize.ShloMosaic Idealize.ShloMosaic.TcCoe Idealize.SL.Sem
open scoped BigOperators
open Cert.Kernel2Ideal Cert.Kernel2Ideal.Gen

namespace Cert.TnGate

open Cert.Conv (at2 at2_idx eq_at2)
open Cert.Step

variable (c : Dev nD) (i : grid0.Coords) (arg3 : Memref sig .tc .vmem S2048x1024 .bf16) (harg3 : arg3.IsWhole)
  (arg4 : Memref sig .tc .vmem S2048x1024 .bf16) (harg4 : arg4.IsWhole) (arg5 : Memref sig .tc .vmem S1024x1024 .bf16)
  (harg5 : arg5.IsWhole) (arg6 : Memref sig .tc .vmem S1024x1024 .f32) (harg6 : arg6.IsWhole)
  (x0 : Vec Ideal S2048x1024 .bf16) (x1 : Vec Ideal S2048x1024 .bf16)

theorem out0_A_2_eq (hc0 : cond0_0 i) (hc1 : cond0_1 i) :
    out0_A_2 c i arg3 harg3 arg4 harg4 arg5 harg5 arg6 harg6 hc0 hc1 x0 x1 (F := Ideal)
      = k0_pay3 (k0_pay2 (k0_pay1 (F := Ideal)) x0 x1) := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_cons_unit_zero origin2]
  simp only [View.readAt_eq_ld, harg3.read_unread, harg4.read_unread,
    View.ld_unit_zero (S := S2048x1024) origin2, View.ld_unit_zero (S := S1024x1024) origin2,
    View.readCov_unit_zero (S := S1024x1024) _ origin2]
  rw [View.readCov_cons_unit_lit' (S := S1024x1024) _ _ _ _ _ zero_at zero_at]

/-- What a grid point hands on: the product over the tokens. -/
theorem point_apply (a b : Fin 1024) : (k0_pay3 (F := Ideal) (k0_pay2 k0_pay1 x0 x1) : S1024x1024.Idx → EReal) (ix2 a b)
    = ∑ n : Fin 2048, x0 (ix2 n a) * x1 (ix2 n b) := by
  pointwise [k0_pay3, k0_pay2, k0_pay1]

variable (m : (ℓ : Loc nD τ sig) → Buf (Elt Ideal) ℓ)

/-- The cotangent of the gate's preactivation and the tokens' activations, as the launch finds them. -/
abbrev argCt : Arr 2048 2816 := m ((c : Thread nD τ).loc main_arg0)
abbrev argH : Arr 2048 1024 := m ((c : Thread nD τ).loc main_arg1)

theorem host_ct (n : Fin 2048) (p : Fin 3072) : (V m c main_v3 : S2048x3072.Idx → EReal) (ix2 n p)
    = spread (at2 (argCt c m) n.val) p.val := by
  unfold V
  after_reads_at
  exact spread_dif (at2 (argCt c m) n.val) p.val p.isLt (fun h => argCt c m (ix2 n ⟨p.val / 384 * 352 + p.val % 384, by omega⟩)) _
    int_zero (fun h => (at2_lt _ _ _ n.isLt _).symm)

theorem host_h (n : Fin 2048) (p : Fin 1024) : (V m c main_v4 : S2048x1024.Idx → EReal) (ix2 n p) = argH c m (ix2 n p) := by
  unfold V
  after_reads_at

/-! ## The blocks a point reads -/

theorem at_index0 : ∀ t : Fin cfg0.N, win0_0.index t 0 = 0 ∧ win0_0.index t 1 = t.val := (by decide +kernel : ∀ t : Fin grid0.N, _)
theorem at_index1 : ∀ t : Fin cfg0.N, win0_1.index t 0 = 0 ∧ win0_1.index t 1 = 0 := (by decide +kernel : ∀ t : Fin grid0.N, _)
theorem at_index2 : ∀ t : Fin cfg0.N, win0_2.index t 0 = t.val ∧ win0_2.index t 1 = 0 := (by decide +kernel : ∀ t : Fin grid0.N, _)

theorem points3 : cfg0.N = 3 := N_0

theorem read0 (t : Fin cfg0.N) (n : Fin 2048) (a : Fin 1024) : (iblk m c 0 t : S2048x1024.Idx → EReal) (ix2 n a)
    = spread (at2 (argCt c m) n.val) (1024 * t.val + a.val) := by
  obtain ⟨e0, e1⟩ := at_index0 t
  have ht : t.val < 3 := lt_of_lt_of_eq t.isLt points3
  have hp : 1024 * t.val + a.val < 3072 := by have := a.isLt; omega
  refine (eq_at2 (V m c main_v3 : Arr 2048 3072) _ n.val (1024 * t.val + a.val) (show win0_0.index t 0 * 2048 + 1 * n.val = _ by rw [e0]; omega)
    (show win0_0.index t 1 * 1024 + 1 * a.val = _ by rw [e1]; omega)).trans ?_
  exact (at2_lt _ _ _ n.isLt hp).trans (host_ct c m n ⟨_, hp⟩)

theorem read1 (t : Fin cfg0.N) (n : Fin 2048) (b : Fin 1024) : (iblk m c 1 t : S2048x1024.Idx → EReal) (ix2 n b)
    = at2 (argH c m) n.val b.val := by
  obtain ⟨e0, e1⟩ := at_index1 t
  refine (eq_at2 (V m c main_v4 : Arr 2048 1024) _ n.val b.val (show win0_1.index t 0 * 2048 + 1 * n.val = _ by rw [e0]; omega)
    (show win0_1.index t 1 * 1024 + 1 * b.val = _ by rw [e1]; omega)).trans ?_
  rw [at2_ix2, at2_ix2]
  exact host_h c m n b

/-! ## The result array -/

/-- The gradient of the gate's weights, transposed, its 2816 rows in 8 groups padded to 384. -/
def grad (ct : Arr 2048 2816) (h : Arr 2048 1024) (p b : Nat) : EReal := spread (fun k => ∑ n : Fin 2048, at2 ct n.val k * at2 h n.val b) p

theorem grad_sum (ct : Arr 2048 2816) (h : Arr 2048 1024) (p b : Nat) :
    ∑ n : Fin 2048, spread (at2 ct n.val) p * at2 h n.val b = grad ct h p b := by
  unfold grad spread
  split
  · rfl
  · simp only [zero_mul, Finset.sum_const_zero]

def resGrad (ct : Arr 2048 2816) (h : Arr 2048 1024) : S3072x1024.Idx → EReal := fun j => grad ct h (j 0).val (j 1).val

theorem point_eq (t : Fin cfg0.N) (a b : Fin 1024) : (outsAt0 m c t : S1024x1024.Idx → EReal) (ix2 a b)
    = grad (argCt c m) (argH c m) (1024 * t.val + a.val) b.val := by
  unfold outsAt0
  rw [out0_A_2_eq]
  refine (point_apply _ _ a b).trans ?_
  rw [← grad_sum]
  exact Finset.sum_congr rfl fun n _ => congrArg₂ (· * ·) (read0 c m t n a) (read1 c m t n b)

theorem final : (dats m 0 c).arrAt 2 cfg0.N = resGrad (argCt c m) (argH c m) := by
  refine (dats m 0 c).arrAt_eq_of_covers 2 _ (by decide +kernel) fun t hf y => ?_
  obtain ⟨e0, e1⟩ := at_index2 t
  blk_simp
  rw [after0_2]
  refine ((congrArg (outsAt0 m c t) (eq_ix2 y)).trans (point_eq c m t (y 0) (y 1))).trans
    (congrArg₂ (grad (argCt c m) (argH c m)) ?_ ?_)
  · show _ = win0_2.index t 0 * 1024 + 1 * (y 0).val
    rw [e0]; omega
  · show _ = win0_2.index t 1 * 1024 + 1 * (y 1).val
    rw [e1]; omega

variable (ρ : Dev nD → PrngReg)

/-- From any memory the kernel ends with the gradient in its result, its arguments as they were. -/
theorem kernel_run : θ_run defs (onTc (τ := τ) (main (F := Ideal))) ⟨m, fun _ => 0, ρ⟩ fun r => ∀ c : Dev nD,
      r.2.mem ((c.tc : Thread nD τ).loc main_v5) = resGrad (argCt c m) (argH c m)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final c m),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.TnGate

end
-- ==== Proof.TnGate.Reference.lean ====
module

public import proofs.«01_k».proof.Proof.TnGate.Points
public import proofs.«01_k».proof.Proof.Gen.Reference2Ideal.Run

@[expose] public section

/-! # The gradient of the gate's weights: the reference -/

set_option maxRecDepth 16384

noncomputable section

open Idealize Idealize.ShloMosaic Idealize.ShloMosaic.TcCoe Idealize.SL.Sem
open scoped BigOperators
open Cert.Reference2Ideal Cert.Reference2Ideal.Gen Cert.Reference2Ideal.Value

namespace Cert.TnGate

open Cert.Conv (at2 at2_idx eq_at2)
open Cert.Step

/-- The reference's value as one term over its two arguments. -/
def refGrad (x0 : FVec Ideal S2048x2816 .f32) (x1 : FVec Ideal S2048x1024 .f32) : FVec Ideal S3072x1024 .bf16 :=
  truncf .bf16 (shapeCast _ (pad S8x384x1024 ![0, 0, 0] ![0, 32, 0] ![0, 0, 0] (shapeCast _ (transpose S2816x1024 [1, 0] (transpose S1024x2816 [1, 0] (Host.dotGeneral dot_S2048x2816_S2048x1024_S2816x1024_0_0_1_1_n_n none x0 x1) transposes_S2816x1024_S1024x2816_1_0) transposes_S1024x2816_S2816x1024_1_0) shapeCasts_S2816x1024_S8x352x1024) (sitofp .f32 (constantI S_ 32 0#32)) pads_S8x352x1024_S8x384x1024_000_0320_000 h_S_) shapeCasts_S8x384x1024_S3072x1024) bitsLt_bf16_f32

theorem refGrad_apply (x0 : FVec Ideal S2048x2816 .f32) (x1 : FVec Ideal S2048x1024 .f32) (p : Fin 3072) (b : Fin 1024) :
    refGrad x0 x1 (ix2 p b) = grad x0 x1 p.val b.val := by
  pointwise [refGrad]
  exact spread_dif (fun k => ∑ n : Fin 2048, at2 x0 n.val k * at2 x1 n.val b.val)
    p.val p.isLt (fun h => ∑ n : Fin 2048, x0 (ix2 n ⟨p.val / 384 * 352 + p.val % 384, by omega⟩) * x1 (ix2 n b)) _ int_zero
    (fun h => Finset.sum_congr rfl fun n _ => congrArg₂ (· * ·) (at2_lt x0 _ _ n.isLt _).symm (at2_ix2 x1 n b).symm)

variable (m : (ℓ : Loc nD τ sig) → Buf (Elt Ideal) ℓ) (ρ : Dev nD → PrngReg)

/-- From any memory the reference ends with the gradient of its arguments, the arguments as they were. -/
theorem reference_run : θ_run defs (onTc (τ := τ) (main (F := Ideal))) ⟨m, fun _ => 0, ρ⟩ fun r => ∀ c : Dev nD,
      r.2.mem ((c.tc : Thread nD τ).loc main_v8) = resGrad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨hg, h0, h1⟩ := h c
    exact ⟨hg.trans (funext fun j => (congrArg (refGrad _ _) (eq_ix2 j)).trans (refGrad_apply _ _ (j 0) (j 1))), h0, h1⟩)
    (Cert.Reference2Ideal.Value.run m ρ)

end Cert.TnGate

end
-- ==== Proof.FfnBwd.Points.lean ====
module

public import proofs.«01_k».proof.Proof.Step.Math
public import proofs.«01_k».proof.Proof.Gen.Kernel3Ideal.Frame

@[expose] public section

/-! # The backward feed-forward: what a grid point leaves

A grid point `(i, j)` takes 1024 tokens and 512 hidden columns. It leaves those columns' cotangents and activations, and
adds what they contribute to the cotangent of the normalised tokens; the first point of a row block clears that sum, the
last one turns it into the cotangent of the tokens and adds its share of the scale's gradient. -/

set_option maxRecDepth 16384

noncomputable section

open Idealize Idealize.ShloMosaic Idealize.ShloMosaic.TcCoe Idealize.SL.Sem
open scoped BigOperators
open Cert.Kernel3Ideal Cert.Kernel3Ideal.Gen

namespace Cert.FfnBwd

open Cert.Step

variable (c : Dev nD) (i : grid0.Coords)
  (arg2 : Memref sig .tc .vmem S1024x1024 .f32) (harg2 : arg2.IsWhole)
  (arg3 : Memref sig .tc .vmem S1024x1024 .f32) (harg3 : arg3.IsWhole)
  (arg4 : Memref sig .tc .vmem S1x1024 .f32) (harg4 : arg4.IsWhole)
  (arg5 : Memref sig .tc .vmem S1024x512 .bf16) (harg5 : arg5.IsWhole)
  (arg6 : Memref sig .tc .vmem S1024x512 .bf16) (harg6 : arg6.IsWhole)
  (arg7 : Memref sig .tc .vmem S512x1024 .bf16) (harg7 : arg7.IsWhole)
  (arg8 : Memref sig .tc .vmem S512x1024 .bf16) (harg8 : arg8.IsWhole)
  (arg9 : Memref sig .tc .vmem S512x1024 .bf16) (harg9 : arg9.IsWhole)
  (arg10 : Memref sig .tc .vmem S8x128 .f32) (harg10 : arg10.IsWhole)
  (arg11 : Memref sig .tc .vmem S1024x1024 .f32) (harg11 : arg11.IsWhole)
  (arg12 : Memref sig .tc .vmem S1x1024 .f32) (harg12 : arg12.IsWhole)
  (arg13 : Memref sig .tc .vmem S1024x512 .bf16) (harg13 : arg13.IsWhole)
  (arg14 : Memref sig .tc .vmem S1024x512 .bf16) (harg14 : arg14.IsWhole)
  (arg15 : Memref sig .tc .vmem S1024x512 .bf16) (harg15 : arg15.IsWhole)
  (arg16 : Memref sig .tc .vmem S1024x1024 .f32) (harg16 : arg16.IsWhole)
  (x0 : Vec Ideal S1024x1024 .f32)
  (x1 : Vec Ideal S1024x1024 .f32)
  (x2 : Vec Ideal S1x1024 .f32)
  (x3 : Vec Ideal S1024x512 .bf16)
  (x4 : Vec Ideal S1024x512 .bf16)
  (x5 : Vec Ideal S512x1024 .bf16)
  (x6 : Vec Ideal S512x1024 .bf16)
  (x7 : Vec Ideal S512x1024 .bf16)
  (x8 : Vec Ideal S8x128 .f32)
  (xo10 : Vec Ideal S1x1024 .f32) (xs0 : Vec Ideal S1024x1024 .f32)

theorem out0_A_10_eq (hc0 : cond0_0 i) (hc1 : cond0_1 i) (hc2 : ¬cond0_2 i) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 (F := Ideal)
      = k0_pay9 (F := Ideal) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8)]
  unfold kernelRun0_A
  dsimp only
  sl_unfold_words
  rw [View.canon_cons_unit_zero origin2]

theorem out0_A_11_eq (hc0 : cond0_0 i) (hc1 : cond0_1 i) (hc2 : ¬cond0_2 i) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 (F := Ideal)
      = k0_pay15 x0 x7 x3 x4 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8)]
  unfold kernelRun0_A
  dsimp only
  sl_unfold_words
  rw [View.canon_cons_unit_zero origin2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) origin2, View.ld_unit_zero (S := S1x1024) origin2, View.ld_unit_zero (S := S1024x512) origin2, View.ld_unit_zero (S := S512x1024) origin2, View.readCov_unit_zero (S := S1024x1024) _ origin2, View.readCov_unit_zero (S := S1x1024) _ origin2, View.readCov_unit_zero (S := S1024x512) _ origin2, View.readCov_unit_zero (S := S512x1024) _ origin2]

theorem out0_A_12_eq (hc0 : cond0_0 i) (hc1 : cond0_1 i) (hc2 : ¬cond0_2 i) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 (F := Ideal)
      = k0_pay16 x0 x7 x3 := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8)]
  unfold kernelRun0_A
  dsimp only
  sl_unfold_words
  rw [View.canon_cons_unit_zero origin2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) origin2, View.ld_unit_zero (S := S1x1024) origin2, View.ld_unit_zero (S := S1024x512) origin2, View.ld_unit_zero (S := S512x1024) origin2, View.readCov_unit_zero (S := S1024x1024) _ origin2, View.readCov_unit_zero (S := S1x1024) _ origin2, View.readCov_unit_zero (S := S1024x512) _ origin2, View.readCov_unit_zero (S := S512x1024) _ origin2]

theorem out0_A_13_eq (hc0 : cond0_0 i) (hc1 : cond0_1 i) (hc2 : ¬cond0_2 i) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 (F := Ideal)
      = k0_pay1 (k0_pay12 x4) (k0_pay14 x3) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8)]
  unfold kernelRun0_A
  dsimp only
  sl_unfold_words
  rw [View.canon_cons_unit_zero origin2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) origin2, View.ld_unit_zero (S := S1x1024) origin2, View.ld_unit_zero (S := S1024x512) origin2, View.ld_unit_zero (S := S512x1024) origin2, View.readCov_unit_zero (S := S1024x1024) _ origin2, View.readCov_unit_zero (S := S1x1024) _ origin2, View.readCov_unit_zero (S := S1024x512) _ origin2, View.readCov_unit_zero (S := S512x1024) _ origin2]

theorem sout0_A_0_eq (hc0 : cond0_0 i) (hc1 : cond0_1 i) (hc2 : ¬cond0_2 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 (F := Ideal)
      = k0_pay2 (k0_pay15 x0 x7 x3 x4) (k0_pay16 x0 x7 x3) (k0_pay8 (F := Ideal)) x5 x6 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8)]
  unfold kernelRun0_A
  dsimp only
  sl_unfold_words
  rw [View.canon_cons_unit_zero origin2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) origin2, View.ld_unit_zero (S := S1x1024) origin2, View.ld_unit_zero (S := S1024x512) origin2, View.ld_unit_zero (S := S512x1024) origin2, View.readCov_unit_zero (S := S1024x1024) _ origin2, View.readCov_unit_zero (S := S1x1024) _ origin2, View.readCov_unit_zero (S := S1024x512) _ origin2, View.readCov_unit_zero (S := S512x1024) _ origin2]

theorem out0_B_11_eq (hc0 : ¬cond0_0 i) (hc1 : ¬cond0_1 i) (hc2 : ¬cond0_2 i) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 (F := Ideal)
      = k0_pay15 x0 x7 x3 x4 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0)]
  unfold kernelRun0_B
  dsimp only
  sl_unfold_words
  rw [View.canon_cons_unit_zero origin2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) origin2, View.ld_unit_zero (S := S1x1024) origin2, View.ld_unit_zero (S := S1024x512) origin2, View.ld_unit_zero (S := S512x1024) origin2, View.readCov_unit_zero (S := S1024x1024) _ origin2, View.readCov_unit_zero (S := S1x1024) _ origin2, View.readCov_unit_zero (S := S1024x512) _ origin2, View.readCov_unit_zero (S := S512x1024) _ origin2]

theorem out0_B_12_eq (hc0 : ¬cond0_0 i) (hc1 : ¬cond0_1 i) (hc2 : ¬cond0_2 i) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 (F := Ideal)
      = k0_pay16 x0 x7 x3 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0)]
  unfold kernelRun0_B
  dsimp only
  sl_unfold_words
  rw [View.canon_cons_unit_zero origin2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) origin2, View.ld_unit_zero (S := S1x1024) origin2, View.ld_unit_zero (S := S1024x512) origin2, View.ld_unit_zero (S := S512x1024) origin2, View.readCov_unit_zero (S := S1024x1024) _ origin2, View.readCov_unit_zero (S := S1x1024) _ origin2, View.readCov_unit_zero (S := S1024x512) _ origin2, View.readCov_unit_zero (S := S512x1024) _ origin2]

theorem out0_B_13_eq (hc0 : ¬cond0_0 i) (hc1 : ¬cond0_1 i) (hc2 : ¬cond0_2 i) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 (F := Ideal)
      = k0_pay1 (k0_pay12 x4) (k0_pay14 x3) := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0)]
  unfold kernelRun0_B
  dsimp only
  sl_unfold_words
  rw [View.canon_cons_unit_zero origin2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) origin2, View.ld_unit_zero (S := S1x1024) origin2, View.ld_unit_zero (S := S1024x512) origin2, View.ld_unit_zero (S := S512x1024) origin2, View.readCov_unit_zero (S := S1024x1024) _ origin2, View.readCov_unit_zero (S := S1x1024) _ origin2, View.readCov_unit_zero (S := S1024x512) _ origin2, View.readCov_unit_zero (S := S512x1024) _ origin2]

theorem sout0_B_0_eq (hc0 : ¬cond0_0 i) (hc1 : ¬cond0_1 i) (hc2 : ¬cond0_2 i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0 (F := Ideal)
      = k0_pay2 (k0_pay15 x0 x7 x3 x4) (k0_pay16 x0 x7 x3) xs0 x5 x6 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xs0)]
  unfold kernelRun0_B
  dsimp only
  sl_unfold_words
  rw [View.canon_cons_unit_zero origin2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) origin2, View.ld_unit_zero (S := S1x1024) origin2, View.ld_unit_zero (S := S1024x512) origin2, View.ld_unit_zero (S := S512x1024) origin2, View.readCov_unit_zero (S := S1024x1024) _ origin2, View.readCov_unit_zero (S := S1x1024) _ origin2, View.readCov_unit_zero (S := S1024x512) _ origin2, View.readCov_unit_zero (S := S512x1024) _ origin2]

theorem out0_C_9_eq (hc0 : ¬cond0_0 i) (hc1 : ¬cond0_1 i) (hc2 : cond0_2 i) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo10 xs0 (F := Ideal)
      = k0_pay7 x1 x2 (k0_pay2 (k0_pay15 x0 x7 x3 x4) (k0_pay16 x0 x7 x3) xs0 x5 x6) x0 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo10 xs0)]
  unfold kernelRun0_C
  dsimp only
  sl_unfold_words
  rw [View.canon_cons_unit_zero origin2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) origin2, View.ld_unit_zero (S := S1x1024) origin2, View.ld_unit_zero (S := S1024x512) origin2, View.ld_unit_zero (S := S512x1024) origin2, View.readCov_unit_zero (S := S1024x1024) _ origin2, View.readCov_unit_zero (S := S1x1024) _ origin2, View.readCov_unit_zero (S := S1024x512) _ origin2, View.readCov_unit_zero (S := S512x1024) _ origin2]

theorem out0_C_10_eq (hc0 : ¬cond0_0 i) (hc1 : ¬cond0_1 i) (hc2 : cond0_2 i) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo10 xs0 (F := Ideal)
      = k0_pay3 (k0_pay6 x1 (k0_pay2 (k0_pay15 x0 x7 x3 x4) (k0_pay16 x0 x7 x3) xs0 x5 x6)) xo10 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo10 xs0)]
  unfold kernelRun0_C
  dsimp only
  sl_unfold_words
  rw [View.canon_cons_unit_zero origin2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) origin2, View.ld_unit_zero (S := S1x1024) origin2, View.ld_unit_zero (S := S1024x512) origin2, View.ld_unit_zero (S := S512x1024) origin2, View.readCov_unit_zero (S := S1024x1024) _ origin2, View.readCov_unit_zero (S := S1x1024) _ origin2, View.readCov_unit_zero (S := S1024x512) _ origin2, View.readCov_unit_zero (S := S512x1024) _ origin2]

theorem out0_C_11_eq (hc0 : ¬cond0_0 i) (hc1 : ¬cond0_1 i) (hc2 : cond0_2 i) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo10 xs0 (F := Ideal)
      = k0_pay15 x0 x7 x3 x4 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo10 xs0)]
  unfold kernelRun0_C
  dsimp only
  sl_unfold_words
  rw [View.canon_cons_unit_zero origin2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) origin2, View.ld_unit_zero (S := S1x1024) origin2, View.ld_unit_zero (S := S1024x512) origin2, View.ld_unit_zero (S := S512x1024) origin2, View.readCov_unit_zero (S := S1024x1024) _ origin2, View.readCov_unit_zero (S := S1x1024) _ origin2, View.readCov_unit_zero (S := S1024x512) _ origin2, View.readCov_unit_zero (S := S512x1024) _ origin2]

theorem out0_C_12_eq (hc0 : ¬cond0_0 i) (hc1 : ¬cond0_1 i) (hc2 : cond0_2 i) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo10 xs0 (F := Ideal)
      = k0_pay16 x0 x7 x3 := by
  unfold out0_C_12
  rw [View.read_writes_eq_canon _ _ _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo10 xs0)]
  unfold kernelRun0_C
  dsimp only
  sl_unfold_words
  rw [View.canon_cons_unit_zero origin2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) origin2, View.ld_unit_zero (S := S1x1024) origin2, View.ld_unit_zero (S := S1024x512) origin2, View.ld_unit_zero (S := S512x1024) origin2, View.readCov_unit_zero (S := S1024x1024) _ origin2, View.readCov_unit_zero (S := S1x1024) _ origin2, View.readCov_unit_zero (S := S1024x512) _ origin2, View.readCov_unit_zero (S := S512x1024) _ origin2]

theorem out0_C_13_eq (hc0 : ¬cond0_0 i) (hc1 : ¬cond0_1 i) (hc2 : cond0_2 i) :
    out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo10 xs0 (F := Ideal)
      = k0_pay1 (k0_pay12 x4) (k0_pay14 x3) := by
  unfold out0_C_13
  rw [View.read_writes_eq_canon _ _ _ (cover0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo10 xs0)]
  unfold kernelRun0_C
  dsimp only
  sl_unfold_words
  rw [View.canon_cons_unit_zero origin2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) origin2, View.ld_unit_zero (S := S1x1024) origin2, View.ld_unit_zero (S := S1024x512) origin2, View.ld_unit_zero (S := S512x1024) origin2, View.readCov_unit_zero (S := S1024x1024) _ origin2, View.readCov_unit_zero (S := S1x1024) _ origin2, View.readCov_unit_zero (S := S1024x512) _ origin2, View.readCov_unit_zero (S := S512x1024) _ origin2]

theorem sout0_C_0_eq (hc0 : ¬cond0_0 i) (hc1 : ¬cond0_1 i) (hc2 : cond0_2 i) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo10 xs0 (F := Ideal)
      = k0_pay2 (k0_pay15 x0 x7 x3 x4) (k0_pay16 x0 x7 x3) xs0 x5 x6 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo10 xs0)]
  unfold kernelRun0_C
  dsimp only
  sl_unfold_words
  rw [View.canon_cons_unit_zero origin2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) origin2, View.ld_unit_zero (S := S1x1024) origin2, View.ld_unit_zero (S := S1024x512) origin2, View.ld_unit_zero (S := S512x1024) origin2, View.readCov_unit_zero (S := S1024x1024) _ origin2, View.readCov_unit_zero (S := S1x1024) _ origin2, View.readCov_unit_zero (S := S1024x512) _ origin2, View.readCov_unit_zero (S := S512x1024) _ origin2]

theorem out0_D_11_eq (hc0 : cond0_0 i) (hc1 : ¬cond0_1 i) (hc2 : ¬cond0_2 i) :
    out0_D_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 (F := Ideal)
      = k0_pay15 x0 x7 x3 x4 := by
  unfold out0_D_11
  rw [View.read_writes_eq_canon _ _ _ (cover0_D_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8)]
  unfold kernelRun0_D
  dsimp only
  sl_unfold_words
  rw [View.canon_cons_unit_zero origin2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) origin2, View.ld_unit_zero (S := S1x1024) origin2, View.ld_unit_zero (S := S1024x512) origin2, View.ld_unit_zero (S := S512x1024) origin2, View.readCov_unit_zero (S := S1024x1024) _ origin2, View.readCov_unit_zero (S := S1x1024) _ origin2, View.readCov_unit_zero (S := S1024x512) _ origin2, View.readCov_unit_zero (S := S512x1024) _ origin2]

theorem out0_D_12_eq (hc0 : cond0_0 i) (hc1 : ¬cond0_1 i) (hc2 : ¬cond0_2 i) :
    out0_D_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 (F := Ideal)
      = k0_pay16 x0 x7 x3 := by
  unfold out0_D_12
  rw [View.read_writes_eq_canon _ _ _ (cover0_D_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8)]
  unfold kernelRun0_D
  dsimp only
  sl_unfold_words
  rw [View.canon_cons_unit_zero origin2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) origin2, View.ld_unit_zero (S := S1x1024) origin2, View.ld_unit_zero (S := S1024x512) origin2, View.ld_unit_zero (S := S512x1024) origin2, View.readCov_unit_zero (S := S1024x1024) _ origin2, View.readCov_unit_zero (S := S1x1024) _ origin2, View.readCov_unit_zero (S := S1024x512) _ origin2, View.readCov_unit_zero (S := S512x1024) _ origin2]

theorem out0_D_13_eq (hc0 : cond0_0 i) (hc1 : ¬cond0_1 i) (hc2 : ¬cond0_2 i) :
    out0_D_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 (F := Ideal)
      = k0_pay1 (k0_pay12 x4) (k0_pay14 x3) := by
  unfold out0_D_13
  rw [View.read_writes_eq_canon _ _ _ (cover0_D_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8)]
  unfold kernelRun0_D
  dsimp only
  sl_unfold_words
  rw [View.canon_cons_unit_zero origin2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) origin2, View.ld_unit_zero (S := S1x1024) origin2, View.ld_unit_zero (S := S1024x512) origin2, View.ld_unit_zero (S := S512x1024) origin2, View.readCov_unit_zero (S := S1024x1024) _ origin2, View.readCov_unit_zero (S := S1x1024) _ origin2, View.readCov_unit_zero (S := S1024x512) _ origin2, View.readCov_unit_zero (S := S512x1024) _ origin2]

theorem sout0_D_0_eq (hc0 : cond0_0 i) (hc1 : ¬cond0_1 i) (hc2 : ¬cond0_2 i) :
    sout0_D_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 (F := Ideal)
      = k0_pay2 (k0_pay15 x0 x7 x3 x4) (k0_pay16 x0 x7 x3) (k0_pay8 (F := Ideal)) x5 x6 := by
  unfold sout0_D_0
  rw [View.read_writes_eq_canon _ _ _ (scover0_D_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8)]
  unfold kernelRun0_D
  dsimp only
  sl_unfold_words
  rw [View.canon_cons_unit_zero origin2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) origin2, View.ld_unit_zero (S := S1x1024) origin2, View.ld_unit_zero (S := S1024x512) origin2, View.ld_unit_zero (S := S512x1024) origin2, View.readCov_unit_zero (S := S1024x1024) _ origin2, View.readCov_unit_zero (S := S1x1024) _ origin2, View.readCov_unit_zero (S := S1024x512) _ origin2, View.readCov_unit_zero (S := S512x1024) _ origin2]

end Cert.FfnBwd

end
-- ==== Proof.Step.Rms.lean ====
module

public import proofs.«01_k».proof.Proof.Step.Math

@[expose] public section

/-! # The normalisation and the gated feed-forward, as formulas

A token `n` is divided by the root of the mean of its squares and scaled by `g`; the projections, the gated
activations and their gradients are sums over these. Arrays are functions of natural indices. -/

noncomputable section

open Idealize Idealize.ShloMosaic
open scoped BigOperators

namespace Cert.Step

open Cert.Conv

/-- A row of extended reals. -/
abbrev Row (a : Nat) : Type := (⟨1, ![a]⟩ : Shape).Idx → EReal

/-- A row's entry, zero past its end. -/
def at1 {a : Nat} (x : Row a) (n : Nat) : EReal := if h : n < a then x (ix1 ⟨n, h⟩) else 0

theorem at1_ix1 {a : Nat} (x : Row a) (n : Fin a) : at1 x n.val = x (ix1 n) := by
  rw [at1, dif_pos n.isLt]

variable (x : Nat → Nat → EReal) (g : Nat → EReal)

/-- The mean of a token's squares, and the small constant. -/
def ms (n : Nat) : EReal :=
  Ideal.div (∑ k : Fin 1024, x n k.val * x n k.val) (Ideal.ofBits .f32 0x44800000#32) + Ideal.ofBits .f32 0x358637BD#32

/-- What a token is multiplied by. -/
def rs (n : Nat) : EReal := Ideal.rsqrt (ms x n)

/-- The normalised token. -/
def normed (n d : Nat) : EReal := x n d * rs x n * g d

/-- A projection of the normalised tokens. -/
def proj (w : Nat → Nat → EReal) (n k : Nat) : EReal := ∑ d : Fin 1024, normed x g n d.val * w d.val k

/-- The gradient of the scale, for the normalised tokens' cotangent `y`. -/
def gradScale (y : Nat → Nat → EReal) (d : Nat) : EReal := ∑ n : Fin 2048, x n.val d * rs x n.val * y n.val d

/-- What a token's cotangent has of the token itself. -/
def pull (y : Nat → Nat → EReal) (n : Nat) : EReal :=
  Ideal.div ((∑ d : Fin 1024, x n d.val * (y n d.val * g d.val)) * (Ideal.ofBits .f32 0xBF000000#32 * Ideal.div (rs x n) (ms x n)))
    (Ideal.ofBits .f32 0x44800000#32)

/-- The cotangent of the tokens: `z` besides the normalisation, `y` through it. -/
def gradToken (z y : Nat → Nat → EReal) (n d : Nat) : EReal :=
  z n d + (y n d * g d * rs x n + x n d * pull x g y n + pull x g y n * x n d)

theorem ms_read {N : Nat} (X : Arr N 1024) (n : Fin N) : ms (at2 X) n.val
    = Ideal.div (∑ k : Fin 1024, X (ix2 n k) * X (ix2 n k)) (Ideal.ofBits .f32 0x44800000#32) + Ideal.ofBits .f32 0x358637BD#32 := by
  simp only [ms, at2_ix2]

theorem proj_read {N K : Nat} (X : Arr N 1024) (G : Row 1024) (W : Arr 1024 K) (n : Fin N) (k : Fin K) :
    ∑ d : Fin 1024, X (ix2 n d) * Ideal.rsqrt (Ideal.div (∑ k : Fin 1024, X (ix2 n k) * X (ix2 n k)) (Ideal.ofBits .f32 0x44800000#32)
      + Ideal.ofBits .f32 0x358637BD#32) * G (ix1 d) * W (ix2 d k) = proj (at2 X) (at1 G) (at2 W) n.val k.val := by
  simp only [proj, normed, rs, ms, at2_ix2, at1_ix1]

/-- The sum over the tokens, 1024 at a time. -/
theorem gradScale_cut (y : Nat → Nat → EReal) (d : Nat) :
    gradScale x y d = ∑ s ∈ Finset.range 2, ∑ a : Fin 1024, x (1024 * s + a.val) d * rs x (1024 * s + a.val) * y (1024 * s + a.val) d := by
  rw [Finset.sum_range]
  exact sum_cut 2 1024 fun n => x n d * rs x n * y n d

/-! ## The gated feed-forward -/

/-- `g ↦ g · σ g`. -/
def silu (g : EReal) : EReal := g * Ideal.logistic g

/-- Its derivative, as the kernel writes it. -/
def siluSlope (g : EReal) : EReal := Ideal.logistic g * (1 + g * (1 - Ideal.logistic g))

/-- The activations' cotangent. -/
def gradAct (z : Nat → Nat → EReal) (wd : Nat → Nat → EReal) (n k : Nat) : EReal := ∑ d : Fin 1024, z n d.val * wd k d.val

/-- A gate's and an upward projection's cotangents, and their product. -/
def gradUp (a gt : Nat → Nat → EReal) (n k : Nat) : EReal := a n k * silu (gt n k)
def gradGate (a gt up : Nat → Nat → EReal) (n k : Nat) : EReal := a n k * up n k * siluSlope (gt n k)
def gated (gt up : Nat → Nat → EReal) (n k : Nat) : EReal := silu (gt n k) * up n k

/-- The normalised tokens' cotangent, through both projections. -/
def gradNormed (dg du : Nat → Nat → EReal) (wg wu : Nat → Nat → EReal) (n d : Nat) : EReal :=
  ∑ k : Fin 2816, dg n k.val * wg d k.val + ∑ k : Fin 2816, du n k.val * wu d k.val

/-- What a block of 512 padded columns adds to it. -/
def normedPart (dg du : Nat → Nat → EReal) (wg wu : Nat → Nat → EReal) (n d s : Nat) : EReal :=
  ∑ k : Fin 512, spread (dg n) (512 * s + k.val) * spread (wg d) (512 * s + k.val)
    + ∑ k : Fin 512, spread (du n) (512 * s + k.val) * spread (wu d) (512 * s + k.val)

theorem sum_blocks (f : Nat → EReal) :
    ∑ s ∈ Finset.range 6, ∑ k : Fin 512, spread f (512 * s + k.val) = ∑ k : Fin 2816, f k.val := by
  rw [Finset.sum_range, ← sum_spread]
  exact (sum_cut 6 512 (spread f)).symm

theorem normedPart_sum (dg du : Nat → Nat → EReal) (wg wu : Nat → Nat → EReal) (n d : Nat) :
    ∑ s ∈ Finset.range 6, normedPart dg du wg wu n d s = gradNormed dg du wg wu n d := by
  unfold normedPart gradNormed
  rw [Finset.sum_add_distrib]
  simp only [spread_mul]
  rw [sum_blocks, sum_blocks]

/-! ## Columns of zeros stay zeros -/

theorem spread_gradAct (z wd : Nat → Nat → EReal) (n p : Nat) :
    ∑ d : Fin 1024, z n d.val * spread (fun k => wd k d.val) p = spread (gradAct z wd n) p := by
  unfold spread
  split
  · rfl
  · simp only [mul_zero, Finset.sum_const_zero]

theorem spread_gradUp (a gt : Nat → Nat → EReal) (n p : Nat) :
    spread (a n) p * silu (spread (gt n) p) = spread (gradUp a gt n) p := by
  unfold spread
  split
  · rfl
  · rw [zero_mul]

theorem spread_gradGate (a gt up : Nat → Nat → EReal) (n p : Nat) :
    spread (a n) p * spread (up n) p * siluSlope (spread (gt n) p) = spread (gradGate a gt up n) p := by
  unfold spread
  split
  · rfl
  · rw [zero_mul, zero_mul]

theorem spread_gated (gt up : Nat → Nat → EReal) (n p : Nat) :
    silu (spread (gt n) p) * spread (up n) p = spread (gated gt up n) p := by
  unfold spread
  split
  · rfl
  · rw [mul_zero]

end Cert.Step

end
-- ==== Proof.FfnBwd.Blocks.lean ====
module

public import proofs.«01_k».proof.Proof.Step.Rms
public import proofs.«01_k».proof.Proof.Gen.Kernel3Ideal.Frame
public import Idealize.ShloMosaic.Lib.StableHlo.ReadAt

@[expose] public section

/-! # The backward feed-forward: what a grid point reads

The projections of the saved activations, padded to 8 groups of 384 columns, and the padded weights are the host's work in
front of the launch. A point's blocks are the tokens of its row block and the columns of its column block. -/

set_option maxRecDepth 16384

noncomputable section

open Idealize Idealize.ShloMosaic Idealize.ShloMosaic.TcCoe Idealize.SL.Sem
open scoped BigOperators
open Cert.Kernel3Ideal Cert.Kernel3Ideal.Gen

namespace Cert.FfnBwd

open Cert.Conv (at2 eq_at2)
open Cert.Step

variable (c : Dev nD) (m : (ℓ : Loc nD τ sig) → Buf (Elt Ideal) ℓ)

/-- The cotangent, the tokens, the scale and the three weights, as the launch finds them. -/
abbrev argDx : Arr 2048 1024 := m ((c : Thread nD τ).loc main_arg0)
abbrev argX : Arr 2048 1024 := m ((c : Thread nD τ).loc main_arg1)
abbrev argG : Row 1024 := m ((c : Thread nD τ).loc main_arg2)
abbrev argWg : Arr 1024 2816 := m ((c : Thread nD τ).loc main_arg3)
abbrev argWu : Arr 1024 2816 := m ((c : Thread nD τ).loc main_arg4)
abbrev argWd : Arr 2816 1024 := m ((c : Thread nD τ).loc main_arg5)

/-- The gate's and the upward projections. -/
abbrev gateOf : Nat → Nat → EReal := proj (at2 (argX c m)) (at1 (argG c m)) (at2 (argWg c m))
abbrev upOf : Nat → Nat → EReal := proj (at2 (argX c m)) (at1 (argG c m)) (at2 (argWu c m))

/-! ## The host's arrays -/

theorem host_gate (n : Fin 2048) (p : Fin 3072) : (V m c main_v17 : S2048x3072.Idx → EReal) (ix2 n p)
    = spread (gateOf c m n.val) p.val := by
  unfold V
  after_reads_at
  exact spread_dif (gateOf c m n.val) p.val p.isLt _ _ int_zero
    fun h => proj_read (argX c m) (argG c m) (argWg c m) n ⟨p.val / 384 * 352 + p.val % 384, by omega⟩

theorem host_up (n : Fin 2048) (p : Fin 3072) : (V m c main_v22 : S2048x3072.Idx → EReal) (ix2 n p)
    = spread (upOf c m n.val) p.val := by
  unfold V
  after_reads_at
  exact spread_dif (upOf c m n.val) p.val p.isLt _ _ int_zero
    fun h => proj_read (argX c m) (argG c m) (argWu c m) n ⟨p.val / 384 * 352 + p.val % 384, by omega⟩

theorem host_wg (p : Fin 3072) (d : Fin 1024) : (V m c main_v28 : S3072x1024.Idx → EReal) (ix2 p d)
    = spread (at2 (argWg c m) d.val) p.val := by
  unfold V
  after_reads_at
  exact spread_dif (at2 (argWg c m) d.val) p.val p.isLt (fun h => argWg c m (ix2 d ⟨p.val / 384 * 352 + p.val % 384, by omega⟩)) _
    int_zero fun h => (at2_lt _ _ _ d.isLt _).symm

theorem host_wu (p : Fin 3072) (d : Fin 1024) : (V m c main_v33 : S3072x1024.Idx → EReal) (ix2 p d)
    = spread (at2 (argWu c m) d.val) p.val := by
  unfold V
  after_reads_at
  exact spread_dif (at2 (argWu c m) d.val) p.val p.isLt (fun h => argWu c m (ix2 d ⟨p.val / 384 * 352 + p.val % 384, by omega⟩)) _
    int_zero fun h => (at2_lt _ _ _ d.isLt _).symm

theorem host_wd (p : Fin 3072) (d : Fin 1024) : (V m c main_v37 : S3072x1024.Idx → EReal) (ix2 p d)
    = spread (fun k => at2 (argWd c m) k d.val) p.val := by
  unfold V
  after_reads_at
  exact spread_dif (fun k => at2 (argWd c m) k d.val) p.val p.isLt (fun h => argWd c m (ix2 ⟨p.val / 384 * 352 + p.val % 384, by omega⟩ d)) _
    int_zero fun h => (at2_lt _ _ _ _ d.isLt).symm

theorem host_g (z : Fin 1) (d : Fin 1024) : (V m c main_v23 : S1x1024.Idx → EReal) (ix2 z d) = at1 (argG c m) d.val := by
  unfold V
  after_reads_at
  exact (at1_ix1 (argG c m) d).symm

/-! ## The blocks -/

theorem points12 : cfg0.N = 12 := N_0

theorem at_index0 : ∀ t : Fin cfg0.N, win0_0.index t 0 = t.val / 6 ∧ win0_0.index t 1 = 0 := (by decide +kernel : ∀ t : Fin grid0.N, _)
theorem at_index1 : ∀ t : Fin cfg0.N, win0_1.index t 0 = t.val / 6 ∧ win0_1.index t 1 = 0 := (by decide +kernel : ∀ t : Fin grid0.N, _)
theorem at_index2 : ∀ t : Fin cfg0.N, win0_2.index t 0 = 0 ∧ win0_2.index t 1 = 0 := (by decide +kernel : ∀ t : Fin grid0.N, _)
theorem at_index3 : ∀ t : Fin cfg0.N, win0_3.index t 0 = t.val / 6 ∧ win0_3.index t 1 = t.val % 6 := (by decide +kernel : ∀ t : Fin grid0.N, _)
theorem at_index4 : ∀ t : Fin cfg0.N, win0_4.index t 0 = t.val / 6 ∧ win0_4.index t 1 = t.val % 6 := (by decide +kernel : ∀ t : Fin grid0.N, _)
theorem at_index5 : ∀ t : Fin cfg0.N, win0_5.index t 0 = t.val % 6 ∧ win0_5.index t 1 = 0 := (by decide +kernel : ∀ t : Fin grid0.N, _)
theorem at_index6 : ∀ t : Fin cfg0.N, win0_6.index t 0 = t.val % 6 ∧ win0_6.index t 1 = 0 := (by decide +kernel : ∀ t : Fin grid0.N, _)
theorem at_index7 : ∀ t : Fin cfg0.N, win0_7.index t 0 = t.val % 6 ∧ win0_7.index t 1 = 0 := (by decide +kernel : ∀ t : Fin grid0.N, _)
theorem at_index9 : ∀ t : Fin cfg0.N, win0_9.index t 0 = t.val / 6 ∧ win0_9.index t 1 = 0 := (by decide +kernel : ∀ t : Fin grid0.N, _)
theorem at_index10 : ∀ t : Fin cfg0.N, win0_10.index t 0 = 0 ∧ win0_10.index t 1 = 0 := (by decide +kernel : ∀ t : Fin grid0.N, _)
theorem at_index11 : ∀ t : Fin cfg0.N, win0_11.index t 0 = t.val / 6 ∧ win0_11.index t 1 = t.val % 6 := (by decide +kernel : ∀ t : Fin grid0.N, _)
theorem at_index12 : ∀ t : Fin cfg0.N, win0_12.index t 0 = t.val / 6 ∧ win0_12.index t 1 = t.val % 6 := (by decide +kernel : ∀ t : Fin grid0.N, _)
theorem at_index13 : ∀ t : Fin cfg0.N, win0_13.index t 0 = t.val / 6 ∧ win0_13.index t 1 = t.val % 6 := (by decide +kernel : ∀ t : Fin grid0.N, _)

variable (t : Fin cfg0.N)

/-- The token a row of the point's blocks stands for, and the padded column a column stands for. -/
abbrev tok (a : Nat) : Nat := 1024 * (t.val / 6) + a
abbrev col (k : Nat) : Nat := 512 * (t.val % 6) + k

theorem tok_lt (a : Fin 1024) : tok t a.val < 2048 := by
  have ht : t.val < 12 := lt_of_lt_of_eq t.isLt points12
  have := a.isLt
  unfold tok
  omega

theorem col_lt (k : Fin 512) : col t k.val < 3072 := by
  have := k.isLt
  unfold col
  omega

theorem read0 (a : Fin 1024) (d : Fin 1024) : (iblk m c 0 t : S1024x1024.Idx → EReal) (ix2 a d)
    = at2 (argDx c m) (tok t a.val) d.val := by
  obtain ⟨e0, e1⟩ := at_index0 t
  refine (eq_at2 (V m c main_arg0 : Arr 2048 1024) _ (1024 * (t.val / 6) + a.val) d.val (show win0_0.index t 0 * 1024 + 1 * a.val = _ by rw [e0]; omega)
    (show win0_0.index t 1 * 1024 + 1 * d.val = _ by rw [e1]; omega)).trans ?_
  rw [V_main_arg0]

theorem read1 (a : Fin 1024) (d : Fin 1024) : (iblk m c 1 t : S1024x1024.Idx → EReal) (ix2 a d)
    = at2 (argX c m) (tok t a.val) d.val := by
  obtain ⟨e0, e1⟩ := at_index1 t
  refine (eq_at2 (V m c main_arg1 : Arr 2048 1024) _ (1024 * (t.val / 6) + a.val) d.val (show win0_1.index t 0 * 1024 + 1 * a.val = _ by rw [e0]; omega)
    (show win0_1.index t 1 * 1024 + 1 * d.val = _ by rw [e1]; omega)).trans ?_
  rw [V_main_arg1]

theorem read2 (z : Fin 1) (d : Fin 1024) : (iblk m c 2 t : S1x1024.Idx → EReal) (ix2 z d)
    = at1 (argG c m) d.val := by
  obtain ⟨e0, e1⟩ := at_index2 t
  refine (eq_at2 (V m c main_v23 : Arr 1 1024) _ z.val d.val (show win0_2.index t 0 * 1 + 1 * z.val = _ by rw [e0]; omega)
    (show win0_2.index t 1 * 1024 + 1 * d.val = _ by rw [e1]; omega)).trans ?_
  exact (at2_ix2 _ z d).trans (host_g c m z d)

theorem read3 (a : Fin 1024) (k : Fin 512) : (iblk m c 3 t : S1024x512.Idx → EReal) (ix2 a k)
    = spread (gateOf c m (tok t a.val)) (col t k.val) := by
  obtain ⟨e0, e1⟩ := at_index3 t
  refine (eq_at2 (V m c main_v17 : Arr 2048 3072) _ (1024 * (t.val / 6) + a.val) (512 * (t.val % 6) + k.val) (show win0_3.index t 0 * 1024 + 1 * a.val = _ by rw [e0]; omega)
    (show win0_3.index t 1 * 512 + 1 * k.val = _ by rw [e1]; omega)).trans ?_
  exact (at2_lt _ _ _ (tok_lt t a) (col_lt t k)).trans (host_gate c m ⟨_, tok_lt t a⟩ ⟨_, col_lt t k⟩)

theorem read4 (a : Fin 1024) (k : Fin 512) : (iblk m c 4 t : S1024x512.Idx → EReal) (ix2 a k)
    = spread (upOf c m (tok t a.val)) (col t k.val) := by
  obtain ⟨e0, e1⟩ := at_index4 t
  refine (eq_at2 (V m c main_v22 : Arr 2048 3072) _ (1024 * (t.val / 6) + a.val) (512 * (t.val % 6) + k.val) (show win0_4.index t 0 * 1024 + 1 * a.val = _ by rw [e0]; omega)
    (show win0_4.index t 1 * 512 + 1 * k.val = _ by rw [e1]; omega)).trans ?_
  exact (at2_lt _ _ _ (tok_lt t a) (col_lt t k)).trans (host_up c m ⟨_, tok_lt t a⟩ ⟨_, col_lt t k⟩)

theorem read5 (k : Fin 512) (d : Fin 1024) : (iblk m c 5 t : S512x1024.Idx → EReal) (ix2 k d)
    = spread (at2 (argWg c m) d.val) (col t k.val) := by
  obtain ⟨e0, e1⟩ := at_index5 t
  refine (eq_at2 (V m c main_v28 : Arr 3072 1024) _ (512 * (t.val % 6) + k.val) d.val (show win0_5.index t 0 * 512 + 1 * k.val = _ by rw [e0]; omega)
    (show win0_5.index t 1 * 1024 + 1 * d.val = _ by rw [e1]; omega)).trans ?_
  exact (at2_lt _ _ _ (col_lt t k) d.isLt).trans (host_wg c m ⟨_, col_lt t k⟩ d)

theorem read6 (k : Fin 512) (d : Fin 1024) : (iblk m c 6 t : S512x1024.Idx → EReal) (ix2 k d)
    = spread (at2 (argWu c m) d.val) (col t k.val) := by
  obtain ⟨e0, e1⟩ := at_index6 t
  refine (eq_at2 (V m c main_v33 : Arr 3072 1024) _ (512 * (t.val % 6) + k.val) d.val (show win0_6.index t 0 * 512 + 1 * k.val = _ by rw [e0]; omega)
    (show win0_6.index t 1 * 1024 + 1 * d.val = _ by rw [e1]; omega)).trans ?_
  exact (at2_lt _ _ _ (col_lt t k) d.isLt).trans (host_wu c m ⟨_, col_lt t k⟩ d)

theorem read7 (k : Fin 512) (d : Fin 1024) : (iblk m c 7 t : S512x1024.Idx → EReal) (ix2 k d)
    = spread (fun q => at2 (argWd c m) q d.val) (col t k.val) := by
  obtain ⟨e0, e1⟩ := at_index7 t
  refine (eq_at2 (V m c main_v37 : Arr 3072 1024) _ (512 * (t.val % 6) + k.val) d.val (show win0_7.index t 0 * 512 + 1 * k.val = _ by rw [e0]; omega)
    (show win0_7.index t 1 * 1024 + 1 * d.val = _ by rw [e1]; omega)).trans ?_
  exact (at2_lt _ _ _ (col_lt t k) d.isLt).trans (host_wd c m ⟨_, col_lt t k⟩ d)

end Cert.FfnBwd

end
-- ==== Proof.FfnBwd.Grid.lean ====
module

public import proofs.«01_k».proof.Proof.FfnBwd.Points
public import proofs.«01_k».proof.Proof.FfnBwd.Blocks

@[expose] public section

/-! # The backward feed-forward: over the grid

The sum a row block carries, the scale's gradient the whole grid carries, and what every point hands on. -/

set_option maxRecDepth 16384

noncomputable section

open Idealize Idealize.ShloMosaic Idealize.ShloMosaic.TcCoe Idealize.SL.Sem
open scoped BigOperators
open Cert.Kernel3Ideal Cert.Kernel3Ideal.Gen

namespace Cert.FfnBwd

open Cert.Conv (at2 eq_at2)
open Cert.Step

/-! ## The payloads, at an index -/

section
variable (x0 x1 y : Vec Ideal S1024x1024 .f32) (x2 u v : Vec Ideal S1x1024 .f32) (x3 x4 : Vec Ideal S1024x512 .bf16)
  (x5 x6 x7 : Vec Ideal S512x1024 .bf16) (a d : Fin 1024) (z : Fin 1) (k : Fin 512)

theorem pay4_apply : (k0_pay4 (F := Ideal) x1 : S1024x1.Idx → EReal) (ix2 a z)
    = Ideal.div (∑ k : Fin 1024, x1 (ix2 a k) * x1 (ix2 a k)) (Ideal.ofBits .f32 0x44800000#32) + Ideal.ofBits .f32 0x358637BD#32 := by
  pointwise [k0_pay4]

theorem pay6_apply : (k0_pay6 (F := Ideal) x1 y : S1x1024.Idx → EReal) (ix2 z d)
    = ∑ a : Fin 1024, x1 (ix2 a d) * Ideal.rsqrt ((k0_pay4 (F := Ideal) x1 : S1024x1.Idx → EReal) (ix2 a 0)) * y (ix2 a d) := by
  pointwise [k0_pay6, k0_pay5]

theorem pay15_apply : (k0_pay15 (F := Ideal) x0 x7 x3 x4 : S1024x512.Idx → EReal) (ix2 a k)
    = (∑ d : Fin 1024, x0 (ix2 a d) * x7 (ix2 k d)) * x4 (ix2 a k) * siluSlope (x3 (ix2 a k)) := by
  pointwise [k0_pay15, k0_pay10, k0_pay11, k0_pay12, k0_pay13]
  rfl

theorem pay16_apply : (k0_pay16 (F := Ideal) x0 x7 x3 : S1024x512.Idx → EReal) (ix2 a k)
    = (∑ d : Fin 1024, x0 (ix2 a d) * x7 (ix2 k d)) * silu (x3 (ix2 a k)) := by
  pointwise [k0_pay16, k0_pay10, k0_pay11, k0_pay13, k0_pay14]
  rfl

theorem pay1_apply : (k0_pay1 (F := Ideal) (k0_pay12 x4) (k0_pay14 x3) : S1024x512.Idx → EReal) (ix2 a k)
    = silu (x3 (ix2 a k)) * x4 (ix2 a k) := by
  pointwise [k0_pay1, k0_pay11, k0_pay12, k0_pay13, k0_pay14]
  rfl

theorem pay2_apply : (k0_pay2 (F := Ideal) x3 x4 y x5 x6 : S1024x1024.Idx → EReal) (ix2 a d)
    = y (ix2 a d) + (∑ k : Fin 512, x3 (ix2 a k) * x5 (ix2 k d) + ∑ k : Fin 512, x4 (ix2 a k) * x6 (ix2 k d)) := by
  pointwise [k0_pay2]

theorem pay3_apply : (k0_pay3 (F := Ideal) u v : S1x1024.Idx → EReal) (ix2 z d) = v (ix2 z d) + u (ix2 z d) := by
  pointwise [k0_pay3]

theorem pay8_apply : (k0_pay8 (F := Ideal) : S1024x1024.Idx → EReal) (ix2 a d) = 0 := by
  pointwise [k0_pay8]

theorem pay9_apply : (k0_pay9 (F := Ideal) : S1x1024.Idx → EReal) (ix2 z d) = 0 := by
  pointwise [k0_pay9]

/-- The last point's result, from functions that agree with its blocks. -/
theorem pay7_apply (X Y Z : Nat → Nat → EReal) (G : Nat → EReal) (n : Nat) (hx : ∀ d : Fin 1024, x1 (ix2 a d) = X n d.val)
    (hy : ∀ d : Fin 1024, y (ix2 a d) = Y n d.val) (hz : ∀ d : Fin 1024, x0 (ix2 a d) = Z n d.val)
    (hg : ∀ d : Fin 1024, x2 (ix2 0 d) = G d.val) :
    (k0_pay7 (F := Ideal) x1 x2 y x0 : S1024x1024.Idx → EReal) (ix2 a d) = gradToken X G Z Y n d.val := by
  have hm : (k0_pay4 (F := Ideal) x1 : S1024x1.Idx → EReal) (ix2 a 0) = ms X n := by
    rw [pay4_apply]; simp only [hx, ms]
  pointwise [k0_pay7, k0_pay5]
  simp only [Fin.sum_univ_one, hm, hx, hy, hz, hg]
  rfl
end

/-! ## Points -/

variable (c : Dev nD) (m : (ℓ : Loc nD τ sig) → Buf (Elt Ideal) ℓ)

/-- The activations' cotangent, the gate's and the upward projection's, and the normalised tokens'. -/
abbrev gaOf : Nat → Nat → EReal := gradAct (at2 (argDx c m)) (at2 (argWd c m))
abbrev dgOf : Nat → Nat → EReal := gradGate (gaOf c m) (gateOf c m) (upOf c m)
abbrev duOf : Nat → Nat → EReal := gradUp (gaOf c m) (gateOf c m)
abbrev actOf : Nat → Nat → EReal := gated (gateOf c m) (upOf c m)
abbrev dnOf : Nat → Nat → EReal := gradNormed (dgOf c m) (duOf c m) (at2 (argWg c m)) (at2 (argWu c m))

section
variable (t : Fin cfg0.N)

abbrev dgAt : Vec Ideal S1024x512 .bf16 := k0_pay15 (F := Ideal) (iblk m c 0 t) (iblk m c 7 t) (iblk m c 3 t) (iblk m c 4 t)
abbrev duAt : Vec Ideal S1024x512 .bf16 := k0_pay16 (F := Ideal) (iblk m c 0 t) (iblk m c 7 t) (iblk m c 3 t)
abbrev acAt : Vec Ideal S1024x512 .bf16 := k0_pay1 (F := Ideal) (k0_pay12 (iblk m c 4 t)) (k0_pay14 (iblk m c 3 t))

theorem act_sum (x0 : Vec Ideal S1024x1024 .f32) (x7 : Vec Ideal S512x1024 .bf16) (e0 : x0 = iblk m c 0 t) (e7 : x7 = iblk m c 7 t)
    (a : Fin 1024) (k : Fin 512) : ∑ d : Fin 1024, x0 (ix2 a d) * x7 (ix2 k d) = spread (gaOf c m (tok t a.val)) (col t k.val) := by
  subst e0 e7
  rw [← spread_gradAct]
  exact Finset.sum_congr rfl fun d _ => congrArg₂ (fun p q : EReal => p * q) (read0 c m t a d) (read7 c m t k d)

theorem dg_at (a : Fin 1024) (k : Fin 512) : (dgAt c m t : S1024x512.Idx → EReal) (ix2 a k) = spread (dgOf c m (tok t a.val)) (col t k.val) := by
  refine (pay15_apply _ _ _ _ a k).trans ?_
  rw [act_sum c m t _ _ rfl rfl, read3, read4, spread_gradGate]

theorem du_at (a : Fin 1024) (k : Fin 512) : (duAt c m t : S1024x512.Idx → EReal) (ix2 a k) = spread (duOf c m (tok t a.val)) (col t k.val) := by
  refine (pay16_apply _ _ _ a k).trans ?_
  rw [act_sum c m t _ _ rfl rfl, read3, spread_gradUp]

theorem ac_at (a : Fin 1024) (k : Fin 512) : (acAt c m t : S1024x512.Idx → EReal) (ix2 a k) = spread (actOf c m (tok t a.val)) (col t k.val) := by
  refine (pay1_apply _ _ a k).trans ?_
  rw [read3, read4, spread_gated]

/-- What a point adds to the carried sum. -/
theorem add_at (y : Vec Ideal S1024x1024 .f32) (a d : Fin 1024) :
    (k0_pay2 (F := Ideal) (dgAt c m t) (duAt c m t) y (iblk m c 5 t) (iblk m c 6 t) : S1024x1024.Idx → EReal) (ix2 a d)
      = y (ix2 a d) + normedPart (dgOf c m) (duOf c m) (at2 (argWg c m)) (at2 (argWu c m)) (tok t a.val) d.val (t.val % 6) := by
  refine (pay2_apply _ _ _ _ _ a d).trans (congrArg (y (ix2 a d) + ·) (congrArg₂ (· + ·) ?_ ?_))
  · exact Finset.sum_congr rfl fun k _ => congrArg₂ (· * ·) (dg_at c m t a k) (read5 c m t k d)
  · exact Finset.sum_congr rfl fun k _ => congrArg₂ (· * ·) (du_at c m t a k) (read6 c m t k d)

/-! What the frame's cases leave. -/

theorem out11 : (outsAt0 m c t.val t.isLt).2.2.1 = dgAt c m t := by
  by_cases h0 : t.val % 6 = 0
  · by_cases h1 : t.val % 12 = 0
    · rw [outsAt0_A m c t h0 h1 (by omega)]; dsimp only; rw [out0_A_11_eq]
    · rw [outsAt0_D m c t h0 h1 (by omega)]; dsimp only; rw [out0_D_11_eq]
  · by_cases h2 : t.val % 6 = 5
    · rw [outsAt0_C m c t h0 (by omega) h2]; dsimp only; rw [out0_C_11_eq]
    · rw [outsAt0_B m c t h0 (by omega) h2]; dsimp only; rw [out0_B_11_eq]

theorem out12 : (outsAt0 m c t.val t.isLt).2.2.2.1 = duAt c m t := by
  by_cases h0 : t.val % 6 = 0
  · by_cases h1 : t.val % 12 = 0
    · rw [outsAt0_A m c t h0 h1 (by omega)]; dsimp only; rw [out0_A_12_eq]
    · rw [outsAt0_D m c t h0 h1 (by omega)]; dsimp only; rw [out0_D_12_eq]
  · by_cases h2 : t.val % 6 = 5
    · rw [outsAt0_C m c t h0 (by omega) h2]; dsimp only; rw [out0_C_12_eq]
    · rw [outsAt0_B m c t h0 (by omega) h2]; dsimp only; rw [out0_B_12_eq]

theorem out13 : (outsAt0 m c t.val t.isLt).2.2.2.2.1 = acAt c m t := by
  by_cases h0 : t.val % 6 = 0
  · by_cases h1 : t.val % 12 = 0
    · rw [outsAt0_A m c t h0 h1 (by omega)]; dsimp only; rw [out0_A_13_eq]
    · rw [outsAt0_D m c t h0 h1 (by omega)]; dsimp only; rw [out0_D_13_eq]
  · by_cases h2 : t.val % 6 = 5
    · rw [outsAt0_C m c t h0 (by omega) h2]; dsimp only; rw [out0_C_13_eq]
    · rw [outsAt0_B m c t h0 (by omega) h2]; dsimp only; rw [out0_B_13_eq]

theorem acc_first (h0 : t.val % 6 = 0) : (outsAt0 m c t.val t.isLt).2.2.2.2.2
    = k0_pay2 (F := Ideal) (dgAt c m t) (duAt c m t) (k0_pay8 (F := Ideal)) (iblk m c 5 t) (iblk m c 6 t) := by
  by_cases h1 : t.val % 12 = 0
  · rw [outsAt0_A m c t h0 h1 (by omega)]; dsimp only; rw [sout0_A_0_eq]
  · rw [outsAt0_D m c t h0 h1 (by omega)]; dsimp only; rw [sout0_D_0_eq]

theorem acc_next (h0 : ¬t.val % 6 = 0) : (outsAt0 m c t.val t.isLt).2.2.2.2.2
    = k0_pay2 (F := Ideal) (dgAt c m t) (duAt c m t) (outsAt0 m c (t.val - 1) (Nat.lt_of_le_of_lt (Nat.sub_le _ _) t.isLt)).2.2.2.2.2
        (iblk m c 5 t) (iblk m c 6 t) := by
  by_cases h2 : t.val % 6 = 5
  · rw [outsAt0_C m c t h0 (by omega) h2]; dsimp only; rw [sout0_C_0_eq]
  · rw [outsAt0_B m c t h0 (by omega) h2]; dsimp only; rw [sout0_B_0_eq]

theorem out9_last (h2 : t.val % 6 = 5) : (outsAt0 m c t.val t.isLt).1
    = k0_pay7 (F := Ideal) (iblk m c 1 t) (iblk m c 2 t) (outsAt0 m c t.val t.isLt).2.2.2.2.2 (iblk m c 0 t) := by
  rw [acc_next c m t (by omega), outsAt0_C m c t (by omega) (by omega) h2]; dsimp only; rw [out0_C_9_eq]

theorem out10_first (h1 : t.val % 12 = 0) : (outsAt0 m c t.val t.isLt).2.1 = k0_pay9 (F := Ideal) := by
  rw [outsAt0_A m c t (by omega) h1 (by omega)]; dsimp only; rw [out0_A_10_eq]

theorem out10_keep (h1 : ¬t.val % 12 = 0) (h2 : ¬t.val % 6 = 5) : (outsAt0 m c t.val t.isLt).2.1
    = (outsAt0 m c (t.val - 1) (Nat.lt_of_le_of_lt (Nat.sub_le _ _) t.isLt)).2.1 := by
  by_cases h0 : t.val % 6 = 0
  · rw [outsAt0_D m c t h0 h1 h2]; dsimp only; unfold out0_D_10; rfl
  · rw [outsAt0_B m c t h0 h1 h2]; dsimp only; unfold out0_B_10; rfl

theorem out10_last (h2 : t.val % 6 = 5) : (outsAt0 m c t.val t.isLt).2.1
    = k0_pay3 (F := Ideal) (k0_pay6 (F := Ideal) (iblk m c 1 t) (outsAt0 m c t.val t.isLt).2.2.2.2.2)
        (outsAt0 m c (t.val - 1) (Nat.lt_of_le_of_lt (Nat.sub_le _ _) t.isLt)).2.1 := by
  rw [acc_next c m t (by omega), outsAt0_C m c t (by omega) (by omega) h2]; dsimp only; rw [out0_C_10_eq]

end

/-! ## The carried sums -/

/-- After point `n` the row block's sum holds the parts of the column blocks up to its own. -/
theorem acc_at : ∀ (n : Nat) (h : n < cfg0.N) (a d : Fin 1024), ((outsAt0 m c n h).2.2.2.2.2 : S1024x1024.Idx → EReal) (ix2 a d)
    = ∑ s ∈ Finset.range (n % 6 + 1), normedPart (dgOf c m) (duOf c m) (at2 (argWg c m)) (at2 (argWu c m)) (1024 * (n / 6) + a.val) d.val s := by
  intro n
  induction n with
  | zero =>
    intro h a d
    rw [acc_first c m ⟨0, h⟩ rfl, add_at, pay8_apply, zero_add]
    exact (Finset.sum_range_one _).symm
  | succ n ih =>
    intro h a d
    by_cases h0 : (n + 1) % 6 = 0
    · rw [acc_first c m ⟨n + 1, h⟩ h0, add_at, pay8_apply, zero_add]
      dsimp only
      rw [h0]
      exact (Finset.sum_range_one _).symm
    · rw [acc_next c m ⟨n + 1, h⟩ h0, add_at]
      refine (congrArg (· + _) (ih (Nat.lt_of_succ_lt h) a d)).trans ?_
      rw [Finset.sum_range_succ _ ((n + 1) % 6), show (n + 1) % 6 = n % 6 + 1 by omega, show (n + 1) / 6 = n / 6 by omega]
      rw [show tok (⟨n + 1, h⟩ : Fin cfg0.N) a.val = 1024 * (n / 6) + a.val by unfold tok; dsimp only; omega]

theorem acc_last (t : Fin cfg0.N) (h2 : t.val % 6 = 5) (a d : Fin 1024) :
    ((outsAt0 m c t.val t.isLt).2.2.2.2.2 : S1024x1024.Idx → EReal) (ix2 a d) = dnOf c m (tok t a.val) d.val := by
  rw [acc_at, h2]
  exact normedPart_sum _ _ _ _ _ _

theorem scale_at : ∀ (n : Nat) (h : n < cfg0.N) (z : Fin 1) (d : Fin 1024), ((outsAt0 m c n h).2.1 : S1x1024.Idx → EReal) (ix2 z d)
    = ∑ s ∈ Finset.range ((n + 1) / 6), ∑ a : Fin 1024, at2 (argX c m) (1024 * s + a.val) d.val
        * rs (at2 (argX c m)) (1024 * s + a.val) * dnOf c m (1024 * s + a.val) d.val := by
  intro n
  induction n with
  | zero =>
    intro h z d
    rw [out10_first c m ⟨0, h⟩ rfl, pay9_apply]
    rfl
  | succ n ih =>
    intro h z d
    by_cases h2 : (n + 1) % 6 = 5
    · rw [out10_last c m ⟨n + 1, h⟩ h2, pay3_apply]
      rw [show (n + 1 + 1) / 6 = (n + 1) / 6 + 1 by omega, Finset.sum_range_succ]
      refine congrArg₂ (· + ·) (ih (Nat.lt_of_succ_lt h) z d) ((pay6_apply _ _ d z).trans (Finset.sum_congr rfl fun a _ => ?_))
      rw [pay4_apply, acc_last c m ⟨n + 1, h⟩ h2]
      simp only [read1]
      rfl
    · have hN : n + 1 < 12 := lt_of_lt_of_eq h points12
      rw [out10_keep c m ⟨n + 1, h⟩ (by dsimp only; omega) h2]
      refine (ih (Nat.lt_of_succ_lt h) z d).trans ?_
      rw [show (n + 1 + 1) / 6 = (n + 1) / 6 by omega]

theorem scale_last (t : Fin cfg0.N) (h : t.val % 12 = 11) (z : Fin 1) (d : Fin 1024) :
    ((outsAt0 m c t.val t.isLt).2.1 : S1x1024.Idx → EReal) (ix2 z d) = gradScale (at2 (argX c m)) (dnOf c m) d.val := by
  have ht : t.val < 12 := lt_of_lt_of_eq t.isLt points12
  rw [scale_at, gradScale_cut, show (t.val + 1) / 6 = 2 by omega]

theorem token_last (t : Fin cfg0.N) (h2 : t.val % 6 = 5) (a d : Fin 1024) :
    ((outsAt0 m c t.val t.isLt).1 : S1024x1024.Idx → EReal) (ix2 a d)
      = gradToken (at2 (argX c m)) (at1 (argG c m)) (at2 (argDx c m)) (dnOf c m) (tok t a.val) d.val := by
  rw [out9_last c m t h2]
  exact pay7_apply _ _ _ _ a d _ _ _ _ _ (fun d => read1 c m t a d) (fun d => acc_last c m t h2 a d) (fun d => read0 c m t a d)
    (fun d => read2 c m t 0 d)

end Cert.FfnBwd

end
-- ==== Proof.FfnBwd.Final.lean ====
module

public import proofs.«01_k».proof.Proof.FfnBwd.Grid
public import Idealize.ShloMosaic.Lib.Pipeline.ValueKit

@[expose] public section

/-! # The backward feed-forward: the result arrays -/

set_option maxRecDepth 16384

noncomputable section

open Idealize Idealize.ShloMosaic Idealize.ShloMosaic.TcCoe Idealize.SL.Sem
open scoped BigOperators
open Cert.Kernel3Ideal Cert.Kernel3Ideal.Gen

namespace Cert.FfnBwd

open Cert.Conv (at2 eq_at2)
open Cert.Step

/-! ## The results, as functions of the six arguments -/

section
variable (dx x : Arr 2048 1024) (g : Row 1024) (wg wu : Arr 1024 2816) (wd : Arr 2816 1024)

abbrev gateF : Nat → Nat → EReal := proj (at2 x) (at1 g) (at2 wg)
abbrev upF : Nat → Nat → EReal := proj (at2 x) (at1 g) (at2 wu)
abbrev dgF : Nat → Nat → EReal := gradGate (gradAct (at2 dx) (at2 wd)) (gateF x g wg) (upF x g wu)
abbrev duF : Nat → Nat → EReal := gradUp (gradAct (at2 dx) (at2 wd)) (gateF x g wg)
abbrev dnF : Nat → Nat → EReal := gradNormed (dgF dx x g wg wu wd) (duF dx x g wg wd) (at2 wg) (at2 wu)

/-- The cotangent of the layer's input. -/
def resTok (j : S2048x1024.Idx) : EReal := gradToken (at2 x) (at1 g) (at2 dx) (dnF dx x g wg wu wd) (j 0).val (j 1).val

/-- The gradient of the normalisation's scale. -/
def resScale (j : S1x1024.Idx) : EReal := gradScale (at2 x) (dnF dx x g wg wu wd) (j 1).val

/-- The cotangents of the gate and of the upward projection, and the gated activations, in padded groups. -/
def resGate (j : S2048x3072.Idx) : EReal := spread (dgF dx x g wg wu wd (j 0).val) (j 1).val
def resUp (j : S2048x3072.Idx) : EReal := spread (duF dx x g wg wd (j 0).val) (j 1).val
def resAct (j : S2048x3072.Idx) : EReal := spread (gated (gateF x g wg) (upF x g wu) (j 0).val) (j 1).val
end

variable (c : Dev nD) (m : (ℓ : Loc nD τ sig) → Buf (Elt Ideal) ℓ)

theorem final9 : (dats m 0 c).arrAt 9 cfg0.N = resTok (argDx c m) (argX c m) (argG c m) (argWg c m) (argWu c m) (argWd c m) := by
  refine (dats m 0 c).arrAt_eq_of_covers 9 _ (by decide +kernel) fun t hf y => ?_
  obtain ⟨e0, e1⟩ := at_index9 t
  blk_simp
  rw [after0_9]
  refine ((congrArg (outsAt0 m c t.val t.isLt).1 (eq_ix2 y)).trans (token_last c m t ((flush0_9 t).mp hf) (y 0) (y 1))).trans
    (congrArg₂ (gradToken (at2 (argX c m)) (at1 (argG c m)) (at2 (argDx c m)) (dnOf c m)) ?_ ?_)
  · show tok t (y 0).val = win0_9.index t 0 * 1024 + 1 * (y 0).val
    rw [e0]; unfold tok; omega
  · show _ = win0_9.index t 1 * 1024 + 1 * (y 1).val
    rw [e1]; omega

theorem final10 : (dats m 0 c).arrAt 10 cfg0.N = resScale (argDx c m) (argX c m) (argG c m) (argWg c m) (argWu c m) (argWd c m) := by
  refine (dats m 0 c).arrAt_eq_of_covers 10 _ (by decide +kernel) fun t hf y => ?_
  obtain ⟨e0, e1⟩ := at_index10 t
  blk_simp
  rw [after0_10]
  refine ((congrArg (outsAt0 m c t.val t.isLt).2.1 (eq_ix2 y)).trans (scale_last c m t ((flush0_10 t).mp hf) (y 0) (y 1))).trans
    (congrArg (gradScale (at2 (argX c m)) (dnOf c m)) ?_)
  show _ = win0_10.index t 1 * 1024 + 1 * (y 1).val
  rw [e1]; omega

theorem final11 : (dats m 0 c).arrAt 11 cfg0.N = resGate (argDx c m) (argX c m) (argG c m) (argWg c m) (argWu c m) (argWd c m) := by
  refine (dats m 0 c).arrAt_eq_of_covers 11 _ (by decide +kernel) fun t hf y => ?_
  obtain ⟨e0, e1⟩ := at_index11 t
  blk_simp
  rw [after0_11, out11]
  refine ((congrArg (dgAt c m t) (eq_ix2 y)).trans (dg_at c m t (y 0) (y 1))).trans
    (congrArg₂ (fun n p => spread (dgOf c m n) p) ?_ ?_)
  · show tok t (y 0).val = win0_11.index t 0 * 1024 + 1 * (y 0).val
    rw [e0]; unfold tok; omega
  · show col t (y 1).val = win0_11.index t 1 * 512 + 1 * (y 1).val
    rw [e1]; unfold col; omega

theorem final12 : (dats m 0 c).arrAt 12 cfg0.N = resUp (argDx c m) (argX c m) (argG c m) (argWg c m) (argWd c m) := by
  refine (dats m 0 c).arrAt_eq_of_covers 12 _ (by decide +kernel) fun t hf y => ?_
  obtain ⟨e0, e1⟩ := at_index12 t
  blk_simp
  rw [after0_12, out12]
  refine ((congrArg (duAt c m t) (eq_ix2 y)).trans (du_at c m t (y 0) (y 1))).trans
    (congrArg₂ (fun n p => spread (duOf c m n) p) ?_ ?_)
  · show tok t (y 0).val = win0_12.index t 0 * 1024 + 1 * (y 0).val
    rw [e0]; unfold tok; omega
  · show col t (y 1).val = win0_12.index t 1 * 512 + 1 * (y 1).val
    rw [e1]; unfold col; omega

theorem final13 : (dats m 0 c).arrAt 13 cfg0.N = resAct (argX c m) (argG c m) (argWg c m) (argWu c m) := by
  refine (dats m 0 c).arrAt_eq_of_covers 13 _ (by decide +kernel) fun t hf y => ?_
  obtain ⟨e0, e1⟩ := at_index13 t
  blk_simp
  rw [after0_13, out13]
  refine ((congrArg (acAt c m t) (eq_ix2 y)).trans (ac_at c m t (y 0) (y 1))).trans
    (congrArg₂ (fun n p => spread (actOf c m n) p) ?_ ?_)
  · show tok t (y 0).val = win0_13.index t 0 * 1024 + 1 * (y 0).val
    rw [e0]; unfold tok; omega
  · show col t (y 1).val = win0_13.index t 1 * 512 + 1 * (y 1).val
    rw [e1]; unfold col; omega

variable (ρ : Dev nD → PrngReg)

/-- From any memory the kernel ends with the five results, its arguments as they were. -/
theorem kernel_run : θ_run defs (onTc (τ := τ) (main (F := Ideal))) ⟨m, fun _ => 0, ρ⟩ fun r => ∀ c : Dev nD,
      r.2.mem ((c.tc : Thread nD τ).loc main_v39_0) = resTok (argDx c m) (argX c m) (argG c m) (argWg c m) (argWu c m) (argWd c m)
      ∧ r.2.mem ((c.tc : Thread nD τ).loc main_v39_1) = resScale (argDx c m) (argX c m) (argG c m) (argWg c m) (argWu c m) (argWd c m)
      ∧ r.2.mem ((c.tc : Thread nD τ).loc main_v39_2) = resGate (argDx c m) (argX c m) (argG c m) (argWg c m) (argWu c m) (argWd c m)
      ∧ r.2.mem ((c.tc : Thread nD τ).loc main_v39_3) = resUp (argDx c m) (argX c m) (argG c m) (argWg c m) (argWd c m)
      ∧ r.2.mem ((c.tc : Thread nD τ).loc main_v39_4) = resAct (argX c m) (argG c m) (argWg c m) (argWu c m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 9).trans (final9 c m), ((h c).1 10).trans (final10 c m),
      ((h c).1 11).trans (final11 c m), ((h c).1 12).trans (final12 c m), ((h c).1 13).trans (final13 c m),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.FfnBwd

end
-- ==== Proof.Step.Real.lean ====
module

public import proofs.«01_k».proof.Proof.Step.Rms

@[expose] public section

/-! # Where the step's formulas are real

Sums and products of reals are real. A normalised token is real when the tokens and the scale are: the mean of its
squares and the small constant is above zero. Two spellings of the gate's cotangent then agree. -/

noncomputable section

open Idealize Idealize.ShloMosaic
open scoped BigOperators

namespace Cert.Step

open Cert.Conv

/-- An extended real that is a real. -/
def IsReal (a : EReal) : Prop := ∃ r : ℝ, a = r

theorem IsReal.zero : IsReal 0 := ⟨0, EReal.coe_zero.symm⟩

theorem IsReal.add {a b : EReal} : IsReal a → IsReal b → IsReal (a + b)
  | ⟨r, hr⟩, ⟨s, hs⟩ => ⟨r + s, by rw [hr, hs, EReal.coe_add]⟩

theorem IsReal.mul {a b : EReal} : IsReal a → IsReal b → IsReal (a * b)
  | ⟨r, hr⟩, ⟨s, hs⟩ => ⟨r * s, by rw [hr, hs, EReal.coe_mul]⟩

theorem IsReal.sum {N : Nat} (f : Fin N → EReal) (h : ∀ i, IsReal (f i)) : IsReal (∑ i, f i) :=
  Finset.sum_induction f IsReal (fun _ _ => IsReal.add) IsReal.zero fun i _ => h i

theorem ofBits_1024 : Ideal.ofBits .f32 0x44800000#32 = ((1024 : ℝ) : EReal) := by
  simp [Ideal.ofBits, Ideal.ieee, -EReal.coe_mul]; norm_num

theorem ofBits_small : ∃ r : ℝ, 0 < r ∧ Ideal.ofBits .f32 0x358637BD#32 = (r : EReal) := by
  refine ⟨_, ?_, by simp [Ideal.ofBits, Ideal.ieee, -EReal.coe_mul]; rfl⟩
  positivity

theorem ofBits_infinite : Ideal.ofBits .f32 0x7F800000#32 = ⊤ := by
  simp [Ideal.ofBits, Ideal.ieee]

/-- An extended real whose magnitude is below infinity is a real. -/
theorem real_of_below (a : EReal) (h : max a (-a) < ⊤) : IsReal a := by
  induction a with
  | bot => simp at h
  | top => simp at h
  | coe r => exact ⟨r, rfl⟩

variable (x : Nat → Nat → EReal) (g : Nat → EReal) (hx : ∀ n d, IsReal (x n d)) (hg : ∀ d, IsReal (g d))

include hx in
theorem ms_above (n : Nat) : ∃ r : ℝ, 0 < r ∧ ms x n = (r : EReal) := by
  obtain ⟨s, hs⟩ := IsReal.sum (fun k : Fin 1024 => x n k.val * x n k.val) fun k => (hx n k.val).mul (hx n k.val)
  have hs0 : 0 ≤ s := by
    rw [← EReal.coe_nonneg, ← hs]
    refine Finset.sum_nonneg fun k _ => ?_
    obtain ⟨r, hr⟩ := hx n k.val
    rw [hr, ← EReal.coe_mul]
    exact EReal.coe_nonneg.mpr (mul_self_nonneg r)
  obtain ⟨e, he0, he⟩ := ofBits_small
  refine ⟨s * (1024 : ℝ)⁻¹ + e, by positivity, ?_⟩
  have hne : ((1024 : ℝ) : EReal) ≠ 0 := by
    rw [← EReal.coe_zero]; exact fun h => by have := EReal.coe_eq_coe_iff.mp h; norm_num at this
  unfold ms
  rw [hs, he, ofBits_1024, Ideal.div, if_neg hne, ← EReal.coe_inv, ← EReal.coe_mul, ← EReal.coe_add]

include hx in
theorem rs_real (n : Nat) : IsReal (rs x n) := by
  obtain ⟨r, h0, hr⟩ := ms_above x hx n
  refine ⟨(Real.sqrt r)⁻¹, ?_⟩
  unfold rs
  rw [hr, Ideal.rsqrt_coe, if_neg (not_lt.mpr h0.le), if_neg h0.ne']

include hx hg in
theorem proj_real (w : Nat → Nat → EReal) (hw : ∀ d k, IsReal (w d k)) (n k : Nat) : IsReal (proj x g w n k) :=
  IsReal.sum _ fun d => (((hx n d.val).mul (rs_real x hx n)).mul (hg d.val)).mul (hw d.val k)

theorem gradAct_real (z wd : Nat → Nat → EReal) (hz : ∀ n d, IsReal (z n d)) (hw : ∀ k d, IsReal (wd k d)) (n k : Nat) :
    IsReal (gradAct z wd n k) :=
  IsReal.sum _ fun d => (hz n d.val).mul (hw k d.val)

theorem at2_real {a b : Nat} (X : Arr a b) (h : ∀ i, IsReal (X i)) (n d : Nat) : IsReal (at2 X n d) := by
  unfold at2
  split
  · exact h _
  · exact IsReal.zero

theorem at1_real {a : Nat} (X : Row a) (h : ∀ i, IsReal (X i)) (d : Nat) : IsReal (at1 X d) := by
  unfold at1
  split
  · exact h _
  · exact IsReal.zero

theorem logistic_below : Ideal.logistic ⊥ = 0 := by
  have h : (1 : EReal) + ⊤ = ⊤ := EReal.coe_add_top 1
  simp [Ideal.logistic, Ideal.div, h]

theorem logistic_above : Ideal.logistic ⊤ = 1 := by simp [Ideal.logistic, Ideal.div]

theorem one_sub_one : (1 : EReal) - 1 = 0 := by
  rw [← EReal.coe_one, ← EReal.coe_sub, sub_self, EReal.coe_zero]

/-- The gate's cotangent: a real times the slope, as the chain rule adds it up. -/
theorem slope_split (c g : EReal) (hc : IsReal c) :
    c * Ideal.logistic g + g * c * (Ideal.logistic g * (1 - Ideal.logistic g)) = c * siluSlope g := by
  obtain ⟨r, rfl⟩ := hc
  unfold siluSlope
  induction g with
  | bot => rw [logistic_below]; simp
  | top => rw [logistic_above, one_sub_one]; simp
  | coe g =>
    rw [Ideal.logistic_coe]
    generalize (1 + Real.exp (-g))⁻¹ = s
    rw [← EReal.coe_one]
    simp only [← EReal.coe_mul, ← EReal.coe_sub, ← EReal.coe_add]
    congr 1
    ring

end Cert.Step

end
-- ==== Proof.FfnBwd.Reference.lean ====
module

public import proofs.«01_k».proof.Proof.FfnBwd.Final
public import proofs.«01_k».proof.Proof.Step.Real
public import proofs.«01_k».proof.Proof.Gen.Reference3Ideal.Read

@[expose] public section

/-! # The backward feed-forward: the reference -/

set_option maxRecDepth 16384

noncomputable section

open Idealize Idealize.ShloMosaic Idealize.ShloMosaic.TcCoe Idealize.SL.Sem
open scoped BigOperators
open Cert.Reference3Ideal Cert.Reference3Ideal.Gen Cert.Reference3Ideal.Value Cert.Reference3Ideal.Read

namespace Cert.FfnBwd

open Cert.Conv (at2 eq_at2)
open Cert.Step

section
variable (x0 x1 : Arr 2048 1024) (x2 : Row 1024) (x3 x4 : Arr 1024 2816) (x5 : Arr 2816 1024)
  (n : Fin 2048) (d : Fin 1024) (z : Fin 1) (k : Fin 2816) (p : Fin 3072)

/-! ## The stages, at an index -/

theorem ref_ms : (val_main_v7 (F := Ideal) x1 : S2048x1.Idx → EReal) (ix2 n z) = ms (at2 x1) n.val := by
  refine Eq.trans ?_ (ms_read x1 n).symm
  pointwise [val_main_v7, val_main_v6, val_main_v5, val_main_v4, val_main_v3, val_main_v2, val_main_v1, val_main_cst_0, val_main_cst_1,
    val_main_cst_2]

theorem ref_rs : (val_main_v8 (F := Ideal) x1 : S2048x1.Idx → EReal) (ix2 n z) = rs (at2 x1) n.val := by
  refine Eq.trans ?_ (congrArg Ideal.rsqrt (ref_ms x1 n z))
  pointwise [val_main_v8]

theorem ref_normed : (val_main_v16 (F := Ideal) x1 x2 : S2048x1024.Idx → EReal) (ix2 n d) = normed (at2 x1) (at1 x2) n.val d.val := by
  unfold normed
  rw [at2_ix2, at1_ix1, ← ref_rs x1 n 0]
  pointwise [val_main_v16, val_main_v15, val_main_v14, val_main_v13, val_main_v12]

theorem ref_gate : (val_main_v18 (F := Ideal) x1 x2 x3 : S2048x2816.Idx → EReal) (ix2 n k) = gateF x1 x2 x3 n.val k.val := by
  refine Eq.trans ?_ (Finset.sum_congr rfl fun d _ => congrArg₂ (· * ·) (ref_normed x1 x2 n d) (at2_ix2 x3 d k).symm)
  pointwise [val_main_v18, val_main_v17, val_main_v0, val_main_cst]

theorem ref_up : (val_main_v21 (F := Ideal) x1 x2 x4 : S2048x2816.Idx → EReal) (ix2 n k) = upF x1 x2 x4 n.val k.val := by
  refine Eq.trans ?_ (Finset.sum_congr rfl fun d _ => congrArg₂ (· * ·) (ref_normed x1 x2 n d) (at2_ix2 x4 d k).symm)
  pointwise [val_main_v21, val_main_v20, val_main_v0, val_main_cst]

theorem ref_ga : (val_main_v26 (F := Ideal) x0 x5 : S2048x2816.Idx → EReal) (ix2 n k) = gradAct (at2 x0) (at2 x5) n.val k.val := by
  refine Eq.trans ?_ (Finset.sum_congr rfl fun d _ => congrArg₂ (· * ·) (at2_ix2 x0 n d).symm (at2_ix2 x5 k d).symm)
  pointwise [val_main_v26, val_main_v25]

theorem ref_sigma : (val_main_v19_2 (F := Ideal) x1 x2 x3 : S2048x2816.Idx → EReal) (ix2 n k) = Ideal.logistic (gateF x1 x2 x3 n.val k.val) := by
  rw [← ref_gate]
  pointwise [val_main_v19_2, val_main_call0_v4, val_main_call0_v3, val_main_call0_v2, val_main_call0_v1, val_main_call0_v0, val_main_call0_cst,
    val_main_call0_cst_0]
  rfl

theorem ref_silu : (val_main_v19_0 (F := Ideal) x1 x2 x3 : S2048x2816.Idx → EReal) (ix2 n k) = silu (gateF x1 x2 x3 n.val k.val) := by
  refine Eq.trans ?_ (congrArg₂ (· * ·) (ref_gate x1 x2 x3 n k) (ref_sigma x1 x2 x3 n k))
  pointwise [val_main_v19_0]

theorem ref_act : (val_main_v22 (F := Ideal) x1 x2 x3 x4 : S2048x2816.Idx → EReal) (ix2 n k) = gated (gateF x1 x2 x3) (upF x1 x2 x4) n.val k.val := by
  refine Eq.trans ?_ (congrArg₂ (· * ·) (ref_silu x1 x2 x3 n k) (ref_up x1 x2 x4 n k))
  pointwise [val_main_v22]

theorem ref_du : (val_main_v27 (F := Ideal) x0 x1 x2 x3 x5 : S2048x2816.Idx → EReal) (ix2 n k) = duF x0 x1 x2 x3 x5 n.val k.val := by
  refine Eq.trans ?_ ((congrArg₂ (· * ·) (ref_silu x1 x2 x3 n k) (ref_ga x0 x5 n k)).trans (mul_comm _ _))
  pointwise [val_main_v27]

theorem ref_chain : (val_main_v28 (F := Ideal) x0 x1 x2 x4 x5 : S2048x2816.Idx → EReal) (ix2 n k)
    = gradAct (at2 x0) (at2 x5) n.val k.val * upF x1 x2 x4 n.val k.val := by
  refine Eq.trans ?_ (congrArg₂ (· * ·) (ref_ga x0 x5 n k) (ref_up x1 x2 x4 n k))
  pointwise [val_main_v28]

theorem ref_one_less : (val_main_v19_1 (F := Ideal) x1 x2 x3 : S2048x2816.Idx → EReal) (ix2 n k)
    = Ideal.logistic (gateF x1 x2 x3 n.val k.val) * (1 - Ideal.logistic (gateF x1 x2 x3 n.val k.val)) := by
  rw [← ref_sigma]
  pointwise [val_main_v19_1, val_main_call0_v7, val_main_call0_v6, val_main_call0_cst_1]

/-! ## What the gate's cotangent reaches, under the precondition -/

variable (h0 : ∀ i, IsReal (x0 i)) (h1 : ∀ i, IsReal (x1 i)) (h2 : ∀ i, IsReal (x2 i)) (h4 : ∀ i, IsReal (x4 i)) (h5 : ∀ i, IsReal (x5 i))

include h0 h1 h2 h4 h5

theorem ref_dg : (val_main_v30 (F := Ideal) x0 x1 x2 x3 x4 x5 : S2048x2816.Idx → EReal) (ix2 n k) = dgF x0 x1 x2 x3 x4 x5 n.val k.val := by
  refine Eq.trans ?_ (slope_split (gradAct (at2 x0) (at2 x5) n.val k.val * upF x1 x2 x4 n.val k.val) (gateF x1 x2 x3 n.val k.val)
    ((gradAct_real _ _ (at2_real x0 h0) (at2_real x5 h5) _ _).mul
      (proj_real _ _ (at2_real x1 h1) (at1_real x2 h2) _ (at2_real x4 h4) _ _)))
  rw [← ref_one_less, ← ref_sigma, ← ref_gate, ← ref_chain]
  pointwise [val_main_v30, val_main_call1_v2, val_main_call1_v1, val_main_call1_v0]

theorem ref_dn : (val_main_v32 (F := Ideal) x0 x1 x2 x3 x4 x5 : S2048x1024.Idx → EReal) (ix2 n d) = dnF x0 x1 x2 x3 x4 x5 n.val d.val := by
  refine Eq.trans ?_ ((congrArg₂ (· + ·)
    (Finset.sum_congr rfl fun k _ => congrArg₂ (· * ·) (ref_du x0 x1 x2 x3 x5 n k) (at2_ix2 x4 d k).symm)
    (Finset.sum_congr rfl fun k _ => congrArg₂ (· * ·) (ref_dg x0 x1 x2 x3 x4 x5 n k h0 h1 h2 h4 h5) (at2_ix2 x3 d k).symm)).trans
      (add_comm _ _))
  pointwise [val_main_v32, val_main_v31, val_main_v29]

theorem ref_scale : (val_main_v54 (F := Ideal) x0 x1 x2 x3 x4 x5 : S1x1024.Idx → EReal) (ix2 z d)
    = gradScale (at2 x1) (dnF x0 x1 x2 x3 x4 x5) d.val := by
  have e : ∀ n : Fin 2048, x1 (ix2 n d) * (val_main_v8 (F := Ideal) x1 : S2048x1.Idx → EReal) (ix2 n 0)
      * (val_main_v32 (F := Ideal) x0 x1 x2 x3 x4 x5 : S2048x1024.Idx → EReal) (ix2 n d)
      = at2 x1 n.val d.val * rs (at2 x1) n.val * dnF x0 x1 x2 x3 x4 x5 n.val d.val := fun n => by
    rw [at2_ix2, ref_rs, ref_dn x0 x1 x2 x3 x4 x5 n d h0 h1 h2 h4 h5]
  refine Eq.trans ?_ (Finset.sum_congr rfl fun n _ => e n)
  pointwise [val_main_v54, val_main_v38, val_main_v35, val_main_v34, val_main_v33, val_main_v13, val_main_v12, val_main_cst_4, val_main_cst_5]
  simp only [Fin.sum_univ_one, zero_add]

theorem ref_token : (val_main_v53 (F := Ideal) x0 x1 x2 x3 x4 x5 : S2048x1024.Idx → EReal) (ix2 n d)
    = gradToken (at2 x1) (at1 x2) (at2 x0) (dnF x0 x1 x2 x3 x4 x5) n.val d.val := by
  have ez : x0 (ix2 n d) = at2 x0 n.val d.val := (at2_ix2 x0 n d).symm
  have ex : ∀ d, x1 (ix2 n d) = at2 x1 n.val d.val := fun d => (at2_ix2 x1 n d).symm
  have eg : ∀ d, x2 (ix1 d) = at1 x2 d.val := fun d => (at1_ix1 x2 d).symm
  have ey := fun d => ref_dn x0 x1 x2 x3 x4 x5 n d h0 h1 h2 h4 h5
  have er := ref_rs x1 n
  have em := ref_ms x1 n
  pointwise [val_main_v53, val_main_v52, val_main_v51, val_main_v50, val_main_v49, val_main_v48, val_main_v47, val_main_v46, val_main_v45,
    val_main_v44, val_main_v43, val_main_v42, val_main_v41, val_main_v40, val_main_v39, val_main_v38, val_main_v37, val_main_v36,
    val_main_v14, val_main_v11, val_main_v10, val_main_v9, val_main_cst_3, val_main_cst_6, val_main_cst_7, val_main_cst_8]
  simp only [Fin.sum_univ_one, zero_add, ez, ex, eg, ey, er, em]
  unfold gradToken pull
  rw [add_assoc, add_assoc, add_assoc]

theorem ref_gate_pad : (val_main_v58 (F := Ideal) x0 x1 x2 x3 x4 x5 : S2048x3072.Idx → EReal) (ix2 n p)
    = spread (dgF x0 x1 x2 x3 x4 x5 n.val) p.val := by
  pointwise [val_main_v58, val_main_v57, val_main_v56, val_main_v55, val_main_call2_v0, val_main_c]
  exact spread_dif (dgF x0 x1 x2 x3 x4 x5 n.val) p.val p.isLt
    (fun h => (val_main_v30 (F := Ideal) x0 x1 x2 x3 x4 x5 : S2048x2816.Idx → EReal) (ix2 n ⟨p.val / 384 * 352 + p.val % 384, by omega⟩)) _
    int_zero fun h => ref_dg x0 x1 x2 x3 x4 x5 n ⟨p.val / 384 * 352 + p.val % 384, by omega⟩ h0 h1 h2 h4 h5

omit h0 h1 h2 h4 h5

theorem ref_up_pad : (val_main_v62 (F := Ideal) x0 x1 x2 x3 x5 : S2048x3072.Idx → EReal) (ix2 n p)
    = spread (duF x0 x1 x2 x3 x5 n.val) p.val := by
  pointwise [val_main_v62, val_main_v61, val_main_v60, val_main_v59, val_main_call3_v0, val_main_c_9]
  exact spread_dif (duF x0 x1 x2 x3 x5 n.val) p.val p.isLt
    (fun h => (val_main_v27 (F := Ideal) x0 x1 x2 x3 x5 : S2048x2816.Idx → EReal) (ix2 n ⟨p.val / 384 * 352 + p.val % 384, by omega⟩)) _
    int_zero fun h => ref_du x0 x1 x2 x3 x5 n ⟨p.val / 384 * 352 + p.val % 384, by omega⟩

theorem ref_act_pad : (val_main_v66 (F := Ideal) x1 x2 x3 x4 : S2048x3072.Idx → EReal) (ix2 n p)
    = spread (gated (gateF x1 x2 x3) (upF x1 x2 x4) n.val) p.val := by
  pointwise [val_main_v66, val_main_v65, val_main_v64, val_main_v63, val_main_call4_v0, val_main_c_10]
  exact spread_dif (gated (gateF x1 x2 x3) (upF x1 x2 x4) n.val) p.val p.isLt
    (fun h => (val_main_v22 (F := Ideal) x1 x2 x3 x4 : S2048x2816.Idx → EReal) (ix2 n ⟨p.val / 384 * 352 + p.val % 384, by omega⟩)) _
    int_zero fun h => ref_act x1 x2 x3 x4 n ⟨p.val / 384 * 352 + p.val % 384, by omega⟩

end

/-! ## The run -/

variable (m : (ℓ : Loc nD τ sig) → Buf (Elt Ideal) ℓ) (ρ : Dev nD → PrngReg)

/-- What the precondition says of a device's arguments: all but the gate's weights are real. -/
def Reals (x0 x1 : Arr 2048 1024) (x2 : Row 1024) (x4 : Arr 1024 2816) (x5 : Arr 2816 1024) : Prop :=
  (∀ i, IsReal (x0 i)) ∧ (∀ i, IsReal (x1 i)) ∧ (∀ i, IsReal (x2 i)) ∧ (∀ i, IsReal (x4 i)) ∧ ∀ i, IsReal (x5 i)

/-- From any memory whose arguments are real the reference ends with the five results, its arguments as they were. -/
theorem reference_run (hr : ∀ c : Dev nD, Reals (m ((c.tc : Thread nD τ).loc main_arg0)) (m ((c.tc : Thread nD τ).loc main_arg1))
      (m ((c.tc : Thread nD τ).loc main_arg2)) (m ((c.tc : Thread nD τ).loc main_arg4)) (m ((c.tc : Thread nD τ).loc main_arg5))) :
    θ_run defs (onTc (τ := τ) (main (F := Ideal))) ⟨m, fun _ => 0, ρ⟩ fun r => ∀ c : Dev nD,
      r.2.mem ((c.tc : Thread nD τ).loc main_v53) = resTok (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))
      ∧ r.2.mem ((c.tc : Thread nD τ).loc main_v54) = resScale (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))
      ∧ r.2.mem ((c.tc : Thread nD τ).loc main_v58) = resGate (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))
      ∧ r.2.mem ((c.tc : Thread nD τ).loc main_v62) = resUp (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg5))
      ∧ r.2.mem ((c.tc : Thread nD τ).loc main_v66) = resAct (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨ht, hs, hg, hu, ha, rest⟩ := h c
    obtain ⟨r0, r1, r2, r4, r5⟩ := hr c
    refine ⟨ht.trans ((val_main_v53_eq m c).trans (funext fun j => ?_)), hs.trans ((val_main_v54_eq m c).trans (funext fun j => ?_)),
      hg.trans ((val_main_v58_eq m c).trans (funext fun j => ?_)), hu.trans ((val_main_v62_eq _ _ _ _ _).trans (funext fun j => ?_)),
      ha.trans ((val_main_v66_eq _ _ _ _).trans (funext fun j => ?_)), rest⟩
    · exact (congrArg (val_main_v53 (F := Ideal) _ _ _ _ _ _) (eq_ix2 j)).trans (ref_token _ _ _ _ _ _ (j 0) (j 1) r0 r1 r2 r4 r5)
    · exact (congrArg (val_main_v54 (F := Ideal) _ _ _ _ _ _) (eq_ix2 j)).trans (ref_scale _ _ _ _ _ _ (j 1) (j 0) r0 r1 r2 r4 r5)
    · exact (congrArg (val_main_v58 (F := Ideal) _ _ _ _ _ _) (eq_ix2 j)).trans (ref_gate_pad _ _ _ _ _ _ (j 0) (j 1) r0 r1 r2 r4 r5)
    · exact (congrArg (val_main_v62 (F := Ideal) _ _ _ _ _) (eq_ix2 j)).trans (ref_up_pad _ _ _ _ _ (j 0) (j 1))
    · exact (congrArg (val_main_v66 (F := Ideal) _ _ _ _) (eq_ix2 j)).trans (ref_act_pad _ _ _ _ (j 0) (j 1)))
    (Cert.Reference3Ideal.Value.run m ρ)

end Cert.FfnBwd

end
-- ==== Proof.FfnBwd.Finite.lean ====
module

public import proofs.«01_k».proof.Proof.Step.Real
public import proofs.«01_k».proof.Pre_finite
public import Idealize.ShloMosaic.Lib.ReduceAll

@[expose] public section

/-! # The backward feed-forward: the precondition

The precondition compares every element's magnitude with infinity and asks for all of them; read back, every element of the
five arrays it looks at is a real. -/

noncomputable section

open Idealize Idealize.ShloMosaic

namespace Cert.FfnBwd

open Cert.Step Cert.Pre_finite

instance : Subsingleton S_.Idx := ⟨fun _ _ => funext fun a => a.elim0⟩

/-- One array's part of the precondition. -/
theorem all_real {s : Shape} {axes : List (Fin s.rank)} (a : FVec Ideal s .f32) (hb : S_.BroadcastsInDim s (![] : Fin 0 → Fin s.rank))
    (hr : s.ReducesTo axes S_) (hu : 0 < S_.numel) (j : S_.Idx)
    (h : Host.reduce IntOp.andi (cmpf .olt (Host.absf a) (broadcastInDim s ![] hb (constant S_ .f32 0x7F800000#32))) (constantI S_ 1 1#1)
      hr hu j = 1#1) (i : s.Idx) : IsReal (a i) := by
  have hi : Ideal.cmp .olt (max (a i) (-(a i))) (Ideal.ofBits .f32 0x7F800000#32) = 1#1 := Host.reduce_andi_all _ _ hr hu j h i
  rw [ofBits_infinite] at hi
  refine real_of_below _ ?_
  by_contra hn
  rw [Ideal.cmp] at hi
  simp [hn] at hi

variable [Facts]

/-- The precondition, read back. -/
theorem reals_of_finite (x0 x1 : FVec Ideal S2048x1024 .f32) (x2 : FVec Ideal S1024 .f32) (x3 x4 : FVec Ideal S1024x2816 .f32)
    (x5 : FVec Ideal S2816x1024 .f32) (h : fn (F := Ideal) x0 x1 x2 x3 x4 x5 = fun _ => 1#1) :
    (∀ i, IsReal (x0 i)) ∧ (∀ i, IsReal (x1 i)) ∧ (∀ i, IsReal (x2 i)) ∧ (∀ i, IsReal (x4 i)) ∧ ∀ i, IsReal (x5 i) := by
  have e := congrFun h (Shape.Idx.first Facts.h_S_)
  obtain ⟨e, e5⟩ := IntOp.andi_eq_one.1 e
  obtain ⟨e, e4⟩ := IntOp.andi_eq_one.1 e
  obtain ⟨e, e2⟩ := IntOp.andi_eq_one.1 e
  obtain ⟨e0, e1⟩ := IntOp.andi_eq_one.1 e
  exact ⟨all_real _ _ _ _ _ e0, all_real _ _ _ _ _ e1, all_real _ _ _ _ _ e2, all_real _ _ _ _ _ e4, all_real _ _ _ _ _ e5⟩

end Cert.FfnBwd

end
-- ==== Proof.InBwd.Points.lean ====
module

public import proofs.«01_k».proof.Proof.Step.Math
public import proofs.«01_k».proof.Proof.Gen.Kernel4Ideal.Frame
public import Idealize.ShloMosaic.Lib.Pipeline.ValueKit

@[expose] public section

/-! # The input projection, backward: what a grid point leaves

A grid point `(i, j)` takes 1024 tokens and two of the 8 slabs of 640 columns. It adds what the two slabs contribute to the
cotangent of the normalised tokens; the first point of a row block clears that sum, the last one turns it into the cotangent
of the tokens and adds its share of the scale's gradient. -/

set_option maxRecDepth 16384

noncomputable section

open Idealize Idealize.ShloMosaic Idealize.ShloMosaic.TcCoe Idealize.SL.Sem
open scoped BigOperators
open Cert.Kernel4Ideal Cert.Kernel4Ideal.Gen

namespace Cert.InBwd

open Cert.Step

/-- The sum `y` with the products of a point's two slabs added. -/
def added (x0 : Vec Ideal S1024x1280 .bf16) (x4 : Vec Ideal S2x1024x640 .bf16) (y : Vec Ideal S1024x1024 .f32) : Vec Ideal S1024x1024 .f32 :=
  k0_pay9 (F := Ideal)
    (k0_pay8 (F := Ideal) y (View.ld x0 (Rect.unit ![0, 0] S1024x640.size inb_S1024x1280_S1024x640_0_0))
      (View.ld x4 (Rect.unit ![0, 0, 0] S1x1024x640.size inb_S2x1024x640_S1x1024x640_0_0_0)))
    (View.ld x0 (Rect.unit ![0, 640] S1024x640.size inb_S1024x1280_S1024x640_0_640))
    (View.ld x4 (Rect.unit ![1, 0, 0] S1x1024x640.size inb_S2x1024x640_S1x1024x640_1_0_0))

variable (c : Dev nD) (i : grid0.Coords)
  (arg2 : Memref sig .tc .vmem S1024x1280 .bf16) (harg2 : arg2.IsWhole)
  (arg3 : Memref sig .tc .vmem S1024x1024 .f32) (harg3 : arg3.IsWhole)
  (arg4 : Memref sig .tc .vmem S1024x1024 .f32) (harg4 : arg4.IsWhole)
  (arg5 : Memref sig .tc .vmem S1x1024 .f32) (harg5 : arg5.IsWhole)
  (arg6 : Memref sig .tc .vmem S2x1024x640 .bf16) (harg6 : arg6.IsWhole)
  (arg7 : Memref sig .tc .vmem S8x128 .f32) (harg7 : arg7.IsWhole)
  (arg8 : Memref sig .tc .vmem S1024x1024 .f32) (harg8 : arg8.IsWhole)
  (arg9 : Memref sig .tc .vmem S1x1024 .f32) (harg9 : arg9.IsWhole)
  (arg10 : Memref sig .tc .vmem S1024x1024 .f32) (harg10 : arg10.IsWhole)
  (x0 : Vec Ideal S1024x1280 .bf16)
  (x1 : Vec Ideal S1024x1024 .f32)
  (x2 : Vec Ideal S1024x1024 .f32)
  (x3 : Vec Ideal S1x1024 .f32)
  (x4 : Vec Ideal S2x1024x640 .bf16)
  (x5 : Vec Ideal S8x128 .f32)
  (xo7 : Vec Ideal S1x1024 .f32) (xs0 : Vec Ideal S1024x1024 .f32)

theorem out0_A_7_eq (hc0 : cond0_0 i) (hc1 : cond0_1 i) (hc2 : ¬cond0_2 i) :
    out0_A_7 c i arg2 harg2 arg3 harg3 arg4 harg4 arg5 harg5 arg6 harg6 arg7 harg7 arg8 harg8 arg9 harg9 arg10 harg10 hc0 hc1 hc2 x0 x1 x2 x3 x4 x5 (F := Ideal)
      = k0_pay7 (F := Ideal) := by
  unfold out0_A_7
  rw [View.read_writes_eq_canon _ _ _ (cover0_A_7 c i arg2 harg2 arg3 harg3 arg4 harg4 arg5 harg5 arg6 harg6 arg7 harg7 arg8 harg8 arg9 harg9 arg10 harg10 hc0 hc1 hc2 x0 x1 x2 x3 x4 x5)]
  unfold kernelRun0_A
  dsimp only
  sl_unfold_words
  rw [View.canon_cons_unit_zero origin2]

theorem sout0_A_0_eq (hc0 : cond0_0 i) (hc1 : cond0_1 i) (hc2 : ¬cond0_2 i) :
    sout0_A_0 c i arg2 harg2 arg3 harg3 arg4 harg4 arg5 harg5 arg6 harg6 arg7 harg7 arg8 harg8 arg9 harg9 arg10 harg10 hc0 hc1 hc2 x0 x1 x2 x3 x4 x5 (F := Ideal)
      = added x0 x4 (k0_pay6 (F := Ideal)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 hc2 x0 x1 x2 x3 x4 x5)]
  unfold kernelRun0_A
  dsimp only
  sl_unfold_words
  rw [View.canon_cons_unit_zero origin2]
  simp only [View.readAt_eq_ld, harg2.read_unread, harg3.read_unread, harg4.read_unread, harg5.read_unread, harg6.read_unread, harg7.read_unread, harg8.read_unread, harg9.read_unread, harg10.read_unread, View.ld_unit_zero (S := S1024x1024) origin2, View.ld_unit_zero (S := S1x1024) origin2, View.readCov_unit_zero (S := S1024x1024) _ origin2, View.readCov_unit_zero (S := S1x1024) _ origin2]
  rw [View.readCov_cons_unit_lit' (S := S1024x1024) _ _ _ _ _ zero_at zero_at]
  rfl

theorem sout0_B_0_eq (hc0 : ¬cond0_0 i) (hc1 : ¬cond0_1 i) (hc2 : ¬cond0_2 i) :
    sout0_B_0 c i arg2 harg2 arg3 harg3 arg4 harg4 arg5 harg5 arg6 harg6 arg7 harg7 arg8 harg8 arg9 harg9 arg10 harg10 hc0 hc1 hc2 x0 x1 x2 x3 x4 x5 xs0 (F := Ideal)
      = added x0 x4 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 hc2 x0 x1 x2 x3 x4 x5 xs0)]
  unfold kernelRun0_B
  dsimp only
  sl_unfold_words
  rw [View.canon_cons_unit_zero origin2]
  simp only [View.readAt_eq_ld, harg2.read_unread, harg3.read_unread, harg4.read_unread, harg5.read_unread, harg6.read_unread, harg7.read_unread, harg8.read_unread, harg9.read_unread, harg10.read_unread, View.ld_unit_zero (S := S1024x1024) origin2, View.ld_unit_zero (S := S1x1024) origin2, View.readCov_unit_zero (S := S1024x1024) _ origin2, View.readCov_unit_zero (S := S1x1024) _ origin2]
  rfl

set_option maxHeartbeats 1000000 in
theorem out0_C_6_eq (hc0 : ¬cond0_0 i) (hc1 : ¬cond0_1 i) (hc2 : cond0_2 i) :
    out0_C_6 c i arg2 harg2 arg3 harg3 arg4 harg4 arg5 harg5 arg6 harg6 arg7 harg7 arg8 harg8 arg9 harg9 arg10 harg10 hc0 hc1 hc2 x0 x1 x2 x3 x4 x5 xo7 xs0 (F := Ideal)
      = k0_pay5 x2 x3 (added x0 x4 xs0) x1 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 hc2 x0 x1 x2 x3 x4 x5 xo7 xs0)]
  unfold kernelRun0_C
  dsimp only
  sl_unfold_words
  rw [View.canon_cons_unit_zero origin2]
  simp only [View.readAt_eq_ld, harg2.read_unread, harg3.read_unread, harg4.read_unread, harg5.read_unread, harg6.read_unread, harg7.read_unread, harg8.read_unread, harg9.read_unread, harg10.read_unread, View.ld_unit_zero (S := S1024x1024) origin2, View.ld_unit_zero (S := S1x1024) origin2, View.readCov_unit_zero (S := S1024x1024) _ origin2, View.readCov_unit_zero (S := S1x1024) _ origin2]
  rw [View.readCov_cons_unit_lit' (S := S1024x1024) _ _ _ _ _ zero_at zero_at]
  rfl

set_option maxHeartbeats 1000000 in
theorem out0_C_7_eq (hc0 : ¬cond0_0 i) (hc1 : ¬cond0_1 i) (hc2 : cond0_2 i) :
    out0_C_7 c i arg2 harg2 arg3 harg3 arg4 harg4 arg5 harg5 arg6 harg6 arg7 harg7 arg8 harg8 arg9 harg9 arg10 harg10 hc0 hc1 hc2 x0 x1 x2 x3 x4 x5 xo7 xs0 (F := Ideal)
      = k0_pay1 (k0_pay4 x2 (added x0 x4 xs0)) xo7 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 hc2 x0 x1 x2 x3 x4 x5 xo7 xs0)]
  unfold kernelRun0_C
  dsimp only
  sl_unfold_words
  rw [View.canon_cons_unit_zero origin2]
  simp only [View.readAt_eq_ld, harg2.read_unread, harg3.read_unread, harg4.read_unread, harg5.read_unread, harg6.read_unread, harg7.read_unread, harg8.read_unread, harg9.read_unread, harg10.read_unread, View.ld_unit_zero (S := S1024x1024) origin2, View.ld_unit_zero (S := S1x1024) origin2, View.readCov_unit_zero (S := S1024x1024) _ origin2, View.readCov_unit_zero (S := S1x1024) _ origin2]
  rw [View.readCov_cons_unit_lit' (S := S1024x1024) _ _ _ _ _ zero_at zero_at]
  rfl

set_option maxHeartbeats 1000000 in
theorem sout0_C_0_eq (hc0 : ¬cond0_0 i) (hc1 : ¬cond0_1 i) (hc2 : cond0_2 i) :
    sout0_C_0 c i arg2 harg2 arg3 harg3 arg4 harg4 arg5 harg5 arg6 harg6 arg7 harg7 arg8 harg8 arg9 harg9 arg10 harg10 hc0 hc1 hc2 x0 x1 x2 x3 x4 x5 xo7 xs0 (F := Ideal)
      = added x0 x4 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 hc2 x0 x1 x2 x3 x4 x5 xo7 xs0)]
  unfold kernelRun0_C
  dsimp only
  sl_unfold_words
  rw [View.canon_cons_unit_zero origin2]
  simp only [View.readAt_eq_ld, harg2.read_unread, harg3.read_unread, harg4.read_unread, harg5.read_unread, harg6.read_unread, harg7.read_unread, harg8.read_unread, harg9.read_unread, harg10.read_unread, View.ld_unit_zero (S := S1024x1024) origin2, View.ld_unit_zero (S := S1x1024) origin2, View.readCov_unit_zero (S := S1024x1024) _ origin2, View.readCov_unit_zero (S := S1x1024) _ origin2]
  rfl

theorem sout0_D_0_eq (hc0 : cond0_0 i) (hc1 : ¬cond0_1 i) (hc2 : ¬cond0_2 i) :
    sout0_D_0 c i arg2 harg2 arg3 harg3 arg4 harg4 arg5 harg5 arg6 harg6 arg7 harg7 arg8 harg8 arg9 harg9 arg10 harg10 hc0 hc1 hc2 x0 x1 x2 x3 x4 x5 (F := Ideal)
      = added x0 x4 (k0_pay6 (F := Ideal)) := by
  unfold sout0_D_0
  rw [View.read_writes_eq_canon _ _ _ (scover0_D_0 c i arg2 harg2 arg3 harg3 arg4 harg4 arg5 harg5 arg6 harg6 arg7 harg7 arg8 harg8 arg9 harg9 arg10 harg10 hc0 hc1 hc2 x0 x1 x2 x3 x4 x5)]
  unfold kernelRun0_D
  dsimp only
  sl_unfold_words
  rw [View.canon_cons_unit_zero origin2]
  simp only [View.readAt_eq_ld, harg2.read_unread, harg3.read_unread, harg4.read_unread, harg5.read_unread, harg6.read_unread, harg7.read_unread, harg8.read_unread, harg9.read_unread, harg10.read_unread, View.ld_unit_zero (S := S1024x1024) origin2, View.ld_unit_zero (S := S1x1024) origin2, View.readCov_unit_zero (S := S1024x1024) _ origin2, View.readCov_unit_zero (S := S1x1024) _ origin2]
  rw [View.readCov_cons_unit_lit' (S := S1024x1024) _ _ _ _ _ zero_at zero_at]
  rfl

end Cert.InBwd

end
-- ==== Proof.InBwd.Blocks.lean ====
module

public import proofs.«01_k».proof.Proof.Step.Rms
public import proofs.«01_k».proof.Proof.Gen.Kernel4Ideal.Frame
public import Idealize.ShloMosaic.Lib.StableHlo.ReadAt

@[expose] public section

/-! # The input projection, backward: what a grid point reads

The projection's cotangent and the weights, their 5120 columns in 8 slabs of 640, are the host's work in front of the launch.
A point's blocks are the tokens of its row block and two slabs. -/

set_option maxRecDepth 16384

noncomputable section

open Idealize Idealize.ShloMosaic Idealize.ShloMosaic.TcCoe Idealize.SL.Sem
open scoped BigOperators
open Cert.Kernel4Ideal Cert.Kernel4Ideal.Gen

namespace Cert.InBwd

open Cert.Conv (at2 eq_at2)
open Cert.Step

/-! ## The normalised tokens' cotangent -/

/-- The cotangent of the normalised tokens, through the projection. -/
def back (z w : Nat → Nat → EReal) (n d : Nat) : EReal := ∑ k : Fin 5120, z n k.val * w d k.val

/-- What two slabs add to it. -/
def backPart (z w : Nat → Nat → EReal) (n d s : Nat) : EReal :=
  ∑ k : Fin 640, z n (1280 * s + k.val) * w d (1280 * s + k.val)
    + ∑ k : Fin 640, z n (1280 * s + (640 + k.val)) * w d (1280 * s + (640 + k.val))

theorem backPart_sum (z w : Nat → Nat → EReal) (n d : Nat) : ∑ s ∈ Finset.range 4, backPart z w n d s = back z w n d := by
  rw [Finset.sum_range]
  refine Eq.trans ?_ (sum_cut 4 1280 fun k => z n k * w d k).symm
  refine Finset.sum_congr rfl fun s _ => ?_
  exact (Fin.sum_univ_add (a := 640) (b := 640) fun r => z n (1280 * s.val + r.val) * w d (1280 * s.val + r.val)).symm

variable (c : Dev nD) (m : (ℓ : Loc nD τ sig) → Buf (Elt Ideal) ℓ)

/-- The projection's cotangent, the other cotangent of the tokens, the tokens, the scale and the weights, as the launch
    finds them. -/
abbrev argDz : Arr 2048 5120 := m ((c : Thread nD τ).loc main_arg0)
abbrev argDx : Arr 2048 1024 := m ((c : Thread nD τ).loc main_arg1)
abbrev argX : Arr 2048 1024 := m ((c : Thread nD τ).loc main_arg2)
abbrev argG : Row 1024 := m ((c : Thread nD τ).loc main_arg3)
abbrev argW : Arr 1024 5120 := m ((c : Thread nD τ).loc main_arg4)

/-! ## The host's arrays -/

theorem host_dz (n : Fin 2048) (p : Fin 5120) : (V m c main_v0 : S2048x5120.Idx → EReal) (ix2 n p) = argDz c m (ix2 n p) := by
  unfold V
  after_reads_at

theorem host_g (z : Fin 1) (d : Fin 1024) : (V m c main_v1 : S1x1024.Idx → EReal) (ix2 z d) = at1 (argG c m) d.val := by
  unfold V
  after_reads_at
  exact (at1_ix1 (argG c m) d).symm

theorem host_w (q : Fin 8) (d : Fin 1024) (k : Fin 640) : (V m c main_v4 : S8x1024x640.Idx → EReal) (ix3 q d k)
    = at2 (argW c m) d.val (640 * q.val + k.val) := by
  unfold V
  after_reads_at
  rw [at2_lt _ _ _ d.isLt (by omega)]
  congr 1
  exact congrArg (ix2 d) (Fin.ext (by dsimp only; omega))

theorem host_w_at (j : S8x1024x640.Idx) : (V m c main_v4 : S8x1024x640.Idx → EReal) j
    = at2 (argW c m) (j 1).val (640 * (j 0).val + (j 2).val) :=
  (congrArg (V m c main_v4 : S8x1024x640.Idx → EReal) (eq_ix3 j)).trans (host_w c m (j 0) (j 1) (j 2))

/-! ## The blocks -/

theorem points8 : cfg0.N = 8 := N_0

theorem at_index0 : ∀ t : Fin cfg0.N, win0_0.index t 0 = t.val / 4 ∧ win0_0.index t 1 = t.val % 4 := (by decide +kernel : ∀ t : Fin grid0.N, _)
theorem at_index1 : ∀ t : Fin cfg0.N, win0_1.index t 0 = t.val / 4 ∧ win0_1.index t 1 = 0 := (by decide +kernel : ∀ t : Fin grid0.N, _)
theorem at_index2 : ∀ t : Fin cfg0.N, win0_2.index t 0 = t.val / 4 ∧ win0_2.index t 1 = 0 := (by decide +kernel : ∀ t : Fin grid0.N, _)
theorem at_index3 : ∀ t : Fin cfg0.N, win0_3.index t 0 = 0 ∧ win0_3.index t 1 = 0 := (by decide +kernel : ∀ t : Fin grid0.N, _)
theorem at_index4 : ∀ t : Fin cfg0.N, win0_4.index t 0 = t.val % 4 ∧ win0_4.index t 1 = 0 ∧ win0_4.index t 2 = 0 := (by decide +kernel : ∀ t : Fin grid0.N, _)
theorem at_index6 : ∀ t : Fin cfg0.N, win0_6.index t 0 = t.val / 4 ∧ win0_6.index t 1 = 0 := (by decide +kernel : ∀ t : Fin grid0.N, _)
theorem at_index7 : ∀ t : Fin cfg0.N, win0_7.index t 0 = 0 ∧ win0_7.index t 1 = 0 := (by decide +kernel : ∀ t : Fin grid0.N, _)

/-- The token of a block's row. -/
abbrev tok (t : Fin cfg0.N) (a : Nat) : Nat := 1024 * (t.val / 4) + a

variable (t : Fin cfg0.N)

theorem tok_lt (a : Fin 1024) : tok t a.val < 2048 := by
  have ht : t.val < 8 := lt_of_lt_of_eq t.isLt points8
  have := a.isLt
  unfold tok
  omega

theorem read0 (a : Fin 1024) (b : Fin 1280) : (iblk m c 0 t : S1024x1280.Idx → EReal) (ix2 a b)
    = at2 (argDz c m) (tok t a.val) (1280 * (t.val % 4) + b.val) := by
  obtain ⟨e0, e1⟩ := at_index0 t
  have hb : 1280 * (t.val % 4) + b.val < 5120 := by have := b.isLt; omega
  refine (eq_at2 (V m c main_v0 : Arr 2048 5120) _ (1024 * (t.val / 4) + a.val) (1280 * (t.val % 4) + b.val)
    (show win0_0.index t 0 * 1024 + 1 * a.val = _ by rw [e0]; omega)
    (show win0_0.index t 1 * 1280 + 1 * b.val = _ by rw [e1]; omega)).trans ?_
  exact (at2_lt _ _ _ (tok_lt t a) hb).trans ((host_dz c m ⟨_, tok_lt t a⟩ ⟨_, hb⟩).trans (at2_lt _ _ _ (tok_lt t a) hb).symm)

theorem read1 (a d : Fin 1024) : (iblk m c 1 t : S1024x1024.Idx → EReal) (ix2 a d) = at2 (argDx c m) (tok t a.val) d.val := by
  obtain ⟨e0, e1⟩ := at_index1 t
  refine (eq_at2 (V m c main_arg1 : Arr 2048 1024) _ (1024 * (t.val / 4) + a.val) d.val
    (show win0_1.index t 0 * 1024 + 1 * a.val = _ by rw [e0]; omega)
    (show win0_1.index t 1 * 1024 + 1 * d.val = _ by rw [e1]; omega)).trans ?_
  rw [V_main_arg1]

theorem read2 (a d : Fin 1024) : (iblk m c 2 t : S1024x1024.Idx → EReal) (ix2 a d) = at2 (argX c m) (tok t a.val) d.val := by
  obtain ⟨e0, e1⟩ := at_index2 t
  refine (eq_at2 (V m c main_arg2 : Arr 2048 1024) _ (1024 * (t.val / 4) + a.val) d.val
    (show win0_2.index t 0 * 1024 + 1 * a.val = _ by rw [e0]; omega)
    (show win0_2.index t 1 * 1024 + 1 * d.val = _ by rw [e1]; omega)).trans ?_
  rw [V_main_arg2]

theorem read3 (z : Fin 1) (d : Fin 1024) : (iblk m c 3 t : S1x1024.Idx → EReal) (ix2 z d) = at1 (argG c m) d.val := by
  obtain ⟨e0, e1⟩ := at_index3 t
  refine (eq_at2 (V m c main_v1 : Arr 1 1024) _ z.val d.val (show win0_3.index t 0 * 1 + 1 * z.val = _ by rw [e0]; omega)
    (show win0_3.index t 1 * 1024 + 1 * d.val = _ by rw [e1]; omega)).trans ?_
  exact (at2_ix2 _ z d).trans (host_g c m z d)

theorem read4 (q : Fin 2) (d : Fin 1024) (k : Fin 640) : (iblk m c 4 t : S2x1024x640.Idx → EReal) (ix3 q d k)
    = at2 (argW c m) d.val (1280 * (t.val % 4) + (640 * q.val + k.val)) := by
  obtain ⟨e0, e1, e2⟩ := at_index4 t
  have q0 : (((win0_4.blk t).view.emb (ix3 q d k)) 0).val = 2 * (t.val % 4) + q.val := by
    show win0_4.index t 0 * 2 + 1 * q.val = _
    rw [e0]; omega
  have q1 : (((win0_4.blk t).view.emb (ix3 q d k)) 1).val = d.val := by
    show win0_4.index t 1 * 1024 + 1 * d.val = _
    rw [e1]; omega
  have q2 : (((win0_4.blk t).view.emb (ix3 q d k)) 2).val = k.val := by
    show win0_4.index t 2 * 640 + 1 * k.val = _
    rw [e2]; omega
  refine (host_w_at c m ((win0_4.blk t).view.emb (ix3 q d k))).trans ?_
  rw [q0, q1, q2]
  exact congrArg (at2 (argW c m) d.val) (by omega)

end Cert.InBwd

end
-- ==== Proof.InBwd.Grid.lean ====
module

public import proofs.«01_k».proof.Proof.InBwd.Points
public import proofs.«01_k».proof.Proof.InBwd.Blocks

@[expose] public section

/-! # The input projection, backward: over the grid

The sum a row block carries, the scale's gradient the whole grid carries, and what the last points hand on. -/

set_option maxRecDepth 16384

noncomputable section

open Idealize Idealize.ShloMosaic Idealize.ShloMosaic.TcCoe Idealize.SL.Sem
open scoped BigOperators
open Cert.Kernel4Ideal Cert.Kernel4Ideal.Gen

namespace Cert.InBwd

open Cert.Conv (at2 eq_at2)
open Cert.Step

/-! ## The payloads, at an index -/

section
variable (x0 : Vec Ideal S1024x1280 .bf16) (x1 x2 y : Vec Ideal S1024x1024 .f32) (x3 u v : Vec Ideal S1x1024 .f32)
  (x4 : Vec Ideal S2x1024x640 .bf16) (b : Vec Ideal S1024x640 .bf16) (w : Vec Ideal S1x1024x640 .bf16) (a d : Fin 1024) (z : Fin 1) (k : Fin 640)

theorem pay2_apply : (k0_pay2 (F := Ideal) x2 : S1024x1.Idx → EReal) (ix2 a z)
    = Ideal.div (∑ k : Fin 1024, x2 (ix2 a k) * x2 (ix2 a k)) (Ideal.ofBits .f32 0x44800000#32) + Ideal.ofBits .f32 0x358637BD#32 := by
  pointwise [k0_pay2]

theorem pay4_apply : (k0_pay4 (F := Ideal) x2 y : S1x1024.Idx → EReal) (ix2 z d)
    = ∑ a : Fin 1024, x2 (ix2 a d) * Ideal.rsqrt ((k0_pay2 (F := Ideal) x2 : S1024x1.Idx → EReal) (ix2 a 0)) * y (ix2 a d) := by
  pointwise [k0_pay4, k0_pay3]

theorem pay1_apply : (k0_pay1 (F := Ideal) u v : S1x1024.Idx → EReal) (ix2 z d) = v (ix2 z d) + u (ix2 z d) := by
  pointwise [k0_pay1]

theorem pay6_apply : (k0_pay6 (F := Ideal) : S1024x1024.Idx → EReal) (ix2 a d) = 0 := by
  pointwise [k0_pay6]

theorem pay7_apply : (k0_pay7 (F := Ideal) : S1x1024.Idx → EReal) (ix2 z d) = 0 := by
  pointwise [k0_pay7]

theorem pay8_apply : (k0_pay8 (F := Ideal) y b w : S1024x1024.Idx → EReal) (ix2 a d)
    = y (ix2 a d) + ∑ k : Fin 640, b (ix2 a k) * w (ix3 0 d k) := by
  pointwise [k0_pay8]

theorem pay9_apply : (k0_pay9 (F := Ideal) y b w : S1024x1024.Idx → EReal) (ix2 a d)
    = y (ix2 a d) + ∑ k : Fin 640, b (ix2 a k) * w (ix3 0 d k) := by
  pointwise [k0_pay9]

/-! A point's two slabs. -/

theorem left_slab : View.ld x0 (Rect.unit ![0, 0] S1024x640.size inb_S1024x1280_S1024x640_0_0) (ix2 a k)
    = x0 (ix2 a ⟨k.val, by omega⟩) :=
  congrArg x0 (funext fun i => match i with
    | ⟨0, _⟩ => Fin.ext (by show 0 + 1 * a.val = a.val; omega)
    | ⟨1, _⟩ => Fin.ext (by show 0 + 1 * k.val = k.val; omega))

theorem right_slab : View.ld x0 (Rect.unit ![0, 640] S1024x640.size inb_S1024x1280_S1024x640_0_640) (ix2 a k)
    = x0 (ix2 a ⟨640 + k.val, by omega⟩) :=
  congrArg x0 (funext fun i => match i with
    | ⟨0, _⟩ => Fin.ext (by show 0 + 1 * a.val = a.val; omega)
    | ⟨1, _⟩ => Fin.ext (by show 640 + 1 * k.val = 640 + k.val; omega))

theorem first_weights : View.ld x4 (Rect.unit ![0, 0, 0] S1x1024x640.size inb_S2x1024x640_S1x1024x640_0_0_0) (ix3 0 d k)
    = x4 (ix3 0 d k) :=
  congrArg x4 (funext fun i => match i with
    | ⟨0, _⟩ => Fin.ext (by show 0 + 1 * 0 = 0; omega)
    | ⟨1, _⟩ => Fin.ext (by show 0 + 1 * d.val = d.val; omega)
    | ⟨2, _⟩ => Fin.ext (by show 0 + 1 * k.val = k.val; omega))

theorem second_weights : View.ld x4 (Rect.unit ![1, 0, 0] S1x1024x640.size inb_S2x1024x640_S1x1024x640_1_0_0) (ix3 0 d k)
    = x4 (ix3 1 d k) :=
  congrArg x4 (funext fun i => match i with
    | ⟨0, _⟩ => Fin.ext (by show 1 + 1 * 0 = 1; omega)
    | ⟨1, _⟩ => Fin.ext (by show 0 + 1 * d.val = d.val; omega)
    | ⟨2, _⟩ => Fin.ext (by show 0 + 1 * k.val = k.val; omega))

theorem added_apply : (added x0 x4 y : S1024x1024.Idx → EReal) (ix2 a d) = y (ix2 a d)
    + (∑ k : Fin 640, x0 (ix2 a ⟨k.val, by omega⟩) * x4 (ix3 0 d k) + ∑ k : Fin 640, x0 (ix2 a ⟨640 + k.val, by omega⟩) * x4 (ix3 1 d k)) := by
  unfold added
  rw [pay9_apply, pay8_apply, add_assoc]
  refine congrArg (y (ix2 a d) + ·) (congrArg₂ (· + ·) ?_ ?_)
  · exact Finset.sum_congr rfl fun k _ => congrArg₂ (fun p q : EReal => p * q) (left_slab x0 a k) (first_weights x4 d k)
  · exact Finset.sum_congr rfl fun k _ => congrArg₂ (fun p q : EReal => p * q) (right_slab x0 a k) (second_weights x4 d k)

/-- The last point's result, from functions that agree with its blocks. -/
theorem pay5_apply (X Y Z : Nat → Nat → EReal) (G : Nat → EReal) (n : Nat) (hx : ∀ d : Fin 1024, x2 (ix2 a d) = X n d.val)
    (hy : ∀ d : Fin 1024, y (ix2 a d) = Y n d.val) (hz : ∀ d : Fin 1024, x1 (ix2 a d) = Z n d.val)
    (hg : ∀ d : Fin 1024, x3 (ix2 0 d) = G d.val) :
    (k0_pay5 (F := Ideal) x2 x3 y x1 : S1024x1024.Idx → EReal) (ix2 a d) = gradToken X G Z Y n d.val := by
  have hm : (k0_pay2 (F := Ideal) x2 : S1024x1.Idx → EReal) (ix2 a 0) = ms X n := by
    rw [pay2_apply]; simp only [hx, ms]
  pointwise [k0_pay5, k0_pay3]
  simp only [Fin.sum_univ_one, hm, hx, hy, hz, hg]
  rfl
end

/-! ## Points -/

variable (c : Dev nD) (m : (ℓ : Loc nD τ sig) → Buf (Elt Ideal) ℓ)

/-- The normalised tokens' cotangent. -/
abbrev dnOf : Nat → Nat → EReal := back (at2 (argDz c m)) (at2 (argW c m))

section
variable (t : Fin cfg0.N)

/-- What a point adds to the carried sum. -/
theorem add_at (y : Vec Ideal S1024x1024 .f32) (a d : Fin 1024) : (added (iblk m c 0 t) (iblk m c 4 t) y : S1024x1024.Idx → EReal) (ix2 a d)
      = y (ix2 a d) + backPart (at2 (argDz c m)) (at2 (argW c m)) (tok t a.val) d.val (t.val % 4) := by
  refine (added_apply _ _ _ a d).trans (congrArg (y (ix2 a d) + ·) (congrArg₂ (· + ·) ?_ ?_))
  · exact Finset.sum_congr rfl fun k _ => congrArg₂ (· * ·) (read0 c m t a ⟨k.val, by omega⟩)
      ((read4 c m t 0 d k).trans (congrArg (at2 (argW c m) d.val) (by show _ + (640 * 0 + _) = _; omega)))
  · exact Finset.sum_congr rfl fun k _ => congrArg₂ (· * ·) (read0 c m t a ⟨640 + k.val, by omega⟩)
      ((read4 c m t 1 d k).trans (congrArg (at2 (argW c m) d.val) (by show _ + (640 * 1 + _) = _; omega)))

/-! What the frame's cases leave. -/

theorem acc_first (h0 : t.val % 4 = 0) : (outsAt0 m c t.val t.isLt).2.2 = added (iblk m c 0 t) (iblk m c 4 t) (k0_pay6 (F := Ideal)) := by
  by_cases h1 : t.val % 8 = 0
  · rw [outsAt0_A m c t h0 h1 (by omega)]; dsimp only; rw [sout0_A_0_eq]
  · rw [outsAt0_D m c t h0 h1 (by omega)]; dsimp only; rw [sout0_D_0_eq]

theorem acc_next (h0 : ¬t.val % 4 = 0) : (outsAt0 m c t.val t.isLt).2.2
    = added (iblk m c 0 t) (iblk m c 4 t) (outsAt0 m c (t.val - 1) (Nat.lt_of_le_of_lt (Nat.sub_le _ _) t.isLt)).2.2 := by
  by_cases h2 : t.val % 4 = 3
  · rw [outsAt0_C m c t h0 (by omega) h2]; dsimp only; rw [sout0_C_0_eq]
  · rw [outsAt0_B m c t h0 (by omega) h2]; dsimp only; rw [sout0_B_0_eq]

theorem out6_last (h2 : t.val % 4 = 3) : (outsAt0 m c t.val t.isLt).1
    = k0_pay5 (F := Ideal) (iblk m c 2 t) (iblk m c 3 t) (outsAt0 m c t.val t.isLt).2.2 (iblk m c 1 t) := by
  rw [acc_next c m t (by omega), outsAt0_C m c t (by omega) (by omega) h2]; dsimp only; rw [out0_C_6_eq]

theorem out7_first (h1 : t.val % 8 = 0) : (outsAt0 m c t.val t.isLt).2.1 = k0_pay7 (F := Ideal) := by
  rw [outsAt0_A m c t (by omega) h1 (by omega)]; dsimp only; rw [out0_A_7_eq]

theorem out7_keep (h1 : ¬t.val % 8 = 0) (h2 : ¬t.val % 4 = 3) : (outsAt0 m c t.val t.isLt).2.1
    = (outsAt0 m c (t.val - 1) (Nat.lt_of_le_of_lt (Nat.sub_le _ _) t.isLt)).2.1 := by
  by_cases h0 : t.val % 4 = 0
  · rw [outsAt0_D m c t h0 h1 h2]; dsimp only; unfold out0_D_7; rfl
  · rw [outsAt0_B m c t h0 h1 h2]; dsimp only; unfold out0_B_7; rfl

theorem out7_last (h2 : t.val % 4 = 3) : (outsAt0 m c t.val t.isLt).2.1
    = k0_pay1 (F := Ideal) (k0_pay4 (F := Ideal) (iblk m c 2 t) (outsAt0 m c t.val t.isLt).2.2)
        (outsAt0 m c (t.val - 1) (Nat.lt_of_le_of_lt (Nat.sub_le _ _) t.isLt)).2.1 := by
  rw [acc_next c m t (by omega), outsAt0_C m c t (by omega) (by omega) h2]; dsimp only; rw [out0_C_7_eq]

end

/-! ## The carried sums -/

/-- After point `n` the row block's sum holds the parts of the slabs up to its own. -/
theorem acc_at : ∀ (n : Nat) (h : n < cfg0.N) (a d : Fin 1024), ((outsAt0 m c n h).2.2 : S1024x1024.Idx → EReal) (ix2 a d)
    = ∑ s ∈ Finset.range (n % 4 + 1), backPart (at2 (argDz c m)) (at2 (argW c m)) (1024 * (n / 4) + a.val) d.val s := by
  intro n
  induction n with
  | zero =>
    intro h a d
    rw [acc_first c m ⟨0, h⟩ rfl, add_at, pay6_apply, zero_add]
    exact (Finset.sum_range_one _).symm
  | succ n ih =>
    intro h a d
    by_cases h0 : (n + 1) % 4 = 0
    · rw [acc_first c m ⟨n + 1, h⟩ h0, add_at, pay6_apply, zero_add]
      dsimp only
      rw [h0]
      exact (Finset.sum_range_one _).symm
    · rw [acc_next c m ⟨n + 1, h⟩ h0, add_at]
      refine (congrArg (· + _) (ih (Nat.lt_of_succ_lt h) a d)).trans ?_
      rw [Finset.sum_range_succ _ ((n + 1) % 4), show (n + 1) % 4 = n % 4 + 1 by omega, show (n + 1) / 4 = n / 4 by omega]
      rw [show tok (⟨n + 1, h⟩ : Fin cfg0.N) a.val = 1024 * (n / 4) + a.val by unfold tok; dsimp only; omega]

theorem acc_last (t : Fin cfg0.N) (h2 : t.val % 4 = 3) (a d : Fin 1024) :
    ((outsAt0 m c t.val t.isLt).2.2 : S1024x1024.Idx → EReal) (ix2 a d) = dnOf c m (tok t a.val) d.val := by
  rw [acc_at, h2]
  exact backPart_sum _ _ _ _

theorem scale_at : ∀ (n : Nat) (h : n < cfg0.N) (z : Fin 1) (d : Fin 1024), ((outsAt0 m c n h).2.1 : S1x1024.Idx → EReal) (ix2 z d)
    = ∑ s ∈ Finset.range ((n + 1) / 4), ∑ a : Fin 1024, at2 (argX c m) (1024 * s + a.val) d.val
        * rs (at2 (argX c m)) (1024 * s + a.val) * dnOf c m (1024 * s + a.val) d.val := by
  intro n
  induction n with
  | zero =>
    intro h z d
    rw [out7_first c m ⟨0, h⟩ rfl, pay7_apply]
    rfl
  | succ n ih =>
    intro h z d
    by_cases h2 : (n + 1) % 4 = 3
    · rw [out7_last c m ⟨n + 1, h⟩ h2, pay1_apply]
      rw [show (n + 1 + 1) / 4 = (n + 1) / 4 + 1 by omega, Finset.sum_range_succ]
      refine congrArg₂ (· + ·) (ih (Nat.lt_of_succ_lt h) z d) ((pay4_apply _ _ d z).trans (Finset.sum_congr rfl fun a _ => ?_))
      rw [pay2_apply, acc_last c m ⟨n + 1, h⟩ h2]
      simp only [read2]
      rfl
    · have hN : n + 1 < 8 := lt_of_lt_of_eq h points8
      rw [out7_keep c m ⟨n + 1, h⟩ (by dsimp only; omega) h2]
      refine (ih (Nat.lt_of_succ_lt h) z d).trans ?_
      rw [show (n + 1 + 1) / 4 = (n + 1) / 4 by omega]

theorem scale_last (t : Fin cfg0.N) (h : t.val % 8 = 7) (z : Fin 1) (d : Fin 1024) :
    ((outsAt0 m c t.val t.isLt).2.1 : S1x1024.Idx → EReal) (ix2 z d) = gradScale (at2 (argX c m)) (dnOf c m) d.val := by
  have ht : t.val < 8 := lt_of_lt_of_eq t.isLt points8
  rw [scale_at, gradScale_cut, show (t.val + 1) / 4 = 2 by omega]

theorem token_last (t : Fin cfg0.N) (h2 : t.val % 4 = 3) (a d : Fin 1024) :
    ((outsAt0 m c t.val t.isLt).1 : S1024x1024.Idx → EReal) (ix2 a d)
      = gradToken (at2 (argX c m)) (at1 (argG c m)) (at2 (argDx c m)) (dnOf c m) (tok t a.val) d.val := by
  rw [out6_last c m t h2]
  exact pay5_apply _ _ _ _ a d _ _ _ _ _ (fun d => read2 c m t a d) (fun d => acc_last c m t h2 a d) (fun d => read1 c m t a d)
    (fun d => read3 c m t 0 d)

end Cert.InBwd

end
-- ==== Proof.InBwd.Final.lean ====
module

public import proofs.«01_k».proof.Proof.InBwd.Grid
public import Idealize.ShloMosaic.Lib.Pipeline.ValueKit

@[expose] public section

/-! # The input projection, backward: the result arrays -/

set_option maxRecDepth 16384

noncomputable section

open Idealize Idealize.ShloMosaic Idealize.ShloMosaic.TcCoe Idealize.SL.Sem
open scoped BigOperators
open Cert.Kernel4Ideal Cert.Kernel4Ideal.Gen

namespace Cert.InBwd

open Cert.Conv (at2 eq_at2)
open Cert.Step

/-! ## The results, as functions of the five arguments -/

section
variable (dz : Arr 2048 5120) (dx x : Arr 2048 1024) (g : Row 1024) (w : Arr 1024 5120)

/-- The cotangent of the layer's input. -/
def resTok (j : S2048x1024.Idx) : EReal := gradToken (at2 x) (at1 g) (at2 dx) (back (at2 dz) (at2 w)) (j 0).val (j 1).val

/-- The gradient of the normalisation's scale. -/
def resScale (j : S1x1024.Idx) : EReal := gradScale (at2 x) (back (at2 dz) (at2 w)) (j 1).val
end

variable (c : Dev nD) (m : (ℓ : Loc nD τ sig) → Buf (Elt Ideal) ℓ)

theorem final6 : (dats m 0 c).arrAt 6 cfg0.N = resTok (argDz c m) (argDx c m) (argX c m) (argG c m) (argW c m) := by
  refine (dats m 0 c).arrAt_eq_of_covers 6 _ (by decide +kernel) fun t hf y => ?_
  obtain ⟨e0, e1⟩ := at_index6 t
  blk_simp
  rw [after0_6]
  refine ((congrArg (outsAt0 m c t.val t.isLt).1 (eq_ix2 y)).trans (token_last c m t ((flush0_6 t).mp hf) (y 0) (y 1))).trans
    (congrArg₂ (gradToken (at2 (argX c m)) (at1 (argG c m)) (at2 (argDx c m)) (dnOf c m)) ?_ ?_)
  · show tok t (y 0).val = win0_6.index t 0 * 1024 + 1 * (y 0).val
    rw [e0]; unfold tok; omega
  · show _ = win0_6.index t 1 * 1024 + 1 * (y 1).val
    rw [e1]; omega

theorem final7 : (dats m 0 c).arrAt 7 cfg0.N = resScale (argDz c m) (argX c m) (argW c m) := by
  refine (dats m 0 c).arrAt_eq_of_covers 7 _ (by decide +kernel) fun t hf y => ?_
  obtain ⟨e0, e1⟩ := at_index7 t
  blk_simp
  rw [after0_7]
  refine ((congrArg (outsAt0 m c t.val t.isLt).2.1 (eq_ix2 y)).trans (scale_last c m t ((flush0_7 t).mp hf) (y 0) (y 1))).trans
    (congrArg (gradScale (at2 (argX c m)) (dnOf c m)) ?_)
  show _ = win0_7.index t 1 * 1024 + 1 * (y 1).val
  rw [e1]; omega

variable (ρ : Dev nD → PrngReg)

/-- From any memory the kernel ends with the two results, its arguments as they were. -/
theorem kernel_run : θ_run defs (onTc (τ := τ) (main (F := Ideal))) ⟨m, fun _ => 0, ρ⟩ fun r => ∀ c : Dev nD,
      r.2.mem ((c.tc : Thread nD τ).loc main_v6_0) = resTok (argDz c m) (argDx c m) (argX c m) (argG c m) (argW c m)
      ∧ r.2.mem ((c.tc : Thread nD τ).loc main_v6_1) = resScale (argDz c m) (argX c m) (argW c m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 6).trans (final6 c m), ((h c).1 7).trans (final7 c m),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.InBwd

end
-- ==== Proof.InBwd.Reference.lean ====
module

public import proofs.«01_k».proof.Proof.InBwd.Final
public import proofs.«01_k».proof.Proof.Gen.Reference4Ideal.Read

@[expose] public section

/-! # The input projection, backward: the reference -/

set_option maxRecDepth 16384

noncomputable section

open Idealize Idealize.ShloMosaic Idealize.ShloMosaic.TcCoe Idealize.SL.Sem
open scoped BigOperators
open Cert.Reference4Ideal Cert.Reference4Ideal.Gen Cert.Reference4Ideal.Value Cert.Reference4Ideal.Read

namespace Cert.InBwd

open Cert.Conv (at2 eq_at2)
open Cert.Step

section
variable (x0 : Arr 2048 5120) (x1 x2 : Arr 2048 1024) (x3 : Row 1024) (x4 : Arr 1024 5120) (n : Fin 2048) (d : Fin 1024) (z : Fin 1)

/-! ## The stages, at an index -/

theorem ref_ms : (val_main_v6 (F := Ideal) x2 : S2048x1.Idx → EReal) (ix2 n z) = ms (at2 x2) n.val := by
  refine Eq.trans ?_ (ms_read x2 n).symm
  pointwise [val_main_v6, val_main_v5, val_main_v4, val_main_v3, val_main_v2, val_main_v1, val_main_v0, val_main_cst, val_main_cst_0,
    val_main_cst_1]

theorem ref_rs : (val_main_v7 (F := Ideal) x2 : S2048x1.Idx → EReal) (ix2 n z) = rs (at2 x2) n.val := by
  refine Eq.trans ?_ (congrArg Ideal.rsqrt (ref_ms x2 n z))
  pointwise [val_main_v7]

theorem ref_dn : (val_main_v17 (F := Ideal) x0 x4 : S2048x1024.Idx → EReal) (ix2 n d) = back (at2 x0) (at2 x4) n.val d.val := by
  refine Eq.trans ?_ (Finset.sum_congr rfl fun k _ => congrArg₂ (· * ·) (at2_ix2 x0 n k).symm (at2_ix2 x4 d k).symm)
  pointwise [val_main_v17]

theorem ref_scale : (val_main_v39 (F := Ideal) x0 x2 x4 : S1x1024.Idx → EReal) (ix2 z d) = gradScale (at2 x2) (back (at2 x0) (at2 x4)) d.val := by
  have e : ∀ n : Fin 2048, x2 (ix2 n d) * (val_main_v7 (F := Ideal) x2 : S2048x1.Idx → EReal) (ix2 n 0)
      * (val_main_v17 (F := Ideal) x0 x4 : S2048x1024.Idx → EReal) (ix2 n d)
      = at2 x2 n.val d.val * rs (at2 x2) n.val * back (at2 x0) (at2 x4) n.val d.val := fun n => by
    rw [at2_ix2, ref_rs, ref_dn]
  refine Eq.trans ?_ (Finset.sum_congr rfl fun n _ => e n)
  pointwise [val_main_v39, val_main_v23, val_main_v20, val_main_v19, val_main_v18, val_main_v12, val_main_v11, val_main_cst_3, val_main_cst_4]
  simp only [Fin.sum_univ_one, zero_add]

theorem ref_token : (val_main_v38 (F := Ideal) x0 x1 x2 x3 x4 : S2048x1024.Idx → EReal) (ix2 n d)
    = gradToken (at2 x2) (at1 x3) (at2 x1) (back (at2 x0) (at2 x4)) n.val d.val := by
  have ez : x1 (ix2 n d) = at2 x1 n.val d.val := (at2_ix2 x1 n d).symm
  have ex : ∀ d, x2 (ix2 n d) = at2 x2 n.val d.val := fun d => (at2_ix2 x2 n d).symm
  have eg : ∀ d, x3 (ix1 d) = at1 x3 d.val := fun d => (at1_ix1 x3 d).symm
  have ey := fun d => ref_dn x0 x4 n d
  have er := ref_rs x2 n
  have em := ref_ms x2 n
  pointwise [val_main_v38, val_main_v37, val_main_v36, val_main_v35, val_main_v34, val_main_v33, val_main_v32, val_main_v31, val_main_v30,
    val_main_v29, val_main_v28, val_main_v27, val_main_v26, val_main_v25, val_main_v24, val_main_v22, val_main_v21, val_main_v13,
    val_main_v10, val_main_v9, val_main_v8, val_main_cst_2, val_main_cst_5, val_main_cst_6, val_main_cst_7]
  simp only [Fin.sum_univ_one, zero_add, ez, ex, eg, ey, er, em]
  unfold gradToken pull
  rw [add_assoc, add_assoc, add_assoc]

end

/-! ## The run -/

variable (m : (ℓ : Loc nD τ sig) → Buf (Elt Ideal) ℓ) (ρ : Dev nD → PrngReg)

/-- From any memory the reference ends with the two results, its arguments as they were. -/
theorem reference_run : θ_run defs (onTc (τ := τ) (main (F := Ideal))) ⟨m, fun _ => 0, ρ⟩ fun r => ∀ c : Dev nD,
      r.2.mem ((c.tc : Thread nD τ).loc main_v38) = resTok (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v39) = resScale (m ((c.tc : Thread nD τ).loc main_arg0))
        (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    obtain ⟨ht, hs, rest⟩ := h c
    refine ⟨ht.trans ((val_main_v38_eq m c).trans (funext fun j => ?_)), hs.trans ((val_main_v39_eq _ _ _).trans (funext fun j => ?_)), rest⟩
    · exact (congrArg (val_main_v38 (F := Ideal) _ _ _ _ _) (eq_ix2 j)).trans (ref_token _ _ _ _ _ (j 0) (j 1))
    · exact (congrArg (val_main_v39 (F := Ideal) _ _ _) (eq_ix2 j)).trans (ref_scale _ _ _ (j 1) (j 0)))
    (Cert.Reference4Ideal.Value.run m ρ)

end Cert.InBwd

end
-- ==== Proof.TnIn.Points.lean ====
module

public import proofs.«01_k».proof.Proof.Step.Math
public import proofs.«01_k».proof.Proof.Gen.Kernel5Ideal.Frame
public import Idealize.ShloMosaic.Lib.Pipeline.ValueKit
public import Idealize.ShloMosaic.Lib.StableHlo.ReadAt

@[expose] public section

/-! # The gradient of the input projection's weights: one grid point, and the result array

Every grid point clears its accumulator, adds one product over all 2048 tokens, and hands it on as two slabs of 640
columns, one for each owner of the columns. -/

set_option maxRecDepth 16384

noncomputable section

open Idealize Idealize.ShloMosaic Idealize.ShloMosaic.TcCoe Idealize.SL.Sem
open scoped BigOperators
open Cert.Kernel5Ideal Cert.Kernel5Ideal.Gen

namespace Cert.TnIn

open Cert.Conv (at2 at2_idx eq_at2)
open Cert.Step

variable (c : Dev nD) (i : grid0.Coords) (arg3 : Memref sig .tc .vmem S2048x1024 .bf16) (harg3 : arg3.IsWhole)
  (arg4 : Memref sig .tc .vmem S2048x1280 .bf16) (harg4 : arg4.IsWhole) (arg5 : Memref sig .tc .vmem S2x1024x640 .bf16)
  (harg5 : arg5.IsWhole) (arg6 : Memref sig .tc .vmem S1024x1280 .f32) (harg6 : arg6.IsWhole)
  (x0 : Vec Ideal S2048x1024 .bf16) (x1 : Vec Ideal S2048x1280 .bf16)

/-- What the accumulator holds: the product over the tokens. -/
theorem product_apply (a : Fin 1024) (b : Fin 1280) : (k0_pay2 (F := Ideal) (k0_pay1 (F := Ideal)) x0 x1 : S1024x1280.Idx → EReal) (ix2 a b)
    = ∑ n : Fin 2048, x0 (ix2 n a) * x1 (ix2 n b) := by
  pointwise [k0_pay2, k0_pay1]

/-- What a grid point hands on, slab `q` of its two. -/
theorem point_apply (hc0 : cond0_0 i) (hc1 : cond0_1 i) (y : S2x1024x640.Idx) :
    (out0_A_2 c i arg3 harg3 arg4 harg4 arg5 harg5 arg6 harg6 hc0 hc1 x0 x1 (F := Ideal) : S2x1024x640.Idx → EReal) y
      = at2 (k0_pay2 (F := Ideal) (k0_pay1 (F := Ideal)) x0 x1 : Arr 1024 1280) (y 1).val (640 * (y 0).val + (y 2).val) := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  simp only [View.readAt_eq_ld, harg3.read_unread, harg4.read_unread,
    View.ld_unit_zero (S := S2048x1024) origin2, View.ld_unit_zero (S := S2048x1280) origin2,
    View.readCov_unit_zero (S := S1024x1280) _ origin2, View.readCov_eq_canon']
  simp only [View.canon_cons_unit_zero (S := S1024x1280) origin2]
  generalize k0_pay2 (F := Ideal) (k0_pay1 (F := Ideal)) x0 x1 = acc
  canon_tiles x h
  all_goals
    pointwise [k0_pay3, k0_pay4]
  · exact eq_at2 (acc : Arr 1024 1280) _ _ _ h1.symm (show 640 + (x 2).val = _ by omega)
  · exact eq_at2 (acc : Arr 1024 1280) _ _ _ h1.symm (show (x 2).val = _ by omega)

variable (m : (ℓ : Loc nD τ sig) → Buf (Elt Ideal) ℓ)

/-- The cotangent of the projection and the tokens' activations, as the launch finds them. -/
abbrev argCt : Arr 2048 5120 := m ((c : Thread nD τ).loc main_arg0)
abbrev argH : Arr 2048 1024 := m ((c : Thread nD τ).loc main_arg1)

theorem host_h (n : Fin 2048) (p : Fin 1024) : (V m c main_v0 : S2048x1024.Idx → EReal) (ix2 n p) = argH c m (ix2 n p) := by
  unfold V
  after_reads_at

theorem host_ct (n : Fin 2048) (p : Fin 5120) : (V m c main_v1 : S2048x5120.Idx → EReal) (ix2 n p) = argCt c m (ix2 n p) := by
  unfold V
  after_reads_at

/-! ## The blocks a point reads -/

theorem at_index0 : ∀ t : Fin cfg0.N, win0_0.index t 0 = 0 ∧ win0_0.index t 1 = 0 := (by decide +kernel : ∀ t : Fin grid0.N, _)
theorem at_index1 : ∀ t : Fin cfg0.N, win0_1.index t 0 = 0 ∧ win0_1.index t 1 = t.val := (by decide +kernel : ∀ t : Fin grid0.N, _)
theorem at_index2 : ∀ t : Fin cfg0.N, win0_2.index t 0 = t.val ∧ win0_2.index t 1 = 0 ∧ win0_2.index t 2 = 0 := (by decide +kernel : ∀ t : Fin grid0.N, _)

theorem points4 : cfg0.N = 4 := N_0

theorem read0 (t : Fin cfg0.N) (n : Fin 2048) (a : Fin 1024) : (iblk m c 0 t : S2048x1024.Idx → EReal) (ix2 n a)
    = at2 (argH c m) n.val a.val := by
  obtain ⟨e0, e1⟩ := at_index0 t
  refine (eq_at2 (V m c main_v0 : Arr 2048 1024) _ n.val a.val (show win0_0.index t 0 * 2048 + 1 * n.val = _ by rw [e0]; omega)
    (show win0_0.index t 1 * 1024 + 1 * a.val = _ by rw [e1]; omega)).trans ?_
  rw [at2_ix2, at2_ix2]
  exact host_h c m n a

theorem read1 (t : Fin cfg0.N) (n : Fin 2048) (b : Fin 1280) : (iblk m c 1 t : S2048x1280.Idx → EReal) (ix2 n b)
    = at2 (argCt c m) n.val (1280 * t.val + b.val) := by
  obtain ⟨e0, e1⟩ := at_index1 t
  have ht : t.val < 4 := lt_of_lt_of_eq t.isLt points4
  have hp : 1280 * t.val + b.val < 5120 := by have := b.isLt; omega
  refine (eq_at2 (V m c main_v1 : Arr 2048 5120) _ n.val (1280 * t.val + b.val) (show win0_1.index t 0 * 2048 + 1 * n.val = _ by rw [e0]; omega)
    (show win0_1.index t 1 * 1280 + 1 * b.val = _ by rw [e1]; omega)).trans ?_
  rw [at2_lt _ _ _ n.isLt hp, at2_lt _ _ _ n.isLt hp]
  exact host_ct c m n ⟨_, hp⟩

/-! ## The result array -/

/-- The gradient of the projection's weights at row `a` and column `b`. -/
def grad (ct : Arr 2048 5120) (h : Arr 2048 1024) (a b : Nat) : EReal := ∑ n : Fin 2048, at2 h n.val a * at2 ct n.val b

/-- The gradient, its 5120 columns in 8 slabs of 640. -/
def resGrad (ct : Arr 2048 5120) (h : Arr 2048 1024) : S8x1024x640.Idx → EReal :=
  fun j => grad ct h (j 1).val (640 * (j 0).val + (j 2).val)

theorem point_eq (t : Fin cfg0.N) (y : S2x1024x640.Idx) : (outsAt0 m c t : S2x1024x640.Idx → EReal) y
    = grad (argCt c m) (argH c m) (y 1).val (1280 * t.val + 640 * (y 0).val + (y 2).val) := by
  have h0 : (y 0).val < 2 := (y 0).isLt
  have h1 : (y 1).val < 1024 := (y 1).isLt
  have h2 : (y 2).val < 640 := (y 2).isLt
  have hb : 640 * (y 0).val + (y 2).val < 1280 := by omega
  unfold outsAt0
  rw [point_apply, at2_lt _ _ _ h1 hb]
  refine (product_apply _ _ _ _).trans (Finset.sum_congr rfl fun n _ => congrArg₂ (· * ·) (read0 c m t n _) ((read1 c m t n _).trans ?_))
  exact congrArg (at2 (argCt c m) n.val) (Nat.add_assoc _ _ _).symm

theorem final : (dats m 0 c).arrAt 2 cfg0.N = resGrad (argCt c m) (argH c m) := by
  refine (dats m 0 c).arrAt_eq_of_covers 2 _ (by decide +kernel) fun t hf y => ?_
  obtain ⟨e0, e1, e2⟩ := at_index2 t
  blk_simp
  rw [after0_2]
  have q0 : (((win0_2.blk t).view.emb y) 0).val = 2 * t.val + (y 0).val := by
    show win0_2.index t 0 * 2 + 1 * (y 0).val = _
    rw [e0]; omega
  have q1 : (((win0_2.blk t).view.emb y) 1).val = (y 1).val := by
    show win0_2.index t 1 * 1024 + 1 * (y 1).val = _
    rw [e1]; omega
  have q2 : (((win0_2.blk t).view.emb y) 2).val = (y 2).val := by
    show win0_2.index t 2 * 640 + 1 * (y 2).val = _
    rw [e2]; omega
  refine (point_eq c m t y).trans ?_
  rw [resGrad, q0, q1, q2]
  exact congrArg (grad (argCt c m) (argH c m) (y 1).val) (by omega)

variable (ρ : Dev nD → PrngReg)

/-- From any memory the kernel ends with the gradient in its result, its arguments as they were. -/
theorem kernel_run : θ_run defs (onTc (τ := τ) (main (F := Ideal))) ⟨m, fun _ => 0, ρ⟩ fun r => ∀ c : Dev nD,
      r.2.mem ((c.tc : Thread nD τ).loc main_v2) = resGrad (argCt c m) (argH c m)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final c m),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.TnIn

end
-- ==== Proof.TnIn.Reference.lean ====
module

public import proofs.«01_k».proof.Proof.TnIn.Points
public import proofs.«01_k».proof.Proof.Gen.Reference5Ideal.Run

@[expose] public section

/-! # The gradient of the input projection's weights: the reference -/

set_option maxRecDepth 16384

noncomputable section

open Idealize Idealize.ShloMosaic Idealize.ShloMosaic.TcCoe Idealize.SL.Sem
open scoped BigOperators
open Cert.Reference5Ideal Cert.Reference5Ideal.Gen Cert.Reference5Ideal.Value

namespace Cert.TnIn

open Cert.Conv (at2 at2_idx eq_at2)
open Cert.Step

/-- The reference's value as one term over its two arguments. -/
def refGrad (x0 : FVec Ideal S2048x5120 .f32) (x1 : FVec Ideal S2048x1024 .f32) : FVec Ideal S8x1024x640 .bf16 :=
  truncf .bf16 (transpose S8x1024x640 [1, 0, 2] (shapeCast _ (transpose S1024x5120 [1, 0] (Host.dotGeneral dot_S2048x5120_S2048x1024_S5120x1024_0_0_1_1_n_n none x0 x1) transposes_S5120x1024_S1024x5120_1_0) shapeCasts_S1024x5120_S1024x8x640) transposes_S1024x8x640_S8x1024x640_1_0_2) bitsLt_bf16_f32

theorem refGrad_apply (x0 : FVec Ideal S2048x5120 .f32) (x1 : FVec Ideal S2048x1024 .f32) (q : Fin 8) (a : Fin 1024) (b : Fin 640) :
    refGrad x0 x1 (ix3 q a b) = grad x0 x1 a.val (640 * q.val + b.val) := by
  pointwise [refGrad]
  refine Finset.sum_congr rfl fun n _ => ?_
  rw [mul_comm]
  exact congrArg₂ (· * ·) (at2_ix2 x1 n a).symm (eq_at2 x0 _ _ _ rfl (show q.val * 640 + b.val = _ by omega))

variable (m : (ℓ : Loc nD τ sig) → Buf (Elt Ideal) ℓ) (ρ : Dev nD → PrngReg)

/-- From any memory the reference ends with the gradient of its arguments, the arguments as they were. -/
theorem reference_run : θ_run defs (onTc (τ := τ) (main (F := Ideal))) ⟨m, fun _ => 0, ρ⟩ fun r => ∀ c : Dev nD,
      r.2.mem ((c.tc : Thread nD τ).loc main_v6) = resGrad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨hg, h0, h1⟩ := h c
    exact ⟨hg.trans (funext fun j => (congrArg (refGrad _ _) (eq_ix3 j)).trans (refGrad_apply _ _ (j 0) (j 1) (j 2))), h0, h1⟩)
    (Cert.Reference5Ideal.Value.run m ρ)

end Cert.TnIn

end
-- ==== Proof.TnDown.Points.lean ====
module

public import proofs.«01_k».proof.Proof.Step.Math
public import proofs.«01_k».proof.Proof.Gen.Kernel8Ideal.Frame
public import Idealize.ShloMosaic.Lib.Pipeline.ValueKit
public import Idealize.ShloMosaic.Lib.StableHlo.ReadAt

@[expose] public section

/-! # The gradient of the down projection's weights: one grid point, and the result array

Every grid point clears its accumulator, adds one product over all 2048 tokens and hands it on. The padded activations
are the host's work in front of the launch. -/

set_option maxRecDepth 16384

noncomputable section

open Idealize Idealize.ShloMosaic Idealize.ShloMosaic.TcCoe Idealize.SL.Sem
open scoped BigOperators
open Cert.Kernel8Ideal Cert.Kernel8Ideal.Gen

namespace Cert.TnDown

open Cert.Conv (at2 at2_idx eq_at2)
open Cert.Step

variable (c : Dev nD) (i : grid0.Coords) (arg3 : Memref sig .tc .vmem S2048x1024 .bf16) (harg3 : arg3.IsWhole)
  (arg4 : Memref sig .tc .vmem S2048x1024 .f32) (harg4 : arg4.IsWhole) (arg5 : Memref sig .tc .vmem S1024x1024 .bf16)
  (harg5 : arg5.IsWhole) (arg6 : Memref sig .tc .vmem S1024x1024 .f32) (harg6 : arg6.IsWhole)
  (x0 : Vec Ideal S2048x1024 .bf16) (x1 : Vec Ideal S2048x1024 .f32)

theorem out0_A_2_eq (hc0 : cond0_0 i) (hc1 : cond0_1 i) :
    out0_A_2 c i arg3 harg3 arg4 harg4 arg5 harg5 arg6 harg6 hc0 hc1 x0 x1 (F := Ideal)
      = k0_pay3 (k0_pay2 (k0_pay1 (F := Ideal)) x0 x1) := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_cons_unit_zero origin2]
  simp only [View.readAt_eq_ld, harg3.read_unread, harg4.read_unread,
    View.ld_unit_zero (S := S2048x1024) origin2, View.ld_unit_zero (S := S2048x1024) origin2, View.ld_unit_zero (S := S1024x1024) origin2,
    View.readCov_unit_zero (S := S1024x1024) _ origin2]
  rw [View.readCov_cons_unit_lit' (S := S1024x1024) _ _ _ _ _ zero_at zero_at]

/-- What a grid point hands on: the product over the tokens. -/
theorem point_apply (a : Fin 1024) (b : Fin 1024) : (k0_pay3 (F := Ideal) (k0_pay2 k0_pay1 x0 x1) : S1024x1024.Idx → EReal) (ix2 a b)
    = ∑ n : Fin 2048, x0 (ix2 n a) * x1 (ix2 n b) := by
  pointwise [k0_pay3, k0_pay2, k0_pay1]

variable (m : (ℓ : Loc nD τ sig) → Buf (Elt Ideal) ℓ)

/-- The product's input and its cotangent, as the launch finds them. -/
abbrev argAct : Arr 2048 2816 := m ((c : Thread nD τ).loc main_arg0)
abbrev argCt : Arr 2048 1024 := m ((c : Thread nD τ).loc main_arg1)

theorem host_in (n : Fin 2048) (p : Fin 3072) : (V m c main_v3 : S2048x3072.Idx → EReal) (ix2 n p)
    = spread (at2 (argAct c m) n.val) p.val := by
  unfold V
  after_reads_at
  exact spread_dif (at2 (argAct c m) n.val) p.val p.isLt (fun h => argAct c m (ix2 n ⟨p.val / 384 * 352 + p.val % 384, by omega⟩)) _
    int_zero (fun h => (at2_lt _ _ _ n.isLt _).symm)

/-! ## The blocks a point reads -/

theorem at_index0 : ∀ t : Fin cfg0.N, win0_0.index t 0 = 0 ∧ win0_0.index t 1 = t.val := (by decide +kernel : ∀ t : Fin grid0.N, _)
theorem at_index1 : ∀ t : Fin cfg0.N, win0_1.index t 0 = 0 ∧ win0_1.index t 1 = 0 := (by decide +kernel : ∀ t : Fin grid0.N, _)
theorem at_index2 : ∀ t : Fin cfg0.N, win0_2.index t 0 = t.val ∧ win0_2.index t 1 = 0 := (by decide +kernel : ∀ t : Fin grid0.N, _)

theorem points3 : cfg0.N = 3 := N_0

theorem read0 (t : Fin cfg0.N) (n : Fin 2048) (a : Fin 1024) : (iblk m c 0 t : S2048x1024.Idx → EReal) (ix2 n a)
    = spread (at2 (argAct c m) n.val) (1024 * t.val + a.val) := by
  obtain ⟨e0, e1⟩ := at_index0 t
  have ht : t.val < 3 := lt_of_lt_of_eq t.isLt points3
  have hp : 1024 * t.val + a.val < 3072 := by have := a.isLt; omega
  refine (eq_at2 (V m c main_v3 : Arr 2048 3072) _ n.val (1024 * t.val + a.val) (show win0_0.index t 0 * 2048 + 1 * n.val = _ by rw [e0]; omega)
    (show win0_0.index t 1 * 1024 + 1 * a.val = _ by rw [e1]; omega)).trans ?_
  exact (at2_lt _ _ _ n.isLt hp).trans (host_in c m n ⟨_, hp⟩)

theorem read1 (t : Fin cfg0.N) (n : Fin 2048) (b : Fin 1024) : (iblk m c 1 t : S2048x1024.Idx → EReal) (ix2 n b)
    = at2 (argCt c m) n.val b.val := by
  obtain ⟨e0, e1⟩ := at_index1 t
  refine (eq_at2 (V m c main_arg1 : Arr 2048 1024) _ n.val b.val (show win0_1.index t 0 * 2048 + 1 * n.val = _ by rw [e0]; omega)
    (show win0_1.index t 1 * 1024 + 1 * b.val = _ by rw [e1]; omega)).trans ?_
  rw [V_main_arg1]

/-! ## The result array -/

/-- The gradient of the down projection's weights, its 2816 rows in 8 groups padded to 384. -/
def grad (v : Arr 2048 2816) (ct : Arr 2048 1024) (p b : Nat) : EReal := spread (fun k => ∑ n : Fin 2048, at2 v n.val k * at2 ct n.val b) p

theorem grad_sum (v : Arr 2048 2816) (ct : Arr 2048 1024) (p b : Nat) :
    ∑ n : Fin 2048, spread (at2 v n.val) p * at2 ct n.val b = grad v ct p b := by
  unfold grad spread
  split
  · rfl
  · simp only [zero_mul, Finset.sum_const_zero]

def resGrad (v : Arr 2048 2816) (ct : Arr 2048 1024) : S3072x1024.Idx → EReal := fun j => grad v ct (j 0).val (j 1).val

theorem point_eq (t : Fin cfg0.N) (a : Fin 1024) (b : Fin 1024) : (outsAt0 m c t : S1024x1024.Idx → EReal) (ix2 a b)
    = grad (argAct c m) (argCt c m) (1024 * t.val + a.val) b.val := by
  unfold outsAt0
  rw [out0_A_2_eq]
  refine (point_apply _ _ a b).trans ?_
  rw [← grad_sum]
  exact Finset.sum_congr rfl fun n _ => congrArg₂ (· * ·) (read0 c m t n a) (read1 c m t n b)

theorem final : (dats m 0 c).arrAt 2 cfg0.N = resGrad (argAct c m) (argCt c m) := by
  refine (dats m 0 c).arrAt_eq_of_covers 2 _ (by decide +kernel) fun t hf y => ?_
  obtain ⟨e0, e1⟩ := at_index2 t
  blk_simp
  rw [after0_2]
  refine ((congrArg (outsAt0 m c t) (eq_ix2 y)).trans (point_eq c m t (y 0) (y 1))).trans
    (congrArg₂ (grad (argAct c m) (argCt c m)) ?_ ?_)
  · show _ = win0_2.index t 0 * 1024 + 1 * (y 0).val
    rw [e0]; omega
  · show _ = win0_2.index t 1 * 1024 + 1 * (y 1).val
    rw [e1]; omega

variable (ρ : Dev nD → PrngReg)

/-- From any memory the kernel ends with the gradient in its result, its arguments as they were. -/
theorem kernel_run : θ_run defs (onTc (τ := τ) (main (F := Ideal))) ⟨m, fun _ => 0, ρ⟩ fun r => ∀ c : Dev nD,
      r.2.mem ((c.tc : Thread nD τ).loc main_v4) = resGrad (argAct c m) (argCt c m)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final c m),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c)))⟩)
    (run_main m ρ)

end Cert.TnDown

end
-- ==== Proof.TnDown.Reference.lean ====
module

public import proofs.«01_k».proof.Proof.TnDown.Points
public import proofs.«01_k».proof.Proof.Gen.Reference8Ideal.Run

@[expose] public section

/-! # The gradient of the down projection's weights: the reference -/

set_option maxRecDepth 16384

noncomputable section

open Idealize Idealize.ShloMosaic Idealize.ShloMosaic.TcCoe Idealize.SL.Sem
open scoped BigOperators
open Cert.Reference8Ideal Cert.Reference8Ideal.Gen Cert.Reference8Ideal.Value

namespace Cert.TnDown

open Cert.Conv (at2 at2_idx eq_at2)
open Cert.Step

/-- The reference's value as one term over its two arguments. -/
def refGrad (x0 : FVec Ideal S2048x2816 .f32) (x1 : FVec Ideal S2048x1024 .f32) : FVec Ideal S3072x1024 .bf16 :=
  truncf .bf16 (shapeCast _ (pad S8x384x1024 ![0, 0, 0] ![0, 32, 0] ![0, 0, 0] (shapeCast _ (transpose S2816x1024 [1, 0] (Host.dotGeneral dot_S2048x1024_S2048x2816_S1024x2816_0_0_1_1_n_n none x1 x0) transposes_S1024x2816_S2816x1024_1_0) shapeCasts_S2816x1024_S8x352x1024) (sitofp .f32 (constantI S_ 32 0#32)) pads_S8x352x1024_S8x384x1024_000_0320_000 h_S_) shapeCasts_S8x384x1024_S3072x1024) bitsLt_bf16_f32

theorem refGrad_apply (x0 : FVec Ideal S2048x2816 .f32) (x1 : FVec Ideal S2048x1024 .f32) (p : Fin 3072) (b : Fin 1024) :
    refGrad x0 x1 (ix2 p b) = grad x0 x1 p.val b.val := by
  pointwise [refGrad]
  exact spread_dif (fun k => ∑ n : Fin 2048, at2 x0 n.val k * at2 x1 n.val b.val)
    p.val p.isLt (fun h => ∑ n : Fin 2048, x1 (ix2 n b) * x0 (ix2 n ⟨p.val / 384 * 352 + p.val % 384, by omega⟩)) _ int_zero
    (fun h => Finset.sum_congr rfl fun n _ => (mul_comm _ _).trans (congrArg₂ (· * ·) (at2_lt x0 _ _ n.isLt _).symm (at2_ix2 x1 n b).symm))

variable (m : (ℓ : Loc nD τ sig) → Buf (Elt Ideal) ℓ) (ρ : Dev nD → PrngReg)

/-- From any memory the reference ends with the gradient of its arguments, the arguments as they were. -/
theorem reference_run : θ_run defs (onTc (τ := τ) (main (F := Ideal))) ⟨m, fun _ => 0, ρ⟩ fun r => ∀ c : Dev nD,
      r.2.mem ((c.tc : Thread nD τ).loc main_v7) = resGrad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨hg, h0, h1⟩ := h c
    exact ⟨hg.trans (funext fun j => (congrArg (refGrad _ _) (eq_ix2 j)).trans (refGrad_apply _ _ (j 0) (j 1))), h0, h1⟩)
    (Cert.Reference8Ideal.Value.run m ρ)

end Cert.TnDown

end
-- ==== Proof.TnOut.Points.lean ====
module

public import proofs.«01_k».proof.Proof.Step.Math
public import proofs.«01_k».proof.Proof.Gen.Kernel9Ideal.Frame
public import Idealize.ShloMosaic.Lib.Pipeline.ValueKit
public import Idealize.ShloMosaic.Lib.StableHlo.ReadAt

@[expose] public section

/-! # The gradient of the output projection's weights: one grid point, and the result array

The one grid point clears its accumulator, adds the product over all 2048 tokens and hands it on. -/

set_option maxRecDepth 16384

noncomputable section

open Idealize Idealize.ShloMosaic Idealize.ShloMosaic.TcCoe Idealize.SL.Sem
open scoped BigOperators
open Cert.Kernel9Ideal Cert.Kernel9Ideal.Gen

namespace Cert.TnOut

open Cert.Conv (at2 at2_idx eq_at2)
open Cert.Step

variable (c : Dev nD) (i : grid0.Coords) (arg3 : Memref sig .tc .vmem S2048x1024 .bf16) (harg3 : arg3.IsWhole)
  (arg4 : Memref sig .tc .vmem S2048x1024 .f32) (harg4 : arg4.IsWhole) (arg5 : Memref sig .tc .vmem S1024x1024 .bf16)
  (harg5 : arg5.IsWhole) (arg6 : Memref sig .tc .vmem S1024x1024 .f32) (harg6 : arg6.IsWhole)
  (x0 : Vec Ideal S2048x1024 .bf16) (x1 : Vec Ideal S2048x1024 .f32)

theorem out0_A_2_eq (hc0 : cond0_0 i) (hc1 : cond0_1 i) :
    out0_A_2 c i arg3 harg3 arg4 harg4 arg5 harg5 arg6 harg6 hc0 hc1 x0 x1 (F := Ideal)
      = k0_pay3 (k0_pay2 (k0_pay1 (F := Ideal)) x0 x1) := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_cons_unit_zero origin2]
  simp only [View.readAt_eq_ld, harg3.read_unread, harg4.read_unread,
    View.ld_unit_zero (S := S2048x1024) origin2, View.ld_unit_zero (S := S2048x1024) origin2, View.ld_unit_zero (S := S1024x1024) origin2,
    View.readCov_unit_zero (S := S1024x1024) _ origin2]
  rw [View.readCov_cons_unit_lit' (S := S1024x1024) _ _ _ _ _ zero_at zero_at]

/-- What a grid point hands on: the product over the tokens. -/
theorem point_apply (a : Fin 1024) (b : Fin 1024) : (k0_pay3 (F := Ideal) (k0_pay2 k0_pay1 x0 x1) : S1024x1024.Idx → EReal) (ix2 a b)
    = ∑ n : Fin 2048, x0 (ix2 n a) * x1 (ix2 n b) := by
  pointwise [k0_pay3, k0_pay2, k0_pay1]

variable (m : (ℓ : Loc nD τ sig) → Buf (Elt Ideal) ℓ)

/-- The product's input and its cotangent, as the launch finds them. -/
abbrev argIn : Arr 2048 1024 := m ((c : Thread nD τ).loc main_arg0)
abbrev argCt : Arr 2048 1024 := m ((c : Thread nD τ).loc main_arg1)

theorem host_in (n : Fin 2048) (p : Fin 1024) : (V m c main_v0 : S2048x1024.Idx → EReal) (ix2 n p) = argIn c m (ix2 n p) := by
  unfold V
  after_reads_at

/-! ## The blocks a point reads -/

theorem at_index0 : ∀ t : Fin cfg0.N, win0_0.index t 0 = 0 ∧ win0_0.index t 1 = t.val := (by decide +kernel : ∀ t : Fin grid0.N, _)
theorem at_index1 : ∀ t : Fin cfg0.N, win0_1.index t 0 = 0 ∧ win0_1.index t 1 = 0 := (by decide +kernel : ∀ t : Fin grid0.N, _)
theorem at_index2 : ∀ t : Fin cfg0.N, win0_2.index t 0 = t.val ∧ win0_2.index t 1 = 0 := (by decide +kernel : ∀ t : Fin grid0.N, _)

theorem points1 : cfg0.N = 1 := N_0

theorem read0 (t : Fin cfg0.N) (n : Fin 2048) (a : Fin 1024) : (iblk m c 0 t : S2048x1024.Idx → EReal) (ix2 n a)
    = at2 (argIn c m) n.val (1024 * t.val + a.val) := by
  obtain ⟨e0, e1⟩ := at_index0 t
  have ht : t.val < 1 := lt_of_lt_of_eq t.isLt points1
  have hp : 1024 * t.val + a.val < 1024 := by have := a.isLt; omega
  refine (eq_at2 (V m c main_v0 : Arr 2048 1024) _ n.val (1024 * t.val + a.val) (show win0_0.index t 0 * 2048 + 1 * n.val = _ by rw [e0]; omega)
    (show win0_0.index t 1 * 1024 + 1 * a.val = _ by rw [e1]; omega)).trans ?_
  exact (at2_lt _ _ _ n.isLt hp).trans ((host_in c m n ⟨_, hp⟩).trans (at2_lt _ _ _ n.isLt hp).symm)

theorem read1 (t : Fin cfg0.N) (n : Fin 2048) (b : Fin 1024) : (iblk m c 1 t : S2048x1024.Idx → EReal) (ix2 n b)
    = at2 (argCt c m) n.val b.val := by
  obtain ⟨e0, e1⟩ := at_index1 t
  refine (eq_at2 (V m c main_arg1 : Arr 2048 1024) _ n.val b.val (show win0_1.index t 0 * 2048 + 1 * n.val = _ by rw [e0]; omega)
    (show win0_1.index t 1 * 1024 + 1 * b.val = _ by rw [e1]; omega)).trans ?_
  rw [V_main_arg1]

/-! ## The result array -/

/-- The gradient of the output projection's weights at row `p` and column `b`. -/
def grad (v : Arr 2048 1024) (ct : Arr 2048 1024) (p b : Nat) : EReal := ∑ n : Fin 2048, at2 v n.val p * at2 ct n.val b

def resGrad (v : Arr 2048 1024) (ct : Arr 2048 1024) : S1024x1024.Idx → EReal := fun j => grad v ct (j 0).val (j 1).val

theorem point_eq (t : Fin cfg0.N) (a : Fin 1024) (b : Fin 1024) : (outsAt0 m c t : S1024x1024.Idx → EReal) (ix2 a b)
    = grad (argIn c m) (argCt c m) (1024 * t.val + a.val) b.val := by
  unfold outsAt0
  rw [out0_A_2_eq]
  refine (point_apply _ _ a b).trans ?_
  exact Finset.sum_congr rfl fun n _ => congrArg₂ (· * ·) (read0 c m t n a) (read1 c m t n b)

theorem final : (dats m 0 c).arrAt 2 cfg0.N = resGrad (argIn c m) (argCt c m) := by
  refine (dats m 0 c).arrAt_eq_of_covers 2 _ (by decide +kernel) fun t hf y => ?_
  obtain ⟨e0, e1⟩ := at_index2 t
  blk_simp
  rw [after0_2]
  refine ((congrArg (outsAt0 m c t) (eq_ix2 y)).trans (point_eq c m t (y 0) (y 1))).trans
    (congrArg₂ (grad (argIn c m) (argCt c m)) ?_ ?_)
  · show _ = win0_2.index t 0 * 1024 + 1 * (y 0).val
    rw [e0]; omega
  · show _ = win0_2.index t 1 * 1024 + 1 * (y 1).val
    rw [e1]; omega

variable (ρ : Dev nD → PrngReg)

/-- From any memory the kernel ends with the gradient in its result, its arguments as they were. -/
theorem kernel_run : θ_run defs (onTc (τ := τ) (main (F := Ideal))) ⟨m, fun _ => 0, ρ⟩ fun r => ∀ c : Dev nD,
      r.2.mem ((c.tc : Thread nD τ).loc main_v1) = resGrad (argIn c m) (argCt c m)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final c m),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c)))⟩)
    (run_main m ρ)

end Cert.TnOut

end
-- ==== Proof.TnOut.Reference.lean ====
module

public import proofs.«01_k».proof.Proof.TnOut.Points
public import proofs.«01_k».proof.Proof.Gen.Reference9Ideal.Run

@[expose] public section

/-! # The gradient of the output projection's weights: the reference -/

set_option maxRecDepth 16384

noncomputable section

open Idealize Idealize.ShloMosaic Idealize.ShloMosaic.TcCoe Idealize.SL.Sem
open scoped BigOperators
open Cert.Reference9Ideal Cert.Reference9Ideal.Gen Cert.Reference9Ideal.Value

namespace Cert.TnOut

open Cert.Conv (at2 at2_idx eq_at2)
open Cert.Step

/-- The reference's value as one term over its two arguments. -/
def refGrad (x0 : FVec Ideal S2048x1024 .f32) (x1 : FVec Ideal S2048x1024 .f32) : FVec Ideal S1024x1024 .bf16 :=
  truncf .bf16 (transpose S1024x1024 [1, 0] (Host.dotGeneral dot_S2048x1024_S2048x1024_S1024x1024_0_0_1_1_n_n none x1 x0) transposes_S1024x1024_S1024x1024_1_0) bitsLt_bf16_f32

theorem refGrad_apply (x0 : FVec Ideal S2048x1024 .f32) (x1 : FVec Ideal S2048x1024 .f32) (p : Fin 1024) (b : Fin 1024) :
    refGrad x0 x1 (ix2 p b) = grad x0 x1 p.val b.val := by
  pointwise [refGrad]
  refine Finset.sum_congr rfl fun n _ => ?_
  rw [mul_comm]
  exact congrArg₂ (· * ·) (at2_ix2 x0 n p).symm (at2_ix2 x1 n b).symm

variable (m : (ℓ : Loc nD τ sig) → Buf (Elt Ideal) ℓ) (ρ : Dev nD → PrngReg)

/-- From any memory the reference ends with the gradient of its arguments, the arguments as they were. -/
theorem reference_run : θ_run defs (onTc (τ := τ) (main (F := Ideal))) ⟨m, fun _ => 0, ρ⟩ fun r => ∀ c : Dev nD,
      r.2.mem ((c.tc : Thread nD τ).loc main_v4) = resGrad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨hg, h0, h1⟩ := h c
    exact ⟨hg.trans (funext fun j => (congrArg (refGrad _ _) (eq_ix2 j)).trans (refGrad_apply _ _ (j 0) (j 1))), h0, h1⟩)
    (Cert.Reference9Ideal.Value.run m ρ)

end Cert.TnOut

end
-- ==== Proof.TnProj.Points.lean ====
module

public import proofs.«01_k».proof.Proof.Step.Math
public import proofs.«01_k».proof.Proof.Gen.Kernel10Ideal.Frame
public import Idealize.ShloMosaic.Lib.Pipeline.ValueKit
public import Idealize.ShloMosaic.Lib.StableHlo.ReadAt

@[expose] public section

/-! # The gradient of a mixer's projection's weights: one grid point, and the result array

The one grid point clears its accumulator, adds the product over all 2048 tokens and hands it on in 8 slabs of 128
columns. -/

set_option maxRecDepth 16384

noncomputable section

open Idealize Idealize.ShloMosaic Idealize.ShloMosaic.TcCoe Idealize.SL.Sem
open scoped BigOperators
open Cert.Kernel10Ideal Cert.Kernel10Ideal.Gen

namespace Cert.TnProj

open Cert.Conv (at2 at2_idx eq_at2)
open Cert.Step

variable (c : Dev nD) (i : grid0.Coords) (arg3 : Memref sig .tc .vmem S2048x512 .bf16) (harg3 : arg3.IsWhole)
  (arg4 : Memref sig .tc .vmem S2048x1024 .bf16) (harg4 : arg4.IsWhole) (arg5 : Memref sig .tc .vmem S8x512x128 .bf16)
  (harg5 : arg5.IsWhole) (arg6 : Memref sig .tc .vmem S512x1024 .f32) (harg6 : arg6.IsWhole)
  (x0 : Vec Ideal S2048x512 .bf16) (x1 : Vec Ideal S2048x1024 .bf16)

/-- What the accumulator holds: the product over the tokens. -/
theorem product_apply (a : Fin 512) (b : Fin 1024) : (k0_pay2 (F := Ideal) (k0_pay1 (F := Ideal)) x0 x1 : S512x1024.Idx → EReal) (ix2 a b)
    = ∑ n : Fin 2048, x0 (ix2 n a) * x1 (ix2 n b) := by
  pointwise [k0_pay2, k0_pay1]

/-- What a grid point hands on, slab `q` of its two. -/
theorem point_apply (hc0 : cond0_0 i) (hc1 : cond0_1 i) (y : S8x512x128.Idx) :
    (out0_A_2 c i arg3 harg3 arg4 harg4 arg5 harg5 arg6 harg6 hc0 hc1 x0 x1 (F := Ideal) : S8x512x128.Idx → EReal) y
      = at2 (k0_pay2 (F := Ideal) (k0_pay1 (F := Ideal)) x0 x1 : Arr 512 1024) (y 1).val (128 * (y 0).val + (y 2).val) := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  simp only [View.readAt_eq_ld, harg3.read_unread, harg4.read_unread,
    View.ld_unit_zero (S := S2048x512) origin2, View.ld_unit_zero (S := S2048x1024) origin2,
    View.readCov_unit_zero (S := S512x1024) _ origin2, View.readCov_eq_canon']
  simp only [View.canon_cons_unit_zero (S := S512x1024) origin2]
  generalize k0_pay2 (F := Ideal) (k0_pay1 (F := Ideal)) x0 x1 = acc
  canon_tiles x h
  all_goals
    pointwise [k0_pay3, k0_pay4, k0_pay5, k0_pay6, k0_pay7, k0_pay8, k0_pay9, k0_pay10, k0_pay11]
  · exact eq_at2 (acc : Arr 512 1024) _ _ _ h1.symm (show 896 + (x 2).val = _ by omega)
  · exact eq_at2 (acc : Arr 512 1024) _ _ _ h1.symm (show 768 + (x 2).val = _ by omega)
  · exact eq_at2 (acc : Arr 512 1024) _ _ _ h1.symm (show 640 + (x 2).val = _ by omega)
  · exact eq_at2 (acc : Arr 512 1024) _ _ _ h1.symm (show 512 + (x 2).val = _ by omega)
  · exact eq_at2 (acc : Arr 512 1024) _ _ _ h1.symm (show 384 + (x 2).val = _ by omega)
  · exact eq_at2 (acc : Arr 512 1024) _ _ _ h1.symm (show 256 + (x 2).val = _ by omega)
  · exact eq_at2 (acc : Arr 512 1024) _ _ _ h1.symm (show 128 + (x 2).val = _ by omega)
  · exact eq_at2 (acc : Arr 512 1024) _ _ _ h1.symm (show (x 2).val = _ by omega)

variable (m : (ℓ : Loc nD τ sig) → Buf (Elt Ideal) ℓ)

/-- The product's input and its cotangent, as the launch finds them. -/
abbrev argIn : Arr 2048 512 := m ((c : Thread nD τ).loc main_arg0)
abbrev argCt : Arr 2048 1024 := m ((c : Thread nD τ).loc main_arg1)

theorem host_in (n : Fin 2048) (p : Fin 512) : (V m c main_v0 : S2048x512.Idx → EReal) (ix2 n p) = argIn c m (ix2 n p) := by
  unfold V
  after_reads_at

theorem host_ct (n : Fin 2048) (p : Fin 1024) : (V m c main_v1 : S2048x1024.Idx → EReal) (ix2 n p) = argCt c m (ix2 n p) := by
  unfold V
  after_reads_at

/-! ## The blocks a point reads -/

theorem at_index0 : ∀ t : Fin cfg0.N, win0_0.index t 0 = 0 ∧ win0_0.index t 1 = 0 := (by decide +kernel : ∀ t : Fin grid0.N, _)
theorem at_index1 : ∀ t : Fin cfg0.N, win0_1.index t 0 = 0 ∧ win0_1.index t 1 = 0 := (by decide +kernel : ∀ t : Fin grid0.N, _)
theorem at_index2 : ∀ t : Fin cfg0.N, win0_2.index t 0 = 0 ∧ win0_2.index t 1 = 0 ∧ win0_2.index t 2 = 0 := (by decide +kernel : ∀ t : Fin grid0.N, _)

theorem read0 (t : Fin cfg0.N) (n : Fin 2048) (a : Fin 512) : (iblk m c 0 t : S2048x512.Idx → EReal) (ix2 n a)
    = at2 (argIn c m) n.val a.val := by
  obtain ⟨e0, e1⟩ := at_index0 t
  refine (eq_at2 (V m c main_v0 : Arr 2048 512) _ n.val a.val (show win0_0.index t 0 * 2048 + 1 * n.val = _ by rw [e0]; omega)
    (show win0_0.index t 1 * 512 + 1 * a.val = _ by rw [e1]; omega)).trans ?_
  rw [at2_ix2, at2_ix2]
  exact host_in c m n a

theorem read1 (t : Fin cfg0.N) (n : Fin 2048) (b : Fin 1024) : (iblk m c 1 t : S2048x1024.Idx → EReal) (ix2 n b)
    = at2 (argCt c m) n.val b.val := by
  obtain ⟨e0, e1⟩ := at_index1 t
  refine (eq_at2 (V m c main_v1 : Arr 2048 1024) _ n.val b.val (show win0_1.index t 0 * 2048 + 1 * n.val = _ by rw [e0]; omega)
    (show win0_1.index t 1 * 1024 + 1 * b.val = _ by rw [e1]; omega)).trans ?_
  rw [at2_ix2, at2_ix2]
  exact host_ct c m n b

/-! ## The result array -/

/-- The gradient of the projection's weights at row `a` and column `b`. -/
def grad (v : Arr 2048 512) (ct : Arr 2048 1024) (a b : Nat) : EReal := ∑ n : Fin 2048, at2 v n.val a * at2 ct n.val b

/-- The gradient, its 1024 columns in 8 slabs of 128. -/
def resGrad (v : Arr 2048 512) (ct : Arr 2048 1024) : S8x512x128.Idx → EReal :=
  fun j => grad v ct (j 1).val (128 * (j 0).val + (j 2).val)

theorem point_eq (t : Fin cfg0.N) (y : S8x512x128.Idx) : (outsAt0 m c t : S8x512x128.Idx → EReal) y
    = grad (argIn c m) (argCt c m) (y 1).val (128 * (y 0).val + (y 2).val) := by
  have h0 : (y 0).val < 8 := (y 0).isLt
  have h1 : (y 1).val < 512 := (y 1).isLt
  have h2 : (y 2).val < 128 := (y 2).isLt
  have hb : 128 * (y 0).val + (y 2).val < 1024 := by omega
  unfold outsAt0
  rw [point_apply, at2_lt _ _ _ h1 hb]
  exact (product_apply _ _ _ _).trans (Finset.sum_congr rfl fun n _ => congrArg₂ (· * ·) (read0 c m t n _) (read1 c m t n _))

theorem final : (dats m 0 c).arrAt 2 cfg0.N = resGrad (argIn c m) (argCt c m) := by
  refine (dats m 0 c).arrAt_eq_of_covers 2 _ (by decide +kernel) fun t hf y => ?_
  obtain ⟨e0, e1, e2⟩ := at_index2 t
  blk_simp
  rw [after0_2]
  have q0 : (((win0_2.blk t).view.emb y) 0).val = (y 0).val := by
    show win0_2.index t 0 * 8 + 1 * (y 0).val = _
    rw [e0]; omega
  have q1 : (((win0_2.blk t).view.emb y) 1).val = (y 1).val := by
    show win0_2.index t 1 * 512 + 1 * (y 1).val = _
    rw [e1]; omega
  have q2 : (((win0_2.blk t).view.emb y) 2).val = (y 2).val := by
    show win0_2.index t 2 * 128 + 1 * (y 2).val = _
    rw [e2]; omega
  refine (point_eq c m t y).trans ?_
  rw [resGrad, q0, q1, q2]

variable (ρ : Dev nD → PrngReg)

/-- From any memory the kernel ends with the gradient in its result, its arguments as they were. -/
theorem kernel_run : θ_run defs (onTc (τ := τ) (main (F := Ideal))) ⟨m, fun _ => 0, ρ⟩ fun r => ∀ c : Dev nD,
      r.2.mem ((c.tc : Thread nD τ).loc main_v2) = resGrad (argIn c m) (argCt c m)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final c m),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.TnProj

end
-- ==== Proof.TnProj.Reference.lean ====
module

public import proofs.«01_k».proof.Proof.TnProj.Points
public import proofs.«01_k».proof.Proof.Gen.Reference10Ideal.Run

@[expose] public section

/-! # The gradient of a mixer's projection's weights: the reference -/

set_option maxRecDepth 16384

noncomputable section

open Idealize Idealize.ShloMosaic Idealize.ShloMosaic.TcCoe Idealize.SL.Sem
open scoped BigOperators
open Cert.Reference10Ideal Cert.Reference10Ideal.Gen Cert.Reference10Ideal.Value

namespace Cert.TnProj

open Cert.Conv (at2 at2_idx eq_at2)
open Cert.Step

/-- The reference's value as one term over its two arguments. -/
def refGrad (x0 : FVec Ideal S2048x512 .f32) (x1 : FVec Ideal S2048x1024 .f32) : FVec Ideal S8x512x128 .bf16 :=
  truncf .bf16 (transpose S8x512x128 [1, 0, 2] (shapeCast _ (transpose S512x1024 [1, 0] (Host.dotGeneral dot_S2048x1024_S2048x512_S1024x512_0_0_1_1_n_n none x1 x0) transposes_S1024x512_S512x1024_1_0) shapeCasts_S512x1024_S512x8x128) transposes_S512x8x128_S8x512x128_1_0_2) bitsLt_bf16_f32

theorem refGrad_apply (x0 : FVec Ideal S2048x512 .f32) (x1 : FVec Ideal S2048x1024 .f32) (q : Fin 8) (a : Fin 512) (b : Fin 128) :
    refGrad x0 x1 (ix3 q a b) = grad x0 x1 a.val (128 * q.val + b.val) := by
  pointwise [refGrad]
  refine Finset.sum_congr rfl fun n _ => ?_
  rw [mul_comm]
  exact congrArg₂ (· * ·) (at2_ix2 x0 n a).symm (eq_at2 x1 _ _ _ rfl (show q.val * 128 + b.val = _ by omega))

variable (m : (ℓ : Loc nD τ sig) → Buf (Elt Ideal) ℓ) (ρ : Dev nD → PrngReg)

/-- From any memory the reference ends with the gradient of its arguments, the arguments as they were. -/
theorem reference_run : θ_run defs (onTc (τ := τ) (main (F := Ideal))) ⟨m, fun _ => 0, ρ⟩ fun r => ∀ c : Dev nD,
      r.2.mem ((c.tc : Thread nD τ).loc main_v6) = resGrad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨hg, h0, h1⟩ := h c
    exact ⟨hg.trans (funext fun j => (congrArg (refGrad _ _) (eq_ix3 j)).trans (refGrad_apply _ _ (j 0) (j 1) (j 2))), h0, h1⟩)
    (Cert.Reference10Ideal.Value.run m ρ)

end Cert.TnProj

end
-- ==== Proof.TnGlu.Points.lean ====
module

public import proofs.«01_k».proof.Proof.Step.Math
public import proofs.«01_k».proof.Proof.Gen.Kernel11Ideal.Frame
public import Idealize.ShloMosaic.Lib.Pipeline.ValueKit
public import Idealize.ShloMosaic.Lib.StableHlo.ReadAt

@[expose] public section

/-! # The gradient of the gated unit's weights: one grid point, and the result array

The one grid point clears its accumulator, adds the product over all 2048 tokens and hands it on. -/

set_option maxRecDepth 16384

noncomputable section

open Idealize Idealize.ShloMosaic Idealize.ShloMosaic.TcCoe Idealize.SL.Sem
open scoped BigOperators
open Cert.Kernel11Ideal Cert.Kernel11Ideal.Gen

namespace Cert.TnGlu

open Cert.Conv (at2 at2_idx eq_at2)
open Cert.Step

variable (c : Dev nD) (i : grid0.Coords) (arg3 : Memref sig .tc .vmem S2048x512 .bf16) (harg3 : arg3.IsWhole)
  (arg4 : Memref sig .tc .vmem S2048x512 .bf16) (harg4 : arg4.IsWhole) (arg5 : Memref sig .tc .vmem S512x512 .bf16)
  (harg5 : arg5.IsWhole) (arg6 : Memref sig .tc .vmem S512x512 .f32) (harg6 : arg6.IsWhole)
  (x0 : Vec Ideal S2048x512 .bf16) (x1 : Vec Ideal S2048x512 .bf16)

theorem out0_A_2_eq (hc0 : cond0_0 i) (hc1 : cond0_1 i) :
    out0_A_2 c i arg3 harg3 arg4 harg4 arg5 harg5 arg6 harg6 hc0 hc1 x0 x1 (F := Ideal)
      = k0_pay3 (k0_pay2 (k0_pay1 (F := Ideal)) x0 x1) := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_cons_unit_zero origin2]
  simp only [View.readAt_eq_ld, harg3.read_unread, harg4.read_unread,
    View.ld_unit_zero (S := S2048x512) origin2, View.ld_unit_zero (S := S2048x512) origin2, View.ld_unit_zero (S := S512x512) origin2,
    View.readCov_unit_zero (S := S512x512) _ origin2]
  rw [View.readCov_cons_unit_lit' (S := S512x512) _ _ _ _ _ zero_at zero_at]

/-- What a grid point hands on: the product over the tokens. -/
theorem point_apply (a : Fin 512) (b : Fin 512) : (k0_pay3 (F := Ideal) (k0_pay2 k0_pay1 x0 x1) : S512x512.Idx → EReal) (ix2 a b)
    = ∑ n : Fin 2048, x0 (ix2 n a) * x1 (ix2 n b) := by
  pointwise [k0_pay3, k0_pay2, k0_pay1]

variable (m : (ℓ : Loc nD τ sig) → Buf (Elt Ideal) ℓ)

/-- The product's input and its cotangent, as the launch finds them. -/
abbrev argIn : Arr 2048 512 := m ((c : Thread nD τ).loc main_arg0)
abbrev argCt : Arr 2048 512 := m ((c : Thread nD τ).loc main_arg1)

theorem host_in (n : Fin 2048) (p : Fin 512) : (V m c main_v0 : S2048x512.Idx → EReal) (ix2 n p) = argIn c m (ix2 n p) := by
  unfold V
  after_reads_at

theorem host_ct (n : Fin 2048) (p : Fin 512) : (V m c main_v1 : S2048x512.Idx → EReal) (ix2 n p) = argCt c m (ix2 n p) := by
  unfold V
  after_reads_at

/-! ## The blocks a point reads -/

theorem at_index0 : ∀ t : Fin cfg0.N, win0_0.index t 0 = 0 ∧ win0_0.index t 1 = t.val := (by decide +kernel : ∀ t : Fin grid0.N, _)
theorem at_index1 : ∀ t : Fin cfg0.N, win0_1.index t 0 = 0 ∧ win0_1.index t 1 = 0 := (by decide +kernel : ∀ t : Fin grid0.N, _)
theorem at_index2 : ∀ t : Fin cfg0.N, win0_2.index t 0 = t.val ∧ win0_2.index t 1 = 0 := (by decide +kernel : ∀ t : Fin grid0.N, _)

theorem points1 : cfg0.N = 1 := N_0

theorem read0 (t : Fin cfg0.N) (n : Fin 2048) (a : Fin 512) : (iblk m c 0 t : S2048x512.Idx → EReal) (ix2 n a)
    = at2 (argIn c m) n.val (512 * t.val + a.val) := by
  obtain ⟨e0, e1⟩ := at_index0 t
  have ht : t.val < 1 := lt_of_lt_of_eq t.isLt points1
  have hp : 512 * t.val + a.val < 512 := by have := a.isLt; omega
  refine (eq_at2 (V m c main_v0 : Arr 2048 512) _ n.val (512 * t.val + a.val) (show win0_0.index t 0 * 2048 + 1 * n.val = _ by rw [e0]; omega)
    (show win0_0.index t 1 * 512 + 1 * a.val = _ by rw [e1]; omega)).trans ?_
  exact (at2_lt _ _ _ n.isLt hp).trans ((host_in c m n ⟨_, hp⟩).trans (at2_lt _ _ _ n.isLt hp).symm)

theorem read1 (t : Fin cfg0.N) (n : Fin 2048) (b : Fin 512) : (iblk m c 1 t : S2048x512.Idx → EReal) (ix2 n b)
    = at2 (argCt c m) n.val b.val := by
  obtain ⟨e0, e1⟩ := at_index1 t
  refine (eq_at2 (V m c main_v1 : Arr 2048 512) _ n.val b.val (show win0_1.index t 0 * 2048 + 1 * n.val = _ by rw [e0]; omega)
    (show win0_1.index t 1 * 512 + 1 * b.val = _ by rw [e1]; omega)).trans ?_
  rw [at2_ix2, at2_ix2]
  exact host_ct c m n b

/-! ## The result array -/

/-- The gradient of the gated unit's weights at row `p` and column `b`. -/
def grad (v : Arr 2048 512) (ct : Arr 2048 512) (p b : Nat) : EReal := ∑ n : Fin 2048, at2 v n.val p * at2 ct n.val b

def resGrad (v : Arr 2048 512) (ct : Arr 2048 512) : S512x512.Idx → EReal := fun j => grad v ct (j 0).val (j 1).val

theorem point_eq (t : Fin cfg0.N) (a : Fin 512) (b : Fin 512) : (outsAt0 m c t : S512x512.Idx → EReal) (ix2 a b)
    = grad (argIn c m) (argCt c m) (512 * t.val + a.val) b.val := by
  unfold outsAt0
  rw [out0_A_2_eq]
  refine (point_apply _ _ a b).trans ?_
  exact Finset.sum_congr rfl fun n _ => congrArg₂ (· * ·) (read0 c m t n a) (read1 c m t n b)

theorem final : (dats m 0 c).arrAt 2 cfg0.N = resGrad (argIn c m) (argCt c m) := by
  refine (dats m 0 c).arrAt_eq_of_covers 2 _ (by decide +kernel) fun t hf y => ?_
  obtain ⟨e0, e1⟩ := at_index2 t
  blk_simp
  rw [after0_2]
  refine ((congrArg (outsAt0 m c t) (eq_ix2 y)).trans (point_eq c m t (y 0) (y 1))).trans
    (congrArg₂ (grad (argIn c m) (argCt c m)) ?_ ?_)
  · show _ = win0_2.index t 0 * 512 + 1 * (y 0).val
    rw [e0]; omega
  · show _ = win0_2.index t 1 * 512 + 1 * (y 1).val
    rw [e1]; omega

variable (ρ : Dev nD → PrngReg)

/-- From any memory the kernel ends with the gradient in its result, its arguments as they were. -/
theorem kernel_run : θ_run defs (onTc (τ := τ) (main (F := Ideal))) ⟨m, fun _ => 0, ρ⟩ fun r => ∀ c : Dev nD,
      r.2.mem ((c.tc : Thread nD τ).loc main_v2) = resGrad (argIn c m) (argCt c m)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final c m),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.TnGlu

end
-- ==== Proof.TnGlu.Reference.lean ====
module

public import proofs.«01_k».proof.Proof.TnGlu.Points
public import proofs.«01_k».proof.Proof.Gen.Reference11Ideal.Run

@[expose] public section

/-! # The gradient of the gated unit's weights: the reference -/

set_option maxRecDepth 16384

noncomputable section

open Idealize Idealize.ShloMosaic Idealize.ShloMosaic.TcCoe Idealize.SL.Sem
open scoped BigOperators
open Cert.Reference11Ideal Cert.Reference11Ideal.Gen Cert.Reference11Ideal.Value

namespace Cert.TnGlu

open Cert.Conv (at2 at2_idx eq_at2)
open Cert.Step

/-- The reference's value as one term over its two arguments. -/
def refGrad (x0 : FVec Ideal S2048x512 .f32) (x1 : FVec Ideal S2048x512 .f32) : FVec Ideal S512x512 .bf16 :=
  truncf .bf16 (transpose S512x512 [1, 0] (Host.dotGeneral dot_S2048x512_S2048x512_S512x512_0_0_1_1_n_n none x1 x0) transposes_S512x512_S512x512_1_0) bitsLt_bf16_f32

theorem refGrad_apply (x0 : FVec Ideal S2048x512 .f32) (x1 : FVec Ideal S2048x512 .f32) (p : Fin 512) (b : Fin 512) :
    refGrad x0 x1 (ix2 p b) = grad x0 x1 p.val b.val := by
  pointwise [refGrad]
  refine Finset.sum_congr rfl fun n _ => ?_
  rw [mul_comm]
  exact congrArg₂ (· * ·) (at2_ix2 x0 n p).symm (at2_ix2 x1 n b).symm

variable (m : (ℓ : Loc nD τ sig) → Buf (Elt Ideal) ℓ) (ρ : Dev nD → PrngReg)

/-- From any memory the reference ends with the gradient of its arguments, the arguments as they were. -/
theorem reference_run : θ_run defs (onTc (τ := τ) (main (F := Ideal))) ⟨m, fun _ => 0, ρ⟩ fun r => ∀ c : Dev nD,
      r.2.mem ((c.tc : Thread nD τ).loc main_v4) = resGrad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨hg, h0, h1⟩ := h c
    exact ⟨hg.trans (funext fun j => (congrArg (refGrad _ _) (eq_ix2 j)).trans (refGrad_apply _ _ (j 0) (j 1))), h0, h1⟩)
    (Cert.Reference11Ideal.Value.run m ρ)

end Cert.TnGlu

end
-- ==== Proof.GroupTn.Points.lean ====
module

public import proofs.«01_k».proof.Proof.Step.Math
public import proofs.«01_k».proof.Proof.Gen.Kernel12Ideal.Frame
public import Idealize.ShloMosaic.Lib.Pipeline.ValueKit
public import Idealize.ShloMosaic.Lib.StableHlo.ReadAt

@[expose] public section

/-! # The gradient of the pooling groups' weights: one grid point, and the result array

Each of the four grid points hands on one group's product over all 2048 tokens. -/

set_option maxRecDepth 16384

noncomputable section

open Idealize Idealize.ShloMosaic Idealize.ShloMosaic.TcCoe Idealize.SL.Sem
open scoped BigOperators
open Cert.Kernel12Ideal Cert.Kernel12Ideal.Gen

namespace Cert.GroupTn

open Cert.Conv (at2 at2_idx eq_at2)
open Cert.Step

theorem origin3 : (![0, 0, 0] : Fin 3 → Nat) = fun _ => 0 :=
  funext fun a => match a with | ⟨0, _⟩ => rfl | ⟨1, _⟩ => rfl | ⟨2, _⟩ => rfl

/-- What a grid point hands on: its group's product over the tokens. -/
theorem point_apply (x0 : Vec Ideal S2048x128 .bf16) (x1 : Vec Ideal S2048x128 .bf16) (z : Fin 1) (a b : Fin 128) :
    (out0_2 (F := Ideal) x0 x1 : S1x128x128.Idx → EReal) (ix3 z a b) = ∑ n : Fin 2048, x0 (ix2 n a) * x1 (ix2 n b) := by
  unfold out0_2
  rw [View.canon_unit_zero origin3]
  simp only [View.ld_unit_zero (S := S2048x128) origin2]
  pointwise [k0_pay1]

variable (c : Dev nD) (m : (ℓ : Loc nD τ sig) → Buf (Elt Ideal) ℓ)

/-- The product's input and its cotangent, as the launch finds them. -/
abbrev argIn : Arr 2048 512 := m ((c : Thread nD τ).loc main_arg0)
abbrev argCt : Arr 2048 512 := m ((c : Thread nD τ).loc main_arg1)

theorem host_in (n : Fin 2048) (p : Fin 512) : (V m c main_v0 : S2048x512.Idx → EReal) (ix2 n p) = argIn c m (ix2 n p) := by
  unfold V
  after_reads_at

theorem host_ct (n : Fin 2048) (p : Fin 512) : (V m c main_v1 : S2048x512.Idx → EReal) (ix2 n p) = argCt c m (ix2 n p) := by
  unfold V
  after_reads_at

/-! ## The blocks a point reads -/

theorem at_index0 : ∀ t : Fin cfg0.N, win0_0.index t 0 = 0 ∧ win0_0.index t 1 = t.val := (by decide +kernel : ∀ t : Fin grid0.N, _)
theorem at_index1 : ∀ t : Fin cfg0.N, win0_1.index t 0 = 0 ∧ win0_1.index t 1 = t.val := (by decide +kernel : ∀ t : Fin grid0.N, _)
theorem at_index2 : ∀ t : Fin cfg0.N, win0_2.index t 0 = t.val ∧ win0_2.index t 1 = 0 ∧ win0_2.index t 2 = 0 := (by decide +kernel : ∀ t : Fin grid0.N, _)

theorem points4 : cfg0.N = 4 := N_0

theorem read0 (t : Fin cfg0.N) (n : Fin 2048) (a : Fin 128) : (iblk m c 0 t : S2048x128.Idx → EReal) (ix2 n a)
    = at2 (argIn c m) n.val (128 * t.val + a.val) := by
  obtain ⟨e0, e1⟩ := at_index0 t
  have ht : t.val < 4 := lt_of_lt_of_eq t.isLt points4
  have hp : 128 * t.val + a.val < 512 := by have := a.isLt; omega
  refine (eq_at2 (V m c main_v0 : Arr 2048 512) _ n.val (128 * t.val + a.val) (show win0_0.index t 0 * 2048 + 1 * n.val = _ by rw [e0]; omega)
    (show win0_0.index t 1 * 128 + 1 * a.val = _ by rw [e1]; omega)).trans ?_
  exact (at2_lt _ _ _ n.isLt hp).trans ((host_in c m n ⟨_, hp⟩).trans (at2_lt _ _ _ n.isLt hp).symm)

theorem read1 (t : Fin cfg0.N) (n : Fin 2048) (a : Fin 128) : (iblk m c 1 t : S2048x128.Idx → EReal) (ix2 n a)
    = at2 (argCt c m) n.val (128 * t.val + a.val) := by
  obtain ⟨e0, e1⟩ := at_index1 t
  have ht : t.val < 4 := lt_of_lt_of_eq t.isLt points4
  have hp : 128 * t.val + a.val < 512 := by have := a.isLt; omega
  refine (eq_at2 (V m c main_v1 : Arr 2048 512) _ n.val (128 * t.val + a.val) (show win0_1.index t 0 * 2048 + 1 * n.val = _ by rw [e0]; omega)
    (show win0_1.index t 1 * 128 + 1 * a.val = _ by rw [e1]; omega)).trans ?_
  exact (at2_lt _ _ _ n.isLt hp).trans ((host_ct c m n ⟨_, hp⟩).trans (at2_lt _ _ _ n.isLt hp).symm)

/-! ## The result array -/

/-- The sum over the tokens of the input's column `a` times the cotangent's column `b`. -/
def grad (v ct : Arr 2048 512) (a b : Nat) : EReal := ∑ n : Fin 2048, at2 v n.val a * at2 ct n.val b

/-- The gradient: of each of the four groups the 128 columns' product with the group's own 128. -/
def resGrad (v ct : Arr 2048 512) : S4x128x128.Idx → EReal :=
  fun j => grad v ct (128 * (j 0).val + (j 1).val) (128 * (j 0).val + (j 2).val)

theorem final : (dats m 0 c).arrAt 2 cfg0.N = resGrad (argIn c m) (argCt c m) := by
  refine (dats m 0 c).arrAt_eq_of_covers 2 _ (by decide +kernel) fun t hf y => ?_
  obtain ⟨e0, e1, e2⟩ := at_index2 t
  blk_simp
  rw [after0_2]
  have q0 : (((win0_2.blk t).view.emb y) 0).val = t.val := by
    show win0_2.index t 0 * 1 + 1 * (y 0).val = _
    have : (y 0).val < 1 := (y 0).isLt
    rw [e0]; omega
  have q1 : (((win0_2.blk t).view.emb y) 1).val = (y 1).val := by
    show win0_2.index t 1 * 128 + 1 * (y 1).val = _
    rw [e1]; omega
  have q2 : (((win0_2.blk t).view.emb y) 2).val = (y 2).val := by
    show win0_2.index t 2 * 128 + 1 * (y 2).val = _
    rw [e2]; omega
  refine ((congrArg (out0_2 (iblk m c 0 t) (iblk m c 1 t)) (eq_ix3 y)).trans (point_apply _ _ (y 0) (y 1) (y 2))).trans ?_
  rw [resGrad, q0, q1, q2]
  exact Finset.sum_congr rfl fun n _ => congrArg₂ (· * ·) (read0 c m t n (y 1)) (read1 c m t n (y 2))

variable (ρ : Dev nD → PrngReg)

/-- From any memory the kernel ends with the gradient in its result, its arguments as they were. -/
theorem kernel_run : θ_run defs (onTc (τ := τ) (main (F := Ideal))) ⟨m, fun _ => 0, ρ⟩ fun r => ∀ c : Dev nD,
      r.2.mem ((c.tc : Thread nD τ).loc main_v2) = resGrad (argIn c m) (argCt c m)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final c m),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.GroupTn

end
-- ==== Proof.GroupTn.Reference.lean ====
module

public import proofs.«01_k».proof.Proof.GroupTn.Points
public import proofs.«01_k».proof.Proof.Gen.Reference12Ideal.Run

@[expose] public section

/-! # The gradient of the pooling groups' weights: the reference -/

set_option maxRecDepth 16384

noncomputable section

open Idealize Idealize.ShloMosaic Idealize.ShloMosaic.TcCoe Idealize.SL.Sem
open scoped BigOperators
open Cert.Reference12Ideal Cert.Reference12Ideal.Gen Cert.Reference12Ideal.Value

namespace Cert.GroupTn

open Cert.Conv (at2 at2_idx eq_at2)
open Cert.Step

/-- The reference's value as one term over its two arguments. -/
def refGrad (x0 : FVec Ideal S2048x512 .f32) (x1 : FVec Ideal S2048x512 .f32) : FVec Ideal S4x128x128 .f32 :=
  transpose S4x128x128 [0, 2, 1] (Host.dotGeneral dot_S4x128x2048_S2048x4x128_S4x128x128_2_0_1_2_0_1 none (transpose S4x128x2048 [1, 2, 0] (shapeCast _ x1 shapeCasts_S2048x512_S2048x4x128) transposes_S2048x4x128_S4x128x2048_1_2_0) (shapeCast _ x0 shapeCasts_S2048x512_S2048x4x128)) transposes_S4x128x128_S4x128x128_0_2_1

theorem refGrad_apply (x0 : FVec Ideal S2048x512 .f32) (x1 : FVec Ideal S2048x512 .f32) (q : Fin 4) (a : Fin 128) (b : Fin 128) :
    refGrad x0 x1 (ix3 q a b) = grad x0 x1 (128 * q.val + a.val) (128 * q.val + b.val) := by
  pointwise [refGrad]
  refine Finset.sum_congr rfl fun n _ => ?_
  rw [mul_comm]
  exact congrArg₂ (· * ·) (eq_at2 x0 _ _ _ rfl (show q.val * 128 + a.val = _ by omega)) (eq_at2 x1 _ _ _ rfl (show q.val * 128 + b.val = _ by omega))

variable (m : (ℓ : Loc nD τ sig) → Buf (Elt Ideal) ℓ) (ρ : Dev nD → PrngReg)

/-- From any memory the reference ends with the gradient of its arguments, the arguments as they were. -/
theorem reference_run : θ_run defs (onTc (τ := τ) (main (F := Ideal))) ⟨m, fun _ => 0, ρ⟩ fun r => ∀ c : Dev nD,
      r.2.mem ((c.tc : Thread nD τ).loc main_v7) = resGrad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨hg, h0, h1⟩ := h c
    exact ⟨hg.trans (funext fun j => (congrArg (refGrad _ _) (eq_ix3 j)).trans (refGrad_apply _ _ (j 0) (j 1) (j 2))), h0, h1⟩)
    (Cert.Reference12Ideal.Value.run m ρ)

end Cert.GroupTn

end
-- ==== Proof.InFwd.RunIdeal.lean ====
/- The forward input projection (idealized): the kernel's body run once at a point that begins a row of blocks and once at
   any other point. -/
module

public import proofs.«01_k».proof.Proof.Gen.Kernel7Ideal.Frame
public import proofs.«01_k».proof.Proof.Gen.Kernel7Ideal.Skeleton
public import Idealize.ShloMosaic.Lib.Claim
public import Idealize.ShloMosaic.Lib.Pipeline.TableIdle

@[expose] public section

set_option maxRecDepth 16384

noncomputable section

namespace Cert.Kernel7Ideal.InFwd

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The body's condition, on the grid coordinates: the second one is zero. -/
abbrev fresh_row (i : grid0.Coords) : Prop := k0_cond1 i = 1#1

/-- It holds at every fourth point. -/
theorem fresh_row_iff : ∀ t : Fin cfg0.N, fresh_row (grid0.coords t) ↔ t.val % 4 = 0 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [fresh_row, k0_cond1, e0, e1]
    word_cmp
   : ∀ t : Fin grid0.N, fresh_row (grid0.coords t) ↔ t.val % 4 = 0)

set_option maxHeartbeats 1000000 in
/-- The body where it begins a row: it stores the normalised rows and both column slabs of the product. The stores' pieces are
    found by running it. -/
noncomputable def run_first (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S2x1024x640 .bf16) (harg4 : arg4.IsWhole) (arg5 : Memref sig .tc .vmem S8x128 .f32) (harg5 : arg5.IsWhole) (arg6 : Memref sig .tc .vmem S1024x1280 .f32) (harg6 : arg6.IsWhole) (arg7 : Memref sig .tc .vmem S1024x1024 .bf16) (harg7 : arg7.IsWhole) (hc : fresh_row i) (x0 : Vec F S1024x1024 .f32) (x1 : Vec F S1x1024 .f32) (x2 : Vec F S2x1024x640 .bf16) (x3 : Vec F S8x128 .f32) :
    Σ' (L4 : List (View.Piece (Elt F) S1024x1280 .f32)), { L5 : List (View.Piece (Elt F) S1024x1024 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0_inproj_fwd i arg2 harg2 arg3 harg3 arg4 harg4 arg5 harg5 arg6 harg6 arg7 harg7) K } := by
  refine ⟨?_, ?_, fun E K => ?run⟩
  case run =>
    simp only [cc0_inproj_fwd_eq_skeleton]; unfold cc0_inproj_fwd_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

set_option maxHeartbeats 1000000 in
/-- The body elsewhere: it reads the normalised rows stored before and stores both column slabs of the product. -/
noncomputable def run_later (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S2x1024x640 .bf16) (harg4 : arg4.IsWhole) (arg5 : Memref sig .tc .vmem S8x128 .f32) (harg5 : arg5.IsWhole) (arg6 : Memref sig .tc .vmem S1024x1280 .f32) (harg6 : arg6.IsWhole) (arg7 : Memref sig .tc .vmem S1024x1024 .bf16) (harg7 : arg7.IsWhole) (hc : ¬fresh_row i) (x0 : Vec F S1024x1024 .f32) (x1 : Vec F S1x1024 .f32) (x2 : Vec F S2x1024x640 .bf16) (x3 : Vec F S8x128 .f32) (h : Vec F S1024x1024 .bf16) :
    { L4 : List (View.Piece (Elt F) S1024x1280 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare h
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare h) -∗ K ⟨⟩))
          ⊢ wp frame (wpE (defs₀ (F := F)) Variants.none c none) E (cc0_inproj_fwd i arg2 harg2 arg3 harg3 arg4 harg4 arg5 harg5 arg6 harg6 arg7 harg7) K } := by
  refine ⟨?_, fun E K => ?run⟩
  case run =>
    simp only [cc0_inproj_fwd_eq_skeleton]; unfold cc0_inproj_fwd_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg2.eq_unread hf0; obtain rfl := harg3.eq_unread hf1; obtain rfl := harg4.eq_unread hf2; obtain rfl := harg5.eq_unread hf3; obtain rfl := harg7.eq_unread hf5
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact H5

/-- A staging buffer of window 4, through which what it holds is stated. -/
abbrev view4 : View sig .tc .vmem S1024x1280 .f32 := (Memref.whole cc0_stg4_0 : Memref sig .tc .vmem S1024x1280 .f32).view

/-- A staging buffer of window 5, through which what it holds is stated. -/
abbrev view5 : View sig .tc .vmem S1024x1024 .bf16 := (Memref.whole cc0_stg5_0 : Memref sig .tc .vmem S1024x1024 .bf16).view

/-- The product's slabs stored where a row begins cover its block. -/
theorem first4_cover (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S2x1024x640 .bf16) (harg4 : arg4.IsWhole) (arg5 : Memref sig .tc .vmem S8x128 .f32) (harg5 : arg5.IsWhole) (arg6 : Memref sig .tc .vmem S1024x1280 .f32) (harg6 : arg6.IsWhole) (arg7 : Memref sig .tc .vmem S1024x1024 .bf16) (harg7 : arg7.IsWhole) (hc : fresh_row i) (x0 : Vec F S1024x1024 .f32) (x1 : Vec F S1x1024 .f32) (x2 : Vec F S2x1024x640 .bf16) (x3 : Vec F S8x128 .f32) (y : S1024x1280.Idx) :
    ∃ pc ∈ (run_first c i arg2 harg2 arg3 harg3 arg4 harg4 arg5 harg5 arg6 harg6 arg7 harg7 hc x0 x1 x2 x3).1, y ∈ pc.1.set :=
  View.cover_of_tiledL (run_first c i arg2 harg2 arg3 harg3 arg4 harg4 arg5 harg5 arg6 harg6 arg7 harg7 hc x0 x1 x2 x3).1 S1024x640.size (by sl_kernel_rfl) y

/-- The product's slabs stored where a row begins, read back. -/
def first4 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S2x1024x640 .bf16) (harg4 : arg4.IsWhole) (arg5 : Memref sig .tc .vmem S8x128 .f32) (harg5 : arg5.IsWhole) (arg6 : Memref sig .tc .vmem S1024x1280 .f32) (harg6 : arg6.IsWhole) (arg7 : Memref sig .tc .vmem S1024x1024 .bf16) (harg7 : arg7.IsWhole) (hc : fresh_row i) (x0 : Vec F S1024x1024 .f32) (x1 : Vec F S1x1024 .f32) (x2 : Vec F S2x1024x640 .bf16) (x3 : Vec F S8x128 .f32) : Vec F S1024x1280 .f32 :=
  view4.read (Elt F) (view4.writes (Elt F) view4.junk (run_first c i arg2 harg2 arg3 harg3 arg4 harg4 arg5 harg5 arg6 harg6 arg7 harg7 hc x0 x1 x2 x3).1)

/-- The normalised rows stored where a row begins cover its block. -/
theorem first5_cover (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S2x1024x640 .bf16) (harg4 : arg4.IsWhole) (arg5 : Memref sig .tc .vmem S8x128 .f32) (harg5 : arg5.IsWhole) (arg6 : Memref sig .tc .vmem S1024x1280 .f32) (harg6 : arg6.IsWhole) (arg7 : Memref sig .tc .vmem S1024x1024 .bf16) (harg7 : arg7.IsWhole) (hc : fresh_row i) (x0 : Vec F S1024x1024 .f32) (x1 : Vec F S1x1024 .f32) (x2 : Vec F S2x1024x640 .bf16) (x3 : Vec F S8x128 .f32) (y : S1024x1024.Idx) :
    ∃ pc ∈ (run_first c i arg2 harg2 arg3 harg3 arg4 harg4 arg5 harg5 arg6 harg6 arg7 harg7 hc x0 x1 x2 x3).2.1, y ∈ pc.1.set :=
  View.cover_of_tiledL (run_first c i arg2 harg2 arg3 harg3 arg4 harg4 arg5 harg5 arg6 harg6 arg7 harg7 hc x0 x1 x2 x3).2.1 S1024x1024.size (by sl_kernel_rfl) y

/-- The normalised rows stored where a row begins, read back. -/
def first5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S2x1024x640 .bf16) (harg4 : arg4.IsWhole) (arg5 : Memref sig .tc .vmem S8x128 .f32) (harg5 : arg5.IsWhole) (arg6 : Memref sig .tc .vmem S1024x1280 .f32) (harg6 : arg6.IsWhole) (arg7 : Memref sig .tc .vmem S1024x1024 .bf16) (harg7 : arg7.IsWhole) (hc : fresh_row i) (x0 : Vec F S1024x1024 .f32) (x1 : Vec F S1x1024 .f32) (x2 : Vec F S2x1024x640 .bf16) (x3 : Vec F S8x128 .f32) : Vec F S1024x1024 .bf16 :=
  view5.read (Elt F) (view5.writes (Elt F) view5.junk (run_first c i arg2 harg2 arg3 harg3 arg4 harg4 arg5 harg5 arg6 harg6 arg7 harg7 hc x0 x1 x2 x3).2.1)

/-- The product's slabs stored elsewhere cover its block. -/
theorem later4_cover (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S2x1024x640 .bf16) (harg4 : arg4.IsWhole) (arg5 : Memref sig .tc .vmem S8x128 .f32) (harg5 : arg5.IsWhole) (arg6 : Memref sig .tc .vmem S1024x1280 .f32) (harg6 : arg6.IsWhole) (arg7 : Memref sig .tc .vmem S1024x1024 .bf16) (harg7 : arg7.IsWhole) (hc : ¬fresh_row i) (x0 : Vec F S1024x1024 .f32) (x1 : Vec F S1x1024 .f32) (x2 : Vec F S2x1024x640 .bf16) (x3 : Vec F S8x128 .f32) (h : Vec F S1024x1024 .bf16) (y : S1024x1280.Idx) :
    ∃ pc ∈ (run_later c i arg2 harg2 arg3 harg3 arg4 harg4 arg5 harg5 arg6 harg6 arg7 harg7 hc x0 x1 x2 x3 h).1, y ∈ pc.1.set :=
  View.cover_of_tiledL (run_later c i arg2 harg2 arg3 harg3 arg4 harg4 arg5 harg5 arg6 harg6 arg7 harg7 hc x0 x1 x2 x3 h).1 S1024x640.size (by sl_kernel_rfl) y

/-- The product's slabs stored elsewhere, read back. -/
def later4 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S2x1024x640 .bf16) (harg4 : arg4.IsWhole) (arg5 : Memref sig .tc .vmem S8x128 .f32) (harg5 : arg5.IsWhole) (arg6 : Memref sig .tc .vmem S1024x1280 .f32) (harg6 : arg6.IsWhole) (arg7 : Memref sig .tc .vmem S1024x1024 .bf16) (harg7 : arg7.IsWhole) (hc : ¬fresh_row i) (x0 : Vec F S1024x1024 .f32) (x1 : Vec F S1x1024 .f32) (x2 : Vec F S2x1024x640 .bf16) (x3 : Vec F S8x128 .f32) (h : Vec F S1024x1024 .bf16) : Vec F S1024x1280 .f32 :=
  view4.read (Elt F) (view4.writes (Elt F) view4.junk (run_later c i arg2 harg2 arg3 harg3 arg4 harg4 arg5 harg5 arg6 harg6 arg7 harg7 hc x0 x1 x2 x3 h).1)

end Cert.Kernel7Ideal.InFwd

end
-- ==== Proof.InFwd.FrameIdeal.lean ====
/- The forward input projection (idealized): what the outputs' buffers hold at each point, the body at every point, and the
   frame. -/
module

public import proofs.«01_k».proof.Proof.InFwd.RunIdeal

@[expose] public section

set_option maxRecDepth 16384

noncomputable section

namespace Cert.Kernel7Ideal.InFwd

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Window 0's buffer at a point, as the body is handed it. -/
abbrev stg0 (t : Fin cfg0.N) : Memref sig .tc .vmem S1024x1024 .f32 := win0_0.stage (cfg0.slots t 0)
abbrev stg0_whole (t : Fin cfg0.N) : (stg0 t).IsWhole := hstage0_0 ((cfg0.slots t 0).cast nbuf0_0)
/-- Window 1's buffer at a point, as the body is handed it. -/
abbrev stg1 (t : Fin cfg0.N) : Memref sig .tc .vmem S1x1024 .f32 := win0_1.stage (cfg0.slots t 1)
abbrev stg1_whole (t : Fin cfg0.N) : (stg1 t).IsWhole := hstage0_1 ((cfg0.slots t 1).cast nbuf0_1)
/-- Window 2's buffer at a point, as the body is handed it. -/
abbrev stg2 (t : Fin cfg0.N) : Memref sig .tc .vmem S2x1024x640 .bf16 := win0_2.stage (cfg0.slots t 2)
abbrev stg2_whole (t : Fin cfg0.N) : (stg2 t).IsWhole := hstage0_2 ((cfg0.slots t 2).cast nbuf0_2)
/-- Window 3's buffer at a point, as the body is handed it. -/
abbrev stg3 (t : Fin cfg0.N) : Memref sig .tc .vmem S8x128 .f32 := win0_3.stage (cfg0.slots t 3)
abbrev stg3_whole (t : Fin cfg0.N) : (stg3 t).IsWhole := hstage0_3 ((cfg0.slots t 3).cast nbuf0_3)
/-- Window 4's buffer at a point, as the body is handed it. -/
abbrev stg4 (t : Fin cfg0.N) : Memref sig .tc .vmem S1024x1280 .f32 := win0_4.stage (cfg0.slots t 4)
abbrev stg4_whole (t : Fin cfg0.N) : (stg4 t).IsWhole := hstage0_4 ((cfg0.slots t 4).cast nbuf0_4)
/-- Window 5's buffer at a point, as the body is handed it. -/
abbrev stg5 (t : Fin cfg0.N) : Memref sig .tc .vmem S1024x1024 .bf16 := win0_5.stage (cfg0.slots t 5)
abbrev stg5_whole (t : Fin cfg0.N) : (stg5 t).IsWhole := hstage0_5 ((cfg0.slots t 5).cast nbuf0_5)

/-- The point that begins the row of blocks a point is in. -/
def row_start (t : Fin cfg0.N) : Fin cfg0.N := ⟨t.val - t.val % 4, Nat.lt_of_le_of_lt (Nat.sub_le _ _) t.isLt⟩

theorem row_start_mod (t : Fin cfg0.N) : (row_start t).val % 4 = 0 := by unfold row_start; dsimp only; omega

theorem row_start_pred (t : Fin cfg0.N) (h : ¬t.val % 4 = 0) : row_start ⟨t.val - 1, by omega⟩ = row_start t := by
  unfold row_start; apply Fin.ext; dsimp only; omega

theorem row_start_self (t : Fin cfg0.N) (h : t.val % 4 = 0) : row_start t = t := by
  unfold row_start; apply Fin.ext; dsimp only; omega

/-- The normalised rows a row of blocks begins with. -/
def rowsAt (c : Dev nD) (t : Fin cfg0.N) (h : t.val % 4 = 0) : Vec F S1024x1024 .bf16 :=
  first5 c (grid0.coords t) (stg0 t) (stg0_whole t) (stg1 t) (stg1_whole t) (stg2 t) (stg2_whole t) (stg3 t) (stg3_whole t) (stg4 t) (stg4_whole t) (stg5 t) (stg5_whole t) ((fresh_row_iff t).mpr h) (iblk m c 0 t) (iblk m c 1 t) (iblk m c 2 t) (iblk m c 3 t)

/-- The normalised rows held at any point: those the row of blocks began with. -/
def rows (c : Dev nD) (t : Fin cfg0.N) : Vec F S1024x1024 .bf16 := rowsAt m c (row_start t) (row_start_mod t)

theorem rows_start (c : Dev nD) (t : Fin cfg0.N) (h : t.val % 4 = 0) : rows m c t = rowsAt m c t h := by
  have key : ∀ (s : Fin cfg0.N) (hs : s.val % 4 = 0), s = t → rowsAt m c s hs = rowsAt m c t h := by
    intro s hs e; subst e; rfl
  exact key _ _ (row_start_self t h)

theorem rows_pred (c : Dev nD) (t : Fin cfg0.N) (h : ¬t.val % 4 = 0) : rows m c ⟨t.val - 1, by omega⟩ = rows m c t := by
  have key : ∀ (s s' : Fin cfg0.N) (hs : s.val % 4 = 0) (hs' : s'.val % 4 = 0), s = s' → rowsAt m c s hs = rowsAt m c s' hs' := by
    intro s s' hs hs' e; subst e; rfl
  exact key _ _ _ _ (row_start_pred t h)

/-- The product's block a point stores. -/
def prods (c : Dev nD) (t : Fin cfg0.N) : Vec F S1024x1280 .f32 :=
  if h : t.val % 4 = 0 then
    first4 c (grid0.coords t) (stg0 t) (stg0_whole t) (stg1 t) (stg1_whole t) (stg2 t) (stg2_whole t) (stg3 t) (stg3_whole t) (stg4 t) (stg4_whole t) (stg5 t) (stg5_whole t) ((fresh_row_iff t).mpr h) (iblk m c 0 t) (iblk m c 1 t) (iblk m c 2 t) (iblk m c 3 t)
  else
    later4 c (grid0.coords t) (stg0 t) (stg0_whole t) (stg1 t) (stg1_whole t) (stg2 t) (stg2_whole t) (stg3 t) (stg3_whole t) (stg4 t) (stg4_whole t) (stg5 t) (stg5_whole t) (fun e => h ((fresh_row_iff t).mp e)) (iblk m c 0 t) (iblk m c 1 t) (iblk m c 2 t) (iblk m c 3 t) (rows m c t)

theorem prods_first (c : Dev nD) (t : Fin cfg0.N) (h : t.val % 4 = 0) :
    prods m c t = first4 c (grid0.coords t) (stg0 t) (stg0_whole t) (stg1 t) (stg1_whole t) (stg2 t) (stg2_whole t) (stg3 t) (stg3_whole t) (stg4 t) (stg4_whole t) (stg5 t) (stg5_whole t) ((fresh_row_iff t).mpr h) (iblk m c 0 t) (iblk m c 1 t) (iblk m c 2 t) (iblk m c 3 t) := dif_pos h

theorem prods_later (c : Dev nD) (t : Fin cfg0.N) (h : ¬t.val % 4 = 0) :
    prods m c t = later4 c (grid0.coords t) (stg0 t) (stg0_whole t) (stg1 t) (stg1_whole t) (stg2 t) (stg2_whole t) (stg3 t) (stg3_whole t) (stg4 t) (stg4_whole t) (stg5 t) (stg5_whole t) (fun e => h ((fresh_row_iff t).mp e)) (iblk m c 0 t) (iblk m c 1 t) (iblk m c 2 t) (iblk m c 3 t) (rows m c t) := dif_neg h

/-- What the windows' buffers hold after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => prods m c t
    | ⟨5, _⟩ => rows m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = prods m c t := by dsimp only [dats]
theorem after0_5 (c : Dev nD) (t : Fin cfg0.N) : (dats m 0 c).after 5 t = rows m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The normalised rows' window is idle but where a row begins. -/
theorem idle5 : ∀ t : Fin cfg0.N, cfg0.idle 5 (grid0.coords t) = !decide (t.val % 4 = 0) := by decide +kernel

/-- Where its buffer holds nothing yet: where a row begins. -/
def blank5 : ℕ → Bool := fun n => n % 4 == 0

theorem blank5_step : ∀ t : Fin cfg0.N,
    blank5 (t.val + 1) = ((cfg0.win 5).flush t || (cfg0.idle 5 (cfg0.grid.coords t) && blank5 t.val)) := by decide +kernel

theorem fresh5 (t : Fin cfg0.N) : cfg0.fresh 5 t.val = blank5 t.val :=
  Pipeline.Cfg.fresh_tab cfg0 5 blank5 rfl blank5_step t.val (Nat.le_of_lt t.isLt)

/-- The rows are kept through the points that leave their window idle. -/
theorem carry5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  rw [after0_5, after0_5]
  refine (rows_pred m c t fun h => ?_).symm
  rw [idle5, decide_eq_true h] at hi
  exact absurd hi Bool.false_ne_true

/-- Where no row begins the buffer holds the rows. -/
theorem before0_5 (c : Dev nD) (t : Fin cfg0.N) (h : ¬t.val % 4 = 0) (d) : (dats m 0 c).before 5 t d = rows m c t := by
  rw [Dat.before_out_traj _ 5 rfl (fun _ _ => rfl) (carry5 m c) t.val t rfl d,
    if_neg (by rw [fresh5]; unfold blank5; simpa using h), after0_5]
  exact rows_pred m c t h

/-- and the body may hand it back holding the rows, written back there or not. -/
theorem leaves5 (c : Dev nD) (t : Fin cfg0.N) (h : ¬t.val % 4 = 0) :
    (owns (c : Thread nD τ) (stg5 t) fullShare (rows m c t) : sProp (MT nD τ sig Unit (Elt F) ℕ (UR sig nD τ) ℕ)) ⊢ (dats m 0 c).leavesExact 5 t := by
  have hi : cfg0.idle 5 (cfg0.grid.coords t) = true := by rw [idle5, decide_eq_false h]; rfl
  cases hf : (cfg0.win 5).flush t
  · rw [Dat.leavesExact_idle (dats m 0 c) 5 t hi hf]
    simp only [before0_5 m c t h]
    iintro H
    iexists (rows m c t); iexact H
  · unfold Dat.leavesExact
    rw [hi, hf, after0_5]
    try exact Idealize.SL.BI.Entails.refl _

/-- What the body is called with at a point, window by window, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0 (c : Dev nD) (t : Fin cfg0.N) : (dats m 0 c).leavesExact 0 t = owns (c : Thread nD τ) (stg0 t) fullShare ((dats m 0 c).after 0 t) := by
  unfold Dat.leavesExact; rw [show cfg0.idle 0 (cfg0.grid.coords t) = false from rfl]
theorem leaves1 (c : Dev nD) (t : Fin cfg0.N) : (dats m 0 c).leavesExact 1 t = owns (c : Thread nD τ) (stg1 t) fullShare ((dats m 0 c).after 1 t) := by
  unfold Dat.leavesExact; rw [show cfg0.idle 1 (cfg0.grid.coords t) = false from rfl]
theorem leaves2 (c : Dev nD) (t : Fin cfg0.N) : (dats m 0 c).leavesExact 2 t = owns (c : Thread nD τ) (stg2 t) fullShare ((dats m 0 c).after 2 t) := by
  unfold Dat.leavesExact; rw [show cfg0.idle 2 (cfg0.grid.coords t) = false from rfl]
theorem leaves3 (c : Dev nD) (t : Fin cfg0.N) : (dats m 0 c).leavesExact 3 t = owns (c : Thread nD τ) (stg3 t) fullShare ((dats m 0 c).after 3 t) := by
  unfold Dat.leavesExact; rw [show cfg0.idle 3 (cfg0.grid.coords t) = false from rfl]
theorem leaves4 (c : Dev nD) (t : Fin cfg0.N) : (dats m 0 c).leavesExact 4 t = owns (c : Thread nD τ) (stg4 t) fullShare ((dats m 0 c).after 4 t) := by
  unfold Dat.leavesExact; rw [show cfg0.idle 4 (cfg0.grid.coords t) = false from rfl]

set_option maxHeartbeats 4000000 in
/-- The body where a row begins. -/
theorem body_first (c : Dev nD) (t : Fin cfg0.N) (h : t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = (dats m 0 c).Φ t.castSucc from rfl]
  rw [leaves0, leaves1, leaves2, leaves3, leaves4, after0_0, after0_1, after0_2, after0_3, after0_4, prods_first m c t h]
  rw [show (dats m 0 c).leavesExact 5 t = owns (c : Thread nD τ) (stg5 t) fullShare ((dats m 0 c).after 5 t) from by
    unfold Dat.leavesExact; rw [show cfg0.idle 5 (cfg0.grid.coords t) = false from by rw [idle5, decide_eq_true h]; rfl],
    after0_5, rows_start m c t h]
  unfold rowsAt first4 first5
  iintro ⟨HF, Ho, ⟨%d0, H0⟩, ⟨%d1, H1⟩, ⟨%d2, H2⟩, ⟨%d3, H3⟩, ⟨%d4, H4⟩, ⟨%d5, H5⟩⟩
  iapply ((run_first c (grid0.coords t) _ _ _ _ _ _ _ _ _ _ _ _ ((fresh_row_iff t).mpr h) (iblk m c 0 t) (iblk m c 1 t) (iblk m c 2 t) (iblk m c 3 t)).2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, ⟨%e4, H4⟩, ⟨%e5, H5⟩⟩
  isplitl [HF]; · iexact HF
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (first4_cover c _ _ _ _ _ _ _ _ _ _ _ _ _ _ _ _ _ _)
  unfold owns; iexists _; isplitr
  swap; · iexact H5
  ipureintro; exact View.read_writes_of_cover _ _ _ _ _ (first5_cover c _ _ _ _ _ _ _ _ _ _ _ _ _ _ _ _ _ _)

set_option maxHeartbeats 4000000 in
/-- The body elsewhere. -/
theorem body_later (c : Dev nD) (t : Fin cfg0.N) (h : ¬t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_5 m c t h]
  rw [show (dats m 0 c).owesAt () t.succ = (dats m 0 c).owesAt () t.castSucc from rfl]
  rw [show (dats m 0 c).Φ t.succ = (dats m 0 c).Φ t.castSucc from rfl]
  rw [leaves0, leaves1, leaves2, leaves3, leaves4, after0_0, after0_1, after0_2, after0_3, after0_4, prods_later m c t h]
  unfold later4
  iintro ⟨HF, Ho, ⟨%d0, H0⟩, ⟨%d1, H1⟩, ⟨%d2, H2⟩, ⟨%d3, H3⟩, ⟨%d4, H4⟩, ⟨%d5, H5⟩⟩
  iapply ((run_later c (grid0.coords t) _ _ _ _ _ _ _ _ _ _ _ _ (fun e => h ((fresh_row_iff t).mp e)) (iblk m c 0 t) (iblk m c 1 t) (iblk m c 2 t) (iblk m c 3 t) (rows m c t)).2 Set.univ _)
  isplitl [H0]; · iexact H0
  isplitl [H1]; · iexact H1
  isplitl [H2]; · iexact H2
  isplitl [H3]; · iexact H3
  isplitl [H4]; · iexists _; iexact H4
  isplitl [H5]; · iexact H5
  iintro ⟨H0, H1, H2, H3, ⟨%e4, H4⟩, H5⟩
  isplitl [HF]; · iexact HF
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (later4_cover c _ _ _ _ _ _ _ _ _ _ _ _ _ _ _ _ _ _ _)
  iapply (leaves5 m c t h)
  iexact H5

/-- The body at a point, as the pipeline calls it. -/
theorem body_row (t : Fin cfg0.N) :
    defs₀ (F := F) .tc cfg0.body (cfg0.bodyArgs t (cfg0.slots t)) = bodyAt0 t := by
  unfold defs₀; rw [Defs.onTc_tc]

/-- The pipeline's demand on the body, at every point. -/
theorem body_obligation (c : Dev nD) : BodyObligation (dats (F := F) m 0 c) (defs₀ (F := F)) Variants.none () Set.univ := fun t => by
  rw [bigSep_W0, bigSep_W0, body_row]
  have H := if h : t.val % 4 = 0 then body_first m c t h else body_later m c t h
  exact triple_restated H rfl .rfl fun _ => .rfl

set_option backward.isDefEq.respectTransparency.types false in
/-- Every run ends, with the windows' arrays as the points' blocks make them and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel7Ideal.InFwd

end
-- ==== Proof.InFwd.Points.lean ====
module

public import proofs.«01_k».proof.Proof.Step.Rms
public import proofs.«01_k».proof.Proof.InFwd.FrameIdeal
public import Idealize.ShloMosaic.Lib.Pipeline.ValueKit

@[expose] public section

/-! # The input projection, forward: what a grid point leaves

A grid point `(i, j)` takes 1024 tokens and two of the 8 slabs of 640 columns. The first point of a row block normalises its
tokens; every point multiplies the normalised tokens by its two slabs. -/

set_option maxRecDepth 16384

noncomputable section

open Idealize Idealize.ShloMosaic Idealize.ShloMosaic.TcCoe Idealize.SL.Sem
open scoped BigOperators
open Cert.Kernel7Ideal Cert.Kernel7Ideal.Gen Cert.Kernel7Ideal.InFwd

namespace Cert.InFwd

open Cert.Step

variable (c : Dev nD) (i : grid0.Coords)
  (arg2 : Memref sig .tc .vmem S1024x1024 .f32) (harg2 : arg2.IsWhole)
  (arg3 : Memref sig .tc .vmem S1x1024 .f32) (harg3 : arg3.IsWhole)
  (arg4 : Memref sig .tc .vmem S2x1024x640 .bf16) (harg4 : arg4.IsWhole)
  (arg5 : Memref sig .tc .vmem S8x128 .f32) (harg5 : arg5.IsWhole)
  (arg6 : Memref sig .tc .vmem S1024x1280 .f32) (harg6 : arg6.IsWhole)
  (arg7 : Memref sig .tc .vmem S1024x1024 .bf16) (harg7 : arg7.IsWhole)
  (x0 : Vec Ideal S1024x1024 .f32) (x1 : Vec Ideal S1x1024 .f32) (x2 : Vec Ideal S2x1024x640 .bf16) (x3 : Vec Ideal S8x128 .f32)
  (h : Vec Ideal S1024x1024 .bf16)

/-- A slab's product with the normalised tokens. -/
theorem slab0_apply (a : Fin 1024) (b : Fin 640) :
    (k0_pay2 (F := Ideal) h (View.ld x2 (Rect.unit ![0, 0, 0] S1x1024x640.size inb_S2x1024x640_S1x1024x640_0_0_0)) : S1024x640.Idx → EReal) (ix2 a b)
      = ∑ d : Fin 1024, h (ix2 a d) * x2 (ix3 0 d b) := by
  pointwise [k0_pay2]

theorem slab1_apply (a : Fin 1024) (b : Fin 640) :
    (k0_pay3 (F := Ideal) h (View.ld x2 (Rect.unit ![1, 0, 0] S1x1024x640.size inb_S2x1024x640_S1x1024x640_1_0_0)) : S1024x640.Idx → EReal) (ix2 a b)
      = ∑ d : Fin 1024, h (ix2 a d) * x2 (ix3 1 d b) := by
  pointwise [k0_pay3]

/-- Both slabs' products, side by side: at column `p` of the block, slab `p / 640`'s column `p % 640`. -/
def slabs (p : Fin 1280) (a : Fin 1024) : EReal :=
  ∑ d : Fin 1024, h (ix2 a d) * x2 (ix3 ⟨p.val / 640, by have := p.isLt; omega⟩ d ⟨p.val % 640, Nat.mod_lt _ (by decide)⟩)

theorem slabs_left (x : S1024x640.Idx) (p : Fin 1280) (a : Fin 1024) (h0 : a.val = (x 0).val) (h1 : p.val = (x 1).val) :
    (k0_pay2 (F := Ideal) h (View.ld x2 (Rect.unit ![0, 0, 0] S1x1024x640.size inb_S2x1024x640_S1x1024x640_0_0_0)) : S1024x640.Idx → EReal) x
      = slabs x2 h p a := by
  have hx : (x 1).val < 640 := (x 1).isLt
  refine (congrArg _ (eq_ix2 x)).trans ((slab0_apply x2 h (x 0) (x 1)).trans (Finset.sum_congr rfl fun d _ => ?_))
  obtain rfl : a = x 0 := Fin.ext h0
  refine congrArg (h (ix2 (x 0) d) * ·) (congrArg x2 ?_)
  exact congrArg₂ (fun q r => ix3 q d r) (Fin.ext (by show 0 = p.val / 640; omega)) (Fin.ext (by show (x 1).val = p.val % 640; omega))

theorem slabs_right (x : S1024x640.Idx) (p : Fin 1280) (a : Fin 1024) (h0 : a.val = (x 0).val) (h1 : p.val = 640 + (x 1).val) :
    (k0_pay3 (F := Ideal) h (View.ld x2 (Rect.unit ![1, 0, 0] S1x1024x640.size inb_S2x1024x640_S1x1024x640_1_0_0)) : S1024x640.Idx → EReal) x
      = slabs x2 h p a := by
  have hx : (x 1).val < 640 := (x 1).isLt
  refine (congrArg _ (eq_ix2 x)).trans ((slab1_apply x2 h (x 0) (x 1)).trans (Finset.sum_congr rfl fun d _ => ?_))
  obtain rfl : a = x 0 := Fin.ext h0
  refine congrArg (h (ix2 (x 0) d) * ·) (congrArg x2 ?_)
  exact congrArg₂ (fun q r => ix3 q d r) (Fin.ext (by show 1 = p.val / 640; omega)) (Fin.ext (by show (x 1).val = p.val % 640; omega))

theorem first5_eq (hc : fresh_row i) :
    first5 c i arg2 harg2 arg3 harg3 arg4 harg4 arg5 harg5 arg6 harg6 arg7 harg7 hc x0 x1 x2 x3 (F := Ideal)
      = k0_pay1 (F := Ideal) x0 x1 := by
  unfold first5
  rw [View.read_writes_eq_canon _ _ _ (first5_cover c i arg2 harg2 arg3 harg3 arg4 harg4 arg5 harg5 arg6 harg6 arg7 harg7 hc x0 x1 x2 x3)]
  unfold run_first
  dsimp only
  sl_unfold_words
  rw [View.canon_cons_unit_zero origin2]
  simp only [View.readAt_eq_ld, harg2.read_unread, harg3.read_unread, View.ld_unit_zero (S := S1024x1024) origin2, View.ld_unit_zero (S := S1x1024) origin2]

theorem first4_apply (hc : fresh_row i) (y : S1024x1280.Idx) :
    (first4 c i arg2 harg2 arg3 harg3 arg4 harg4 arg5 harg5 arg6 harg6 arg7 harg7 hc x0 x1 x2 x3 (F := Ideal) : S1024x1280.Idx → EReal) y
      = slabs x2 (k0_pay1 (F := Ideal) x0 x1) (y 1) (y 0) := by
  unfold first4
  rw [View.read_writes_eq_canon _ _ _ (first4_cover c i arg2 harg2 arg3 harg3 arg4 harg4 arg5 harg5 arg6 harg6 arg7 harg7 hc x0 x1 x2 x3)]
  unfold run_first
  dsimp only
  sl_unfold_words
  simp only [View.readAt_eq_ld, harg2.read_unread, harg3.read_unread, harg4.read_unread, View.ld_unit_zero (S := S1024x1024) origin2, View.ld_unit_zero (S := S1x1024) origin2,
    View.readCov_unit_zero (S := S1024x1024) _ origin2]
  generalize k0_pay1 (F := Ideal) x0 x1 = acc
  canon_tiles x h
  · exact slabs_right x2 acc x _ _ h0 h1
  · exact slabs_left x2 acc x _ _ h0 h1

theorem later4_apply (hc : ¬fresh_row i) (y : S1024x1280.Idx) :
    (later4 c i arg2 harg2 arg3 harg3 arg4 harg4 arg5 harg5 arg6 harg6 arg7 harg7 hc x0 x1 x2 x3 h (F := Ideal) : S1024x1280.Idx → EReal) y
      = slabs x2 h (y 1) (y 0) := by
  unfold later4
  rw [View.read_writes_eq_canon _ _ _ (later4_cover c i arg2 harg2 arg3 harg3 arg4 harg4 arg5 harg5 arg6 harg6 arg7 harg7 hc x0 x1 x2 x3 h)]
  unfold run_later
  dsimp only
  sl_unfold_words
  simp only [View.readAt_eq_ld, harg4.read_unread, harg7.read_unread, View.ld_unit_zero (S := S1024x1024) origin2]
  canon_tiles x h
  · exact slabs_right x2 h x _ _ h0 h1
  · exact slabs_left x2 h x _ _ h0 h1

end Cert.InFwd

end
-- ==== Proof.InFwd.Final.lean ====
module

public import proofs.«01_k».proof.Proof.InFwd.Points
public import Idealize.ShloMosaic.Lib.StableHlo.ReadAt

@[expose] public section

/-! # The input projection, forward: the result arrays

The weights, their 5120 columns in 8 slabs of 640, are the host's work in front of the launch. Each point's block of the
projection and each row block of normalised tokens is what the result says there, so the arrays hold it. -/

set_option maxRecDepth 16384

noncomputable section

open Idealize Idealize.ShloMosaic Idealize.ShloMosaic.TcCoe Idealize.SL.Sem
open scoped BigOperators
open Cert.Kernel7Ideal Cert.Kernel7Ideal.Gen Cert.Kernel7Ideal.InFwd

namespace Cert.InFwd

open Cert.Conv (at2 eq_at2)
open Cert.Step

variable (c : Dev nD) (m : (ℓ : Loc nD τ sig) → Buf (Elt Ideal) ℓ)

/-- The tokens, the scale and the weights, as the launch finds them. -/
abbrev argX : Arr 2048 1024 := m ((c : Thread nD τ).loc main_arg0)
abbrev argG : Row 1024 := m ((c : Thread nD τ).loc main_arg1)
abbrev argW : Arr 1024 5120 := m ((c : Thread nD τ).loc main_arg2)

/-! ## The host's arrays -/

theorem host_g (z : Fin 1) (d : Fin 1024) : (V m c main_v0 : S1x1024.Idx → EReal) (ix2 z d) = at1 (argG c m) d.val := by
  unfold V
  after_reads_at
  exact (at1_ix1 (argG c m) d).symm

theorem host_w (q : Fin 8) (d : Fin 1024) (k : Fin 640) : (V m c main_v3 : S8x1024x640.Idx → EReal) (ix3 q d k)
    = at2 (argW c m) d.val (640 * q.val + k.val) := by
  unfold V
  after_reads_at
  rw [at2_lt _ _ _ d.isLt (by omega)]
  congr 1
  exact congrArg (ix2 d) (Fin.ext (by dsimp only; omega))

theorem host_w_at (j : S8x1024x640.Idx) : (V m c main_v3 : S8x1024x640.Idx → EReal) j
    = at2 (argW c m) (j 1).val (640 * (j 0).val + (j 2).val) :=
  (congrArg (V m c main_v3 : S8x1024x640.Idx → EReal) (eq_ix3 j)).trans (host_w c m (j 0) (j 1) (j 2))

/-! ## The blocks -/

theorem points8 : cfg0.N = 8 := N_0

theorem at_index0 : ∀ t : Fin cfg0.N, win0_0.index t 0 = t.val / 4 ∧ win0_0.index t 1 = 0 := (by decide +kernel : ∀ t : Fin grid0.N, _)
theorem at_index1 : ∀ t : Fin cfg0.N, win0_1.index t 0 = 0 ∧ win0_1.index t 1 = 0 := (by decide +kernel : ∀ t : Fin grid0.N, _)
theorem at_index2 : ∀ t : Fin cfg0.N, win0_2.index t 0 = t.val % 4 ∧ win0_2.index t 1 = 0 ∧ win0_2.index t 2 = 0 := (by decide +kernel : ∀ t : Fin grid0.N, _)
theorem at_index4 : ∀ t : Fin cfg0.N, win0_4.index t 0 = t.val / 4 ∧ win0_4.index t 1 = t.val % 4 := (by decide +kernel : ∀ t : Fin grid0.N, _)
theorem at_index5 : ∀ t : Fin cfg0.N, win0_5.index t 0 = t.val / 4 ∧ win0_5.index t 1 = 0 := (by decide +kernel : ∀ t : Fin grid0.N, _)

/-- The token of a block's row. -/
abbrev tok (t : Fin cfg0.N) (a : Nat) : Nat := 1024 * (t.val / 4) + a

variable (t : Fin cfg0.N)

theorem read0 (a d : Fin 1024) : (iblk m c 0 t : S1024x1024.Idx → EReal) (ix2 a d) = at2 (argX c m) (tok t a.val) d.val := by
  obtain ⟨e0, e1⟩ := at_index0 t
  refine (eq_at2 (V m c main_arg0 : Arr 2048 1024) _ (1024 * (t.val / 4) + a.val) d.val
    (show win0_0.index t 0 * 1024 + 1 * a.val = _ by rw [e0]; omega)
    (show win0_0.index t 1 * 1024 + 1 * d.val = _ by rw [e1]; omega)).trans ?_
  rw [V_main_arg0]

theorem read1 (z : Fin 1) (d : Fin 1024) : (iblk m c 1 t : S1x1024.Idx → EReal) (ix2 z d) = at1 (argG c m) d.val := by
  obtain ⟨e0, e1⟩ := at_index1 t
  refine (eq_at2 (V m c main_v0 : Arr 1 1024) _ z.val d.val (show win0_1.index t 0 * 1 + 1 * z.val = _ by rw [e0]; omega)
    (show win0_1.index t 1 * 1024 + 1 * d.val = _ by rw [e1]; omega)).trans ?_
  exact (at2_ix2 _ z d).trans (host_g c m z d)

theorem read2 (q : Fin 2) (d : Fin 1024) (k : Fin 640) : (iblk m c 2 t : S2x1024x640.Idx → EReal) (ix3 q d k)
    = at2 (argW c m) d.val (1280 * (t.val % 4) + (640 * q.val + k.val)) := by
  obtain ⟨e0, e1, e2⟩ := at_index2 t
  have q0 : (((win0_2.blk t).view.emb (ix3 q d k)) 0).val = 2 * (t.val % 4) + q.val := by
    show win0_2.index t 0 * 2 + 1 * q.val = _
    rw [e0]; omega
  have q1 : (((win0_2.blk t).view.emb (ix3 q d k)) 1).val = d.val := by
    show win0_2.index t 1 * 1024 + 1 * d.val = _
    rw [e1]; omega
  have q2 : (((win0_2.blk t).view.emb (ix3 q d k)) 2).val = k.val := by
    show win0_2.index t 2 * 640 + 1 * k.val = _
    rw [e2]; omega
  refine (host_w_at c m ((win0_2.blk t).view.emb (ix3 q d k))).trans ?_
  rw [q0, q1, q2]
  exact congrArg (at2 (argW c m) d.val) (by omega)

/-! ## What a point stores -/

/-- The normalised rows of a block, from functions that agree with it. -/
theorem normed_apply (x0 : Vec Ideal S1024x1024 .f32) (x1 : Vec Ideal S1x1024 .f32) (X : Nat → Nat → EReal) (G : Nat → EReal) (n : Nat)
    (a d : Fin 1024) (hx : ∀ d : Fin 1024, x0 (ix2 a d) = X n d.val) (hg : ∀ d : Fin 1024, x1 (ix2 0 d) = G d.val) :
    (k0_pay1 (F := Ideal) x0 x1 : S1024x1024.Idx → EReal) (ix2 a d) = normed X G n d.val := by
  pointwise [k0_pay1]
  simp only [hx, hg]
  rfl

theorem rowsAt_apply (h : t.val % 4 = 0) (a d : Fin 1024) : (rowsAt m c t h : S1024x1024.Idx → EReal) (ix2 a d)
    = normed (at2 (argX c m)) (at1 (argG c m)) (tok t a.val) d.val := by
  unfold rowsAt
  rw [first5_eq]
  exact normed_apply _ _ _ _ _ a d (fun d => read0 c m t a d) (fun d => read1 c m t 0 d)

theorem rows_apply (a d : Fin 1024) : (rows m c t : S1024x1024.Idx → EReal) (ix2 a d)
    = normed (at2 (argX c m)) (at1 (argG c m)) (tok t a.val) d.val := by
  unfold rows
  refine (rowsAt_apply c m (row_start t) (row_start_mod t) a d).trans ?_
  have e : (row_start t).val / 4 = t.val / 4 := by unfold row_start; dsimp only; omega
  unfold tok
  rw [e]

/-- A point's block of the projection, from the rows it holds. -/
theorem prods_eq (y : S1024x1280.Idx) : (prods m c t : S1024x1280.Idx → EReal) y = slabs (iblk m c 2 t) (rows m c t) (y 1) (y 0) := by
  by_cases h : t.val % 4 = 0
  · rw [prods_first m c t h, first4_apply, rows_start m c t h]
    unfold rowsAt
    rw [first5_eq]
  · rw [prods_later m c t h, later4_apply]

theorem prods_apply (y : S1024x1280.Idx) : (prods m c t : S1024x1280.Idx → EReal) y
    = proj (at2 (argX c m)) (at1 (argG c m)) (at2 (argW c m)) (tok t (y 0).val) (1280 * (t.val % 4) + (y 1).val) := by
  rw [prods_eq]
  refine Finset.sum_congr rfl fun d _ => congrArg₂ (· * ·) (rows_apply c m t (y 0) d) ((read2 c m t _ d _).trans ?_)
  exact congrArg (fun k => at2 (argW c m) d.val (1280 * (t.val % 4) + k)) (Nat.div_add_mod (y 1).val 640)

/-! ## The result arrays -/

section
variable (x : Arr 2048 1024) (g : Row 1024) (w : Arr 1024 5120)

/-- The projection, -/
def resProj (j : S2048x5120.Idx) : EReal := proj (at2 x) (at1 g) (at2 w) (j 0).val (j 1).val

/-- and the normalised tokens. -/
def resNormed (j : S2048x1024.Idx) : EReal := normed (at2 x) (at1 g) (j 0).val (j 1).val
end

theorem final4 : (dats m 0 c).arrAt 4 cfg0.N = resProj (argX c m) (argG c m) (argW c m) := by
  refine (dats m 0 c).arrAt_eq_of_covers 4 _ (by decide +kernel) fun t hf y => ?_
  obtain ⟨e0, e1⟩ := at_index4 t
  blk_simp
  rw [after0_4]
  refine (prods_apply c m t y).trans
    (congrArg₂ (proj (at2 (argX c m)) (at1 (argG c m)) (at2 (argW c m))) ?_ ?_)
  · show tok t (y 0).val = win0_4.index t 0 * 1024 + 1 * (y 0).val
    rw [e0]; unfold tok; omega
  · show _ = win0_4.index t 1 * 1280 + 1 * (y 1).val
    rw [e1]; omega

theorem final5 : (dats m 0 c).arrAt 5 cfg0.N = resNormed (argX c m) (argG c m) := by
  refine (dats m 0 c).arrAt_eq_of_covers 5 _ (by decide +kernel) fun t hf y => ?_
  obtain ⟨e0, e1⟩ := at_index5 t
  blk_simp
  rw [after0_5]
  refine ((congrArg (rows m c t) (eq_ix2 y)).trans (rows_apply c m t (y 0) (y 1))).trans
    (congrArg₂ (normed (at2 (argX c m)) (at1 (argG c m))) ?_ ?_)
  · show tok t (y 0).val = win0_5.index t 0 * 1024 + 1 * (y 0).val
    rw [e0]; unfold tok; omega
  · show _ = win0_5.index t 1 * 1024 + 1 * (y 1).val
    rw [e1]; omega

variable (ρ : Dev nD → PrngReg)

/-- From any memory the kernel ends with the two results, its arguments as they were. -/
theorem kernel_run : θ_run defs (onTc (τ := τ) (main (F := Ideal))) ⟨m, fun _ => 0, ρ⟩ fun r => ∀ c : Dev nD,
      r.2.mem ((c.tc : Thread nD τ).loc main_v5_0) = resProj (argX c m) (argG c m) (argW c m)
      ∧ r.2.mem ((c.tc : Thread nD τ).loc main_v5_1) = resNormed (argX c m) (argG c m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 4).trans (final4 c m), ((h c).1 5).trans (final5 c m),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.InFwd

end
-- ==== Proof.InFwd.Reference.lean ====
module

public import proofs.«01_k».proof.Proof.InFwd.Final
public import proofs.«01_k».proof.Proof.Gen.Reference7Ideal.Read

@[expose] public section

/-! # The input projection, forward: the reference

The reference's stages, read at an index, are the same normalised tokens and the same sums. -/

set_option maxRecDepth 16384

noncomputable section

open Idealize Idealize.ShloMosaic Idealize.ShloMosaic.TcCoe Idealize.SL.Sem
open scoped BigOperators
open Cert.Reference7Ideal Cert.Reference7Ideal.Gen Cert.Reference7Ideal.Value Cert.Reference7Ideal.Read

namespace Cert.InFwd

open Cert.Conv (at2 eq_at2)
open Cert.Step

section
variable (x0 : Arr 2048 1024) (x1 : Row 1024) (x2 : Arr 1024 5120) (n : Fin 2048) (d : Fin 1024) (k : Fin 5120) (z : Fin 1)

theorem ref_ms : (val_main_v6 (F := Ideal) x0 : S2048x1.Idx → EReal) (ix2 n z) = ms (at2 x0) n.val := by
  refine Eq.trans ?_ (ms_read x0 n).symm
  pointwise [val_main_v6, val_main_v5, val_main_v4, val_main_v3, val_main_v2, val_main_v1, val_main_v0, val_main_cst, val_main_cst_0,
    val_main_cst_1]

theorem ref_rs : (val_main_v7 (F := Ideal) x0 : S2048x1.Idx → EReal) (ix2 n z) = rs (at2 x0) n.val := by
  refine Eq.trans ?_ (congrArg Ideal.rsqrt (ref_ms x0 n z))
  pointwise [val_main_v7]

theorem ref_normed : (val_main_v12 (F := Ideal) x0 x1 : S2048x1024.Idx → EReal) (ix2 n d) = normed (at2 x0) (at1 x1) n.val d.val := by
  have e : x0 (ix2 n d) * (val_main_v7 (F := Ideal) x0 : S2048x1.Idx → EReal) (ix2 n 0) * x1 (ix1 d)
      = normed (at2 x0) (at1 x1) n.val d.val := by
    rw [ref_rs, normed, at2_ix2, at1_ix1]
  refine Eq.trans ?_ e
  pointwise [val_main_v12, val_main_v11, val_main_v10, val_main_v9, val_main_v8]

theorem ref_rows : (val_main_v14 (F := Ideal) x0 x1 : S2048x1024.Idx → EReal) (ix2 n d) = normed (at2 x0) (at1 x1) n.val d.val := by
  refine Eq.trans ?_ (ref_normed x0 x1 n d)
  pointwise [val_main_v14]

theorem ref_proj : (val_main_v13 (F := Ideal) x0 x1 x2 : S2048x5120.Idx → EReal) (ix2 n k)
    = proj (at2 x0) (at1 x1) (at2 x2) n.val k.val := by
  refine Eq.trans ?_ (Finset.sum_congr rfl fun d _ => congrArg₂ (· * ·) (ref_normed x0 x1 n d) (at2_ix2 x2 d k).symm)
  pointwise [val_main_v13]
end

/-! ## The run -/

variable (m : (ℓ : Loc nD τ sig) → Buf (Elt Ideal) ℓ) (ρ : Dev nD → PrngReg)

/-- From any memory the reference ends with the two results, its arguments as they were. -/
theorem reference_run : θ_run defs (onTc (τ := τ) (main (F := Ideal))) ⟨m, fun _ => 0, ρ⟩ fun r => ∀ c : Dev nD,
      r.2.mem ((c.tc : Thread nD τ).loc main_v13) = resProj (m ((c.tc : Thread nD τ).loc main_arg0)) (m ((c.tc : Thread nD τ).loc main_arg1))
        (m ((c.tc : Thread nD τ).loc main_arg2))
      ∧ r.2.mem ((c.tc : Thread nD τ).loc main_v14) = resNormed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨ht, hs, rest⟩ := h c
    refine ⟨ht.trans ((val_main_v13_eq _ _ _).trans (funext fun j => ?_)), hs.trans ((val_main_v14_eq _ _).trans (funext fun j => ?_)), rest⟩
    · exact (congrArg (val_main_v13 (F := Ideal) _ _ _) (eq_ix2 j)).trans (ref_proj _ _ _ (j 0) (j 1))
    · exact (congrArg (val_main_v14 (F := Ideal) _ _) (eq_ix2 j)).trans (ref_rows _ _ (j 0) (j 1)))
    (Cert.Reference7Ideal.Value.run m ρ)

end Cert.InFwd

end
-- ==== Proof.FfnFwd.RunIdeal.lean ====
/- The forward feed-forward block (idealized): the kernel's body run once at a point that begins a token block, once at a
   point inside it, and once at the point that ends it. -/
module

public import proofs.«01_k».proof.Proof.Gen.Kernel6Ideal.Frame
public import proofs.«01_k».proof.Proof.Gen.Kernel6Ideal.Skeleton
public import Idealize.ShloMosaic.Lib.Claim
public import Idealize.ShloMosaic.Lib.Pipeline.TableIdle

@[expose] public section

set_option maxRecDepth 16384

noncomputable section

namespace Cert.Kernel6Ideal.FfnFwd

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The body's conditions, on the grid coordinates: the second one is zero, -/
abbrev starts (i : grid0.Coords) : Prop := k0_cond1 i = 1#1
/-- the second one is the last. -/
abbrev ends (i : grid0.Coords) : Prop := k0_cond2 i = 1#1

theorem starts_iff : ∀ t : Fin cfg0.N, starts (grid0.coords t) ↔ t.val % 6 = 0 :=
  (fun t => by
    have ht : t.val < 12 := Nat.lt_of_lt_of_eq t.isLt N_0
    have e0 : (grid0.coords t 0).val = t.val / 6 % 2 := Pipeline.Grid.coords_val t 0 (by decide) rfl
    have e1 : (grid0.coords t 1).val = t.val / 1 % 6 := Pipeline.Grid.coords_val t 1 (by decide) rfl
    simp only [starts, k0_cond1, e0, e1]
    word_cmp
   : ∀ t : Fin grid0.N, starts (grid0.coords t) ↔ t.val % 6 = 0)

theorem ends_iff : ∀ t : Fin cfg0.N, ends (grid0.coords t) ↔ t.val % 6 = 5 :=
  (fun t => by
    have ht : t.val < 12 := Nat.lt_of_lt_of_eq t.isLt N_0
    have e0 : (grid0.coords t 0).val = t.val / 6 % 2 := Pipeline.Grid.coords_val t 0 (by decide) rfl
    have e1 : (grid0.coords t 1).val = t.val / 1 % 6 := Pipeline.Grid.coords_val t 1 (by decide) rfl
    simp only [ends, k0_cond2, e0, e1]
    word_cmp
   : ∀ t : Fin grid0.N, ends (grid0.coords t) ↔ t.val % 6 = 5)

set_option maxHeartbeats 2000000 in
/-- The body where a token block begins: it stores the normalised rows, the block's two preactivations and the first sum. The stores' pieces are found by running it. -/
noncomputable def run_first (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x1024 .bf16) (harg10 : arg10.IsWhole) (arg11 : Memref sig .tc .vmem S1024x1024 .f32) (harg11 : arg11.IsWhole) (hs : starts i) (he : ¬ends i) (x0 : Vec F S1024x1024 .f32) (x1 : Vec F S1x1024 .f32) (x2 : Vec F S512x1024 .bf16) (x3 : Vec F S512x1024 .bf16) (x4 : Vec F S512x1024 .bf16) :
    Σ' (L6 : List (View.Piece (Elt F) S1024x512 .bf16)), Σ' (L7 : List (View.Piece (Elt F) S1024x512 .bf16)), Σ' (L8 : List (View.Piece (Elt F) S1024x1024 .bf16)), { L9 : List (View.Piece (Elt F) S1024x1024 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_ffn_fwd_eq_skeleton]; unfold cc0_ffn_fwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hs | sl_exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H6]
    · iexists _; iexact H6
    isplitl [H7]
    · iexists _; iexact H7
    isplitl [H8]
    · iexists _; iexact H8
    iexists _; iexact H9

set_option maxHeartbeats 2000000 in
/-- The body inside a token block: it reads the normalised rows and the sum so far. The stores' pieces are found by running it. -/
noncomputable def run_mid (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x1024 .bf16) (harg10 : arg10.IsWhole) (arg11 : Memref sig .tc .vmem S1024x1024 .f32) (harg11 : arg11.IsWhole) (hs : ¬starts i) (he : ¬ends i) (x0 : Vec F S1024x1024 .f32) (x1 : Vec F S1x1024 .f32) (x2 : Vec F S512x1024 .bf16) (x3 : Vec F S512x1024 .bf16) (x4 : Vec F S512x1024 .bf16) (h : Vec F S1024x1024 .bf16) (a : Vec F S1024x1024 .f32) :
    Σ' (L6 : List (View.Piece (Elt F) S1024x512 .bf16)), Σ' (L7 : List (View.Piece (Elt F) S1024x512 .bf16)), { L9 : List (View.Piece (Elt F) S1024x1024 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ (∃ d, owns (c : Thread nD τ) arg9 fullShare d) ∗ owns (c : Thread nD τ) arg10 fullShare h ∗ owns (c : Thread nD τ) arg11 fullShare a
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare h ∗ (∃ f, arg11.view.loc (c : Thread nD τ) ↦[arg11.view.set]{fullShare} arg11.view.writes (Elt F) f L9)) -∗ K ⟨⟩))
          ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_ffn_fwd_eq_skeleton]; unfold cc0_ffn_fwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hf8; obtain rfl := harg11.eq_unread hf9
    sl_exec (disch := first | sl_exact hs | sl_exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H6]
    · iexists _; iexact H6
    isplitl [H7]
    · iexists _; iexact H7
    isplitl [H8]
    · iexists _; isplitr; · ipureintro; exact harg10.read_unread _
      iexact H8
    iexists _; iexact H9

set_option maxHeartbeats 2000000 in
/-- The body where a token block ends: it also stores the block of the result. The stores' pieces are found by running it. -/
noncomputable def run_last (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x1024 .bf16) (harg10 : arg10.IsWhole) (arg11 : Memref sig .tc .vmem S1024x1024 .f32) (harg11 : arg11.IsWhole) (hs : ¬starts i) (he : ends i) (x0 : Vec F S1024x1024 .f32) (x1 : Vec F S1x1024 .f32) (x2 : Vec F S512x1024 .bf16) (x3 : Vec F S512x1024 .bf16) (x4 : Vec F S512x1024 .bf16) (h : Vec F S1024x1024 .bf16) (a : Vec F S1024x1024 .f32) :
    Σ' (L5 : List (View.Piece (Elt F) S1024x1024 .f32)), Σ' (L6 : List (View.Piece (Elt F) S1024x512 .bf16)), Σ' (L7 : List (View.Piece (Elt F) S1024x512 .bf16)), { L9 : List (View.Piece (Elt F) S1024x1024 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare h ∗ owns (c : Thread nD τ) arg11 fullShare a
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare h ∗ (∃ f, arg11.view.loc (c : Thread nD τ) ↦[arg11.view.set]{fullShare} arg11.view.writes (Elt F) f L9)) -∗ K ⟨⟩))
          ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_ffn_fwd_eq_skeleton]; unfold cc0_ffn_fwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hf8; obtain rfl := harg11.eq_unread hf9
    sl_exec (disch := first | sl_exact hs | sl_exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; iexact H6
    isplitl [H7]
    · iexists _; iexact H7
    isplitl [H8]
    · iexists _; isplitr; · ipureintro; exact harg10.read_unread _
      iexact H8
    iexists _; iexact H9

/-- A staging buffer of window 5, through which what it holds is stated. -/
abbrev view5 : View sig .tc .vmem S1024x1024 .f32 := (Memref.whole cc0_stg5_0 : Memref sig .tc .vmem S1024x1024 .f32).view

/-- A staging buffer of window 6, through which what it holds is stated. -/
abbrev view6 : View sig .tc .vmem S1024x512 .bf16 := (Memref.whole cc0_stg6_0 : Memref sig .tc .vmem S1024x512 .bf16).view

/-- A staging buffer of window 7, through which what it holds is stated. -/
abbrev view7 : View sig .tc .vmem S1024x512 .bf16 := (Memref.whole cc0_stg7_0 : Memref sig .tc .vmem S1024x512 .bf16).view

/-- A staging buffer of window 8, through which what it holds is stated. -/
abbrev view8 : View sig .tc .vmem S1024x1024 .bf16 := (Memref.whole cc0_stg8_0 : Memref sig .tc .vmem S1024x1024 .bf16).view

/-- The buffer of the sum, through which what it holds is stated. -/
abbrev view9 : View sig .tc .vmem S1024x1024 .f32 := (Memref.whole cc0_scratch0 : Memref sig .tc .vmem S1024x1024 .f32).view

section
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x1024 .bf16) (harg10 : arg10.IsWhole) (arg11 : Memref sig .tc .vmem S1024x1024 .f32) (harg11 : arg11.IsWhole)
  (hs : starts i) (he : ¬ends i) (x0 : Vec F S1024x1024 .f32) (x1 : Vec F S1x1024 .f32) (x2 : Vec F S512x1024 .bf16) (x3 : Vec F S512x1024 .bf16) (x4 : Vec F S512x1024 .bf16)

/-- The gate preactivations's stores (first) cover the buffer. -/
theorem first6_cover (y : S1024x512.Idx) :
    ∃ pc ∈ (run_first c i arg2 harg2 arg3 harg3 arg4 harg4 arg5 harg5 arg6 harg6 arg7 harg7 arg8 harg8 arg9 harg9 arg10 harg10 arg11 harg11 hs he x0 x1 x2 x3 x4).1, y ∈ pc.1.set :=
  View.cover_of_tiledL (run_first c i arg2 harg2 arg3 harg3 arg4 harg4 arg5 harg5 arg6 harg6 arg7 harg7 arg8 harg8 arg9 harg9 arg10 harg10 arg11 harg11 hs he x0 x1 x2 x3 x4).1 S1024x512.size (by sl_kernel_rfl) y

/-- The gate preactivations (first), read back. -/
def first6 : Vec F S1024x512 .bf16 :=
  view6.read (Elt F) (view6.writes (Elt F) view6.junk (run_first c i arg2 harg2 arg3 harg3 arg4 harg4 arg5 harg5 arg6 harg6 arg7 harg7 arg8 harg8 arg9 harg9 arg10 harg10 arg11 harg11 hs he x0 x1 x2 x3 x4).1)

/-- The up preactivations's stores (first) cover the buffer. -/
theorem first7_cover (y : S1024x512.Idx) :
    ∃ pc ∈ (run_first c i arg2 harg2 arg3 harg3 arg4 harg4 arg5 harg5 arg6 harg6 arg7 harg7 arg8 harg8 arg9 harg9 arg10 harg10 arg11 harg11 hs he x0 x1 x2 x3 x4).2.1, y ∈ pc.1.set :=
  View.cover_of_tiledL (run_first c i arg2 harg2 arg3 harg3 arg4 harg4 arg5 harg5 arg6 harg6 arg7 harg7 arg8 harg8 arg9 harg9 arg10 harg10 arg11 harg11 hs he x0 x1 x2 x3 x4).2.1 S1024x512.size (by sl_kernel_rfl) y

/-- The up preactivations (first), read back. -/
def first7 : Vec F S1024x512 .bf16 :=
  view7.read (Elt F) (view7.writes (Elt F) view7.junk (run_first c i arg2 harg2 arg3 harg3 arg4 harg4 arg5 harg5 arg6 harg6 arg7 harg7 arg8 harg8 arg9 harg9 arg10 harg10 arg11 harg11 hs he x0 x1 x2 x3 x4).2.1)

/-- The normalised rows's stores (first) cover the buffer. -/
theorem first8_cover (y : S1024x1024.Idx) :
    ∃ pc ∈ (run_first c i arg2 harg2 arg3 harg3 arg4 harg4 arg5 harg5 arg6 harg6 arg7 harg7 arg8 harg8 arg9 harg9 arg10 harg10 arg11 harg11 hs he x0 x1 x2 x3 x4).2.2.1, y ∈ pc.1.set :=
  View.cover_of_tiledL (run_first c i arg2 harg2 arg3 harg3 arg4 harg4 arg5 harg5 arg6 harg6 arg7 harg7 arg8 harg8 arg9 harg9 arg10 harg10 arg11 harg11 hs he x0 x1 x2 x3 x4).2.2.1 S1024x1024.size (by sl_kernel_rfl) y

/-- The normalised rows (first), read back. -/
def first8 : Vec F S1024x1024 .bf16 :=
  view8.read (Elt F) (view8.writes (Elt F) view8.junk (run_first c i arg2 harg2 arg3 harg3 arg4 harg4 arg5 harg5 arg6 harg6 arg7 harg7 arg8 harg8 arg9 harg9 arg10 harg10 arg11 harg11 hs he x0 x1 x2 x3 x4).2.2.1)

/-- The sum's stores (first) cover the buffer. -/
theorem first9_cover (y : S1024x1024.Idx) :
    ∃ pc ∈ (run_first c i arg2 harg2 arg3 harg3 arg4 harg4 arg5 harg5 arg6 harg6 arg7 harg7 arg8 harg8 arg9 harg9 arg10 harg10 arg11 harg11 hs he x0 x1 x2 x3 x4).2.2.2.1, y ∈ pc.1.set :=
  View.cover_of_tiledL (run_first c i arg2 harg2 arg3 harg3 arg4 harg4 arg5 harg5 arg6 harg6 arg7 harg7 arg8 harg8 arg9 harg9 arg10 harg10 arg11 harg11 hs he x0 x1 x2 x3 x4).2.2.2.1 S1024x1024.size (by sl_kernel_rfl) y

/-- The sum (first), read back. -/
def first9 : Vec F S1024x1024 .f32 :=
  view9.read (Elt F) (view9.writes (Elt F) view9.junk (run_first c i arg2 harg2 arg3 harg3 arg4 harg4 arg5 harg5 arg6 harg6 arg7 harg7 arg8 harg8 arg9 harg9 arg10 harg10 arg11 harg11 hs he x0 x1 x2 x3 x4).2.2.2.1)

end

section
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x1024 .bf16) (harg10 : arg10.IsWhole) (arg11 : Memref sig .tc .vmem S1024x1024 .f32) (harg11 : arg11.IsWhole)
  (hs : ¬starts i) (he : ¬ends i) (x0 : Vec F S1024x1024 .f32) (x1 : Vec F S1x1024 .f32) (x2 : Vec F S512x1024 .bf16) (x3 : Vec F S512x1024 .bf16) (x4 : Vec F S512x1024 .bf16) (h : Vec F S1024x1024 .bf16) (a : Vec F S1024x1024 .f32)

/-- The gate preactivations's stores (mid) cover the buffer. -/
theorem mid6_cover (y : S1024x512.Idx) :
    ∃ pc ∈ (run_mid c i arg2 harg2 arg3 harg3 arg4 harg4 arg5 harg5 arg6 harg6 arg7 harg7 arg8 harg8 arg9 harg9 arg10 harg10 arg11 harg11 hs he x0 x1 x2 x3 x4 h a).1, y ∈ pc.1.set :=
  View.cover_of_tiledL (run_mid c i arg2 harg2 arg3 harg3 arg4 harg4 arg5 harg5 arg6 harg6 arg7 harg7 arg8 harg8 arg9 harg9 arg10 harg10 arg11 harg11 hs he x0 x1 x2 x3 x4 h a).1 S1024x512.size (by sl_kernel_rfl) y

/-- The gate preactivations (mid), read back. -/
def mid6 : Vec F S1024x512 .bf16 :=
  view6.read (Elt F) (view6.writes (Elt F) view6.junk (run_mid c i arg2 harg2 arg3 harg3 arg4 harg4 arg5 harg5 arg6 harg6 arg7 harg7 arg8 harg8 arg9 harg9 arg10 harg10 arg11 harg11 hs he x0 x1 x2 x3 x4 h a).1)

/-- The up preactivations's stores (mid) cover the buffer. -/
theorem mid7_cover (y : S1024x512.Idx) :
    ∃ pc ∈ (run_mid c i arg2 harg2 arg3 harg3 arg4 harg4 arg5 harg5 arg6 harg6 arg7 harg7 arg8 harg8 arg9 harg9 arg10 harg10 arg11 harg11 hs he x0 x1 x2 x3 x4 h a).2.1, y ∈ pc.1.set :=
  View.cover_of_tiledL (run_mid c i arg2 harg2 arg3 harg3 arg4 harg4 arg5 harg5 arg6 harg6 arg7 harg7 arg8 harg8 arg9 harg9 arg10 harg10 arg11 harg11 hs he x0 x1 x2 x3 x4 h a).2.1 S1024x512.size (by sl_kernel_rfl) y

/-- The up preactivations (mid), read back. -/
def mid7 : Vec F S1024x512 .bf16 :=
  view7.read (Elt F) (view7.writes (Elt F) view7.junk (run_mid c i arg2 harg2 arg3 harg3 arg4 harg4 arg5 harg5 arg6 harg6 arg7 harg7 arg8 harg8 arg9 harg9 arg10 harg10 arg11 harg11 hs he x0 x1 x2 x3 x4 h a).2.1)

/-- The sum's stores (mid) cover the buffer. -/
theorem mid9_cover (y : S1024x1024.Idx) :
    ∃ pc ∈ (run_mid c i arg2 harg2 arg3 harg3 arg4 harg4 arg5 harg5 arg6 harg6 arg7 harg7 arg8 harg8 arg9 harg9 arg10 harg10 arg11 harg11 hs he x0 x1 x2 x3 x4 h a).2.2.1, y ∈ pc.1.set :=
  View.cover_of_tiledL (run_mid c i arg2 harg2 arg3 harg3 arg4 harg4 arg5 harg5 arg6 harg6 arg7 harg7 arg8 harg8 arg9 harg9 arg10 harg10 arg11 harg11 hs he x0 x1 x2 x3 x4 h a).2.2.1 S1024x1024.size (by sl_kernel_rfl) y

/-- The sum (mid), read back. -/
def mid9 : Vec F S1024x1024 .f32 :=
  view9.read (Elt F) (view9.writes (Elt F) view9.junk (run_mid c i arg2 harg2 arg3 harg3 arg4 harg4 arg5 harg5 arg6 harg6 arg7 harg7 arg8 harg8 arg9 harg9 arg10 harg10 arg11 harg11 hs he x0 x1 x2 x3 x4 h a).2.2.1)

end

section
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x1024 .bf16) (harg10 : arg10.IsWhole) (arg11 : Memref sig .tc .vmem S1024x1024 .f32) (harg11 : arg11.IsWhole)
  (hs : ¬starts i) (he : ends i) (x0 : Vec F S1024x1024 .f32) (x1 : Vec F S1x1024 .f32) (x2 : Vec F S512x1024 .bf16) (x3 : Vec F S512x1024 .bf16) (x4 : Vec F S512x1024 .bf16) (h : Vec F S1024x1024 .bf16) (a : Vec F S1024x1024 .f32)

/-- The block of the result's stores (last) cover the buffer. -/
theorem last5_cover (y : S1024x1024.Idx) :
    ∃ pc ∈ (run_last c i arg2 harg2 arg3 harg3 arg4 harg4 arg5 harg5 arg6 harg6 arg7 harg7 arg8 harg8 arg9 harg9 arg10 harg10 arg11 harg11 hs he x0 x1 x2 x3 x4 h a).1, y ∈ pc.1.set :=
  View.cover_of_tiledL (run_last c i arg2 harg2 arg3 harg3 arg4 harg4 arg5 harg5 arg6 harg6 arg7 harg7 arg8 harg8 arg9 harg9 arg10 harg10 arg11 harg11 hs he x0 x1 x2 x3 x4 h a).1 S1024x1024.size (by sl_kernel_rfl) y

/-- The block of the result (last), read back. -/
def last5 : Vec F S1024x1024 .f32 :=
  view5.read (Elt F) (view5.writes (Elt F) view5.junk (run_last c i arg2 harg2 arg3 harg3 arg4 harg4 arg5 harg5 arg6 harg6 arg7 harg7 arg8 harg8 arg9 harg9 arg10 harg10 arg11 harg11 hs he x0 x1 x2 x3 x4 h a).1)

/-- The gate preactivations's stores (last) cover the buffer. -/
theorem last6_cover (y : S1024x512.Idx) :
    ∃ pc ∈ (run_last c i arg2 harg2 arg3 harg3 arg4 harg4 arg5 harg5 arg6 harg6 arg7 harg7 arg8 harg8 arg9 harg9 arg10 harg10 arg11 harg11 hs he x0 x1 x2 x3 x4 h a).2.1, y ∈ pc.1.set :=
  View.cover_of_tiledL (run_last c i arg2 harg2 arg3 harg3 arg4 harg4 arg5 harg5 arg6 harg6 arg7 harg7 arg8 harg8 arg9 harg9 arg10 harg10 arg11 harg11 hs he x0 x1 x2 x3 x4 h a).2.1 S1024x512.size (by sl_kernel_rfl) y

/-- The gate preactivations (last), read back. -/
def last6 : Vec F S1024x512 .bf16 :=
  view6.read (Elt F) (view6.writes (Elt F) view6.junk (run_last c i arg2 harg2 arg3 harg3 arg4 harg4 arg5 harg5 arg6 harg6 arg7 harg7 arg8 harg8 arg9 harg9 arg10 harg10 arg11 harg11 hs he x0 x1 x2 x3 x4 h a).2.1)

/-- The up preactivations's stores (last) cover the buffer. -/
theorem last7_cover (y : S1024x512.Idx) :
    ∃ pc ∈ (run_last c i arg2 harg2 arg3 harg3 arg4 harg4 arg5 harg5 arg6 harg6 arg7 harg7 arg8 harg8 arg9 harg9 arg10 harg10 arg11 harg11 hs he x0 x1 x2 x3 x4 h a).2.2.1, y ∈ pc.1.set :=
  View.cover_of_tiledL (run_last c i arg2 harg2 arg3 harg3 arg4 harg4 arg5 harg5 arg6 harg6 arg7 harg7 arg8 harg8 arg9 harg9 arg10 harg10 arg11 harg11 hs he x0 x1 x2 x3 x4 h a).2.2.1 S1024x512.size (by sl_kernel_rfl) y

/-- The up preactivations (last), read back. -/
def last7 : Vec F S1024x512 .bf16 :=
  view7.read (Elt F) (view7.writes (Elt F) view7.junk (run_last c i arg2 harg2 arg3 harg3 arg4 harg4 arg5 harg5 arg6 harg6 arg7 harg7 arg8 harg8 arg9 harg9 arg10 harg10 arg11 harg11 hs he x0 x1 x2 x3 x4 h a).2.2.1)

/-- The sum's stores (last) cover the buffer. -/
theorem last9_cover (y : S1024x1024.Idx) :
    ∃ pc ∈ (run_last c i arg2 harg2 arg3 harg3 arg4 harg4 arg5 harg5 arg6 harg6 arg7 harg7 arg8 harg8 arg9 harg9 arg10 harg10 arg11 harg11 hs he x0 x1 x2 x3 x4 h a).2.2.2.1, y ∈ pc.1.set :=
  View.cover_of_tiledL (run_last c i arg2 harg2 arg3 harg3 arg4 harg4 arg5 harg5 arg6 harg6 arg7 harg7 arg8 harg8 arg9 harg9 arg10 harg10 arg11 harg11 hs he x0 x1 x2 x3 x4 h a).2.2.2.1 S1024x1024.size (by sl_kernel_rfl) y

/-- The sum (last), read back. -/
def last9 : Vec F S1024x1024 .f32 :=
  view9.read (Elt F) (view9.writes (Elt F) view9.junk (run_last c i arg2 harg2 arg3 harg3 arg4 harg4 arg5 harg5 arg6 harg6 arg7 harg7 arg8 harg8 arg9 harg9 arg10 harg10 arg11 harg11 hs he x0 x1 x2 x3 x4 h a).2.2.2.1)

end

end Cert.Kernel6Ideal.FfnFwd

end
-- ==== Proof.FfnFwd.FrameIdeal.lean ====
/- The forward feed-forward block (idealized): what the buffers hold at each point, the body at every point, and the frame. -/
module

public import proofs.«01_k».proof.Proof.FfnFwd.RunIdeal

@[expose] public section

set_option maxRecDepth 16384

noncomputable section

namespace Cert.Kernel6Ideal.FfnFwd

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Window 0's buffer at a point, as the body is handed it. -/
abbrev stg0 (t : Fin cfg0.N) : Memref sig .tc .vmem S1024x1024 .f32 := win0_0.stage (cfg0.slots t 0)
abbrev stg0_whole (t : Fin cfg0.N) : (stg0 t).IsWhole := hstage0_0 ((cfg0.slots t 0).cast nbuf0_0)
/-- Window 1's buffer at a point, as the body is handed it. -/
abbrev stg1 (t : Fin cfg0.N) : Memref sig .tc .vmem S1x1024 .f32 := win0_1.stage (cfg0.slots t 1)
abbrev stg1_whole (t : Fin cfg0.N) : (stg1 t).IsWhole := hstage0_1 ((cfg0.slots t 1).cast nbuf0_1)
/-- Window 2's buffer at a point, as the body is handed it. -/
abbrev stg2 (t : Fin cfg0.N) : Memref sig .tc .vmem S512x1024 .bf16 := win0_2.stage (cfg0.slots t 2)
abbrev stg2_whole (t : Fin cfg0.N) : (stg2 t).IsWhole := hstage0_2 ((cfg0.slots t 2).cast nbuf0_2)
/-- Window 3's buffer at a point, as the body is handed it. -/
abbrev stg3 (t : Fin cfg0.N) : Memref sig .tc .vmem S512x1024 .bf16 := win0_3.stage (cfg0.slots t 3)
abbrev stg3_whole (t : Fin cfg0.N) : (stg3 t).IsWhole := hstage0_3 ((cfg0.slots t 3).cast nbuf0_3)
/-- Window 4's buffer at a point, as the body is handed it. -/
abbrev stg4 (t : Fin cfg0.N) : Memref sig .tc .vmem S512x1024 .bf16 := win0_4.stage (cfg0.slots t 4)
abbrev stg4_whole (t : Fin cfg0.N) : (stg4 t).IsWhole := hstage0_4 ((cfg0.slots t 4).cast nbuf0_4)
/-- Window 5's buffer at a point, as the body is handed it. -/
abbrev stg5 (t : Fin cfg0.N) : Memref sig .tc .vmem S1024x1024 .f32 := win0_5.stage (cfg0.slots t 5)
abbrev stg5_whole (t : Fin cfg0.N) : (stg5 t).IsWhole := hstage0_5 ((cfg0.slots t 5).cast nbuf0_5)
/-- Window 6's buffer at a point, as the body is handed it. -/
abbrev stg6 (t : Fin cfg0.N) : Memref sig .tc .vmem S1024x512 .bf16 := win0_6.stage (cfg0.slots t 6)
abbrev stg6_whole (t : Fin cfg0.N) : (stg6 t).IsWhole := hstage0_6 ((cfg0.slots t 6).cast nbuf0_6)
/-- Window 7's buffer at a point, as the body is handed it. -/
abbrev stg7 (t : Fin cfg0.N) : Memref sig .tc .vmem S1024x512 .bf16 := win0_7.stage (cfg0.slots t 7)
abbrev stg7_whole (t : Fin cfg0.N) : (stg7 t).IsWhole := hstage0_7 ((cfg0.slots t 7).cast nbuf0_7)
/-- Window 8's buffer at a point, as the body is handed it. -/
abbrev stg8 (t : Fin cfg0.N) : Memref sig .tc .vmem S1024x1024 .bf16 := win0_8.stage (cfg0.slots t 8)
abbrev stg8_whole (t : Fin cfg0.N) : (stg8 t).IsWhole := hstage0_8 ((cfg0.slots t 8).cast nbuf0_8)
/-- The buffer of the sum over the hidden blocks. -/
abbrev sumBuf : Memref sig .tc .vmem S1024x1024 .f32 := Memref.whole cc0_scratch0

/-- The point that begins the token block a point is in. -/
def row_start (t : Fin cfg0.N) : Fin cfg0.N := ⟨t.val - t.val % 6, Nat.lt_of_le_of_lt (Nat.sub_le _ _) t.isLt⟩

theorem row_start_mod (t : Fin cfg0.N) : (row_start t).val % 6 = 0 := by unfold row_start; dsimp only; omega

theorem row_start_pred (t : Fin cfg0.N) (h : ¬t.val % 6 = 0) : row_start ⟨t.val - 1, by omega⟩ = row_start t := by
  unfold row_start; apply Fin.ext; dsimp only; omega

theorem row_start_self (t : Fin cfg0.N) (h : t.val % 6 = 0) : row_start t = t := by
  unfold row_start; apply Fin.ext; dsimp only; omega

/-- The normalised rows a token block begins with. -/
def rowsAt (c : Dev nD) (t : Fin cfg0.N) (h : t.val % 6 = 0) : Vec F S1024x1024 .bf16 :=
  first8 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) sumBuf (Memref.isWhole_whole _) ((starts_iff t).mpr h) (fun e => absurd ((ends_iff t).mp e) (by omega)) (iblk m c 0 t) (iblk m c 1 t) (iblk m c 2 t) (iblk m c 3 t) (iblk m c 4 t)

/-- The normalised rows held at any point: those the token block began with. -/
def rows (c : Dev nD) (t : Fin cfg0.N) : Vec F S1024x1024 .bf16 := rowsAt m c (row_start t) (row_start_mod t)

theorem rows_start (c : Dev nD) (t : Fin cfg0.N) (h : t.val % 6 = 0) : rows m c t = rowsAt m c t h := by
  have key : ∀ (s : Fin cfg0.N) (hs : s.val % 6 = 0), s = t → rowsAt m c s hs = rowsAt m c t h := by
    intro s hs e; subst e; rfl
  exact key _ _ (row_start_self t h)

theorem rows_pred (c : Dev nD) (t : Fin cfg0.N) (h : ¬t.val % 6 = 0) : rows m c ⟨t.val - 1, by omega⟩ = rows m c t := by
  have key : ∀ (s s' : Fin cfg0.N) (hs : s.val % 6 = 0) (hs' : s'.val % 6 = 0), s = s' → rowsAt m c s hs = rowsAt m c s' hs' := by
    intro s s' hs hs' e; subst e; rfl
  exact key _ _ _ _ (row_start_pred t h)

/-- What a point leaves in the buffer of the sum, from what it finds there. -/
def sumStep (c : Dev nD) (t : Fin cfg0.N) (a : Vec F S1024x1024 .f32) : Vec F S1024x1024 .f32 :=
  if h : t.val % 6 = 0 then
    first9 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) sumBuf (Memref.isWhole_whole _) ((starts_iff t).mpr h) (fun e => absurd ((ends_iff t).mp e) (by omega)) (iblk m c 0 t) (iblk m c 1 t) (iblk m c 2 t) (iblk m c 3 t) (iblk m c 4 t)
  else if h5 : t.val % 6 = 5 then
    last9 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) sumBuf (Memref.isWhole_whole _) (fun e => absurd ((starts_iff t).mp e) (by omega)) ((ends_iff t).mpr h5) (iblk m c 0 t) (iblk m c 1 t) (iblk m c 2 t) (iblk m c 3 t) (iblk m c 4 t) (rows m c t) a
  else
    mid9 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) sumBuf (Memref.isWhole_whole _) (fun e => h ((starts_iff t).mp e)) (fun e => h5 ((ends_iff t).mp e)) (iblk m c 0 t) (iblk m c 1 t) (iblk m c 2 t) (iblk m c 3 t) (iblk m c 4 t) (rows m c t) a

/-- The sum after each point. -/
def sums (c : Dev nD) : (n : ℕ) → n < cfg0.N → Vec F S1024x1024 .f32
  | 0, hn => sumStep m c ⟨0, hn⟩ (view9.read (Elt F) view9.junk)
  | n + 1, hn => sumStep m c ⟨n + 1, hn⟩ (sums c n (by omega))

/-- The sum a point finds: what the point before left. -/
abbrev sumIn (c : Dev nD) (t : Fin cfg0.N) : Vec F S1024x1024 .f32 := sums m c (t.val - 1) (by omega)

theorem sumStep_first (c : Dev nD) (t : Fin cfg0.N) (a : Vec F S1024x1024 .f32) (h : t.val % 6 = 0) : sumStep m c t a =
    first9 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) sumBuf (Memref.isWhole_whole _) ((starts_iff t).mpr h) (fun e => absurd ((ends_iff t).mp e) (by omega)) (iblk m c 0 t) (iblk m c 1 t) (iblk m c 2 t) (iblk m c 3 t) (iblk m c 4 t) := dif_pos h

theorem sumStep_mid (c : Dev nD) (t : Fin cfg0.N) (a : Vec F S1024x1024 .f32) (h : ¬t.val % 6 = 0) (h5 : ¬t.val % 6 = 5) : sumStep m c t a =
    mid9 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) sumBuf (Memref.isWhole_whole _) (fun e => h ((starts_iff t).mp e)) (fun e => h5 ((ends_iff t).mp e)) (iblk m c 0 t) (iblk m c 1 t) (iblk m c 2 t) (iblk m c 3 t) (iblk m c 4 t) (rows m c t) a := (dif_neg h).trans (dif_neg h5)

theorem sumStep_last (c : Dev nD) (t : Fin cfg0.N) (a : Vec F S1024x1024 .f32) (h5 : t.val % 6 = 5) : sumStep m c t a =
    last9 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) sumBuf (Memref.isWhole_whole _) (fun e => absurd ((starts_iff t).mp e) (by omega)) ((ends_iff t).mpr h5) (iblk m c 0 t) (iblk m c 1 t) (iblk m c 2 t) (iblk m c 3 t) (iblk m c 4 t) (rows m c t) a := (dif_neg (by omega)).trans (dif_pos h5)

/-- Each point's sum is a step from some contents, -/
theorem sums_some (c : Dev nD) (t : Fin cfg0.N) : ∃ a, sums m c t.val t.isLt = sumStep m c t a := by
  obtain ⟨n, hn⟩ := t
  cases n with
  | zero => exact ⟨view9.read (Elt F) view9.junk, rfl⟩
  | succ n => exact ⟨sums m c n (by omega), rfl⟩

/-- and but for the first point's, from the sum of the point before. -/
theorem sums_step (c : Dev nD) (t : Fin cfg0.N) (h : t.val ≠ 0) : sums m c t.val t.isLt = sumStep m c t (sumIn m c t) := by
  obtain ⟨n, hn⟩ := t
  cases n with
  | zero => exact absurd rfl h
  | succ n => rfl

theorem sums_first (c : Dev nD) (t : Fin cfg0.N) (h : t.val % 6 = 0) : sums m c t.val t.isLt =
    first9 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) sumBuf (Memref.isWhole_whole _) ((starts_iff t).mpr h) (fun e => absurd ((ends_iff t).mp e) (by omega)) (iblk m c 0 t) (iblk m c 1 t) (iblk m c 2 t) (iblk m c 3 t) (iblk m c 4 t) := by
  obtain ⟨a, e⟩ := sums_some m c t
  rw [e, sumStep_first m c t a h]

theorem sums_mid (c : Dev nD) (t : Fin cfg0.N) (h : ¬t.val % 6 = 0) (h5 : ¬t.val % 6 = 5) : sums m c t.val t.isLt =
    mid9 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) sumBuf (Memref.isWhole_whole _) (fun e => h ((starts_iff t).mp e)) (fun e => h5 ((ends_iff t).mp e)) (iblk m c 0 t) (iblk m c 1 t) (iblk m c 2 t) (iblk m c 3 t) (iblk m c 4 t) (rows m c t) (sumIn m c t) := by
  rw [sums_step m c t (by omega), sumStep_mid m c t _ h h5]

theorem sums_last (c : Dev nD) (t : Fin cfg0.N) (h5 : t.val % 6 = 5) : sums m c t.val t.isLt =
    last9 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) sumBuf (Memref.isWhole_whole _) (fun e => absurd ((starts_iff t).mp e) (by omega)) ((ends_iff t).mpr h5) (iblk m c 0 t) (iblk m c 1 t) (iblk m c 2 t) (iblk m c 3 t) (iblk m c 4 t) (rows m c t) (sumIn m c t) := by
  rw [sums_step m c t (by omega), sumStep_last m c t _ h5]

/-- The gate preactivations a point stores. -/
def gates (c : Dev nD) (t : Fin cfg0.N) : Vec F S1024x512 .bf16 :=
  if h : t.val % 6 = 0 then
    first6 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) sumBuf (Memref.isWhole_whole _) ((starts_iff t).mpr h) (fun e => absurd ((ends_iff t).mp e) (by omega)) (iblk m c 0 t) (iblk m c 1 t) (iblk m c 2 t) (iblk m c 3 t) (iblk m c 4 t)
  else if h5 : t.val % 6 = 5 then
    last6 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) sumBuf (Memref.isWhole_whole _) (fun e => absurd ((starts_iff t).mp e) (by omega)) ((ends_iff t).mpr h5) (iblk m c 0 t) (iblk m c 1 t) (iblk m c 2 t) (iblk m c 3 t) (iblk m c 4 t) (rows m c t) (sumIn m c t)
  else
    mid6 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) sumBuf (Memref.isWhole_whole _) (fun e => h ((starts_iff t).mp e)) (fun e => h5 ((ends_iff t).mp e)) (iblk m c 0 t) (iblk m c 1 t) (iblk m c 2 t) (iblk m c 3 t) (iblk m c 4 t) (rows m c t) (sumIn m c t)

theorem gates_first (c : Dev nD) (t : Fin cfg0.N) (h : t.val % 6 = 0) : gates m c t =
    first6 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) sumBuf (Memref.isWhole_whole _) ((starts_iff t).mpr h) (fun e => absurd ((ends_iff t).mp e) (by omega)) (iblk m c 0 t) (iblk m c 1 t) (iblk m c 2 t) (iblk m c 3 t) (iblk m c 4 t) := dif_pos h

theorem gates_mid (c : Dev nD) (t : Fin cfg0.N) (h : ¬t.val % 6 = 0) (h5 : ¬t.val % 6 = 5) : gates m c t =
    mid6 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) sumBuf (Memref.isWhole_whole _) (fun e => h ((starts_iff t).mp e)) (fun e => h5 ((ends_iff t).mp e)) (iblk m c 0 t) (iblk m c 1 t) (iblk m c 2 t) (iblk m c 3 t) (iblk m c 4 t) (rows m c t) (sumIn m c t) := (dif_neg h).trans (dif_neg h5)

theorem gates_last (c : Dev nD) (t : Fin cfg0.N) (h5 : t.val % 6 = 5) : gates m c t =
    last6 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) sumBuf (Memref.isWhole_whole _) (fun e => absurd ((starts_iff t).mp e) (by omega)) ((ends_iff t).mpr h5) (iblk m c 0 t) (iblk m c 1 t) (iblk m c 2 t) (iblk m c 3 t) (iblk m c 4 t) (rows m c t) (sumIn m c t) := (dif_neg (by omega)).trans (dif_pos h5)

/-- The up preactivations a point stores. -/
def ups (c : Dev nD) (t : Fin cfg0.N) : Vec F S1024x512 .bf16 :=
  if h : t.val % 6 = 0 then
    first7 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) sumBuf (Memref.isWhole_whole _) ((starts_iff t).mpr h) (fun e => absurd ((ends_iff t).mp e) (by omega)) (iblk m c 0 t) (iblk m c 1 t) (iblk m c 2 t) (iblk m c 3 t) (iblk m c 4 t)
  else if h5 : t.val % 6 = 5 then
    last7 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) sumBuf (Memref.isWhole_whole _) (fun e => absurd ((starts_iff t).mp e) (by omega)) ((ends_iff t).mpr h5) (iblk m c 0 t) (iblk m c 1 t) (iblk m c 2 t) (iblk m c 3 t) (iblk m c 4 t) (rows m c t) (sumIn m c t)
  else
    mid7 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) sumBuf (Memref.isWhole_whole _) (fun e => h ((starts_iff t).mp e)) (fun e => h5 ((ends_iff t).mp e)) (iblk m c 0 t) (iblk m c 1 t) (iblk m c 2 t) (iblk m c 3 t) (iblk m c 4 t) (rows m c t) (sumIn m c t)

theorem ups_first (c : Dev nD) (t : Fin cfg0.N) (h : t.val % 6 = 0) : ups m c t =
    first7 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) sumBuf (Memref.isWhole_whole _) ((starts_iff t).mpr h) (fun e => absurd ((ends_iff t).mp e) (by omega)) (iblk m c 0 t) (iblk m c 1 t) (iblk m c 2 t) (iblk m c 3 t) (iblk m c 4 t) := dif_pos h

theorem ups_mid (c : Dev nD) (t : Fin cfg0.N) (h : ¬t.val % 6 = 0) (h5 : ¬t.val % 6 = 5) : ups m c t =
    mid7 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) sumBuf (Memref.isWhole_whole _) (fun e => h ((starts_iff t).mp e)) (fun e => h5 ((ends_iff t).mp e)) (iblk m c 0 t) (iblk m c 1 t) (iblk m c 2 t) (iblk m c 3 t) (iblk m c 4 t) (rows m c t) (sumIn m c t) := (dif_neg h).trans (dif_neg h5)

theorem ups_last (c : Dev nD) (t : Fin cfg0.N) (h5 : t.val % 6 = 5) : ups m c t =
    last7 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) sumBuf (Memref.isWhole_whole _) (fun e => absurd ((starts_iff t).mp e) (by omega)) ((ends_iff t).mpr h5) (iblk m c 0 t) (iblk m c 1 t) (iblk m c 2 t) (iblk m c 3 t) (iblk m c 4 t) (rows m c t) (sumIn m c t) := (dif_neg (by omega)).trans (dif_pos h5)

/-- The block of the result the last point of a token block stores (nothing is stored elsewhere). -/
def outs (c : Dev nD) (t : Fin cfg0.N) : Vec F S1024x1024 .f32 :=
  if h5 : t.val % 6 = 5 then
    last5 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) sumBuf (Memref.isWhole_whole _) (fun e => absurd ((starts_iff t).mp e) (by omega)) ((ends_iff t).mpr h5) (iblk m c 0 t) (iblk m c 1 t) (iblk m c 2 t) (iblk m c 3 t) (iblk m c 4 t) (rows m c t) (sumIn m c t)
  else
    view5.read (Elt F) view5.junk

theorem outs_last (c : Dev nD) (t : Fin cfg0.N) (h5 : t.val % 6 = 5) : outs m c t =
    last5 c (grid0.coords t) (stg0 t) (stg0_whole t) (stg1 t) (stg1_whole t) (stg2 t) (stg2_whole t) (stg3 t) (stg3_whole t) (stg4 t) (stg4_whole t) (stg5 t) (stg5_whole t) (stg6 t) (stg6_whole t) (stg7 t) (stg7_whole t) (stg8 t) (stg8_whole t) sumBuf (Memref.isWhole_whole _) (fun e => absurd ((starts_iff t).mp e) (by omega)) ((ends_iff t).mpr h5) (iblk m c 0 t) (iblk m c 1 t) (iblk m c 2 t) (iblk m c 3 t) (iblk m c 4 t) (rows m c t) (sumIn m c t) := dif_pos h5

/-- What the core holds besides the windows, before each point: the buffer of the sum at anything before the first point, and
    after a point at the sum it left. -/
def PhiS (c : Dev nD) : (n : ℕ) → n ≤ cfg0.N → sProp (MT nD τ sig Unit (Elt F) ℕ (UR sig nD τ) ℕ)
  | 0, _ => Pipeline.ΦA spec0 c
  | n + 1, hn => iprop(owns (c : Thread nD τ) sumBuf fullShare (sums m c n hn) ∗ (∃ r, prngReg c r))

theorem PhiS_pos (c : Dev nD) (n : ℕ) (h : n ≤ cfg0.N) (hz : n ≠ 0) :
    PhiS m c n h = iprop(owns (c : Thread nD τ) sumBuf fullShare (sums m c (n - 1) (by omega)) ∗ (∃ r, prngReg c r)) := by
  cases n with
  | zero => exact absurd rfl hz
  | succ n => rfl

theorem PhiA_eq (c : Dev nD) :
    (Pipeline.ΦA spec0 c : sProp (MT nD τ sig Unit (Elt F) ℕ (UR sig nD τ) ℕ))
      = iprop((∃ d, owns (c : Thread nD τ) sumBuf fullShare d) ∗ (∃ r, prngReg c r)) := by
  unfold Pipeline.ΦA; rw [scopedRest0_eq]; simp only [sumBuf, owns_whole]; try rfl

/-- In every case the buffer of the sum holds something. -/
theorem PhiS_out (c : Dev nD) (n : ℕ) (h : n ≤ cfg0.N) : PhiS m c n h ⊢
    iprop((∃ d, owns (c : Thread nD τ) sumBuf fullShare d) ∗ (∃ r, prngReg c r)) := by
  by_cases hz : n = 0
  · subst hz
    rw [← PhiA_eq]
    exact Idealize.SL.BI.Entails.refl _
  · rw [PhiS_pos m c n h hz]
    iintro ⟨HS, Hg⟩
    isplitl [HS]
    · iexists _; iexact HS
    iexact Hg

/-- What the windows' buffers hold after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outs m c t
    | ⟨6, _⟩ => gates m c t
    | ⟨7, _⟩ => ups m c t
    | ⟨8, _⟩ => rows m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_before (c : Dev nD) (t : Fin cfg0.N) : (dats m 0 c).Φ t.castSucc = PhiS m c t.val (Nat.le_of_lt t.isLt) := by
  dsimp only [dats]; exact Pipeline.Dat.Φ_castSucc (PhiS m c) t

theorem Phi_after (c : Dev nD) (t : Fin cfg0.N) : (dats m 0 c).Φ t.succ
    = iprop(owns (c : Thread nD τ) sumBuf fullShare (sums m c t.val t.isLt) ∗ (∃ r, prngReg c r)) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outs m c t := by dsimp only [dats]
theorem after0_6 (c : Dev nD) (t : Fin cfg0.N) : (dats m 0 c).after 6 t = gates m c t := by dsimp only [dats]
theorem after0_7 (c : Dev nD) (t : Fin cfg0.N) : (dats m 0 c).after 7 t = ups m c t := by dsimp only [dats]
theorem after0_8 (c : Dev nD) (t : Fin cfg0.N) : (dats m 0 c).after 8 t = rows m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The result's window is idle but where a token block ends. -/
theorem idle5 : ∀ t : Fin cfg0.N, cfg0.idle 5 (grid0.coords t) = !decide (t.val % 6 = 5) := by decide +kernel

/-- The normalised rows' window is idle but where a token block begins. -/
theorem idle8 : ∀ t : Fin cfg0.N, cfg0.idle 8 (grid0.coords t) = !decide (t.val % 6 = 0) := by decide +kernel

/-- Where its buffer holds nothing yet: where a token block begins. -/
def blank8 : ℕ → Bool := fun n => n % 6 == 0

theorem blank8_step : ∀ t : Fin cfg0.N,
    blank8 (t.val + 1) = ((cfg0.win 8).flush t || (cfg0.idle 8 (cfg0.grid.coords t) && blank8 t.val)) := by decide +kernel

theorem fresh8 (t : Fin cfg0.N) : cfg0.fresh 8 t.val = blank8 t.val :=
  Pipeline.Cfg.fresh_tab cfg0 8 blank8 rfl blank8_step t.val (Nat.le_of_lt t.isLt)

/-- The rows are kept through the points that leave their window idle. -/
theorem carry8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  rw [after0_8, after0_8]
  refine (rows_pred m c t fun h => ?_).symm
  rw [idle8, decide_eq_true h] at hi
  exact absurd hi Bool.false_ne_true

/-- Where no token block begins the buffer holds the rows. -/
theorem before0_8 (c : Dev nD) (t : Fin cfg0.N) (h : ¬t.val % 6 = 0) (d) : (dats m 0 c).before 8 t d = rows m c t := by
  rw [Dat.before_out_traj _ 8 rfl (fun _ _ => rfl) (carry8 m c) t.val t rfl d,
    if_neg (by rw [fresh8]; unfold blank8; simpa using h), after0_8]
  exact rows_pred m c t h

/-- and the body may hand it back holding the rows, written back there or not. -/
theorem leaves8 (c : Dev nD) (t : Fin cfg0.N) (h : ¬t.val % 6 = 0) :
    (owns (c : Thread nD τ) (stg8 t) fullShare (rows m c t) : sProp (MT nD τ sig Unit (Elt F) ℕ (UR sig nD τ) ℕ)) ⊢ (dats m 0 c).leavesExact 8 t := by
  have hi : cfg0.idle 8 (cfg0.grid.coords t) = true := by rw [idle8, decide_eq_false h]; rfl
  cases hf : (cfg0.win 8).flush t
  · rw [Dat.leavesExact_idle (dats m 0 c) 8 t hi hf]
    simp only [before0_8 m c t h]
    iintro H
    iexists (rows m c t); iexact H
  · unfold Dat.leavesExact
    rw [hi, hf, after0_8]
    try exact Idealize.SL.BI.Entails.refl _

/-- The result's window, not written back where no token block ends, is handed back as it was. -/
theorem leaves5 (c : Dev nD) (t : Fin cfg0.N) (h5 : ¬t.val % 6 = 5) :
    (iprop(∃ d, owns (c : Thread nD τ) (stg5 t) fullShare ((dats m 0 c).before 5 t d)) : sProp (MT nD τ sig Unit (Elt F) ℕ (UR sig nD τ) ℕ))
      ⊢ (dats m 0 c).leavesExact 5 t := by
  rw [Dat.leavesExact_idle (dats m 0 c) 5 t (by rw [idle5, decide_eq_false h5]; rfl)
    (by cases hf : (cfg0.win 5).flush t
        · rfl
        · exact absurd ((flush0_5 t).mp hf) h5)]
  try exact Idealize.SL.BI.Entails.refl _

/-- What the body is called with at a point, window by window, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0 (c : Dev nD) (t : Fin cfg0.N) : (dats m 0 c).leavesExact 0 t = owns (c : Thread nD τ) (stg0 t) fullShare ((dats m 0 c).after 0 t) := by
  unfold Dat.leavesExact; rw [show cfg0.idle 0 (cfg0.grid.coords t) = false from rfl]
theorem leaves1 (c : Dev nD) (t : Fin cfg0.N) : (dats m 0 c).leavesExact 1 t = owns (c : Thread nD τ) (stg1 t) fullShare ((dats m 0 c).after 1 t) := by
  unfold Dat.leavesExact; rw [show cfg0.idle 1 (cfg0.grid.coords t) = false from rfl]
theorem leaves2 (c : Dev nD) (t : Fin cfg0.N) : (dats m 0 c).leavesExact 2 t = owns (c : Thread nD τ) (stg2 t) fullShare ((dats m 0 c).after 2 t) := by
  unfold Dat.leavesExact; rw [show cfg0.idle 2 (cfg0.grid.coords t) = false from rfl]
theorem leaves3 (c : Dev nD) (t : Fin cfg0.N) : (dats m 0 c).leavesExact 3 t = owns (c : Thread nD τ) (stg3 t) fullShare ((dats m 0 c).after 3 t) := by
  unfold Dat.leavesExact; rw [show cfg0.idle 3 (cfg0.grid.coords t) = false from rfl]
theorem leaves4 (c : Dev nD) (t : Fin cfg0.N) : (dats m 0 c).leavesExact 4 t = owns (c : Thread nD τ) (stg4 t) fullShare ((dats m 0 c).after 4 t) := by
  unfold Dat.leavesExact; rw [show cfg0.idle 4 (cfg0.grid.coords t) = false from rfl]
theorem leaves6 (c : Dev nD) (t : Fin cfg0.N) : (dats m 0 c).leavesExact 6 t = owns (c : Thread nD τ) (stg6 t) fullShare ((dats m 0 c).after 6 t) := by
  unfold Dat.leavesExact; rw [show cfg0.idle 6 (cfg0.grid.coords t) = false from rfl]
theorem leaves7 (c : Dev nD) (t : Fin cfg0.N) : (dats m 0 c).leavesExact 7 t = owns (c : Thread nD τ) (stg7 t) fullShare ((dats m 0 c).after 7 t) := by
  unfold Dat.leavesExact; rw [show cfg0.idle 7 (cfg0.grid.coords t) = false from rfl]

set_option maxHeartbeats 8000000 in
/-- The body where a token block begins. -/
theorem body_first (c : Dev nD) (t : Fin cfg0.N) (h : t.val % 6 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [Phi_before, Phi_after, sums_first m c t h]
  rw [leaves0, leaves1, leaves2, leaves3, leaves4, leaves6, leaves7, after0_0, after0_1, after0_2, after0_3, after0_4, after0_6, after0_7,
    gates_first m c t h, ups_first m c t h]
  rw [show (dats m 0 c).leavesExact 8 t = owns (c : Thread nD τ) (stg8 t) fullShare ((dats m 0 c).after 8 t) from by
    unfold Dat.leavesExact; rw [show cfg0.idle 8 (cfg0.grid.coords t) = false from by rw [idle8, decide_eq_true h]; rfl],
    after0_8, rows_start m c t h]
  unfold rowsAt
  refine (BIClass.sep_mono (PhiS_out m c t.val _) (Idealize.SL.BI.Entails.refl _)).trans ?_
  unfold first6 first7 first8 first9
  iintro ⟨⟨HS, Hg⟩, Ho, ⟨%d0, H0⟩, ⟨%d1, H1⟩, ⟨%d2, H2⟩, ⟨%d3, H3⟩, ⟨%d4, H4⟩, H5, ⟨%d6, H6⟩, ⟨%d7, H7⟩, ⟨%d8, H8⟩⟩
  iapply ((run_first c (grid0.coords t) _ _ _ _ _ _ _ _ _ _ _ _ _ _ _ _ _ _ _ _ ((starts_iff t).mpr h) (fun e => absurd ((ends_iff t).mp e) (by omega)) (iblk m c 0 t) (iblk m c 1 t) (iblk m c 2 t) (iblk m c 3 t) (iblk m c 4 t)).2.2.2.2 Set.univ _)
  isplitl [H0]; · iexact H0
  isplitl [H1]; · iexact H1
  isplitl [H2]; · iexact H2
  isplitl [H3]; · iexact H3
  isplitl [H4]; · iexact H4
  isplitl [H6]; · iexists _; iexact H6
  isplitl [H7]; · iexists _; iexact H7
  isplitl [H8]; · iexists _; iexact H8
  isplitl [HS]; · iexact HS
  iintro ⟨H0, H1, H2, H3, H4, ⟨%e6, H6⟩, ⟨%e7, H7⟩, ⟨%e8, H8⟩, ⟨%eS, HS⟩⟩
  isplitl [HS Hg]
  · isplitl [HS]
    · unfold owns; iexists _; isplitr
      swap; · iexact HS
      ipureintro; exact View.read_writes_of_cover _ _ _ _ _ (first9_cover c _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply (leaves5 m c t (by omega)); iexact H5
  isplitl [H6]
  · unfold owns; iexists _; isplitr
    swap; · iexact H6
    ipureintro; exact View.read_writes_of_cover _ _ _ _ _ (first6_cover c _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (first7_cover c _ _ _ _ _ _ _ _ _ _ _ _ _ _ _ _ _ _ _ _ _ _ _ _ _ _ _ _)
  unfold owns; iexists _; isplitr
  swap; · iexact H8
  ipureintro; exact View.read_writes_of_cover _ _ _ _ _ (first8_cover c _ _ _ _ _ _ _ _ _ _ _ _ _ _ _ _ _ _ _ _ _ _ _ _ _ _ _ _)

set_option maxHeartbeats 8000000 in
/-- The body inside a token block. -/
theorem body_mid (c : Dev nD) (t : Fin cfg0.N) (h : ¬t.val % 6 = 0) (h5 : ¬t.val % 6 = 5) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_8 m c t h]
  rw [show (dats m 0 c).owesAt () t.succ = (dats m 0 c).owesAt () t.castSucc from rfl]
  rw [Phi_before, Phi_after, sums_mid m c t h h5]
  rw [leaves0, leaves1, leaves2, leaves3, leaves4, leaves6, leaves7, after0_0, after0_1, after0_2, after0_3, after0_4, after0_6, after0_7,
    gates_mid m c t h h5, ups_mid m c t h h5]
  rw [PhiS_pos m c t.val _ (by omega)]
  unfold mid6 mid7 mid9
  iintro ⟨⟨HS, Hg⟩, Ho, ⟨%d0, H0⟩, ⟨%d1, H1⟩, ⟨%d2, H2⟩, ⟨%d3, H3⟩, ⟨%d4, H4⟩, H5, ⟨%d6, H6⟩, ⟨%d7, H7⟩, ⟨%d8, H8⟩⟩
  iapply ((run_mid c (grid0.coords t) _ _ _ _ _ _ _ _ _ _ _ _ _ _ _ _ _ _ _ _ (fun e => h ((starts_iff t).mp e)) (fun e => h5 ((ends_iff t).mp e)) (iblk m c 0 t) (iblk m c 1 t) (iblk m c 2 t) (iblk m c 3 t) (iblk m c 4 t) (rows m c t) (sumIn m c t)).2.2.2 Set.univ _)
  isplitl [H0]; · iexact H0
  isplitl [H1]; · iexact H1
  isplitl [H2]; · iexact H2
  isplitl [H3]; · iexact H3
  isplitl [H4]; · iexact H4
  isplitl [H6]; · iexists _; iexact H6
  isplitl [H7]; · iexists _; iexact H7
  isplitl [H8]; · iexact H8
  isplitl [HS]; · iexact HS
  iintro ⟨H0, H1, H2, H3, H4, ⟨%e6, H6⟩, ⟨%e7, H7⟩, H8, ⟨%eS, HS⟩⟩
  isplitl [HS Hg]
  · isplitl [HS]
    · unfold owns; iexists _; isplitr
      swap; · iexact HS
      ipureintro; exact View.read_writes_of_cover _ _ _ _ _ (mid9_cover c _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply (leaves5 m c t h5); iexact H5
  isplitl [H6]
  · unfold owns; iexists _; isplitr
    swap; · iexact H6
    ipureintro; exact View.read_writes_of_cover _ _ _ _ _ (mid6_cover c _ _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (mid7_cover c _ _ _ _ _ _ _ _ _ _ _ _ _ _ _ _ _ _ _ _ _ _ _ _ _ _ _ _ _ _)
  iapply (leaves8 m c t h)
  iexact H8

set_option maxHeartbeats 8000000 in
/-- The body where a token block ends. -/
theorem body_last (c : Dev nD) (t : Fin cfg0.N) (h5 : t.val % 6 = 5) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_8 m c t (by omega)]
  rw [show (dats m 0 c).owesAt () t.succ = (dats m 0 c).owesAt () t.castSucc from rfl]
  rw [Phi_before, Phi_after, sums_last m c t h5]
  rw [leaves0, leaves1, leaves2, leaves3, leaves4, leaves6, leaves7, after0_0, after0_1, after0_2, after0_3, after0_4, after0_6, after0_7,
    gates_last m c t h5, ups_last m c t h5]
  rw [show (dats m 0 c).leavesExact 5 t = owns (c : Thread nD τ) (stg5 t) fullShare ((dats m 0 c).after 5 t) from by
    unfold Dat.leavesExact; rw [show cfg0.idle 5 (cfg0.grid.coords t) = false from by rw [idle5, decide_eq_true h5]; rfl],
    after0_5, outs_last m c t h5]
  rw [PhiS_pos m c t.val _ (by omega)]
  unfold last5 last6 last7 last9
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run_last c (grid0.coords t) _ _ _ _ _ _ _ _ _ _ _ _ _ _ _ _ _ _ _ _ (fun e => absurd ((starts_iff t).mp e) (by omega)) ((ends_iff t).mpr h5) (iblk m c 0 t) (iblk m c 1 t) (iblk m c 2 t) (iblk m c 3 t) (iblk m c 4 t) (rows m c t) (sumIn m c t)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexact H8
  isplitl [HS]; · iexact HS
  iintro ⟨H0, H1, H2, H3, H4, ⟨%e5, H5⟩, ⟨%e6, H6⟩, ⟨%e7, H7⟩, H8, ⟨%eS, HS⟩⟩
  isplitl [HS Hg]
  · isplitl [HS]
    · unfold owns; iexists _; isplitr
      swap; · iexact HS
      ipureintro; exact View.read_writes_of_cover _ _ _ _ _ (last9_cover c _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (last5_cover c _ _ _ _ _ _ _ _ _ _ _ _ _ _ _ _ _ _ _ _ _ _ _ _ _ _ _ _ _ _)
  isplitl [H6]
  · unfold owns; iexists _; isplitr
    swap; · iexact H6
    ipureintro; exact View.read_writes_of_cover _ _ _ _ _ (last6_cover c _ _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (last7_cover c _ _ _ _ _ _ _ _ _ _ _ _ _ _ _ _ _ _ _ _ _ _ _ _ _ _ _ _ _ _)
  iapply (leaves8 m c t (by omega))
  iexact H8

/-- The body at a point, as the pipeline calls it. -/
theorem body_row (t : Fin cfg0.N) :
    defs₀ (F := F) .tc cfg0.body (cfg0.bodyArgs t (cfg0.slots t)) = bodyAt0 t := by
  unfold defs₀; rw [Defs.onTc_tc]

/-- The pipeline's demand on the body, at every point. -/
theorem body_obligation (c : Dev nD) : BodyObligation (dats (F := F) m 0 c) (defs₀ (F := F)) Variants.none () Set.univ := fun t => by
  rw [bigSep_W0, bigSep_W0, body_row]
  have H := if h : t.val % 6 = 0 then body_first m c t h else if h5 : t.val % 6 = 5 then body_last m c t h5 else body_mid m c t h h5
  exact triple_restated H rfl .rfl fun _ => .rfl

theorem enters (c : Dev nD) : Pipeline.ΦA spec0 c ⊢ (dats m 0 c).Φ 0 := by
  rw [show (dats m 0 c).Φ 0 = Pipeline.ΦA spec0 c from rfl]
  try exact Idealize.SL.BI.Entails.refl _

theorem leaves (c : Dev nD) : (dats m 0 c).Φ (Fin.last cfg0.N) ⊢ Pipeline.ΦA spec0 c := by
  rw [PhiA_eq]
  exact PhiS_out m c cfg0.N (Nat.le_refl _)

set_option backward.isDefEq.respectTransparency.types false in
/-- Every run ends, with the windows' arrays as the points' blocks make them and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enters m) (hout := leaves m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel6Ideal.FfnFwd

end
-- ==== Proof.FfnFwd.Points.lean ====
module

public import proofs.«01_k».proof.Proof.Step.Rms
public import proofs.«01_k».proof.Proof.FfnFwd.FrameIdeal

@[expose] public section

/-! # The forward feed-forward: what a point's stores read back as

Each buffer's stores, read back, are the payloads of what the body loaded; the payloads, at an index, are sums. -/

set_option maxRecDepth 16384

noncomputable section

open Idealize Idealize.ShloMosaic Idealize.ShloMosaic.TcCoe Idealize.SL.Sem
open scoped BigOperators
open Cert.Kernel6Ideal Cert.Kernel6Ideal.Gen Cert.Kernel6Ideal.FfnFwd

namespace Cert.FfnFwd

open Cert.Conv (at2 eq_at2)
open Cert.Step

variable (c : Dev nD) (i : grid0.Coords)
  (arg2 : Memref sig .tc .vmem S1024x1024 .f32) (harg2 : arg2.IsWhole)
  (arg3 : Memref sig .tc .vmem S1x1024 .f32) (harg3 : arg3.IsWhole)
  (arg4 : Memref sig .tc .vmem S512x1024 .bf16) (harg4 : arg4.IsWhole)
  (arg5 : Memref sig .tc .vmem S512x1024 .bf16) (harg5 : arg5.IsWhole)
  (arg6 : Memref sig .tc .vmem S512x1024 .bf16) (harg6 : arg6.IsWhole)
  (arg7 : Memref sig .tc .vmem S1024x1024 .f32) (harg7 : arg7.IsWhole)
  (arg8 : Memref sig .tc .vmem S1024x512 .bf16) (harg8 : arg8.IsWhole)
  (arg9 : Memref sig .tc .vmem S1024x512 .bf16) (harg9 : arg9.IsWhole)
  (arg10 : Memref sig .tc .vmem S1024x1024 .bf16) (harg10 : arg10.IsWhole)
  (arg11 : Memref sig .tc .vmem S1024x1024 .f32) (harg11 : arg11.IsWhole)
  (x0 : Vec Ideal S1024x1024 .f32) (x1 : Vec Ideal S1x1024 .f32) (x2 x3 x4 : Vec Ideal S512x1024 .bf16)
  (h : Vec Ideal S1024x1024 .bf16) (a : Vec Ideal S1024x1024 .f32)

/-! ## The stores -/

theorem first6_eq (hs : starts i) (he : ¬ends i) :
    (first6 c i arg2 harg2 arg3 harg3 arg4 harg4 arg5 harg5 arg6 harg6 arg7 harg7 arg8 harg8 arg9 harg9 arg10 harg10 arg11 harg11 hs he x0 x1 x2 x3 x4 : Vec Ideal S1024x512 .bf16) = k0_pay6 (F := Ideal) (k0_pay2 (F := Ideal) x0 x1) x2 := by
  unfold first6
  rw [View.read_writes_eq_canon _ _ _ (first6_cover c i arg2 harg2 arg3 harg3 arg4 harg4 arg5 harg5 arg6 harg6 arg7 harg7 arg8 harg8 arg9 harg9 arg10 harg10 arg11 harg11 hs he x0 x1 x2 x3 x4)]
  unfold run_first
  dsimp only
  sl_unfold_words
  rw [View.canon_cons_unit_zero origin2]
  simp only [View.readAt_eq_ld, harg2.read_unread, harg3.read_unread, harg4.read_unread, harg5.read_unread, harg6.read_unread,
    harg10.read_unread, harg11.read_unread, View.ld_unit_zero (S := S1024x1024) origin2, View.ld_unit_zero (S := S1x1024) origin2,
    View.ld_unit_zero (S := S512x1024) origin2, View.readCov_unit_zero (S := S1024x1024) _ origin2]

theorem first7_eq (hs : starts i) (he : ¬ends i) :
    (first7 c i arg2 harg2 arg3 harg3 arg4 harg4 arg5 harg5 arg6 harg6 arg7 harg7 arg8 harg8 arg9 harg9 arg10 harg10 arg11 harg11 hs he x0 x1 x2 x3 x4 : Vec Ideal S1024x512 .bf16) = k0_pay7 (F := Ideal) (k0_pay2 (F := Ideal) x0 x1) x3 := by
  unfold first7
  rw [View.read_writes_eq_canon _ _ _ (first7_cover c i arg2 harg2 arg3 harg3 arg4 harg4 arg5 harg5 arg6 harg6 arg7 harg7 arg8 harg8 arg9 harg9 arg10 harg10 arg11 harg11 hs he x0 x1 x2 x3 x4)]
  unfold run_first
  dsimp only
  sl_unfold_words
  rw [View.canon_cons_unit_zero origin2]
  simp only [View.readAt_eq_ld, harg2.read_unread, harg3.read_unread, harg4.read_unread, harg5.read_unread, harg6.read_unread,
    harg10.read_unread, harg11.read_unread, View.ld_unit_zero (S := S1024x1024) origin2, View.ld_unit_zero (S := S1x1024) origin2,
    View.ld_unit_zero (S := S512x1024) origin2, View.readCov_unit_zero (S := S1024x1024) _ origin2]

theorem first8_eq (hs : starts i) (he : ¬ends i) :
    (first8 c i arg2 harg2 arg3 harg3 arg4 harg4 arg5 harg5 arg6 harg6 arg7 harg7 arg8 harg8 arg9 harg9 arg10 harg10 arg11 harg11 hs he x0 x1 x2 x3 x4 : Vec Ideal S1024x1024 .bf16) = k0_pay2 (F := Ideal) x0 x1 := by
  unfold first8
  rw [View.read_writes_eq_canon _ _ _ (first8_cover c i arg2 harg2 arg3 harg3 arg4 harg4 arg5 harg5 arg6 harg6 arg7 harg7 arg8 harg8 arg9 harg9 arg10 harg10 arg11 harg11 hs he x0 x1 x2 x3 x4)]
  unfold run_first
  dsimp only
  sl_unfold_words
  rw [View.canon_cons_unit_zero origin2]
  simp only [View.readAt_eq_ld, harg2.read_unread, harg3.read_unread, harg4.read_unread, harg5.read_unread, harg6.read_unread,
    harg10.read_unread, harg11.read_unread, View.ld_unit_zero (S := S1024x1024) origin2, View.ld_unit_zero (S := S1x1024) origin2,
    View.ld_unit_zero (S := S512x1024) origin2, View.readCov_unit_zero (S := S1024x1024) _ origin2]

theorem first9_eq (hs : starts i) (he : ¬ends i) :
    (first9 c i arg2 harg2 arg3 harg3 arg4 harg4 arg5 harg5 arg6 harg6 arg7 harg7 arg8 harg8 arg9 harg9 arg10 harg10 arg11 harg11 hs he x0 x1 x2 x3 x4 : Vec Ideal S1024x1024 .f32) = k0_pay8 (F := Ideal) (k0_pay2 (F := Ideal) x0 x1) x2 (k0_pay2 (F := Ideal) x0 x1) x3 (k0_pay3 (F := Ideal)) x4 := by
  unfold first9
  rw [View.read_writes_eq_canon _ _ _ (first9_cover c i arg2 harg2 arg3 harg3 arg4 harg4 arg5 harg5 arg6 harg6 arg7 harg7 arg8 harg8 arg9 harg9 arg10 harg10 arg11 harg11 hs he x0 x1 x2 x3 x4)]
  unfold run_first
  dsimp only
  sl_unfold_words
  rw [View.canon_cons_unit_zero origin2]
  simp only [View.readAt_eq_ld, harg2.read_unread, harg3.read_unread, harg4.read_unread, harg5.read_unread, harg6.read_unread,
    harg10.read_unread, harg11.read_unread, View.ld_unit_zero (S := S1024x1024) origin2, View.ld_unit_zero (S := S1x1024) origin2,
    View.ld_unit_zero (S := S512x1024) origin2, View.readCov_unit_zero (S := S1024x1024) _ origin2]

theorem mid6_eq (hs : ¬starts i) (he : ¬ends i) :
    (mid6 c i arg2 harg2 arg3 harg3 arg4 harg4 arg5 harg5 arg6 harg6 arg7 harg7 arg8 harg8 arg9 harg9 arg10 harg10 arg11 harg11 hs he x0 x1 x2 x3 x4 h a : Vec Ideal S1024x512 .bf16) = k0_pay6 (F := Ideal) h x2 := by
  unfold mid6
  rw [View.read_writes_eq_canon _ _ _ (mid6_cover c i arg2 harg2 arg3 harg3 arg4 harg4 arg5 harg5 arg6 harg6 arg7 harg7 arg8 harg8 arg9 harg9 arg10 harg10 arg11 harg11 hs he x0 x1 x2 x3 x4 h a)]
  unfold run_mid
  dsimp only
  sl_unfold_words
  rw [View.canon_cons_unit_zero origin2]
  simp only [View.readAt_eq_ld, harg2.read_unread, harg3.read_unread, harg4.read_unread, harg5.read_unread, harg6.read_unread,
    harg10.read_unread, harg11.read_unread, View.ld_unit_zero (S := S1024x1024) origin2, View.ld_unit_zero (S := S1x1024) origin2,
    View.ld_unit_zero (S := S512x1024) origin2, View.readCov_unit_zero (S := S1024x1024) _ origin2]

theorem mid7_eq (hs : ¬starts i) (he : ¬ends i) :
    (mid7 c i arg2 harg2 arg3 harg3 arg4 harg4 arg5 harg5 arg6 harg6 arg7 harg7 arg8 harg8 arg9 harg9 arg10 harg10 arg11 harg11 hs he x0 x1 x2 x3 x4 h a : Vec Ideal S1024x512 .bf16) = k0_pay7 (F := Ideal) h x3 := by
  unfold mid7
  rw [View.read_writes_eq_canon _ _ _ (mid7_cover c i arg2 harg2 arg3 harg3 arg4 harg4 arg5 harg5 arg6 harg6 arg7 harg7 arg8 harg8 arg9 harg9 arg10 harg10 arg11 harg11 hs he x0 x1 x2 x3 x4 h a)]
  unfold run_mid
  dsimp only
  sl_unfold_words
  rw [View.canon_cons_unit_zero origin2]
  simp only [View.readAt_eq_ld, harg2.read_unread, harg3.read_unread, harg4.read_unread, harg5.read_unread, harg6.read_unread,
    harg10.read_unread, harg11.read_unread, View.ld_unit_zero (S := S1024x1024) origin2, View.ld_unit_zero (S := S1x1024) origin2,
    View.ld_unit_zero (S := S512x1024) origin2, View.readCov_unit_zero (S := S1024x1024) _ origin2]

theorem mid9_eq (hs : ¬starts i) (he : ¬ends i) :
    (mid9 c i arg2 harg2 arg3 harg3 arg4 harg4 arg5 harg5 arg6 harg6 arg7 harg7 arg8 harg8 arg9 harg9 arg10 harg10 arg11 harg11 hs he x0 x1 x2 x3 x4 h a : Vec Ideal S1024x1024 .f32) = k0_pay8 (F := Ideal) h x2 h x3 a x4 := by
  unfold mid9
  rw [View.read_writes_eq_canon _ _ _ (mid9_cover c i arg2 harg2 arg3 harg3 arg4 harg4 arg5 harg5 arg6 harg6 arg7 harg7 arg8 harg8 arg9 harg9 arg10 harg10 arg11 harg11 hs he x0 x1 x2 x3 x4 h a)]
  unfold run_mid
  dsimp only
  sl_unfold_words
  rw [View.canon_cons_unit_zero origin2]
  simp only [View.readAt_eq_ld, harg2.read_unread, harg3.read_unread, harg4.read_unread, harg5.read_unread, harg6.read_unread,
    harg10.read_unread, harg11.read_unread, View.ld_unit_zero (S := S1024x1024) origin2, View.ld_unit_zero (S := S1x1024) origin2,
    View.ld_unit_zero (S := S512x1024) origin2, View.readCov_unit_zero (S := S1024x1024) _ origin2]

theorem last5_eq (hs : ¬starts i) (he : ends i) :
    (last5 c i arg2 harg2 arg3 harg3 arg4 harg4 arg5 harg5 arg6 harg6 arg7 harg7 arg8 harg8 arg9 harg9 arg10 harg10 arg11 harg11 hs he x0 x1 x2 x3 x4 h a : Vec Ideal S1024x1024 .f32) = k0_pay1 (F := Ideal) x0 (k0_pay8 (F := Ideal) h x2 h x3 a x4) := by
  unfold last5
  rw [View.read_writes_eq_canon _ _ _ (last5_cover c i arg2 harg2 arg3 harg3 arg4 harg4 arg5 harg5 arg6 harg6 arg7 harg7 arg8 harg8 arg9 harg9 arg10 harg10 arg11 harg11 hs he x0 x1 x2 x3 x4 h a)]
  unfold run_last
  dsimp only
  sl_unfold_words
  rw [View.canon_cons_unit_zero origin2]
  simp only [View.readAt_eq_ld, harg2.read_unread, harg3.read_unread, harg4.read_unread, harg5.read_unread, harg6.read_unread,
    harg10.read_unread, harg11.read_unread, View.ld_unit_zero (S := S1024x1024) origin2, View.ld_unit_zero (S := S1x1024) origin2,
    View.ld_unit_zero (S := S512x1024) origin2, View.readCov_unit_zero (S := S1024x1024) _ origin2]

theorem last6_eq (hs : ¬starts i) (he : ends i) :
    (last6 c i arg2 harg2 arg3 harg3 arg4 harg4 arg5 harg5 arg6 harg6 arg7 harg7 arg8 harg8 arg9 harg9 arg10 harg10 arg11 harg11 hs he x0 x1 x2 x3 x4 h a : Vec Ideal S1024x512 .bf16) = k0_pay6 (F := Ideal) h x2 := by
  unfold last6
  rw [View.read_writes_eq_canon _ _ _ (last6_cover c i arg2 harg2 arg3 harg3 arg4 harg4 arg5 harg5 arg6 harg6 arg7 harg7 arg8 harg8 arg9 harg9 arg10 harg10 arg11 harg11 hs he x0 x1 x2 x3 x4 h a)]
  unfold run_last
  dsimp only
  sl_unfold_words
  rw [View.canon_cons_unit_zero origin2]
  simp only [View.readAt_eq_ld, harg2.read_unread, harg3.read_unread, harg4.read_unread, harg5.read_unread, harg6.read_unread,
    harg10.read_unread, harg11.read_unread, View.ld_unit_zero (S := S1024x1024) origin2, View.ld_unit_zero (S := S1x1024) origin2,
    View.ld_unit_zero (S := S512x1024) origin2, View.readCov_unit_zero (S := S1024x1024) _ origin2]

theorem last7_eq (hs : ¬starts i) (he : ends i) :
    (last7 c i arg2 harg2 arg3 harg3 arg4 harg4 arg5 harg5 arg6 harg6 arg7 harg7 arg8 harg8 arg9 harg9 arg10 harg10 arg11 harg11 hs he x0 x1 x2 x3 x4 h a : Vec Ideal S1024x512 .bf16) = k0_pay7 (F := Ideal) h x3 := by
  unfold last7
  rw [View.read_writes_eq_canon _ _ _ (last7_cover c i arg2 harg2 arg3 harg3 arg4 harg4 arg5 harg5 arg6 harg6 arg7 harg7 arg8 harg8 arg9 harg9 arg10 harg10 arg11 harg11 hs he x0 x1 x2 x3 x4 h a)]
  unfold run_last
  dsimp only
  sl_unfold_words
  rw [View.canon_cons_unit_zero origin2]
  simp only [View.readAt_eq_ld, harg2.read_unread, harg3.read_unread, harg4.read_unread, harg5.read_unread, harg6.read_unread,
    harg10.read_unread, harg11.read_unread, View.ld_unit_zero (S := S1024x1024) origin2, View.ld_unit_zero (S := S1x1024) origin2,
    View.ld_unit_zero (S := S512x1024) origin2, View.readCov_unit_zero (S := S1024x1024) _ origin2]

theorem last9_eq (hs : ¬starts i) (he : ends i) :
    (last9 c i arg2 harg2 arg3 harg3 arg4 harg4 arg5 harg5 arg6 harg6 arg7 harg7 arg8 harg8 arg9 harg9 arg10 harg10 arg11 harg11 hs he x0 x1 x2 x3 x4 h a : Vec Ideal S1024x1024 .f32) = k0_pay8 (F := Ideal) h x2 h x3 a x4 := by
  unfold last9
  rw [View.read_writes_eq_canon _ _ _ (last9_cover c i arg2 harg2 arg3 harg3 arg4 harg4 arg5 harg5 arg6 harg6 arg7 harg7 arg8 harg8 arg9 harg9 arg10 harg10 arg11 harg11 hs he x0 x1 x2 x3 x4 h a)]
  unfold run_last
  dsimp only
  sl_unfold_words
  rw [View.canon_cons_unit_zero origin2]
  simp only [View.readAt_eq_ld, harg2.read_unread, harg3.read_unread, harg4.read_unread, harg5.read_unread, harg6.read_unread,
    harg10.read_unread, harg11.read_unread, View.ld_unit_zero (S := S1024x1024) origin2, View.ld_unit_zero (S := S1x1024) origin2,
    View.ld_unit_zero (S := S512x1024) origin2, View.readCov_unit_zero (S := S1024x1024) _ origin2]

/-! ## The payloads, at an index -/

theorem gate_apply (r : Fin 1024) (k : Fin 512) : (k0_pay4 (F := Ideal) h x2 : S1024x512.Idx → EReal) (ix2 r k)
    = ∑ d : Fin 1024, h (ix2 r d) * x2 (ix2 k d) := by
  pointwise [k0_pay4]

theorem up_apply (r : Fin 1024) (k : Fin 512) : (k0_pay5 (F := Ideal) h x3 : S1024x512.Idx → EReal) (ix2 r k)
    = ∑ d : Fin 1024, h (ix2 r d) * x3 (ix2 k d) := by
  pointwise [k0_pay5]

theorem gate_stored (r : Fin 1024) (k : Fin 512) : (k0_pay6 (F := Ideal) h x2 : S1024x512.Idx → EReal) (ix2 r k)
    = (k0_pay4 (F := Ideal) h x2 : S1024x512.Idx → EReal) (ix2 r k) := by
  pointwise [k0_pay6]

theorem up_stored (r : Fin 1024) (k : Fin 512) : (k0_pay7 (F := Ideal) h x3 : S1024x512.Idx → EReal) (ix2 r k)
    = (k0_pay5 (F := Ideal) h x3 : S1024x512.Idx → EReal) (ix2 r k) := by
  pointwise [k0_pay7]

/-- A block's activations through the block's rows of the down weights, added to the sum so far. -/
theorem sum_apply (r d : Fin 1024) : (k0_pay8 (F := Ideal) h x2 h x3 a x4 : S1024x1024.Idx → EReal) (ix2 r d)
    = a (ix2 r d) + ∑ k : Fin 512, silu ((k0_pay4 (F := Ideal) h x2 : S1024x512.Idx → EReal) (ix2 r k))
        * (k0_pay5 (F := Ideal) h x3 : S1024x512.Idx → EReal) (ix2 r k) * x4 (ix2 k d) := by
  pointwise [k0_pay8]
  rfl

theorem none_apply (r d : Fin 1024) : (k0_pay3 (F := Ideal) : S1024x1024.Idx → EReal) (ix2 r d) = 0 := by
  pointwise [k0_pay3]

theorem result_apply (r d : Fin 1024) : (k0_pay1 (F := Ideal) x0 a : S1024x1024.Idx → EReal) (ix2 r d)
    = x0 (ix2 r d) + a (ix2 r d) := by
  pointwise [k0_pay1]

/-- The normalised rows of a block, from functions that agree with it. -/
theorem normed_apply (X : Nat → Nat → EReal) (S : Nat → EReal) (n : Nat)
    (r d : Fin 1024) (hx : ∀ d : Fin 1024, x0 (ix2 r d) = X n d.val) (hg : ∀ d : Fin 1024, x1 (ix2 0 d) = S d.val) :
    (k0_pay2 (F := Ideal) x0 x1 : S1024x1024.Idx → EReal) (ix2 r d) = normed X S n d.val := by
  pointwise [k0_pay2]
  simp only [hx, hg]
  rfl

end Cert.FfnFwd

end
-- ==== Proof.FfnFwd.Blocks.lean ====
module

public import proofs.«01_k».proof.Proof.FfnFwd.Points
public import Idealize.ShloMosaic.Lib.StableHlo.ReadAt

@[expose] public section

/-! # The forward feed-forward: what a grid point reads

The weights, their 2816 hidden rows padded to 8 groups of 384, are the host's work in front of the launch. A point's blocks
are the tokens of its row block and the hidden rows of its hidden block. -/

set_option maxRecDepth 16384

noncomputable section

open Idealize Idealize.ShloMosaic Idealize.ShloMosaic.TcCoe Idealize.SL.Sem
open scoped BigOperators
open Cert.Kernel6Ideal Cert.Kernel6Ideal.Gen Cert.Kernel6Ideal.FfnFwd

namespace Cert.FfnFwd

open Cert.Conv (at2 eq_at2)
open Cert.Step

variable (c : Dev nD) (m : (ℓ : Loc nD τ sig) → Buf (Elt Ideal) ℓ)

/-- The tokens, the scale and the three weights, as the launch finds them. -/
abbrev argX : Arr 2048 1024 := m ((c : Thread nD τ).loc main_arg0)
abbrev argG : Row 1024 := m ((c : Thread nD τ).loc main_arg1)
abbrev argWg : Arr 1024 2816 := m ((c : Thread nD τ).loc main_arg2)
abbrev argWu : Arr 1024 2816 := m ((c : Thread nD τ).loc main_arg3)
abbrev argWd : Arr 2816 1024 := m ((c : Thread nD τ).loc main_arg4)

/-! ## The host's arrays -/

theorem host_g (z : Fin 1) (d : Fin 1024) : (V m c main_v0 : S1x1024.Idx → EReal) (ix2 z d) = at1 (argG c m) d.val := by
  unfold V
  after_reads_at
  exact (at1_ix1 (argG c m) d).symm

theorem host_wg (p : Fin 3072) (d : Fin 1024) : (V m c main_v5 : S3072x1024.Idx → EReal) (ix2 p d)
    = spread (at2 (argWg c m) d.val) p.val := by
  unfold V
  after_reads_at
  exact spread_dif (at2 (argWg c m) d.val) p.val p.isLt (fun h => argWg c m (ix2 d ⟨p.val / 384 * 352 + p.val % 384, by omega⟩)) _
    int_zero fun h => (at2_lt _ _ _ d.isLt _).symm

theorem host_wu (p : Fin 3072) (d : Fin 1024) : (V m c main_v10 : S3072x1024.Idx → EReal) (ix2 p d)
    = spread (at2 (argWu c m) d.val) p.val := by
  unfold V
  after_reads_at
  exact spread_dif (at2 (argWu c m) d.val) p.val p.isLt (fun h => argWu c m (ix2 d ⟨p.val / 384 * 352 + p.val % 384, by omega⟩)) _
    int_zero fun h => (at2_lt _ _ _ d.isLt _).symm

theorem host_wd (p : Fin 3072) (d : Fin 1024) : (V m c main_v14 : S3072x1024.Idx → EReal) (ix2 p d)
    = spread (fun k => at2 (argWd c m) k d.val) p.val := by
  unfold V
  after_reads_at
  exact spread_dif (fun k => at2 (argWd c m) k d.val) p.val p.isLt (fun h => argWd c m (ix2 ⟨p.val / 384 * 352 + p.val % 384, by omega⟩ d)) _
    int_zero fun h => (at2_lt _ _ _ _ d.isLt).symm

/-! ## The blocks -/

theorem points12 : cfg0.N = 12 := N_0

theorem at_index0 : ∀ t : Fin cfg0.N, win0_0.index t 0 = t.val / 6 ∧ win0_0.index t 1 = 0 := (by decide +kernel : ∀ t : Fin grid0.N, _)
theorem at_index1 : ∀ t : Fin cfg0.N, win0_1.index t 0 = 0 ∧ win0_1.index t 1 = 0 := (by decide +kernel : ∀ t : Fin grid0.N, _)
theorem at_index2 : ∀ t : Fin cfg0.N, win0_2.index t 0 = t.val % 6 ∧ win0_2.index t 1 = 0 := (by decide +kernel : ∀ t : Fin grid0.N, _)
theorem at_index3 : ∀ t : Fin cfg0.N, win0_3.index t 0 = t.val % 6 ∧ win0_3.index t 1 = 0 := (by decide +kernel : ∀ t : Fin grid0.N, _)
theorem at_index4 : ∀ t : Fin cfg0.N, win0_4.index t 0 = t.val % 6 ∧ win0_4.index t 1 = 0 := (by decide +kernel : ∀ t : Fin grid0.N, _)
theorem at_index5 : ∀ t : Fin cfg0.N, win0_5.index t 0 = t.val / 6 ∧ win0_5.index t 1 = 0 := (by decide +kernel : ∀ t : Fin grid0.N, _)
theorem at_index6 : ∀ t : Fin cfg0.N, win0_6.index t 0 = t.val / 6 ∧ win0_6.index t 1 = t.val % 6 := (by decide +kernel : ∀ t : Fin grid0.N, _)
theorem at_index7 : ∀ t : Fin cfg0.N, win0_7.index t 0 = t.val / 6 ∧ win0_7.index t 1 = t.val % 6 := (by decide +kernel : ∀ t : Fin grid0.N, _)
theorem at_index8 : ∀ t : Fin cfg0.N, win0_8.index t 0 = t.val / 6 ∧ win0_8.index t 1 = 0 := (by decide +kernel : ∀ t : Fin grid0.N, _)

variable (t : Fin cfg0.N)

/-- The token a row of the point's blocks stands for, and the padded hidden row a row of its weights stands for. -/
abbrev tok (a : Nat) : Nat := 1024 * (t.val / 6) + a
abbrev col (k : Nat) : Nat := 512 * (t.val % 6) + k

theorem col_lt (k : Fin 512) : col t k.val < 3072 := by
  have := k.isLt
  unfold col
  omega

theorem read0 (a d : Fin 1024) : (iblk m c 0 t : S1024x1024.Idx → EReal) (ix2 a d) = at2 (argX c m) (tok t a.val) d.val := by
  obtain ⟨e0, e1⟩ := at_index0 t
  refine (eq_at2 (V m c main_arg0 : Arr 2048 1024) _ (1024 * (t.val / 6) + a.val) d.val
    (show win0_0.index t 0 * 1024 + 1 * a.val = _ by rw [e0]; omega)
    (show win0_0.index t 1 * 1024 + 1 * d.val = _ by rw [e1]; omega)).trans ?_
  rw [V_main_arg0]

theorem read1 (z : Fin 1) (d : Fin 1024) : (iblk m c 1 t : S1x1024.Idx → EReal) (ix2 z d) = at1 (argG c m) d.val := by
  obtain ⟨e0, e1⟩ := at_index1 t
  refine (eq_at2 (V m c main_v0 : Arr 1 1024) _ z.val d.val (show win0_1.index t 0 * 1 + 1 * z.val = _ by rw [e0]; omega)
    (show win0_1.index t 1 * 1024 + 1 * d.val = _ by rw [e1]; omega)).trans ?_
  exact (at2_ix2 _ z d).trans (host_g c m z d)

theorem read2 (k : Fin 512) (d : Fin 1024) : (iblk m c 2 t : S512x1024.Idx → EReal) (ix2 k d)
    = spread (at2 (argWg c m) d.val) (col t k.val) := by
  obtain ⟨e0, e1⟩ := at_index2 t
  refine (eq_at2 (V m c main_v5 : Arr 3072 1024) _ (512 * (t.val % 6) + k.val) d.val (show win0_2.index t 0 * 512 + 1 * k.val = _ by rw [e0]; omega)
    (show win0_2.index t 1 * 1024 + 1 * d.val = _ by rw [e1]; omega)).trans ?_
  exact (at2_lt _ _ _ (col_lt t k) d.isLt).trans (host_wg c m ⟨_, col_lt t k⟩ d)

theorem read3 (k : Fin 512) (d : Fin 1024) : (iblk m c 3 t : S512x1024.Idx → EReal) (ix2 k d)
    = spread (at2 (argWu c m) d.val) (col t k.val) := by
  obtain ⟨e0, e1⟩ := at_index3 t
  refine (eq_at2 (V m c main_v10 : Arr 3072 1024) _ (512 * (t.val % 6) + k.val) d.val (show win0_3.index t 0 * 512 + 1 * k.val = _ by rw [e0]; omega)
    (show win0_3.index t 1 * 1024 + 1 * d.val = _ by rw [e1]; omega)).trans ?_
  exact (at2_lt _ _ _ (col_lt t k) d.isLt).trans (host_wu c m ⟨_, col_lt t k⟩ d)

theorem read4 (k : Fin 512) (d : Fin 1024) : (iblk m c 4 t : S512x1024.Idx → EReal) (ix2 k d)
    = spread (fun q => at2 (argWd c m) q d.val) (col t k.val) := by
  obtain ⟨e0, e1⟩ := at_index4 t
  refine (eq_at2 (V m c main_v14 : Arr 3072 1024) _ (512 * (t.val % 6) + k.val) d.val (show win0_4.index t 0 * 512 + 1 * k.val = _ by rw [e0]; omega)
    (show win0_4.index t 1 * 1024 + 1 * d.val = _ by rw [e1]; omega)).trans ?_
  exact (at2_lt _ _ _ (col_lt t k) d.isLt).trans (host_wd c m ⟨_, col_lt t k⟩ d)

end Cert.FfnFwd

end
-- ==== Proof.FfnFwd.Grid.lean ====
module

public import proofs.«01_k».proof.Proof.FfnFwd.Blocks

@[expose] public section

/-! # The forward feed-forward: what the buffers hold

The rows held are the normalised tokens of the point's block; the preactivations a point stores are its block of the
projections, padded columns zero; the sum after a point is over the hidden blocks so far. -/

set_option maxRecDepth 16384

noncomputable section

open Idealize Idealize.ShloMosaic Idealize.ShloMosaic.TcCoe Idealize.SL.Sem
open scoped BigOperators
open Cert.Kernel6Ideal Cert.Kernel6Ideal.Gen Cert.Kernel6Ideal.FfnFwd

namespace Cert.FfnFwd

open Cert.Conv (at2 eq_at2)
open Cert.Step

/-! ## The results, as functions of the five arguments -/

section
variable (x : Arr 2048 1024) (g : Row 1024) (wg wu : Arr 1024 2816) (wd : Arr 2816 1024)

abbrev gateF : Nat → Nat → EReal := proj (at2 x) (at1 g) (at2 wg)
abbrev upF : Nat → Nat → EReal := proj (at2 x) (at1 g) (at2 wu)

/-- The gated activations through the down weights. -/
def downF (n d : Nat) : EReal := ∑ k : Fin 2816, gated (gateF x g wg) (upF x g wu) n k.val * at2 wd k.val d

/-- What a block of 512 padded hidden columns adds to it. -/
def downPart (n d s : Nat) : EReal :=
  ∑ k : Fin 512, spread (gated (gateF x g wg) (upF x g wu) n) (512 * s + k.val) * spread (fun q => at2 wd q d) (512 * s + k.val)

theorem downPart_sum (n d : Nat) : ∑ s ∈ Finset.range 6, downPart x g wg wu wd n d s = downF x g wg wu wd n d := by
  unfold downPart downF
  simp only [spread_mul]
  rw [sum_blocks]
end

/-- A projection onto padded hidden columns. -/
theorem spread_proj (x : Nat → Nat → EReal) (g : Nat → EReal) (w : Nat → Nat → EReal) (n p : Nat) :
    ∑ d : Fin 1024, normed x g n d.val * spread (w d.val) p = spread (proj x g w n) p := by
  unfold spread
  split
  · rfl
  · simp only [mul_zero, Finset.sum_const_zero]

variable (c : Dev nD) (m : (ℓ : Loc nD τ sig) → Buf (Elt Ideal) ℓ) (t : Fin cfg0.N)

abbrev gateOf : Nat → Nat → EReal := gateF (argX c m) (argG c m) (argWg c m)
abbrev upOf : Nat → Nat → EReal := upF (argX c m) (argG c m) (argWu c m)
abbrev partOf : Nat → Nat → Nat → EReal := downPart (argX c m) (argG c m) (argWg c m) (argWu c m) (argWd c m)

/-! ## The rows -/

theorem rowsAt_eq (h : t.val % 6 = 0) : rowsAt m c t h = k0_pay2 (F := Ideal) (iblk m c 0 t) (iblk m c 1 t) := by
  unfold rowsAt
  exact first8_eq ..

theorem rows_apply (a d : Fin 1024) : (rows m c t : S1024x1024.Idx → EReal) (ix2 a d)
    = normed (at2 (argX c m)) (at1 (argG c m)) (tok t a.val) d.val := by
  unfold rows
  rw [rowsAt_eq]
  refine (normed_apply _ _ _ _ (tok (row_start t) a.val) a d (fun d => read0 c m _ a d) (fun d => read1 c m _ 0 d)).trans ?_
  have e : (row_start t).val / 6 = t.val / 6 := by unfold row_start; dsimp only; omega
  unfold tok
  rw [e]

/-! ## The preactivations -/

theorem gate_at (a : Fin 1024) (k : Fin 512) : (k0_pay4 (F := Ideal) (rows m c t) (iblk m c 2 t) : S1024x512.Idx → EReal) (ix2 a k)
    = spread (gateOf c m (tok t a.val)) (col t k.val) :=
  (gate_apply _ _ a k).trans ((Finset.sum_congr rfl fun d _ => congrArg₂ (· * ·) (rows_apply c m t a d) (read2 c m t k d)).trans
    (spread_proj (at2 (argX c m)) (at1 (argG c m)) (at2 (argWg c m)) _ _))

theorem up_at (a : Fin 1024) (k : Fin 512) : (k0_pay5 (F := Ideal) (rows m c t) (iblk m c 3 t) : S1024x512.Idx → EReal) (ix2 a k)
    = spread (upOf c m (tok t a.val)) (col t k.val) :=
  (up_apply _ _ a k).trans ((Finset.sum_congr rfl fun d _ => congrArg₂ (· * ·) (rows_apply c m t a d) (read3 c m t k d)).trans
    (spread_proj (at2 (argX c m)) (at1 (argG c m)) (at2 (argWu c m)) _ _))

theorem gates_eq : gates m c t = k0_pay6 (F := Ideal) (rows m c t) (iblk m c 2 t) := by
  by_cases h : t.val % 6 = 0
  · rw [gates_first m c t h, first6_eq, rows_start m c t h, rowsAt_eq]
  · by_cases h5 : t.val % 6 = 5
    · rw [gates_last m c t h5, last6_eq]
    · rw [gates_mid m c t h h5, mid6_eq]

theorem ups_eq : ups m c t = k0_pay7 (F := Ideal) (rows m c t) (iblk m c 3 t) := by
  by_cases h : t.val % 6 = 0
  · rw [ups_first m c t h, first7_eq, rows_start m c t h, rowsAt_eq]
  · by_cases h5 : t.val % 6 = 5
    · rw [ups_last m c t h5, last7_eq]
    · rw [ups_mid m c t h h5, mid7_eq]

theorem gates_apply (a : Fin 1024) (k : Fin 512) : (gates m c t : S1024x512.Idx → EReal) (ix2 a k)
    = spread (gateOf c m (tok t a.val)) (col t k.val) := by
  rw [gates_eq]
  exact (gate_stored _ _ a k).trans (gate_at c m t a k)

theorem ups_apply (a : Fin 1024) (k : Fin 512) : (ups m c t : S1024x512.Idx → EReal) (ix2 a k)
    = spread (upOf c m (tok t a.val)) (col t k.val) := by
  rw [ups_eq]
  exact (up_stored _ _ a k).trans (up_at c m t a k)

/-! ## The sum -/

/-- What a point adds, whatever it adds it to. -/
theorem step_apply (s : Vec Ideal S1024x1024 .f32) (a d : Fin 1024) :
    (k0_pay8 (F := Ideal) (rows m c t) (iblk m c 2 t) (rows m c t) (iblk m c 3 t) s (iblk m c 4 t) : S1024x1024.Idx → EReal) (ix2 a d)
      = s (ix2 a d) + partOf c m (tok t a.val) d.val (t.val % 6) := by
  refine (sum_apply _ _ _ _ _ a d).trans (congrArg (s (ix2 a d) + ·) (Finset.sum_congr rfl fun k _ => ?_))
  rw [gate_at, up_at, spread_gated]
  exact congrArg (spread (gated (gateOf c m) (upOf c m) (tok t a.val)) (col t k.val) * ·) (read4 c m t k d)

theorem sums_start (h : t.val % 6 = 0) : sums m c t.val t.isLt
    = k0_pay8 (F := Ideal) (rows m c t) (iblk m c 2 t) (rows m c t) (iblk m c 3 t) (k0_pay3 (F := Ideal)) (iblk m c 4 t) := by
  rw [sums_first m c t h, first9_eq, rows_start m c t h, rowsAt_eq]

theorem sums_next (h : ¬t.val % 6 = 0) : sums m c t.val t.isLt
    = k0_pay8 (F := Ideal) (rows m c t) (iblk m c 2 t) (rows m c t) (iblk m c 3 t) (sumIn m c t) (iblk m c 4 t) := by
  by_cases h5 : t.val % 6 = 5
  · rw [sums_last m c t h5, last9_eq]
  · rw [sums_mid m c t h h5, mid9_eq]

/-- After a point the sum is over the hidden blocks up to the point's. -/
theorem sums_apply (a d : Fin 1024) : ∀ (n : ℕ) (hn : n < cfg0.N), (sums m c n hn : S1024x1024.Idx → EReal) (ix2 a d)
    = ∑ s ∈ Finset.range (n % 6 + 1), partOf c m (1024 * (n / 6) + a.val) d.val s := by
  intro n
  induction n with
  | zero =>
    intro hn
    refine (congrFun (sums_start c m ⟨0, hn⟩ rfl) (ix2 a d)).trans ((step_apply c m ⟨0, hn⟩ _ a d).trans ?_)
    rw [none_apply, zero_add]
    exact (Finset.sum_range_one _).symm
  | succ n ih =>
    intro hn
    by_cases h : (n + 1) % 6 = 0
    · refine (congrFun (sums_start c m ⟨n + 1, hn⟩ h) (ix2 a d)).trans ((step_apply c m ⟨n + 1, hn⟩ _ a d).trans ?_)
      rw [none_apply, zero_add]
      show partOf c m (1024 * ((n + 1) / 6) + a.val) d.val ((n + 1) % 6) = _
      rw [h]
      exact (Finset.sum_range_one _).symm
    · refine (congrFun (sums_next c m ⟨n + 1, hn⟩ h) (ix2 a d)).trans ((step_apply c m ⟨n + 1, hn⟩ _ a d).trans ?_)
      rw [Finset.sum_range_succ]
      refine congrArg₂ (· + ·) ((ih (by omega)).trans ?_) rfl
      rw [show (n + 1) % 6 = n % 6 + 1 by omega, show (n + 1) / 6 = n / 6 by omega]

/-- The block stored where a token block ends: the tokens and the whole sum. -/
theorem outs_apply (h5 : t.val % 6 = 5) (a d : Fin 1024) : (outs m c t : S1024x1024.Idx → EReal) (ix2 a d)
    = at2 (argX c m) (tok t a.val) d.val
      + downF (argX c m) (argG c m) (argWg c m) (argWu c m) (argWd c m) (tok t a.val) d.val := by
  rw [outs_last m c t h5, last5_eq, ← sums_next c m t (by omega)]
  refine (result_apply _ _ a d).trans (congrArg₂ (· + ·) (read0 c m t a d) ?_)
  rw [sums_apply c m a d t.val t.isLt, h5]
  exact downPart_sum ..

end Cert.FfnFwd

end
-- ==== Proof.FfnFwd.Final.lean ====
module

public import proofs.«01_k».proof.Proof.FfnFwd.Grid
public import Idealize.ShloMosaic.Lib.Pipeline.ValueKit

@[expose] public section

/-! # The forward feed-forward: the result arrays

Each block written back is what the result says there, so the arrays hold the results. -/

set_option maxRecDepth 16384

noncomputable section

open Idealize Idealize.ShloMosaic Idealize.ShloMosaic.TcCoe Idealize.SL.Sem
open scoped BigOperators
open Cert.Kernel6Ideal Cert.Kernel6Ideal.Gen Cert.Kernel6Ideal.FfnFwd

namespace Cert.FfnFwd

open Cert.Conv (at2 eq_at2)
open Cert.Step

section
variable (x : Arr 2048 1024) (g : Row 1024) (wg wu : Arr 1024 2816) (wd : Arr 2816 1024)

/-- The block's result: the input and the gated activations through the down weights. -/
def resOut (j : S2048x1024.Idx) : EReal := at2 x (j 0).val (j 1).val + downF x g wg wu wd (j 0).val (j 1).val

/-- The preactivations, in padded groups, -/
def resGate (j : S2048x3072.Idx) : EReal := spread (gateF x g wg (j 0).val) (j 1).val
def resUp (j : S2048x3072.Idx) : EReal := spread (upF x g wu (j 0).val) (j 1).val

/-- and the normalised input. -/
def resNormed (j : S2048x1024.Idx) : EReal := normed (at2 x) (at1 g) (j 0).val (j 1).val
end

variable (c : Dev nD) (m : (ℓ : Loc nD τ sig) → Buf (Elt Ideal) ℓ)

theorem final5 : (dats m 0 c).arrAt 5 cfg0.N = resOut (argX c m) (argG c m) (argWg c m) (argWu c m) (argWd c m) := by
  refine (dats m 0 c).arrAt_eq_of_covers 5 _ (by decide +kernel) fun t hf y => ?_
  obtain ⟨e0, e1⟩ := at_index5 t
  blk_simp
  rw [after0_5]
  refine ((congrArg (outs m c t) (eq_ix2 y)).trans (outs_apply c m t ((flush0_5 t).mp hf) (y 0) (y 1))).trans
    (congrArg₂ (fun n d => at2 (argX c m) n d + downF (argX c m) (argG c m) (argWg c m) (argWu c m) (argWd c m) n d) ?_ ?_)
  · show tok t (y 0).val = win0_5.index t 0 * 1024 + 1 * (y 0).val
    rw [e0]; unfold tok; omega
  · show _ = win0_5.index t 1 * 1024 + 1 * (y 1).val
    rw [e1]; omega

theorem final6 : (dats m 0 c).arrAt 6 cfg0.N = resGate (argX c m) (argG c m) (argWg c m) := by
  refine (dats m 0 c).arrAt_eq_of_covers 6 _ (by decide +kernel) fun t hf y => ?_
  obtain ⟨e0, e1⟩ := at_index6 t
  blk_simp
  rw [after0_6]
  refine ((congrArg (gates m c t) (eq_ix2 y)).trans (gates_apply c m t (y 0) (y 1))).trans
    (congrArg₂ (fun n p => spread (gateOf c m n) p) ?_ ?_)
  · show tok t (y 0).val = win0_6.index t 0 * 1024 + 1 * (y 0).val
    rw [e0]; unfold tok; omega
  · show _ = win0_6.index t 1 * 512 + 1 * (y 1).val
    rw [e1]; unfold col; omega

theorem final7 : (dats m 0 c).arrAt 7 cfg0.N = resUp (argX c m) (argG c m) (argWu c m) := by
  refine (dats m 0 c).arrAt_eq_of_covers 7 _ (by decide +kernel) fun t hf y => ?_
  obtain ⟨e0, e1⟩ := at_index7 t
  blk_simp
  rw [after0_7]
  refine ((congrArg (ups m c t) (eq_ix2 y)).trans (ups_apply c m t (y 0) (y 1))).trans
    (congrArg₂ (fun n p => spread (upOf c m n) p) ?_ ?_)
  · show tok t (y 0).val = win0_7.index t 0 * 1024 + 1 * (y 0).val
    rw [e0]; unfold tok; omega
  · show _ = win0_7.index t 1 * 512 + 1 * (y 1).val
    rw [e1]; unfold col; omega

theorem final8 : (dats m 0 c).arrAt 8 cfg0.N = resNormed (argX c m) (argG c m) := by
  refine (dats m 0 c).arrAt_eq_of_covers 8 _ (by decide +kernel) fun t hf y => ?_
  obtain ⟨e0, e1⟩ := at_index8 t
  blk_simp
  rw [after0_8]
  refine ((congrArg (rows m c t) (eq_ix2 y)).trans (rows_apply c m t (y 0) (y 1))).trans
    (congrArg₂ (normed (at2 (argX c m)) (at1 (argG c m))) ?_ ?_)
  · show tok t (y 0).val = win0_8.index t 0 * 1024 + 1 * (y 0).val
    rw [e0]; unfold tok; omega
  · show _ = win0_8.index t 1 * 1024 + 1 * (y 1).val
    rw [e1]; omega

variable (ρ : Dev nD → PrngReg)

/-- From any memory the kernel ends with the four results, its arguments as they were. -/
theorem kernel_run : θ_run defs (onTc (τ := τ) (main (F := Ideal))) ⟨m, fun _ => 0, ρ⟩ fun r => ∀ c : Dev nD,
      r.2.mem ((c.tc : Thread nD τ).loc main_v15_0) = resOut (argX c m) (argG c m) (argWg c m) (argWu c m) (argWd c m)
      ∧ r.2.mem ((c.tc : Thread nD τ).loc main_v15_1) = resGate (argX c m) (argG c m) (argWg c m)
      ∧ r.2.mem ((c.tc : Thread nD τ).loc main_v15_2) = resUp (argX c m) (argG c m) (argWu c m)
      ∧ r.2.mem ((c.tc : Thread nD τ).loc main_v15_3) = resNormed (argX c m) (argG c m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (final5 c m), ((h c).1 6).trans (final6 c m), ((h c).1 7).trans (final7 c m),
      ((h c).1 8).trans (final8 c m),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.FfnFwd

end
-- ==== Proof.FfnFwd.Reference.lean ====
module

public import proofs.«01_k».proof.Proof.FfnFwd.Final
public import proofs.«01_k».proof.Proof.Gen.Reference6Ideal.Read

@[expose] public section

/-! # The forward feed-forward: the reference

The reference's stages, read at an index, are the same normalised tokens and the same sums. -/

set_option maxRecDepth 16384

noncomputable section

open Idealize Idealize.ShloMosaic Idealize.ShloMosaic.TcCoe Idealize.SL.Sem
open scoped BigOperators
open Cert.Reference6Ideal Cert.Reference6Ideal.Gen Cert.Reference6Ideal.Value Cert.Reference6Ideal.Read

namespace Cert.FfnFwd

open Cert.Conv (at2 eq_at2)
open Cert.Step

section
variable (x0 : Arr 2048 1024) (x1 : Row 1024) (x2 x3 : Arr 1024 2816) (x4 : Arr 2816 1024)
  (n : Fin 2048) (d : Fin 1024) (z : Fin 1) (k : Fin 2816) (p : Fin 3072)

theorem ref_ms : (val_main_v6 (F := Ideal) x0 : S2048x1.Idx → EReal) (ix2 n z) = ms (at2 x0) n.val := by
  refine Eq.trans ?_ (ms_read x0 n).symm
  pointwise [val_main_v6, val_main_v5, val_main_v4, val_main_v3, val_main_v2, val_main_v1, val_main_v0, val_main_cst, val_main_cst_0,
    val_main_cst_1]

theorem ref_rs : (val_main_v7 (F := Ideal) x0 : S2048x1.Idx → EReal) (ix2 n z) = rs (at2 x0) n.val := by
  refine Eq.trans ?_ (congrArg Ideal.rsqrt (ref_ms x0 n z))
  pointwise [val_main_v7]

theorem ref_normed : (val_main_v12 (F := Ideal) x0 x1 : S2048x1024.Idx → EReal) (ix2 n d) = normed (at2 x0) (at1 x1) n.val d.val := by
  unfold normed
  rw [at2_ix2, at1_ix1, ← ref_rs x0 n 0]
  pointwise [val_main_v12, val_main_v11, val_main_v10, val_main_v9, val_main_v8]

theorem ref_rows : (val_main_v27 (F := Ideal) x0 x1 : S2048x1024.Idx → EReal) (ix2 n d) = normed (at2 x0) (at1 x1) n.val d.val := by
  refine Eq.trans ?_ (ref_normed x0 x1 n d)
  pointwise [val_main_v27]

theorem ref_gate : (val_main_v13 (F := Ideal) x0 x1 x2 : S2048x2816.Idx → EReal) (ix2 n k) = gateF x0 x1 x2 n.val k.val := by
  refine Eq.trans ?_ (Finset.sum_congr rfl fun d _ => congrArg₂ (· * ·) (ref_normed x0 x1 n d) (at2_ix2 x2 d k).symm)
  pointwise [val_main_v13]

theorem ref_up : (val_main_v14 (F := Ideal) x0 x1 x3 : S2048x2816.Idx → EReal) (ix2 n k) = upF x0 x1 x3 n.val k.val := by
  refine Eq.trans ?_ (Finset.sum_congr rfl fun d _ => congrArg₂ (· * ·) (ref_normed x0 x1 n d) (at2_ix2 x3 d k).symm)
  pointwise [val_main_v14]

theorem ref_sigma : (val_main_call0_v5 (F := Ideal) x0 x1 x2 : S2048x2816.Idx → EReal) (ix2 n k) = Ideal.logistic (gateF x0 x1 x2 n.val k.val) := by
  rw [← ref_gate]
  pointwise [val_main_call0_v5, val_main_call0_v4, val_main_call0_v3, val_main_call0_v2, val_main_call0_v1, val_main_call0_v0,
    val_main_call0_cst, val_main_call0_cst_0]
  rfl

theorem ref_silu : (val_main_v15 (F := Ideal) x0 x1 x2 : S2048x2816.Idx → EReal) (ix2 n k) = silu (gateF x0 x1 x2 n.val k.val) := by
  refine Eq.trans ?_ (congrArg₂ (· * ·) (ref_gate x0 x1 x2 n k) (ref_sigma x0 x1 x2 n k))
  pointwise [val_main_v15]

theorem ref_act : (val_main_v16 (F := Ideal) x0 x1 x2 x3 : S2048x2816.Idx → EReal) (ix2 n k)
    = gated (gateF x0 x1 x2) (upF x0 x1 x3) n.val k.val := by
  refine Eq.trans ?_ (congrArg₂ (· * ·) (ref_silu x0 x1 x2 n k) (ref_up x0 x1 x3 n k))
  pointwise [val_main_v16]

theorem ref_down : (val_main_v17 (F := Ideal) x0 x1 x2 x3 x4 : S2048x1024.Idx → EReal) (ix2 n d) = downF x0 x1 x2 x3 x4 n.val d.val := by
  refine Eq.trans ?_ (Finset.sum_congr rfl fun k _ => congrArg₂ (· * ·) (ref_act x0 x1 x2 x3 n k) (at2_ix2 x4 k d).symm)
  pointwise [val_main_v17]

theorem ref_out : (val_main_v18 (F := Ideal) x0 x1 x2 x3 x4 : S2048x1024.Idx → EReal) (ix2 n d)
    = at2 x0 n.val d.val + downF x0 x1 x2 x3 x4 n.val d.val := by
  refine Eq.trans ?_ (congrArg₂ (· + ·) (at2_ix2 x0 n d).symm (ref_down x0 x1 x2 x3 x4 n d))
  pointwise [val_main_v18]

theorem ref_gate_pad : (val_main_v22 (F := Ideal) x0 x1 x2 : S2048x3072.Idx → EReal) (ix2 n p) = spread (gateF x0 x1 x2 n.val) p.val := by
  pointwise [val_main_v22, val_main_v21, val_main_v20, val_main_v19, val_main_call1_v0, val_main_c]
  exact spread_dif (gateF x0 x1 x2 n.val) p.val p.isLt
    (fun h => (val_main_v13 (F := Ideal) x0 x1 x2 : S2048x2816.Idx → EReal) (ix2 n ⟨p.val / 384 * 352 + p.val % 384, by omega⟩)) _
    int_zero fun h => ref_gate x0 x1 x2 n ⟨p.val / 384 * 352 + p.val % 384, by omega⟩

theorem ref_up_pad : (val_main_v26 (F := Ideal) x0 x1 x3 : S2048x3072.Idx → EReal) (ix2 n p) = spread (upF x0 x1 x3 n.val) p.val := by
  pointwise [val_main_v26, val_main_v25, val_main_v24, val_main_v23, val_main_call2_v0, val_main_c_2]
  exact spread_dif (upF x0 x1 x3 n.val) p.val p.isLt
    (fun h => (val_main_v14 (F := Ideal) x0 x1 x3 : S2048x2816.Idx → EReal) (ix2 n ⟨p.val / 384 * 352 + p.val % 384, by omega⟩)) _
    int_zero fun h => ref_up x0 x1 x3 n ⟨p.val / 384 * 352 + p.val % 384, by omega⟩
end

/-! ## The run -/

variable (m : (ℓ : Loc nD τ sig) → Buf (Elt Ideal) ℓ) (ρ : Dev nD → PrngReg)

/-- From any memory the reference ends with the four results, its arguments as they were. -/
theorem reference_run : θ_run defs (onTc (τ := τ) (main (F := Ideal))) ⟨m, fun _ => 0, ρ⟩ fun r => ∀ c : Dev nD,
      r.2.mem ((c.tc : Thread nD τ).loc main_v18) = resOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v22) = resGate (m ((c.tc : Thread nD τ).loc main_arg0)) (m ((c.tc : Thread nD τ).loc main_arg1)) (m ((c.tc : Thread nD τ).loc main_arg2))
      ∧ r.2.mem ((c.tc : Thread nD τ).loc main_v26) = resUp (m ((c.tc : Thread nD τ).loc main_arg0)) (m ((c.tc : Thread nD τ).loc main_arg1)) (m ((c.tc : Thread nD τ).loc main_arg3))
      ∧ r.2.mem ((c.tc : Thread nD τ).loc main_v27) = resNormed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    obtain ⟨ho, hg, hu, hn, rest⟩ := h c
    refine ⟨ho.trans ((val_main_v18_eq _ _ _ _ _).trans (funext fun j => ?_)), hg.trans ((val_main_v22_eq _ _ _).trans (funext fun j => ?_)),
      hu.trans ((val_main_v26_eq _ _ _).trans (funext fun j => ?_)), hn.trans ((val_main_v27_eq _ _).trans (funext fun j => ?_)), rest⟩
    · exact (congrArg (val_main_v18 (F := Ideal) _ _ _ _ _) (eq_ix2 j)).trans (ref_out _ _ _ _ _ (j 0) (j 1))
    · exact (congrArg (val_main_v22 (F := Ideal) _ _ _) (eq_ix2 j)).trans (ref_gate_pad _ _ _ (j 0) (j 1))
    · exact (congrArg (val_main_v26 (F := Ideal) _ _ _) (eq_ix2 j)).trans (ref_up_pad _ _ _ (j 0) (j 1))
    · exact (congrArg (val_main_v27 (F := Ideal) _ _) (eq_ix2 j)).trans (ref_rows _ _ (j 0) (j 1)))
    (Cert.Reference6Ideal.Value.run m ρ)

end Cert.FfnFwd

end
-- ==== Proof.Merge.Math.lean ====
module

public import proofs.«01_k».proof.Proof.Step.Rms

@[expose] public section

/-! # The three mixers' merge, as formulas

A token's three mixer outputs are projected to the model's width, each times its own gate, and their sum's projection is added to
the token. Arrays are functions of natural indices. -/

noncomputable section

open Idealize Idealize.ShloMosaic
open scoped BigOperators

namespace Cert.Merge

open Cert.Conv (at2)
open Cert.Step

/-- The activation of the gated unit, by the hyperbolic tangent. -/
def gelu (u : EReal) : EReal :=
  u * (Ideal.ofBits .f32 0x3F000000#32 * (1
    + Ideal.tanh (Ideal.ofBits .f32 0x3F4C422A#32 * (u + Ideal.ofBits .f32 0x3D372713#32 * (u * (u * u))))))

/-- An array of three axes, and its entry, zero outside. -/
abbrev Arr3 (a b d : Nat) : Type := (⟨3, ![a, b, d]⟩ : Shape).Idx → EReal

def at3 {a b d : Nat} (x : Arr3 a b d) (q n k : Nat) : EReal :=
  if h : q < a ∧ n < b ∧ k < d then x (ix3 ⟨q, h.1⟩ ⟨n, h.2.1⟩ ⟨k, h.2.2⟩) else 0

theorem at3_ix3 {a b d : Nat} (x : Arr3 a b d) (q : Fin a) (n : Fin b) (k : Fin d) : at3 x q.val n.val k.val = x (ix3 q n k) := by
  rw [at3, dif_pos ⟨q.isLt, n.isLt, k.isLt⟩]

theorem at3_lt {a b d : Nat} (x : Arr3 a b d) (q n k : Nat) (hq : q < a) (hn : n < b) (hk : k < d) :
    at3 x q n k = x (ix3 ⟨q, hq⟩ ⟨n, hn⟩ ⟨k, hk⟩) := by
  rw [at3, dif_pos ⟨hq, hn, hk⟩]

section
variable (y : Nat → EReal) (w : Nat → Nat → EReal) (b : Nat → EReal) (k : Nat)

/-- The gated unit of a token. -/
def unit : EReal := gelu (y k) * Ideal.logistic (∑ j : Fin 512, gelu (y j.val) * w j.val k + b k)

/-- A mixer's output projected. -/
def project : EReal := ∑ j : Fin 512, y j.val * w j.val k

/-- A token's mean over its 512 channels, what is left without it, and the mean of that squared, with the small constant. -/
def mean : EReal := Ideal.div (∑ j : Fin 512, y j.val) (Ideal.ofBits .f32 0x44000000#32)
def centred : EReal := y k - mean y
def variance : EReal :=
  Ideal.div (∑ j : Fin 512, centred y j.val * centred y j.val) (Ideal.ofBits .f32 0x44000000#32) + Ideal.ofBits .f32 0x358637BD#32

/-- The layer normalisation, and the activation after it. -/
def layer (g : Nat → EReal) : EReal := centred y k * Ideal.rsqrt (variance y) * g k + b k
def active (g : Nat → EReal) : EReal := silu (layer y b k g)

/-- Four groups of 128 channels, each through its own matrix, and scaled. -/
def groups (v : Nat → Nat → Nat → EReal) : EReal :=
  (∑ j : Fin 128, y (128 * (k / 128) + j.val) * v (k / 128) j.val (k % 128)) * b k

/-- The three mixers, each times its gate. -/
def merged (z0 z1 z2 p q r : Nat → EReal) : EReal :=
  Ideal.logistic (z0 k + b k) * p k + Ideal.logistic (z1 k + b (1024 + k)) * q k + Ideal.logistic (z2 k + b (2048 + k)) * r k

/-- The token, and the merge's projection. -/
def out (x : Nat → EReal) : EReal := x k + ∑ j : Fin 1024, y j.val * w j.val k
end

/-- The result at a token and a column: the gates are the projected token's columns from 2048 on. -/
def result (X : Arr 2048 1024) (Y C P : Arr 2048 512) (Z : Arr 2048 5120) (wg : Arr 512 512) (bu : Row 512) (ws : Arr 512 1024)
    (g b : Row 512) (wc : Arr 512 1024) (v : Arr3 4 128 128) (s : Row 512) (wp : Arr 512 1024) (bg : Row 3072) (wo : Arr 1024 1024)
    (n k : Nat) : EReal :=
  out (fun j => merged (at1 bg) j (fun j => at2 Z n (2048 + j)) (fun j => at2 Z n (3072 + j)) (fun j => at2 Z n (4096 + j))
      (project (fun j => unit (at2 Y n) (at2 wg) (at1 bu) j) (at2 ws))
      (project (fun j => active (at2 C n) (at1 b) j (at1 g)) (at2 wc))
      (project (fun j => groups (at2 P n) (at1 s) j (at3 v)) (at2 wp)))
    (at2 wo) k (at2 X n)

/-- The result array, of the arguments. -/
def res (X : Arr 2048 1024) (Y C P : Arr 2048 512) (Z : Arr 2048 5120) (wg : Arr 512 512) (bu : Row 512) (ws : Arr 512 1024)
    (g b : Row 512) (wc : Arr 512 1024) (v : Arr3 4 128 128) (s : Row 512) (wp : Arr 512 1024) (bg : Row 3072) (wo : Arr 1024 1024) :
    Arr 2048 1024 := fun j => result X Y C P Z wg bu ws g b wc v s wp bg wo (j 0).val (j 1).val

/-! ## Arrays and their entries -/

theorem row_read {a : Nat} (b : Arr 1 a) (k : Fin a) : at2 b 0 k.val = b (ix2 0 k) := at2_ix2 b 0 k

theorem at2_rows {a a' b : Nat} (x : Arr a b) (y : Arr a' b) (n : Fin a) (N : Nat) (h : ∀ k : Fin b, x (ix2 n k) = at2 y N k.val) :
    at2 x n.val = at2 y N := funext fun k => by
  by_cases hk : k < b
  · exact (at2_ix2 x n ⟨k, hk⟩).trans (h ⟨k, hk⟩)
  · rw [at2, at2, dif_neg fun e => hk e.2, dif_neg fun e => hk e.2]

theorem at2_row {a : Nat} (x : Arr 1 a) (y : Row a) (h : ∀ k : Fin a, x (ix2 0 k) = y (ix1 k)) : at2 x 0 = at1 y := funext fun k => by
  by_cases hk : k < a
  · exact (row_read x ⟨k, hk⟩).trans ((h ⟨k, hk⟩).trans (at1_ix1 y ⟨k, hk⟩).symm)
  · rw [at2, at1, dif_neg fun e => hk e.2, dif_neg hk]

theorem at2_congr {a b : Nat} (x y : Arr a b) (h : ∀ n k, x (ix2 n k) = y (ix2 n k)) : at2 x = at2 y :=
  congrArg at2 (funext fun j => ((congrArg x (eq_ix2 j)).trans (h (j 0) (j 1))).trans (congrArg y (eq_ix2 j)).symm)

theorem at3_congr {a b d : Nat} (x y : Arr3 a b d) (h : ∀ q n k, x (ix3 q n k) = y (ix3 q n k)) : at3 x = at3 y := by
  funext q n k
  unfold at3
  split
  · exact h _ _ _
  · rfl

end Cert.Merge

end
-- ==== Proof.Merge.Points.lean ====
module

public import proofs.«01_k».proof.Proof.Merge.Math
public import proofs.«01_k».proof.Proof.Gen.Kernel13Ideal.Frame
public import Idealize.ShloMosaic.Lib.Pipeline.ValueKit
public import Idealize.ShloMosaic.Lib.StableHlo.ReadAt

@[expose] public section

/-! # The merge: what a grid point computes -/

set_option maxRecDepth 16384

noncomputable section

open Idealize Idealize.ShloMosaic Idealize.ShloMosaic.TcCoe Idealize.SL.Sem
open scoped BigOperators
open Cert.Kernel13Ideal Cert.Kernel13Ideal.Gen

namespace Cert.Merge

open Cert.Conv (at2 eq_at2)
open Cert.Step

/-- Eight owners' blocks of 128 columns, side by side. -/
theorem owners (W : Vec Ideal S8x512x128 .bf16) (n : Fin 512) (b : Fin 1024) :
    (k0_pay3 (F := Ideal) (View.ld W r0_2) (View.ld W r0_3) (View.ld W r0_4) (View.ld W r0_5) (View.ld W r0_6) (View.ld W r0_7)
      (View.ld W r0_8) (View.ld W r0_9) : S512x1024.Idx → EReal) (ix2 n b) = at3 W (b.val / 128) n.val (b.val % 128) := by
  have e : ∀ (q : Fin 8) (r : Nat) (h : r < 128), b.val / 128 = q.val → b.val % 128 = r →
      W (ix3 q n ⟨r, h⟩) = at3 W (b.val / 128) n.val (b.val % 128) := fun q r h hq hr => by
    rw [hq, hr]; exact (at3_ix3 W q n ⟨r, h⟩).symm
  have hb := b.isLt
  pointwise [k0_pay3]
  split
  · exact e 0 _ _ (show _ = 0 by omega) (by omega)
  split
  · exact e 1 _ _ (show _ = 1 by omega) (by omega)
  split
  · exact e 2 _ _ (show _ = 2 by omega) (by omega)
  split
  · exact e 3 _ _ (show _ = 3 by omega) (by omega)
  split
  · exact e 4 _ _ (show _ = 4 by omega) (by omega)
  split
  · exact e 5 _ _ (show _ = 5 by omega) (by omega)
  split
  · exact e 6 _ _ (show _ = 6 by omega) (by omega)
  · exact e 7 _ _ (show _ = 7 by omega) (by omega)

variable (x1 x2 x3 : Vec Ideal S512x512 .f32) (w : Vec Ideal S512x512 .bf16) (b g : Vec Ideal S1x512 .f32) (W : Vec Ideal S512x1024 .bf16)

/-- The gated unit, projected. -/
theorem unit_apply (n : Fin 512) (k : Fin 1024) :
    (k0_pay16 (F := Ideal) w b W x1 (k0_pay15 x1) : S512x1024.Idx → EReal) (ix2 n k)
      = project (fun j => unit (at2 x1 n.val) (at2 w) (at2 b 0) j) (at2 W) k.val := by
  pointwise [k0_pay16, k0_pay15]
  simp only [project, unit, gelu, at2_ix2, row_read]

/-- The layer normalisation. -/
theorem layer_apply (n : Fin 512) (k : Fin 512) :
    (k0_pay17 (F := Ideal) g b x1 : S512x512.Idx → EReal) (ix2 n k)
      = layer (at2 x1 n.val) (at2 b 0) k.val (at2 g 0) := by
  pointwise [k0_pay17]
  simp only [layer, centred, variance, mean, at2_ix2, row_read]

variable (Wc Wp : Vec Ideal S512x1024 .bf16) (V : Vec Ideal S4x128x128 .bf16) (s : Vec Ideal S1x512 .f32) (bg : Vec Ideal S1x3072 .f32)
  (Wo : Vec Ideal S1024x1024 .bf16) (z0 z1 z2 x A : Vec Ideal S512x1024 .f32) (p L : Vec Ideal S512x512 .f32)

/-- One of the four groups' products. -/
theorem group_apply (n : Fin 512) (j : Fin 512) (q : Fin 4) (o r : Nat) (ho : ∀ i : Fin 128, o + i.val < 512) (hr : r < 128)
    (h1 : j.val / 128 = q.val) (h2 : j.val % 128 = r) (h3 : o = 128 * q.val) :
    ∑ i : Fin 128, p (ix2 n ⟨o + i.val, ho i⟩) * V (ix3 q i ⟨r, hr⟩)
      = ∑ i : Fin 128, at2 p n.val (128 * (j.val / 128) + i.val) * at3 V (j.val / 128) i.val (j.val % 128) := by
  subst h3
  rw [h1, h2]
  exact Finset.sum_congr rfl fun i _ => congrArg₂ (· * ·) (at2_ix2 p n ⟨_, ho i⟩).symm (at3_ix3 V q i ⟨r, hr⟩).symm

/-- The merge of a point's blocks. -/
theorem out_apply (n : Fin 512) (k : Fin 1024) :
    (k0_pay19 (F := Ideal) Wc V s Wp bg Wo (k0_pay14 z0 z1 z2) x p A L (logistic L) : S512x1024.Idx → EReal) (ix2 n k)
      = out (fun j => merged (at2 bg 0) j (at2 z0 n.val) (at2 z1 n.val) (at2 z2 n.val) (at2 A n.val)
          (project (fun j => silu (at2 L n.val j)) (at2 Wc)) (project (fun j => groups (at2 p n.val) (at2 s 0) j (at3 V)) (at2 Wp)))
        (at2 Wo) k.val (at2 x n.val) := by
  pointwise [k0_pay19, k0_pay14]
  refine congrArg₂ (· + ·) (at2_ix2 x n k).symm (Finset.sum_congr rfl fun j _ => ?_)
  have hj := j.isLt
  refine congrArg₂ (· * ·) (congrArg₂ (· + ·) (congrArg₂ (· + ·) ?_ ?_) (congrArg₂ (· * ·) ?_ ?_)) (at2_ix2 Wo j k).symm
  · exact congrArg₂ (· * ·) (congrArg Ideal.logistic (congrArg₂ (· + ·) (at2_ix2 z0 n j).symm (row_read bg ⟨j.val, by omega⟩).symm))
      (at2_ix2 A n j).symm
  · refine congrArg₂ (· * ·) (congrArg Ideal.logistic (congrArg₂ (· + ·) (at2_ix2 z1 n j).symm
      (row_read bg ⟨1024 + j.val, by omega⟩).symm)) ?_
    simp only [project, silu, at2_ix2]
  · rw [dif_neg (by omega), dif_neg (by omega)]
    refine congrArg Ideal.logistic (congrArg₂ (· + ·) ?_ (row_read bg ⟨2048 + j.val, by omega⟩).symm)
    exact (congrArg z2 (congrArg (ix2 n) (Fin.ext (show 2048 + j.val - 1024 - 1024 = j.val by omega)))).trans (at2_ix2 z2 n j).symm
  · refine Finset.sum_congr rfl fun i _ => congrArg₂ (· * ·) (congrArg₂ (· * ·) ?_ (row_read s i).symm) (at2_ix2 Wp i j).symm
    have hi := i.isLt
    split
    · exact (Finset.sum_congr rfl fun e _ => by simp only [Nat.zero_add]).trans
        (group_apply V p n i 0 0 i.val (fun e => by have := e.isLt; omega) (by omega) (show _ = 0 by omega) (by omega) rfl)
    split
    · exact group_apply V p n i 1 128 (i.val - 128) (fun e => by have := e.isLt; omega) (by omega) (show _ = 1 by omega) (by omega) rfl
    split
    · exact group_apply V p n i 2 256 (i.val - 128 - 128) (fun e => by have := e.isLt; omega) (by omega) (show _ = 2 by omega) (by omega) rfl
    · exact group_apply V p n i 3 384 (i.val - 128 - 128 - 128) (fun e => by have := e.isLt; omega) (by omega) (show _ = 3 by omega) (by omega) rfl

end Cert.Merge

end
-- ==== Proof.Merge.Blocks.lean ====
module

public import proofs.«01_k».proof.Proof.Merge.Points

@[expose] public section

/-! # The merge: the blocks a point reads, and the result array

Each of the four points takes 512 tokens; the weights are the same at every point. -/

set_option maxRecDepth 16384

noncomputable section

open Idealize Idealize.ShloMosaic Idealize.ShloMosaic.TcCoe Idealize.SL.Sem
open scoped BigOperators
open Cert.Kernel13Ideal Cert.Kernel13Ideal.Gen

namespace Cert.Merge

open Cert.Conv (at2 eq_at2)
open Cert.Step

theorem origin3 : (![0, 0, 0] : Fin 3 → Nat) = fun _ => 0 :=
  funext fun a => match a with | ⟨0, _⟩ => rfl | ⟨1, _⟩ => rfl | ⟨2, _⟩ => rfl

variable (c : Dev nD) (m : (ℓ : Loc nD τ sig) → Buf (Elt Ideal) ℓ)

/-! ## The arguments -/

abbrev argX : Arr 2048 1024 := m ((c : Thread nD τ).loc main_arg0)
abbrev argY : Arr 2048 512 := m ((c : Thread nD τ).loc main_arg1)
abbrev argC : Arr 2048 512 := m ((c : Thread nD τ).loc main_arg2)
abbrev argP : Arr 2048 512 := m ((c : Thread nD τ).loc main_arg3)
abbrev argZ : Arr 2048 5120 := m ((c : Thread nD τ).loc main_arg4)
abbrev argWg : Arr 512 512 := m ((c : Thread nD τ).loc main_arg5)
abbrev argBu : Row 512 := m ((c : Thread nD τ).loc main_arg6)
abbrev argWs : Arr 512 1024 := m ((c : Thread nD τ).loc main_arg7)
abbrev argG : Row 512 := m ((c : Thread nD τ).loc main_arg8)
abbrev argB : Row 512 := m ((c : Thread nD τ).loc main_arg9)
abbrev argWc : Arr 512 1024 := m ((c : Thread nD τ).loc main_arg10)
abbrev argV : Arr3 4 128 128 := m ((c : Thread nD τ).loc main_arg11)
abbrev argS : Row 512 := m ((c : Thread nD τ).loc main_arg12)
abbrev argWp : Arr 512 1024 := m ((c : Thread nD τ).loc main_arg13)
abbrev argBg : Row 3072 := m ((c : Thread nD τ).loc main_arg14)
abbrev argWo : Arr 1024 1024 := m ((c : Thread nD τ).loc main_arg15)

/-! ## What the host prepares -/

/-- A matrix's columns as the owners' blocks number them. -/
theorem owner_entry (w : Arr 512 1024) (q : Fin 8) (n : Fin 512) (k : Fin 128) (h : q.val * 128 + k.val < 1024) :
    w (ix2 n ⟨q.val * 128 + k.val, h⟩) = at2 w n.val (128 * q.val + k.val) := by
  rw [Nat.mul_comm 128]
  exact (at2_ix2 w n ⟨_, h⟩).symm

theorem host_unit (a b : Fin 512) : (V m c main_v0 : S512x512.Idx → EReal) (ix2 a b) = argWg c m (ix2 a b) := by
  unfold V
  after_reads_at

theorem host_bias (k : Fin 512) : (V m c main_v1 : S1x512.Idx → EReal) (ix2 0 k) = argBu c m (ix1 k) := by
  unfold V
  after_reads_at

theorem host_ssm (q : Fin 8) (n : Fin 512) (k : Fin 128) :
    (V m c main_v4 : S8x512x128.Idx → EReal) (ix3 q n k) = at2 (argWs c m) n.val (128 * q.val + k.val) := by
  unfold V
  after_reads_at
  exact owner_entry (argWs c m) q n k _

theorem host_scale (k : Fin 512) : (V m c main_v5 : S1x512.Idx → EReal) (ix2 0 k) = argG c m (ix1 k) := by
  unfold V
  after_reads_at

theorem host_shift (k : Fin 512) : (V m c main_v6 : S1x512.Idx → EReal) (ix2 0 k) = argB c m (ix1 k) := by
  unfold V
  after_reads_at

theorem host_conv (q : Fin 8) (n : Fin 512) (k : Fin 128) :
    (V m c main_v9 : S8x512x128.Idx → EReal) (ix3 q n k) = at2 (argWc c m) n.val (128 * q.val + k.val) := by
  unfold V
  after_reads_at
  exact owner_entry (argWc c m) q n k _

theorem host_group (q : Fin 4) (n k : Fin 128) : (V m c main_v10 : S4x128x128.Idx → EReal) (ix3 q n k) = argV c m (ix3 q n k) := by
  unfold V
  after_reads_at

theorem host_pool (k : Fin 512) : (V m c main_v11 : S1x512.Idx → EReal) (ix2 0 k) = argS c m (ix1 k) := by
  unfold V
  after_reads_at

theorem host_back (q : Fin 8) (n : Fin 512) (k : Fin 128) :
    (V m c main_v14 : S8x512x128.Idx → EReal) (ix3 q n k) = at2 (argWp c m) n.val (128 * q.val + k.val) := by
  unfold V
  after_reads_at
  exact owner_entry (argWp c m) q n k _

theorem host_gate (k : Fin 3072) : (V m c main_v15 : S1x3072.Idx → EReal) (ix2 0 k) = argBg c m (ix1 k) := by
  unfold V
  after_reads_at

theorem host_out (a b : Fin 1024) : (V m c main_v16 : S1024x1024.Idx → EReal) (ix2 a b) = argWo c m (ix2 a b) := by
  unfold V
  after_reads_at

/-! ## The blocks a point reads -/

theorem points : cfg0.N = 4 := N_0

theorem at_index0 : ∀ t : Fin cfg0.N, win0_0.index t 0 = t.val ∧ win0_0.index t 1 = 0 := (by decide +kernel : ∀ t : Fin grid0.N, _)
theorem at_index1 : ∀ t : Fin cfg0.N, win0_1.index t 0 = t.val ∧ win0_1.index t 1 = 0 := (by decide +kernel : ∀ t : Fin grid0.N, _)
theorem at_index2 : ∀ t : Fin cfg0.N, win0_2.index t 0 = t.val ∧ win0_2.index t 1 = 0 := (by decide +kernel : ∀ t : Fin grid0.N, _)
theorem at_index3 : ∀ t : Fin cfg0.N, win0_3.index t 0 = t.val ∧ win0_3.index t 1 = 0 := (by decide +kernel : ∀ t : Fin grid0.N, _)
theorem at_index4 : ∀ t : Fin cfg0.N, win0_4.index t 0 = t.val ∧ win0_4.index t 1 = 2 := (by decide +kernel : ∀ t : Fin grid0.N, _)
theorem at_index5 : ∀ t : Fin cfg0.N, win0_5.index t 0 = t.val ∧ win0_5.index t 1 = 3 := (by decide +kernel : ∀ t : Fin grid0.N, _)
theorem at_index6 : ∀ t : Fin cfg0.N, win0_6.index t 0 = t.val ∧ win0_6.index t 1 = 4 := (by decide +kernel : ∀ t : Fin grid0.N, _)
theorem at_index7 : ∀ t : Fin cfg0.N, win0_7.index t 0 = 0 ∧ win0_7.index t 1 = 0 := (by decide +kernel : ∀ t : Fin grid0.N, _)
theorem at_index8 : ∀ t : Fin cfg0.N, win0_8.index t 0 = 0 ∧ win0_8.index t 1 = 0 := (by decide +kernel : ∀ t : Fin grid0.N, _)
theorem at_index10 : ∀ t : Fin cfg0.N, win0_10.index t 0 = 0 ∧ win0_10.index t 1 = 0 := (by decide +kernel : ∀ t : Fin grid0.N, _)
theorem at_index11 : ∀ t : Fin cfg0.N, win0_11.index t 0 = 0 ∧ win0_11.index t 1 = 0 := (by decide +kernel : ∀ t : Fin grid0.N, _)
theorem at_index14 : ∀ t : Fin cfg0.N, win0_14.index t 0 = 0 ∧ win0_14.index t 1 = 0 := (by decide +kernel : ∀ t : Fin grid0.N, _)
theorem at_index16 : ∀ t : Fin cfg0.N, win0_16.index t 0 = 0 ∧ win0_16.index t 1 = 0 := (by decide +kernel : ∀ t : Fin grid0.N, _)
theorem at_index17 : ∀ t : Fin cfg0.N, win0_17.index t 0 = 0 ∧ win0_17.index t 1 = 0 := (by decide +kernel : ∀ t : Fin grid0.N, _)
theorem at_index19 : ∀ t : Fin cfg0.N, win0_19.index t 0 = t.val ∧ win0_19.index t 1 = 0 := (by decide +kernel : ∀ t : Fin grid0.N, _)
theorem at_index9 : ∀ t : Fin cfg0.N, win0_9.index t 0 = 0 ∧ win0_9.index t 1 = 0 ∧ win0_9.index t 2 = 0 := (by decide +kernel : ∀ t : Fin grid0.N, _)
theorem at_index12 : ∀ t : Fin cfg0.N, win0_12.index t 0 = 0 ∧ win0_12.index t 1 = 0 ∧ win0_12.index t 2 = 0 := (by decide +kernel : ∀ t : Fin grid0.N, _)
theorem at_index13 : ∀ t : Fin cfg0.N, win0_13.index t 0 = 0 ∧ win0_13.index t 1 = 0 ∧ win0_13.index t 2 = 0 := (by decide +kernel : ∀ t : Fin grid0.N, _)
theorem at_index15 : ∀ t : Fin cfg0.N, win0_15.index t 0 = 0 ∧ win0_15.index t 1 = 0 ∧ win0_15.index t 2 = 0 := (by decide +kernel : ∀ t : Fin grid0.N, _)

variable (t : Fin cfg0.N)

theorem read0 (n : Fin 512) : at2 (iblk m c 0 t : Arr 512 1024) n.val = at2 (argX c m) (512 * t.val + n.val) := by
  obtain ⟨e0, e1⟩ := at_index0 t
  refine at2_rows _ _ n _ fun k => ?_
  refine (eq_at2 (V m c main_arg0 : Arr 2048 1024) _ (512 * t.val + n.val) k.val (show win0_0.index t 0 * 512 + 1 * n.val = _ by rw [e0]; omega)
    (show win0_0.index t 1 * 1024 + 1 * k.val = _ by rw [e1]; omega)).trans ?_
  rw [V_main_arg0]

theorem read1 (n : Fin 512) : at2 (iblk m c 1 t : Arr 512 512) n.val = at2 (argY c m) (512 * t.val + n.val) := by
  obtain ⟨e0, e1⟩ := at_index1 t
  refine at2_rows _ _ n _ fun k => ?_
  refine (eq_at2 (V m c main_arg1 : Arr 2048 512) _ (512 * t.val + n.val) k.val (show win0_1.index t 0 * 512 + 1 * n.val = _ by rw [e0]; omega)
    (show win0_1.index t 1 * 512 + 1 * k.val = _ by rw [e1]; omega)).trans ?_
  rw [V_main_arg1]

theorem read2 (n : Fin 512) : at2 (iblk m c 2 t : Arr 512 512) n.val = at2 (argC c m) (512 * t.val + n.val) := by
  obtain ⟨e0, e1⟩ := at_index2 t
  refine at2_rows _ _ n _ fun k => ?_
  refine (eq_at2 (V m c main_arg2 : Arr 2048 512) _ (512 * t.val + n.val) k.val (show win0_2.index t 0 * 512 + 1 * n.val = _ by rw [e0]; omega)
    (show win0_2.index t 1 * 512 + 1 * k.val = _ by rw [e1]; omega)).trans ?_
  rw [V_main_arg2]

theorem read3 (n : Fin 512) : at2 (iblk m c 3 t : Arr 512 512) n.val = at2 (argP c m) (512 * t.val + n.val) := by
  obtain ⟨e0, e1⟩ := at_index3 t
  refine at2_rows _ _ n _ fun k => ?_
  refine (eq_at2 (V m c main_arg3 : Arr 2048 512) _ (512 * t.val + n.val) k.val (show win0_3.index t 0 * 512 + 1 * n.val = _ by rw [e0]; omega)
    (show win0_3.index t 1 * 512 + 1 * k.val = _ by rw [e1]; omega)).trans ?_
  rw [V_main_arg3]

theorem read4 (n : Fin 512) (k : Fin 1024) :
    at2 (iblk m c 4 t : Arr 512 1024) n.val k.val = at2 (argZ c m) (512 * t.val + n.val) (2048 + k.val) := by
  obtain ⟨e0, e1⟩ := at_index4 t
  refine (at2_ix2 (iblk m c 4 t : Arr 512 1024) n k).trans ?_
  refine (eq_at2 (V m c main_arg4 : Arr 2048 5120) _ (512 * t.val + n.val) (2048 + k.val) (show win0_4.index t 0 * 512 + 1 * n.val = _ by rw [e0]; omega)
    (show win0_4.index t 1 * 1024 + 1 * k.val = _ by rw [e1]; omega)).trans ?_
  rw [V_main_arg4]

theorem read5 (n : Fin 512) (k : Fin 1024) :
    at2 (iblk m c 5 t : Arr 512 1024) n.val k.val = at2 (argZ c m) (512 * t.val + n.val) (3072 + k.val) := by
  obtain ⟨e0, e1⟩ := at_index5 t
  refine (at2_ix2 (iblk m c 5 t : Arr 512 1024) n k).trans ?_
  refine (eq_at2 (V m c main_arg4 : Arr 2048 5120) _ (512 * t.val + n.val) (3072 + k.val) (show win0_5.index t 0 * 512 + 1 * n.val = _ by rw [e0]; omega)
    (show win0_5.index t 1 * 1024 + 1 * k.val = _ by rw [e1]; omega)).trans ?_
  rw [V_main_arg4]

theorem read6 (n : Fin 512) (k : Fin 1024) :
    at2 (iblk m c 6 t : Arr 512 1024) n.val k.val = at2 (argZ c m) (512 * t.val + n.val) (4096 + k.val) := by
  obtain ⟨e0, e1⟩ := at_index6 t
  refine (at2_ix2 (iblk m c 6 t : Arr 512 1024) n k).trans ?_
  refine (eq_at2 (V m c main_arg4 : Arr 2048 5120) _ (512 * t.val + n.val) (4096 + k.val) (show win0_6.index t 0 * 512 + 1 * n.val = _ by rw [e0]; omega)
    (show win0_6.index t 1 * 1024 + 1 * k.val = _ by rw [e1]; omega)).trans ?_
  rw [V_main_arg4]

theorem read7 : at2 (iblk m c 7 t : Arr 512 512) = at2 (argWg c m) := by
  obtain ⟨e0, e1⟩ := at_index7 t
  refine at2_congr _ _ fun n k => ?_
  exact ((eq_at2 (V m c main_v0 : Arr 512 512) _ n.val k.val (show win0_7.index t 0 * 512 + 1 * n.val = _ by rw [e0]; omega)
    (show win0_7.index t 1 * 512 + 1 * k.val = _ by rw [e1]; omega)).trans (at2_ix2 _ n k)).trans (host_unit c m n k)

theorem read17 : at2 (iblk m c 17 t : Arr 1024 1024) = at2 (argWo c m) := by
  obtain ⟨e0, e1⟩ := at_index17 t
  refine at2_congr _ _ fun n k => ?_
  exact ((eq_at2 (V m c main_v16 : Arr 1024 1024) _ n.val k.val (show win0_17.index t 0 * 1024 + 1 * n.val = _ by rw [e0]; omega)
    (show win0_17.index t 1 * 1024 + 1 * k.val = _ by rw [e1]; omega)).trans (at2_ix2 _ n k)).trans (host_out c m n k)

theorem read8 : at2 (iblk m c 8 t : Arr 1 512) 0 = at1 (argBu c m) := by
  obtain ⟨e0, e1⟩ := at_index8 t
  refine at2_row _ _ fun k => ?_
  exact ((eq_at2 (V m c main_v1 : Arr 1 512) _ 0 k.val (show win0_8.index t 0 * 1 + 1 * 0 = _ by rw [e0])
    (show win0_8.index t 1 * 512 + 1 * k.val = _ by rw [e1]; omega)).trans (row_read _ k)).trans (host_bias c m k)

theorem read10 : at2 (iblk m c 10 t : Arr 1 512) 0 = at1 (argG c m) := by
  obtain ⟨e0, e1⟩ := at_index10 t
  refine at2_row _ _ fun k => ?_
  exact ((eq_at2 (V m c main_v5 : Arr 1 512) _ 0 k.val (show win0_10.index t 0 * 1 + 1 * 0 = _ by rw [e0])
    (show win0_10.index t 1 * 512 + 1 * k.val = _ by rw [e1]; omega)).trans (row_read _ k)).trans (host_scale c m k)

theorem read11 : at2 (iblk m c 11 t : Arr 1 512) 0 = at1 (argB c m) := by
  obtain ⟨e0, e1⟩ := at_index11 t
  refine at2_row _ _ fun k => ?_
  exact ((eq_at2 (V m c main_v6 : Arr 1 512) _ 0 k.val (show win0_11.index t 0 * 1 + 1 * 0 = _ by rw [e0])
    (show win0_11.index t 1 * 512 + 1 * k.val = _ by rw [e1]; omega)).trans (row_read _ k)).trans (host_shift c m k)

theorem read14 : at2 (iblk m c 14 t : Arr 1 512) 0 = at1 (argS c m) := by
  obtain ⟨e0, e1⟩ := at_index14 t
  refine at2_row _ _ fun k => ?_
  exact ((eq_at2 (V m c main_v11 : Arr 1 512) _ 0 k.val (show win0_14.index t 0 * 1 + 1 * 0 = _ by rw [e0])
    (show win0_14.index t 1 * 512 + 1 * k.val = _ by rw [e1]; omega)).trans (row_read _ k)).trans (host_pool c m k)

theorem read16 : at2 (iblk m c 16 t : Arr 1 3072) 0 = at1 (argBg c m) := by
  obtain ⟨e0, e1⟩ := at_index16 t
  refine at2_row _ _ fun k => ?_
  exact ((eq_at2 (V m c main_v15 : Arr 1 3072) _ 0 k.val (show win0_16.index t 0 * 1 + 1 * 0 = _ by rw [e0])
    (show win0_16.index t 1 * 3072 + 1 * k.val = _ by rw [e1]; omega)).trans (row_read _ k)).trans (host_gate c m k)

theorem read13 : at3 (iblk m c 13 t : Arr3 4 128 128) = at3 (argV c m) := by
  obtain ⟨e0, e1, e2⟩ := at_index13 t
  refine at3_congr _ _ fun q n k => ?_
  refine Eq.trans (congrArg (V m c main_v10 : Arr3 4 128 128) (funext fun a => Fin.ext ?_)) (host_group c m q n k)
  match a with
  | ⟨0, _⟩ => show win0_13.index t 0 * 4 + 1 * q.val = q.val; rw [e0]; omega
  | ⟨1, _⟩ => show win0_13.index t 1 * 128 + 1 * n.val = n.val; rw [e1]; omega
  | ⟨2, _⟩ => show win0_13.index t 2 * 128 + 1 * k.val = k.val; rw [e2]; omega

/-- Eight owners' blocks put side by side are the matrix. -/
theorem joined (W : Vec Ideal S8x512x128 .bf16) (w : Arr 512 1024)
    (h : ∀ (q : Fin 8) (n : Fin 512) (k : Fin 128), W (ix3 q n k) = at2 w n.val (128 * q.val + k.val)) :
    at2 (k0_pay3 (F := Ideal) (View.ld W r0_2) (View.ld W r0_3) (View.ld W r0_4) (View.ld W r0_5) (View.ld W r0_6) (View.ld W r0_7)
      (View.ld W r0_8) (View.ld W r0_9) : Arr 512 1024) = at2 w := by
  refine at2_congr _ _ fun n k => ?_
  have hk := k.isLt
  refine (owners W n k).trans ((at3_lt W _ _ _ (by omega) n.isLt (by omega)).trans ((h ⟨k.val / 128, by omega⟩ n ⟨k.val % 128, by omega⟩).trans ?_))
  exact (congrArg (at2 w n.val) (show 128 * (k.val / 128) + k.val % 128 = k.val by omega)).trans (at2_ix2 w n k)

theorem read9 (q : Fin 8) (n : Fin 512) (k : Fin 128) :
    (iblk m c 9 t : S8x512x128.Idx → EReal) (ix3 q n k) = at2 (argWs c m) n.val (128 * q.val + k.val) := by
  obtain ⟨e0, e1, e2⟩ := at_index9 t
  refine Eq.trans (congrArg (V m c main_v4 : Arr3 8 512 128) (funext fun a => Fin.ext ?_)) (host_ssm c m q n k)
  match a with
  | ⟨0, _⟩ => show win0_9.index t 0 * 8 + 1 * q.val = q.val; rw [e0]; omega
  | ⟨1, _⟩ => show win0_9.index t 1 * 512 + 1 * n.val = n.val; rw [e1]; omega
  | ⟨2, _⟩ => show win0_9.index t 2 * 128 + 1 * k.val = k.val; rw [e2]; omega

theorem read12 (q : Fin 8) (n : Fin 512) (k : Fin 128) :
    (iblk m c 12 t : S8x512x128.Idx → EReal) (ix3 q n k) = at2 (argWc c m) n.val (128 * q.val + k.val) := by
  obtain ⟨e0, e1, e2⟩ := at_index12 t
  refine Eq.trans (congrArg (V m c main_v9 : Arr3 8 512 128) (funext fun a => Fin.ext ?_)) (host_conv c m q n k)
  match a with
  | ⟨0, _⟩ => show win0_12.index t 0 * 8 + 1 * q.val = q.val; rw [e0]; omega
  | ⟨1, _⟩ => show win0_12.index t 1 * 512 + 1 * n.val = n.val; rw [e1]; omega
  | ⟨2, _⟩ => show win0_12.index t 2 * 128 + 1 * k.val = k.val; rw [e2]; omega

theorem read15 (q : Fin 8) (n : Fin 512) (k : Fin 128) :
    (iblk m c 15 t : S8x512x128.Idx → EReal) (ix3 q n k) = at2 (argWp c m) n.val (128 * q.val + k.val) := by
  obtain ⟨e0, e1, e2⟩ := at_index15 t
  refine Eq.trans (congrArg (V m c main_v14 : Arr3 8 512 128) (funext fun a => Fin.ext ?_)) (host_back c m q n k)
  match a with
  | ⟨0, _⟩ => show win0_15.index t 0 * 8 + 1 * q.val = q.val; rw [e0]; omega
  | ⟨1, _⟩ => show win0_15.index t 1 * 512 + 1 * n.val = n.val; rw [e1]; omega
  | ⟨2, _⟩ => show win0_15.index t 2 * 128 + 1 * k.val = k.val; rw [e2]; omega

end Cert.Merge

end
-- ==== Proof.Merge.Final.lean ====
module

public import proofs.«01_k».proof.Proof.Merge.Blocks

@[expose] public section

/-! # The merge: the result array -/

set_option maxRecDepth 16384

noncomputable section

open Idealize Idealize.ShloMosaic Idealize.ShloMosaic.TcCoe Idealize.SL.Sem
open scoped BigOperators
open Cert.Kernel13Ideal Cert.Kernel13Ideal.Gen

namespace Cert.Merge

open Cert.Conv (at2 eq_at2)
open Cert.Step

section
variable (x0 : Vec Ideal S512x1024 .f32) (x1 x2 x3 : Vec Ideal S512x512 .f32) (x4 x5 x6 : Vec Ideal S512x1024 .f32)
  (x7 : Vec Ideal S512x512 .bf16) (x8 : Vec Ideal S1x512 .f32) (x9 : Vec Ideal S8x512x128 .bf16) (x10 x11 : Vec Ideal S1x512 .f32)
  (x12 : Vec Ideal S8x512x128 .bf16) (x13 : Vec Ideal S4x128x128 .bf16) (x14 : Vec Ideal S1x512 .f32) (x15 : Vec Ideal S8x512x128 .bf16)
  (x16 : Vec Ideal S1x3072 .f32) (x17 : Vec Ideal S1024x1024 .bf16) (x18 : Vec Ideal S8x128 .f32)

/-- The owners' blocks of a matrix, side by side. -/
abbrev sides (W : Vec Ideal S8x512x128 .bf16) : Vec Ideal S512x1024 .bf16 :=
  k0_pay3 (F := Ideal) (View.ld W r0_2) (View.ld W r0_3) (View.ld W r0_4) (View.ld W r0_5) (View.ld W r0_6) (View.ld W r0_7)
    (View.ld W r0_8) (View.ld W r0_9)

/-- What a point stores, over the blocks it loads. -/
theorem store_eq : (out0_19 (F := Ideal) x0 x1 x2 x3 x4 x5 x6 x7 x8 x9 x10 x11 x12 x13 x14 x15 x16 x17 x18 : Vec Ideal S512x1024 .f32)
    = k0_pay19 (F := Ideal) (sides x12) x13 x14 (sides x15) x16 x17 (k0_pay14 x4 x5 x6) x0 x3
        (k0_pay16 x7 x8 (sides x9) x1 (k0_pay15 x1)) (k0_pay17 x10 x11 x2) (logistic (k0_pay17 x10 x11 x2)) := by
  unfold out0_19
  rw [View.canon_unit_zero origin2]
  simp only [k0_pay20, k0_pay21, View.ld_unit_zero (S := S512x512) origin2, View.ld_unit_zero (S := S1x512) origin2,
    View.ld_unit_zero (S := S4x128x128) origin3, View.ld_unit_zero (S := S1x3072) origin2, View.ld_unit_zero (S := S1024x1024) origin2,
    View.ld_unit_zero (S := S512x1024) origin2, k0_pay1, k0_pay2, k0_pay4, k0_pay5, k0_pay7, k0_pay8, k0_pay12, k0_pay13, shapeCast_self]
  rfl
end

variable (c : Dev nD) (m : (ℓ : Loc nD τ sig) → Buf (Elt Ideal) ℓ) (t : Fin cfg0.N)

theorem point_eq (n : Fin 512) (k : Fin 1024) :
    (out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) : S512x1024.Idx → EReal) (ix2 n k)
      = result (argX c m) (argY c m) (argC c m) (argP c m) (argZ c m) (argWg c m) (argBu c m) (argWs c m) (argG c m) (argB c m) (argWc c m) (argV c m) (argS c m) (argWp c m) (argBg c m) (argWo c m) (512 * t.val + n.val) k.val := by
  rw [store_eq]
  refine (out_apply _ _ _ _ _ _ _ _ _ _ _ _ _ n k).trans ?_
  unfold out
  rw [read0 c m t n, read17 c m t]
  refine congrArg₂ (· + ·) rfl (Finset.sum_congr rfl fun j _ => congrArg₂ (· * ·) ?_ rfl)
  unfold merged
  dsimp only
  rw [read16 c m t, read4 c m t n j, read5 c m t n j, read6 c m t n j, joined _ (argWc c m) (read12 c m t), joined _ (argWp c m) (read15 c m t),
    read3 c m t n, read14 c m t, read13 c m t]
  refine congrArg₂ (· + ·) (congrArg₂ (· + ·) (congrArg₂ (· * ·) rfl ?_) (congrArg₂ (· * ·) rfl (Finset.sum_congr rfl fun i _ => congrArg₂ (· * ·) ?_ rfl))) rfl
  · refine (at2_ix2 _ n j).trans ((unit_apply _ _ _ _ n j).trans ?_)
    rw [joined _ (argWs c m) (read9 c m t), read1 c m t n, read7 c m t, read8 c m t]
  · refine congrArg silu ((at2_ix2 _ n i).trans ((layer_apply _ _ _ n i).trans ?_))
    rw [read2 c m t n, read10 c m t, read11 c m t]

theorem final : (dats m 0 c).arrAt 19 cfg0.N = res (argX c m) (argY c m) (argC c m) (argP c m) (argZ c m) (argWg c m) (argBu c m) (argWs c m) (argG c m) (argB c m) (argWc c m) (argV c m) (argS c m) (argWp c m) (argBg c m) (argWo c m) := by
  refine (dats m 0 c).arrAt_eq_of_covers 19 _ (by decide +kernel) fun t hf y => ?_
  obtain ⟨e0, e1⟩ := at_index19 t
  blk_simp
  rw [after0_19]
  refine ((congrArg (out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) (eq_ix2 y)).trans (point_eq c m t (y 0) (y 1))).trans
    (congrArg₂ (result (argX c m) (argY c m) (argC c m) (argP c m) (argZ c m) (argWg c m) (argBu c m) (argWs c m) (argG c m) (argB c m) (argWc c m) (argV c m) (argS c m) (argWp c m) (argBg c m) (argWo c m)) ?_ ?_)
  · show _ = win0_19.index t 0 * 512 + 1 * (y 0).val
    rw [e0]; omega
  · show _ = win0_19.index t 1 * 1024 + 1 * (y 1).val
    rw [e1]; omega

variable (ρ : Dev nD → PrngReg)

/-- From any memory the kernel ends with the merge in its result, its arguments as they were. -/
theorem kernel_run : θ_run defs (onTc (τ := τ) (main (F := Ideal))) ⟨m, fun _ => 0, ρ⟩ fun r => ∀ c : Dev nD,
      r.2.mem ((c.tc : Thread nD τ).loc main_v18) = res (argX c m) (argY c m) (argC c m) (argP c m) (argZ c m) (argWg c m) (argBu c m) (argWs c m) (argG c m) (argB c m) (argWc c m) (argV c m) (argS c m) (argWp c m) (argBg c m) (argWo c m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => ⟨((h c).1 19).trans (final c m),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 6).trans (((dats m 0 c).arrAt_in 6 rfl _).trans ((A_eq m c 6).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩)
    (run_main m ρ)

end Cert.Merge

end
-- ==== Proof.Merge.Reference.lean ====
module

public import proofs.«01_k».proof.Proof.Merge.Math
public import proofs.«01_k».proof.Proof.Gen.Reference13Ideal.Read

@[expose] public section

/-! # The merge: the reference -/

set_option maxRecDepth 16384

noncomputable section

open Idealize Idealize.ShloMosaic Idealize.ShloMosaic.TcCoe Idealize.SL.Sem
open scoped BigOperators
open Cert.Reference13Ideal Cert.Reference13Ideal.Gen Cert.Reference13Ideal.Value Cert.Reference13Ideal.Read

namespace Cert.Merge

open Cert.Conv (at2 eq_at2)
open Cert.Step

section
variable (x0 : Arr 2048 1024) (x1 x2 x3 : Arr 2048 512) (x4 : Arr 2048 5120) (x5 : Arr 512 512) (x6 : Row 512) (x7 : Arr 512 1024)
  (x8 x9 : Row 512) (x10 : Arr 512 1024) (x11 : Arr3 4 128 128) (x12 : Row 512) (x13 : Arr 512 1024) (x14 : Row 3072) (x15 : Arr 1024 1024)
  (n : Fin 2048) (d : Fin 1024) (k : Fin 512)

theorem ref_gelu : (val_main_v23 (F := Ideal) x1 : S2048x512.Idx → EReal) (ix2 n k) = gelu (at2 x1 n.val k.val) := by
  pointwise [val_main_v23, val_main_v22, val_main_v21, val_main_v20, val_main_v19, val_main_v18, val_main_v17, val_main_v16, val_main_v15,
    val_main_v14, val_main_v13, val_main_v12, val_main_v11, val_main_cst_1, val_main_cst_2, val_main_cst_3, val_main_cst_4]
  simp only [gelu, at2_ix2, mul_assoc]

theorem ref_unit : (val_main_v34 (F := Ideal) x1 x5 x6 : S2048x512.Idx → EReal) (ix2 n k)
    = unit (at2 x1 n.val) (at2 x5) (at1 x6) k.val := by
  have e : (val_main_v23 (F := Ideal) x1 : S2048x512.Idx → EReal) (ix2 n k)
      * Ideal.logistic (∑ j : Fin 512, (val_main_v23 (F := Ideal) x1 : S2048x512.Idx → EReal) (ix2 n j) * x5 (ix2 j k) + x6 (ix1 k))
      = unit (at2 x1 n.val) (at2 x5) (at1 x6) k.val := by
    simp only [ref_gelu, unit, at2_ix2, at1_ix1]
  refine Eq.trans ?_ e
  pointwise [val_main_v34, val_main_v33, val_main_v32, val_main_v31, val_main_v30, val_main_v29, val_main_v28, val_main_v27, val_main_v26,
    val_main_v25, val_main_v24, val_main_cst_5, val_main_cst_6]
  rfl

theorem ref_projA : (val_main_v35 (F := Ideal) x1 x5 x6 x7 : S2048x1024.Idx → EReal) (ix2 n d)
    = project (fun j => unit (at2 x1 n.val) (at2 x5) (at1 x6) j) (at2 x7) d.val := by
  refine Eq.trans ?_ (Finset.sum_congr rfl fun j _ => congrArg₂ (· * ·) (ref_unit x1 x5 x6 n j) (at2_ix2 x7 j d).symm)
  pointwise [val_main_v35]

theorem ref_layer : (val_main_v59 (F := Ideal) x2 x8 x9 : S2048x512.Idx → EReal) (ix2 n k)
    = layer (at2 x2 n.val) (at1 x9) k.val (at1 x8) := by
  pointwise [val_main_v59, val_main_v58, val_main_v57, val_main_v56, val_main_v55, val_main_v54, val_main_v53, val_main_v52, val_main_v51,
    val_main_v50, val_main_v49, val_main_v48, val_main_v47, val_main_v46, val_main_v45, val_main_v44, val_main_v43, val_main_v42,
    val_main_v41, val_main_v40, val_main_v39, val_main_v38, val_main_v37, val_main_v36, val_main_cst_7, val_main_cst_8, val_main_cst_9,
    val_main_cst_10, val_main_cst_11]
  simp only [layer, centred, variance, mean, at2_ix2, at1_ix1]

theorem ref_active : (val_main_v60 (F := Ideal) x2 x8 x9 : S2048x512.Idx → EReal) (ix2 n k)
    = active (at2 x2 n.val) (at1 x9) k.val (at1 x8) := by
  refine Eq.trans ?_ (congrArg silu (ref_layer x2 x8 x9 n k))
  pointwise [val_main_v60, val_main_call0_v5, val_main_call0_v4, val_main_call0_v3, val_main_call0_v2, val_main_call0_v1, val_main_call0_v0, val_main_call0_cst, val_main_call0_cst_0]
  rfl

theorem ref_projB : (val_main_v61 (F := Ideal) x2 x8 x9 x10 : S2048x1024.Idx → EReal) (ix2 n d)
    = project (fun j => active (at2 x2 n.val) (at1 x9) j (at1 x8)) (at2 x10) d.val := by
  refine Eq.trans ?_ (Finset.sum_congr rfl fun j _ => congrArg₂ (· * ·) (ref_active x2 x8 x9 n j) (at2_ix2 x10 j d).symm)
  pointwise [val_main_v61]

theorem ref_groups : (val_main_v68 (F := Ideal) x3 x11 x12 : S2048x512.Idx → EReal) (ix2 n k)
    = groups (at2 x3 n.val) (at1 x12) k.val (at3 x11) := by
  have hk := k.isLt
  pointwise [val_main_v68, val_main_v67, val_main_v66, val_main_v65, val_main_v64, val_main_v63, val_main_v62]
  refine congrArg₂ (· * ·) (Finset.sum_congr rfl fun j _ => (mul_comm _ _).trans (congrArg₂ (· * ·) ?_ ?_)) (at1_ix1 x12 k).symm
  · have hj := j.isLt
    rw [Nat.mul_comm 128]
    exact (at2_ix2 x3 n ⟨k.val / 128 * 128 + j.val, by omega⟩).symm
  · exact (at3_ix3 x11 ⟨k.val / 128, by omega⟩ j ⟨k.val % 128, by omega⟩).symm

theorem ref_projC : (val_main_v69 (F := Ideal) x3 x11 x12 x13 : S2048x1024.Idx → EReal) (ix2 n d)
    = project (fun j => groups (at2 x3 n.val) (at1 x12) j (at3 x11)) (at2 x13) d.val := by
  refine Eq.trans ?_ (Finset.sum_congr rfl fun j _ => congrArg₂ (· * ·) (ref_groups x3 x11 x12 n j) (at2_ix2 x13 j d).symm)
  pointwise [val_main_v69]

theorem ref_gate (q : Fin 3) (a o : Nat) (ha : 2048 + 1024 * q.val + d.val = a) (ho : 1024 * q.val + d.val = o) :
    (val_main_v10 (F := Ideal) x4 x14 : S2048x3x1024.Idx → EReal) (ix3 n q d) = Ideal.logistic (at2 x4 n.val a + at1 x14 o) := by
  have hq := q.isLt
  have hd := d.isLt
  pointwise [val_main_v10, val_main_v9, val_main_v8, val_main_v7, val_main_v6, val_main_v5, val_main_v4, val_main_v3, val_main_v2,
    val_main_v1, val_main_v0, val_main_cst, val_main_cst_0]
  refine congrArg Ideal.logistic (congrArg₂ (· + ·) ?_ ?_)
  · refine (at2_ix2 x4 n ⟨2048 + (q.val * 1024 + d.val), by omega⟩).symm.trans (congrArg (at2 x4 n.val) ?_)
    show 2048 + (q.val * 1024 + d.val) = a
    omega
  · refine (at1_ix1 x14 ⟨q.val * 1024 + d.val, by omega⟩).symm.trans (congrArg (at1 x14) ?_)
    show q.val * 1024 + d.val = o
    omega

theorem ref_merged : (val_main_v80 (F := Ideal) x1 x2 x3 x4 x5 x6 x7 x8 x9 x10 x11 x12 x13 x14 : S2048x1024.Idx → EReal) (ix2 n d)
    = merged (at1 x14) d.val (fun j => at2 x4 n.val (2048 + j)) (fun j => at2 x4 n.val (3072 + j)) (fun j => at2 x4 n.val (4096 + j))
      (project (fun j => unit (at2 x1 n.val) (at2 x5) (at1 x6) j) (at2 x7))
      (project (fun j => active (at2 x2 n.val) (at1 x9) j (at1 x8)) (at2 x10))
      (project (fun j => groups (at2 x3 n.val) (at1 x12) j (at3 x11)) (at2 x13)) := by
  unfold merged
  rw [← ref_projA, ← ref_projB, ← ref_projC, ← ref_gate x4 x14 n d 0 _ _ (by simp) (by simp), ← ref_gate x4 x14 n d 1 _ _ (by simp) (by simp),
    ← ref_gate x4 x14 n d 2 _ _ (by simp) (by simp)]
  pointwise [val_main_v80, val_main_v79, val_main_v78, val_main_v77, val_main_v76, val_main_v75, val_main_v74, val_main_v73, val_main_v72,
    val_main_v71, val_main_v70]

theorem ref_out : (val_main_v82 (F := Ideal) x0 x1 x2 x3 x4 x5 x6 x7 x8 x9 x10 x11 x12 x13 x14 x15 : S2048x1024.Idx → EReal) (ix2 n d)
    = result x0 x1 x2 x3 x4 x5 x6 x7 x8 x9 x10 x11 x12 x13 x14 x15 n.val d.val := by
  refine Eq.trans ?_ (congrArg₂ (· + ·) (at2_ix2 x0 n d).symm (Finset.sum_congr rfl fun j _ =>
    congrArg₂ (· * ·) (ref_merged x1 x2 x3 x4 x5 x6 x7 x8 x9 x10 x11 x12 x13 x14 n j) (at2_ix2 x15 j d).symm))
  pointwise [val_main_v82, val_main_v81]
end

/-! ## The run -/

variable (m : (ℓ : Loc nD τ sig) → Buf (Elt Ideal) ℓ) (ρ : Dev nD → PrngReg)

/-- From any memory the reference ends with the merge of its arguments, the arguments as they were. -/
theorem reference_run : θ_run defs (onTc (τ := τ) (main (F := Ideal))) ⟨m, fun _ => 0, ρ⟩ fun r => ∀ c : Dev nD,
      r.2.mem ((c.tc : Thread nD τ).loc main_v82) = res (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => by
    obtain ⟨hr, rest⟩ := h c
    refine ⟨hr.trans ((val_main_v82_eq m c).trans (funext fun j => ?_)), rest⟩
    exact (congrArg (val_main_v82 (F := Ideal) _ _ _ _ _ _ _ _ _ _ _ _ _ _ _ _) (eq_ix2 j)).trans
      (ref_out _ _ _ _ _ _ _ _ _ _ _ _ _ _ _ _ (j 0) (j 1)))
    (Cert.Reference13Ideal.Value.run m ρ)

end Cert.Merge

end
-- ==== Proof.ConvFwd.Math.lean ====
module

public import proofs.«01_k».proof.Proof.Conv.Math

@[expose] public section

/-! # The gated causal convolution, as a plain sum

A token's value in a column is the sum over the 31 taps of the gated value the tap meets, and the bias. -/

noncomputable section

open Idealize Idealize.ShloMosaic
open scoped BigOperators
open Cert.Conv (at2 past)

namespace Cert.ConvFwd

/-- The convolution at token `n` and column `c`: tap `k` meets the gated value of token `n - 30 + k`, zero before the
first token. -/
def conv (z : (⟨2, ![2048, 5120]⟩ : Shape).Idx → EReal) (w : (⟨2, ![31, 512]⟩ : Shape).Idx → EReal)
    (b : (⟨1, ![512]⟩ : Shape).Idx → EReal) (n : Nat) (c : Fin 512) : EReal :=
  (∑ k : Fin 31, at2 w k.val c.val * past z (n + 2 + k.val) c.val) + b (ix1 c)

/-- The result array. -/
def resConv (z : (⟨2, ![2048, 5120]⟩ : Shape).Idx → EReal) (w : (⟨2, ![31, 512]⟩ : Shape).Idx → EReal)
    (b : (⟨1, ![512]⟩ : Shape).Idx → EReal) : (⟨2, ![2048, 512]⟩ : Shape).Idx → EReal :=
  fun j => conv z w b (j 0).val (j 1)

end Cert.ConvFwd

end
-- ==== Proof.ConvFwd.Blocks.lean ====
module

public import proofs.«01_k».proof.Proof.Conv.Blocks
public import proofs.«01_k».proof.Proof.Gen.Kernel15Ideal.Frame

@[expose] public section

/-! # The convolution's forward: one grid point

A grid point holds 256 tokens. It writes the gated value of these tokens, and of the 32 before them, into a window of 288
rows, the window the backward's kernel also makes, and adds to the bias the 31 taps' products with the window's rows. -/

set_option maxRecDepth 16384

noncomputable section

open Idealize Idealize.ShloMosaic Idealize.ShloMosaic.TcCoe Idealize.SL.Sem
open scoped BigOperators
open Cert.Conv (B256 B288 B32 B31 B1 rows tap gluWin)
open Cert.Kernel15Ideal Cert.Kernel15Ideal.Gen

namespace Cert.ConvFwd

theorem origin2 : (![0, 0] : Fin 2 → Nat) = fun _ => 0 := funext fun a => match a with | ⟨0, _⟩ => rfl | ⟨1, _⟩ => rfl

/-- The window is the one the backward's kernel makes of the same four blocks. -/
theorem window_def (i : grid0.Coords) (x0 x1 : B256) (x2 x3 : B32) : gluWin i x0 x1 x2 x3 = View.canon
    [⟨Rect.unit ![32, 0] ![256, 512] inb_S288x512_S256x512_32_0, k0_pay3 x0 x1⟩,
      ⟨Rect.unit ![0, 0] ![32, 512] inb_S288x512_S32x512_0_0, k0_pay2 i x2 x3⟩] := rfl

/-- The bias and the 31 taps' products: tap `k` meets the window at the row offset `k + 2`. -/
def tapSum (b : B1) (W : Fin 31 → B1) (D : Fin 33 → B256) : B256 :=
  k0_pay1 (F := Ideal) (k0_pay8 (k0_pay7 (k0_pay6 (k0_pay5 (k0_pay4 b
    (W 0) (D 2) (W 1) (D 3))
    (W 2) (D 4) (W 3) (D 5) (W 4) (D 6) (W 5) (D 7) (W 6) (D 8) (W 7) (D 9))
    (W 8) (D 10) (W 9) (D 11) (W 10) (D 12) (W 11) (D 13) (W 12) (D 14) (W 13) (D 15) (W 14) (D 16))
    (W 15) (D 17) (W 16) (D 18) (W 17) (D 19) (W 18) (D 20) (W 19) (D 21) (W 20) (D 22) (W 21) (D 23))
    (W 22) (D 24) (W 23) (D 25) (W 24) (D 26) (W 25) (D 27) (W 26) (D 28) (W 27) (D 29))
    (W 28) (D 30) (W 29) (D 31) (W 30) (D 32)

theorem spread_apply (v : B1) (j : S256x512.Idx) :
    broadcastTo S256x512 v broadcasts_S1x512_S256x512 j = v (ix2 0 (j 1)) := by
  exact broadcastTo_apply v _ j (ix2 0 (j 1)) (fun a => match a with | ⟨0, _⟩ => rfl | ⟨1, _⟩ => rfl)

theorem tapSum_apply (b : B1) (W : Fin 31 → B1) (D : Fin 33 → B256) (j : S256x512.Idx) :
    tapSum b W D j = (∑ k : Fin 31, W k (ix2 0 (j 1)) * D ⟨k.val + 2, by omega⟩ j) + b (ix2 0 (j 1)) := by
  unfold tapSum
  simp only [k0_pay1, k0_pay4, k0_pay5, k0_pay6, k0_pay7, k0_pay8, shapeCast_self]
  rw [add_comm]
  simp only [Fin.sum_univ_castSucc, Fin.sum_univ_zero, zero_add, ← add_assoc]
  simp only [← spread_apply]
  rfl

variable (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S31x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S288x512 .f32) (harg8 : arg8.IsWhole)
  (x0 x1 : Vec Ideal S256x512 .f32) (x2 x3 : Vec Ideal S32x512 .f32) (x4 : Vec Ideal S31x512 .f32) (x5 : Vec Ideal S1x512 .f32)

/-- What a grid point leaves in its output block. -/
theorem out_eq : out0_A_6 c i arg1 harg1 arg2 harg2 arg3 harg3 arg4 harg4 arg5 harg5 arg6 harg6 arg7 harg7 arg8 harg8 x0 x1 x2 x3 x4 x5 (F := Ideal)
    = tapSum x5 (tap x4) (rows (gluWin i x0 x1 x2 x3)) := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  unfold kernelRun0_A
  dsimp only
  sl_unfold_words
  rw [View.canon_cons_unit_zero origin2]
  simp only [View.readAt_eq_ld, harg1.read_unread, harg2.read_unread, harg3.read_unread, harg4.read_unread,
    harg5.read_unread, harg6.read_unread,
    View.ld_unit_zero (S := S256x512) origin2, View.ld_unit_zero (S := S32x512) origin2,
    View.ld_unit_zero (S := S31x512) origin2, View.ld_unit_zero (S := S1x512) origin2, View.readCov_eq_canon']
  unfold tapSum
  simp only [← window_def]
  generalize gluWin i x0 x1 x2 x3 = D
  unfold rows tap
  rfl

end Cert.ConvFwd

end
-- ==== Proof.ConvFwd.Final.lean ====
module

public import proofs.«01_k».proof.Proof.ConvFwd.Math
public import proofs.«01_k».proof.Proof.ConvFwd.Blocks
public import Idealize.ShloMosaic.Lib.Pipeline.ValueKit
public import Idealize.ShloMosaic.Lib.StableHlo.ReadAt

@[expose] public section

/-! # The convolution's forward: from the grid points to the result

The 8 grid points walk the sequence in blocks of 256 tokens, and each writes its own block of the result. -/

set_option maxRecDepth 16384

noncomputable section

open Idealize Idealize.ShloMosaic Idealize.ShloMosaic.TcCoe Idealize.SL.Sem
open Idealize.ShloMosaic.Pipeline (Dat)
open scoped BigOperators
open Cert.Conv (at2 eq_at2 at2_idx past rows tap rows_apply tap_apply gluWin gluWin_apply)
open Cert.Kernel15Ideal Cert.Kernel15Ideal.Gen

namespace Cert.ConvFwd

variable (m : (ℓ : Loc nD τ sig) → Buf (Elt Ideal) ℓ) (ρ : Dev nD → PrngReg) (c : Dev nD)

/-- The layer's input, the taps and the bias, as the launch finds them. -/
abbrev argZ : (⟨2, ![2048, 5120]⟩ : Shape).Idx → EReal := m ((c : Thread nD τ).loc main_arg0)
abbrev argW : (⟨2, ![31, 512]⟩ : Shape).Idx → EReal := m ((c : Thread nD τ).loc main_arg1)
abbrev argB : (⟨1, ![512]⟩ : Shape).Idx → EReal := m ((c : Thread nD τ).loc main_arg2)

/-! ## The blocks a point reads -/

theorem at_index0 : ∀ t : Fin cfg0.N, win0_0.index t 0 = t.val ∧ win0_0.index t 1 = 1 := (by decide +kernel : ∀ t : Fin grid0.N, _)
theorem at_index1 : ∀ t : Fin cfg0.N, win0_1.index t 0 = t.val ∧ win0_1.index t 1 = 2 := (by decide +kernel : ∀ t : Fin grid0.N, _)
theorem at_index2 : ∀ t : Fin cfg0.N, (0 < t.val → win0_2.index t 0 = 8 * t.val - 1) ∧ win0_2.index t 1 = 1 := (by decide +kernel : ∀ t : Fin grid0.N, _)
theorem at_index3 : ∀ t : Fin cfg0.N, (0 < t.val → win0_3.index t 0 = 8 * t.val - 1) ∧ win0_3.index t 1 = 2 := (by decide +kernel : ∀ t : Fin grid0.N, _)
theorem at_index4 : ∀ t : Fin cfg0.N, win0_4.index t 0 = 0 ∧ win0_4.index t 1 = 0 := (by decide +kernel : ∀ t : Fin grid0.N, _)
theorem at_index5 : ∀ t : Fin cfg0.N, win0_5.index t 0 = 0 ∧ win0_5.index t 1 = 0 := (by decide +kernel : ∀ t : Fin grid0.N, _)
theorem at_index6 : ∀ t : Fin cfg0.N, win0_6.index t 0 = t.val ∧ win0_6.index t 1 = 0 := (by decide +kernel : ∀ t : Fin grid0.N, _)
theorem at_coord : ∀ t : Fin cfg0.N, (grid0.coords t 0).val = t.val := (by decide +kernel : ∀ t : Fin grid0.N, _)

theorem read0 (t : Fin cfg0.N) (y : S256x512.Idx) : iblk m c 0 t y = at2 (argZ m c) (256 * t.val + (y 0).val) (512 + (y 1).val) := by
  obtain ⟨e0, e1⟩ := at_index0 t
  exact eq_at2 (argZ m c) _ _ _ (show win0_0.index t 0 * 256 + 1 * (y 0).val = _ by rw [e0]; omega)
    (show win0_0.index t 1 * 512 + 1 * (y 1).val = _ by rw [e1]; omega)

theorem read1 (t : Fin cfg0.N) (y : S256x512.Idx) : iblk m c 1 t y = at2 (argZ m c) (256 * t.val + (y 0).val) (1024 + (y 1).val) := by
  obtain ⟨e0, e1⟩ := at_index1 t
  exact eq_at2 (argZ m c) _ _ _ (show win0_1.index t 0 * 256 + 1 * (y 0).val = _ by rw [e0]; omega)
    (show win0_1.index t 1 * 512 + 1 * (y 1).val = _ by rw [e1]; omega)

theorem read2 (t : Fin cfg0.N) (ht : 0 < t.val) (y : S32x512.Idx) :
    iblk m c 2 t y = at2 (argZ m c) (256 * t.val - 32 + (y 0).val) (512 + (y 1).val) := by
  obtain ⟨e0, e1⟩ := at_index2 t
  exact eq_at2 (argZ m c) _ _ _ (show win0_2.index t 0 * 32 + 1 * (y 0).val = _ by rw [e0 ht]; omega)
    (show win0_2.index t 1 * 512 + 1 * (y 1).val = _ by rw [e1]; omega)

theorem read3 (t : Fin cfg0.N) (ht : 0 < t.val) (y : S32x512.Idx) :
    iblk m c 3 t y = at2 (argZ m c) (256 * t.val - 32 + (y 0).val) (1024 + (y 1).val) := by
  obtain ⟨e0, e1⟩ := at_index3 t
  exact eq_at2 (argZ m c) _ _ _ (show win0_3.index t 0 * 32 + 1 * (y 0).val = _ by rw [e0 ht]; omega)
    (show win0_3.index t 1 * 512 + 1 * (y 1).val = _ by rw [e1]; omega)

theorem read4 (t : Fin cfg0.N) : (iblk m c 4 t : (⟨2, ![31, 512]⟩ : Shape).Idx → EReal) = argW m c := by
  funext y
  obtain ⟨e0, e1⟩ := at_index4 t
  exact (eq_at2 (argW m c) _ _ _ (show win0_4.index t 0 * 31 + 1 * (y 0).val = (y 0).val by rw [e0]; omega)
    (show win0_4.index t 1 * 512 + 1 * (y 1).val = (y 1).val by rw [e1]; omega)).trans (at2_idx (argW m c) y)

theorem host_bias (k : Fin 512) : (V m c main_v0 : S1x512.Idx → EReal) (ix2 0 k) = argB m c (ix1 k) := by
  unfold V
  after_reads_at

theorem read5 (t : Fin cfg0.N) (k : Fin 512) : (iblk m c 5 t : S1x512.Idx → EReal) (ix2 0 k) = argB m c (ix1 k) := by
  obtain ⟨e0, e1⟩ := at_index5 t
  refine (congrArg (V m c main_v0 : S1x512.Idx → EReal) ?_).trans (host_bias m c k)
  refine funext fun a => Fin.ext ?_
  match a with
  | ⟨0, _⟩ => show win0_5.index t 0 * 1 + 1 * 0 = 0; rw [e0]
  | ⟨1, _⟩ => show win0_5.index t 1 * 512 + 1 * k.val = k.val; rw [e1]; omega

/-! ## The result -/

theorem window_point (t : Fin cfg0.N) (y : S288x512.Idx) :
    gluWin (grid0.coords t) (iblk m c 0 t) (iblk m c 1 t) (iblk m c 2 t) (iblk m c 3 t) y
      = past (argZ m c) (256 * t.val + (y 0).val) (y 1).val :=
  gluWin_apply (argZ m c) (grid0.coords t) t.val (at_coord t) (iblk m c 0 t) (iblk m c 1 t) (iblk m c 2 t) (iblk m c 3 t)
    (read0 m c t) (read1 m c t) (read2 m c t) (read3 m c t) y

theorem point (t : Fin cfg0.N) (j : S256x512.Idx) :
    outsAt0 m c t j = conv (argZ m c) (argW m c) (argB m c) (256 * t.val + (j 0).val) (j 1) := by
  unfold outsAt0
  rw [out_eq, tapSum_apply]
  show _ = (∑ k : Fin 31, at2 (argW m c) k.val (j 1).val * past (argZ m c) (256 * t.val + (j 0).val + 2 + k.val) (j 1).val)
    + argB m c (ix1 (j 1))
  refine congrArg₂ (· + ·) (Finset.sum_congr rfl fun k _ => congrArg₂ (· * ·) ?_ ?_) (read5 m c t (j 1))
  · rw [tap_apply]
    exact congrArg (fun w : (⟨2, ![31, 512]⟩ : Shape).Idx → EReal => at2 w k.val (j 1).val) (read4 m c t)
  · unfold rows
    refine (window_point m c t _).trans ?_
    show past (argZ m c) (256 * t.val + (k.val + 2 + 1 * (j 0).val)) (0 + 1 * (j 1).val) = _
    exact congrArg₂ (past (argZ m c)) (by omega) (by omega)

theorem final : (dats m 0 c).arrAt 6 cfg0.N = resConv (argZ m c) (argW m c) (argB m c) := by
  refine (dats m 0 c).arrAt_eq_of_covers 6 _ (by decide +kernel) fun t hf y => ?_
  obtain ⟨e0, e1⟩ := at_index6 t
  blk_simp
  rw [after0_6]
  refine (point m c t y).trans (congrArg₂ (conv (argZ m c) (argW m c) (argB m c)) ?_ (Fin.ext ?_))
  · show _ = win0_6.index t 0 * 256 + 1 * (y 0).val
    rw [e0]; omega
  · show (y 1).val = win0_6.index t 1 * 512 + 1 * (y 1).val
    rw [e1]; omega

/-- From any memory the kernel ends with the convolution in its result, its arguments as they were. -/
theorem kernel_run : θ_run defs (onTc (τ := τ) (main (F := Ideal))) ⟨m, fun _ => 0, ρ⟩ fun r => ∀ c : Dev nD,
      r.2.mem ((c.tc : Thread nD τ).loc main_v1) = resConv (argZ m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 6).trans (final m c),
      ((h c).1 0).trans (((dats m 0 c).arrAt_in 0 rfl _).trans ((A_eq m c 0).trans (V_main_arg0 m c))),
      ((h c).1 4).trans (((dats m 0 c).arrAt_in 4 rfl _).trans ((A_eq m c 4).trans (V_main_arg1 m c))),
      ((h c).2 main_arg2 (by decide +kernel)).trans (V_main_arg2 m c)⟩)
    (run_main m ρ)

end Cert.ConvFwd

end
-- ==== Proof.ConvFwd.Reference.lean ====
module

public import proofs.«01_k».proof.Proof.ConvFwd.Math
public import proofs.«01_k».proof.Proof.Gen.Reference15Ideal.Run
public import proofs.«01_k».proof.Proof.Gen.Reference15Ideal.Read

@[expose] public section

/-! # The convolution's forward: what the reference computes

The reference puts 30 rows of zeros before the gated value, takes for each tap and token the row the tap meets, and sums
over the taps the products with the weights; the bias is added last. -/

set_option maxRecDepth 16384

noncomputable section

open Idealize Idealize.ShloMosaic Idealize.ShloMosaic.TcCoe Idealize.SL.Sem
open scoped BigOperators
open Cert.Conv (at2 eq_at2 gate glu past)
open Cert.Reference15Ideal Cert.Reference15Ideal.Gen Cert.Reference15Ideal.Value Cert.Reference15Ideal.Read

namespace Cert.ConvFwd

abbrev ArrZ : Type := (⟨S2048x5120, .f32⟩ : BufTy).Contents (Elt Ideal)
abbrev ArrW : Type := (⟨S31x512, .f32⟩ : BufTy).Contents (Elt Ideal)
abbrev ArrB : Type := (⟨S512, .f32⟩ : BufTy).Contents (Elt Ideal)

/-- The constant zero, as the program prints it. -/
theorem zero_bits : (FloatOps.ofBits (F := Ideal) .f32 0x00000000#32) = (0 : EReal) := Ideal.ofBits_zero_f32

/-- The constant one, as the program prints it. -/
theorem one_bits : (FloatOps.ofBits (F := Ideal) .f32 0x3F800000#32) = (1 : EReal) := Ideal.ofBits_one_f32

/-! ## The gated value and the rows before it -/

theorem ref_gate (z : ArrZ) (j : S2048x512.Idx) : val_main_v7 (F := Ideal) z j = gate z (j 0).val (j 1).val := by
  simp only [val_main_v7_apply, val_main_v6_apply, val_main_v5_apply, val_main_v4_apply, val_main_v3_apply,
    val_main_v2_apply, val_main_v1_apply, val_main_cst_apply, val_main_cst_0_apply]
  rw [gate, ← eq_at2 z (idx_main_v1 j) _ _ rfl rfl, one_bits]
  rfl

theorem ref_glu (z : ArrZ) (j : S2048x512.Idx) : val_main_v8 (F := Ideal) z j = glu z (j 0).val (j 1).val := by
  rw [val_main_v8_apply, ref_gate, val_main_v0_apply]
  exact congrArg₂ (· * ·) (eq_at2 z _ _ _ rfl rfl) rfl

/-- The gated value behind 30 rows of zeros. -/
theorem ref_padded (z : ArrZ) (j : S2078x512.Idx) :
    val_main_v10 (F := Ideal) z j = past z ((j 0).val + 2) (j 1).val := by
  have h0 : (j 0).val < 2078 := (j 0).isLt
  have h1 : (j 1).val < 512 := (j 1).isLt
  unfold val_main_v10 past
  by_cases h : (j 0).val < 30
  · rw [concatenate_pair_apply_left (s₁ := S30x512) (s₂ := S2048x512) 0 _ _ _ j rfl (ix2 ⟨(j 0).val, h⟩ ⟨(j 1).val, h1⟩)
      (fun b => match b with | ⟨0, _⟩ => rfl | ⟨1, _⟩ => rfl), if_neg (by omega)]
    simp only [val_main_v9_apply, val_main_cst_1_apply, zero_bits]
  · rw [concatenate_pair_apply_right (s₁ := S30x512) (s₂ := S2048x512) 0 _ _ _ j rfl rfl (ix2 ⟨(j 0).val - 30, by omega⟩ ⟨(j 1).val, h1⟩)
      (fun b hb => match b with | ⟨0, _⟩ => absurd rfl hb | ⟨1, _⟩ => rfl) (show (j 0).val - 30 + 30 = (j 0).val by omega),
      ref_glu, if_pos (by omega)]
    exact congrArg (fun n => glu z n (j 1).val) (show (j 0).val - 30 = (j 0).val + 2 - 32 by omega)

/-! ## The rows the taps meet -/

/-- The row number of tap `k` at token `n` is `k + n`: it is not negative, so nothing is added to it. -/
theorem row_number : ∀ r : Fin 2078, (Scalar.select (IntOp.cmpi .slt (BitVec.ofNat 32 r.val) 0#32)
    (IntOp.addi (BitVec.ofNat 32 r.val) 2078#32) (BitVec.ofNat 32 r.val)).toInt.toNat = r.val := by decide +kernel

theorem ref_row (k : Fin 31) (n : Fin 2048) :
    (val_main_v23 (F := Ideal) (ix3 k n 0)).toInt.toNat = k.val + n.val := by
  have hs : IntOp.addi (BitVec.ofNat 32 k.val) (BitVec.ofNat 32 n.val) = BitVec.ofNat 32 (k.val + n.val) :=
    (BitVec.ofNat_add ..).symm
  rw [val_main_v23_apply, val_main_v22_apply, val_main_v19_apply, val_main_v21_apply, val_main_v20_apply, val_main_v18_apply,
    val_main_v17_apply, val_main_v16_apply, val_main_v15_apply, val_main_v14_apply, val_main_v13_apply, val_main_v12_apply,
    val_main_v11_apply, val_main_c_apply, val_main_c_2_apply]
  exact (congrArg (fun r : BitVec 32 => (Scalar.select (IntOp.cmpi .slt r 0#32) (IntOp.addi r 2078#32) r).toInt.toNat) hs).trans
    (row_number ⟨k.val + n.val, by omega⟩)

/-- Rows taken by number: column `c` of the row that the number names, the last row if it names none. -/
theorem take_rows (x : S2078x512.Idx → EReal) (idx : IVec S31x2048x1 32) (k : Fin 31) (n : Fin 2048) (c : Fin 512) :
    Host.gather gather_S2078x512_S31x2048x1_S31x2048x512_2_0_n_n_0_2_1512 x idx (ix3 k n c)
      = x (ix2 ⟨min (idx (ix3 k n 0)).toInt.toNat 2077, by omega⟩ c) := by
  unfold Host.gather
  refine congrArg x (funext fun a => Fin.ext ?_)
  generalize hd : gather_S2078x512_S31x2048x1_S31x2048x512_2_0_n_n_0_2_1512 = d
  show d.start (ix3 k n c) idx a + d.batchCoord (ix3 k n c) a + d.offCoord (ix3 k n c) a = _
  subst hd
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (show (0 : Fin 2) ∈ gather_S2078x512_S31x2048x1_S31x2048x512_2_0_n_n_0_2_1512.startIndexMap from List.mem_singleton.mpr rfl)).trans ?_
    refine congrArg (fun i => min (idx i).toInt.toNat 2077) (funext fun b => Fin.ext ?_)
    match b with
    | ⟨0, _⟩ => rfl
    | ⟨1, _⟩ => rfl
    | ⟨2, _⟩ => rfl
  | ⟨1, _⟩ =>
    unfold GatherDims.start
    rw [dif_neg (fun h => by simpa using List.mem_singleton.mp h), Nat.zero_add]
    rfl

theorem ref_window (z : ArrZ) (k : Fin 31) (n : Fin 2048) (c : Fin 512) :
    val_main_v24 (F := Ideal) z (ix3 k n c) = past z (n.val + 2 + k.val) c.val := by
  unfold val_main_v24
  rw [take_rows, ref_padded]
  refine congrArg (fun r => past z r c.val) ?_
  show min (val_main_v23 (F := Ideal) (ix3 k n 0)).toInt.toNat 2077 + 2 = _
  rw [ref_row]
  omega

/-! ## The sum -/

theorem ref_conv (z : ArrZ) (w : ArrW) (b : ArrB) : val_main_v31 (F := Ideal) z w b = resConv z w b := by
  funext j
  rw [val_main_v31_apply, val_main_v28_apply, val_main_cst_3_apply, zero_bits, zero_add, val_main_v30_apply, val_main_v29_apply]
  refine congrArg₂ (· + ·) (Finset.sum_congr rfl fun k _ => ?_) (congrArg b (eq_ix1 _))
  rw [val_main_v27_apply, val_main_v26_apply, val_main_v25_apply]
  refine (mul_comm _ _).trans (congrArg₂ (· * ·) (eq_at2 w _ _ _ rfl rfl) ?_)
  exact (congrArg (val_main_v24 (F := Ideal) z) (eq_ix3 _)).trans (ref_window z k (j 0) (j 1))

variable (m : (ℓ : Loc nD τ sig) → Buf (Elt Ideal) ℓ) (ρ : Dev nD → PrngReg)

/-- From any memory the reference ends with the convolution in its result, its arguments as they were. -/
theorem reference_run : θ_run defs (onTc (τ := τ) (main (F := Ideal))) ⟨m, fun _ => 0, ρ⟩ fun r => ∀ c : Dev nD,
      r.2.mem ((c.tc : Thread nD τ).loc main_v31) = resConv (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans ((val_main_v31_eq _ _ _).trans (ref_conv _ _ _)), (h c).2⟩)
    (Cert.Reference15Ideal.Value.run m ρ)

end Cert.ConvFwd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Pre_finite
public import proofs.«01_k».proof.Proof.Gen.Reference12Ideal
public import proofs.«01_k».proof.Proof.Gen.Kernel12Ideal.Frame
public import proofs.«01_k».proof.Proof.Gen.Kernel12Ideal.Points
public import proofs.«01_k».proof.Proof.Gen.Kernel12Ideal.Launch
public import proofs.«01_k».proof.Proof.Gen.Kernel12Ideal.Skeleton
public import proofs.«01_k».proof.Proof.Gen.Kernel12Ideal
public import proofs.«01_k».proof.Proof.Gen.Kernel12.Frame
public import proofs.«01_k».proof.Proof.Gen.Kernel12.Points
public import proofs.«01_k».proof.Proof.Gen.Kernel12.Launch
public import proofs.«01_k».proof.Proof.Gen.Kernel12.Skeleton
public import proofs.«01_k».proof.Proof.Gen.Kernel12
public import proofs.«01_k».proof.Proof.Gen.Reference11Ideal
public import proofs.«01_k».proof.Proof.Gen.Kernel11Ideal.Frame
public import proofs.«01_k».proof.Proof.Gen.Kernel11Ideal.Points
public import proofs.«01_k».proof.Proof.Gen.Kernel11Ideal.Launch
public import proofs.«01_k».proof.Proof.Gen.Kernel11Ideal.Skeleton
public import proofs.«01_k».proof.Proof.Gen.Kernel11Ideal
public import proofs.«01_k».proof.Proof.Gen.Kernel11.Frame
public import proofs.«01_k».proof.Proof.Gen.Kernel11.Points
public import proofs.«01_k».proof.Proof.Gen.Kernel11.Launch
public import proofs.«01_k».proof.Proof.Gen.Kernel11.Skeleton
public import proofs.«01_k».proof.Proof.Gen.Kernel11
public import proofs.«01_k».proof.Proof.Gen.Reference10Ideal
public import proofs.«01_k».proof.Proof.Gen.Kernel10Ideal.Frame
public import proofs.«01_k».proof.Proof.Gen.Kernel10Ideal.Points
public import proofs.«01_k».proof.Proof.Gen.Kernel10Ideal.Launch
public import proofs.«01_k».proof.Proof.Gen.Kernel10Ideal.Skeleton
public import proofs.«01_k».proof.Proof.Gen.Kernel10Ideal
public import proofs.«01_k».proof.Proof.Gen.Kernel10.Frame
public import proofs.«01_k».proof.Proof.Gen.Kernel10.Points
public import proofs.«01_k».proof.Proof.Gen.Kernel10.Launch
public import proofs.«01_k».proof.Proof.Gen.Kernel10.Skeleton
public import proofs.«01_k».proof.Proof.Gen.Kernel10
public import proofs.«01_k».proof.Proof.Gen.Reference9Ideal
public import proofs.«01_k».proof.Proof.Gen.Kernel9Ideal.Frame
public import proofs.«01_k».proof.Proof.Gen.Kernel9Ideal.Points
public import proofs.«01_k».proof.Proof.Gen.Kernel9Ideal.Launch
public import proofs.«01_k».proof.Proof.Gen.Kernel9Ideal.Skeleton
public import proofs.«01_k».proof.Proof.Gen.Kernel9Ideal
public import proofs.«01_k».proof.Proof.Gen.Kernel9.Frame
public import proofs.«01_k».proof.Proof.Gen.Kernel9.Points
public import proofs.«01_k».proof.Proof.Gen.Kernel9.Launch
public import proofs.«01_k».proof.Proof.Gen.Kernel9.Skeleton
public import proofs.«01_k».proof.Proof.Gen.Kernel9
public import proofs.«01_k».proof.Proof.Gen.Reference8Ideal
public import proofs.«01_k».proof.Proof.Gen.Kernel8Ideal.Frame
public import proofs.«01_k».proof.Proof.Gen.Kernel8Ideal.Points
public import proofs.«01_k».proof.Proof.Gen.Kernel8Ideal.Launch
public import proofs.«01_k».proof.Proof.Gen.Kernel8Ideal.Skeleton
public import proofs.«01_k».proof.Proof.Gen.Kernel8Ideal
public import proofs.«01_k».proof.Proof.Gen.Kernel8.Frame
public import proofs.«01_k».proof.Proof.Gen.Kernel8.Points
public import proofs.«01_k».proof.Proof.Gen.Kernel8.Launch
public import proofs.«01_k».proof.Proof.Gen.Kernel8.Skeleton
public import proofs.«01_k».proof.Proof.Gen.Kernel8
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Reference4Ideal.Run
public import proofs.«01_k».proof.Proof.Gen.Reference4Ideal.Read
public import proofs.«01_k».proof.Proof.Gen.Reference5Ideal.Run
public import proofs.«01_k».proof.Proof.Gen.Reference5Ideal.Read
public import proofs.«01_k».proof.Proof.Gen.Reference8Ideal.Run
public import proofs.«01_k».proof.Proof.Gen.Reference8Ideal.Read
public import proofs.«01_k».proof.Proof.Gen.Reference9Ideal.Run
public import proofs.«01_k».proof.Proof.Gen.Reference9Ideal.Read
public import proofs.«01_k».proof.Proof.Gen.Reference10Ideal.Run
public import proofs.«01_k».proof.Proof.Gen.Reference10Ideal.Read
public import proofs.«01_k».proof.Proof.Gen.Reference11Ideal.Run
public import proofs.«01_k».proof.Proof.Gen.Reference11Ideal.Read
public import proofs.«01_k».proof.Proof.Gen.Reference12Ideal.Run
public import proofs.«01_k».proof.Proof.Gen.Reference12Ideal.Read
public import proofs.«01_k».proof.Proof.Gen.Reference7Ideal.Run
public import proofs.«01_k».proof.Proof.Gen.Reference7Ideal.Read
public import proofs.«01_k».proof.Proof.Gen.Reference6Ideal.Run
public import proofs.«01_k».proof.Proof.Gen.Reference6Ideal.Read
public import proofs.«01_k».proof.Proof.Gen.Reference6Ideal
public import proofs.«01_k».proof.Proof.Gen.Kernel6Ideal.Frame
public import proofs.«01_k».proof.Proof.Gen.Kernel6Ideal.Points
public import proofs.«01_k».proof.Proof.Gen.Kernel6Ideal.Launch
public import proofs.«01_k».proof.Proof.Gen.Kernel6Ideal.Skeleton
public import proofs.«01_k».proof.Proof.Gen.Kernel6Ideal
public import proofs.«01_k».proof.Proof.Gen.Kernel6.Frame
public import proofs.«01_k».proof.Proof.Gen.Kernel6.Points
public import proofs.«01_k».proof.Proof.Gen.Kernel6.Launch
public import proofs.«01_k».proof.Proof.Gen.Kernel6.Skeleton
public import proofs.«01_k».proof.Proof.Gen.Kernel6
public import proofs.«01_k».proof.Proof.Gen.Reference7Ideal
public import proofs.«01_k».proof.Proof.Gen.Kernel7Ideal.Frame
public import proofs.«01_k».proof.Proof.Gen.Kernel7Ideal.Points
public import proofs.«01_k».proof.Proof.Gen.Kernel7Ideal.Launch
public import proofs.«01_k».proof.Proof.Gen.Kernel7Ideal.Skeleton
public import proofs.«01_k».proof.Proof.Gen.Kernel7Ideal
public import proofs.«01_k».proof.Proof.Gen.Kernel7.Frame
public import proofs.«01_k».proof.Proof.Gen.Kernel7.Points
public import proofs.«01_k».proof.Proof.Gen.Kernel7.Launch
public import proofs.«01_k».proof.Proof.Gen.Kernel7.Skeleton
public import proofs.«01_k».proof.Proof.Gen.Kernel7
public import proofs.«01_k».proof.Proof.Conv.Agree
public import proofs.«01_k».proof.Proof.TnGate.Reference
public import proofs.«01_k».proof.Proof.FfnBwd.Reference
public import proofs.«01_k».proof.Proof.FfnBwd.Finite
public import proofs.«01_k».proof.Proof.InBwd.Reference
public import proofs.«01_k».proof.Proof.TnIn.Reference
public import proofs.«01_k».proof.Proof.TnDown.Reference
public import proofs.«01_k».proof.Proof.TnOut.Reference
public import proofs.«01_k».proof.Proof.TnProj.Reference
public import proofs.«01_k».proof.Proof.TnGlu.Reference
public import proofs.«01_k».proof.Proof.GroupTn.Reference
public import proofs.«01_k».proof.Proof.InFwd.Reference
public import proofs.«01_k».proof.Proof.FfnFwd.Reference
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference13Ideal.Run
public import proofs.«01_k».proof.Proof.Gen.Reference13Ideal.Read
public import proofs.«01_k».proof.Proof.Gen.Reference15Ideal.Run
public import proofs.«01_k».proof.Proof.Gen.Reference15Ideal.Read
public import proofs.«01_k».proof.Proof.Merge.Final
public import proofs.«01_k».proof.Proof.Merge.Reference
public import proofs.«01_k».proof.Proof.ConvFwd.Final
public import proofs.«01_k».proof.Proof.ConvFwd.Reference
public import Idealize.ShloMosaic.Adequacy
public import Idealize.ShloMosaic.Init

@[expose] public section

noncomputable section

namespace Cert.Proof

open Idealize.ShloMosaic Idealize.SL.Sem Cert.Kernel

/-! The references leave their arguments alone and declare no semaphore. -/

theorem reference_frame : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.Conv.reference_run m ρ)

theorem reference2_frame : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run m ρ)

theorem reference3_frame : Cert.quiescent_Reference3Ideal := fun m ρ _ =>
  (θ_run Cert.Reference3Ideal.defs _ _).mono
    (fun r h => ⟨fun c => (h c).2.2.2.2.2, Idealize.ShloMosaic.sem_eq_zero_of_no_sems (by decide) r.2⟩)
    (Cert.Reference3Ideal.Value.run m ρ)

theorem reference4_frame : Cert.quiescent_Reference4Ideal := fun m ρ _ =>
  (θ_run Cert.Reference4Ideal.defs _ _).mono
    (fun r h => ⟨fun c => (h c).2.2, Idealize.ShloMosaic.sem_eq_zero_of_no_sems (by decide) r.2⟩)
    (Cert.Reference4Ideal.Value.run m ρ)

theorem reference5_frame : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run m ρ)

theorem reference8_frame : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run m ρ)

theorem reference9_frame : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run m ρ)

theorem reference10_frame : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run m ρ)

theorem reference11_frame : Cert.quiescent_Reference11Ideal := fun m ρ _ =>
  (θ_run Cert.Reference11Ideal.defs _ _).mono
    (fun r h => ⟨fun c => (h c).2, Idealize.ShloMosaic.sem_eq_zero_of_no_sems (by decide) r.2⟩)
    (Cert.Reference11Ideal.Value.run m ρ)

theorem reference12_frame : Cert.quiescent_Reference12Ideal := fun m ρ _ =>
  (θ_run Cert.Reference12Ideal.defs _ _).mono
    (fun r h => ⟨fun c => (h c).2, Idealize.ShloMosaic.sem_eq_zero_of_no_sems (by decide) r.2⟩)
    (Cert.Reference12Ideal.Value.run m ρ)

theorem reference7_frame : Cert.quiescent_Reference7Ideal := fun m ρ _ =>
  (θ_run Cert.Reference7Ideal.defs _ _).mono
    (fun r h => ⟨fun c => (h c).2.2, Idealize.ShloMosaic.sem_eq_zero_of_no_sems (by decide) r.2⟩)
    (Cert.Reference7Ideal.Value.run m ρ)

theorem reference6_frame : Cert.quiescent_Reference6Ideal := fun m ρ _ =>
  (θ_run Cert.Reference6Ideal.defs _ _).mono
    (fun r h => ⟨fun c => (h c).2.2.2.2, Idealize.ShloMosaic.sem_eq_zero_of_no_sems (by decide) r.2⟩)
    (Cert.Reference6Ideal.Value.run m ρ)

/-- The convolution's backward pass: kernel and reference end with the same four gradients, both runs stated in the same sums of
    their arguments. -/
theorem same_gradients : Cert.algebraic_KernelIdeal_ReferenceIdeal := by
  intro m ρ m' ρ' _ hagree
  refine ⟨_, _, _, _, Cert.Conv.kernel_run m ρ, ?_⟩
  refine (θ_run Cert.ReferenceIdeal.defs _ _).mono (fun r h c => ?_) (Cert.Conv.reference_run m' ρ')
  have h := h c
  obtain ⟨e0, e1, e2⟩ := hagree c
  exact ⟨h.1.trans (by rw [e0, e1, e2]), h.2.1.trans (by rw [e0, e1, e2]), h.2.2.1.trans (by rw [e0, e1]),
    h.2.2.2.1.trans (by rw [e0]), h.2.2.2.2⟩

/-- The gate's weights' gradient: both runs end with the same results, stated in the same sums. -/
theorem same_results2 : Cert.algebraic_Kernel2Ideal_Reference2Ideal := by
  intro m ρ m' ρ' _ hagree
  refine ⟨_, Cert.TnGate.kernel_run m ρ, ?_⟩
  refine (θ_run Cert.Reference2Ideal.defs _ _).mono (fun r h c => ?_) (Cert.TnGate.reference_run m' ρ')
  have h := h c
  obtain ⟨e0, e1⟩ := hagree c
  exact ⟨h.1.trans (by rw [e0, e1]), h.2⟩

/-- The backward input projection: both runs end with the same results, stated in the same sums. -/
theorem same_results4 : Cert.algebraic_Kernel4Ideal_Reference4Ideal := by
  intro m ρ m' ρ' _ hagree
  refine ⟨_, _, Cert.InBwd.kernel_run m ρ, ?_⟩
  refine (θ_run Cert.Reference4Ideal.defs _ _).mono (fun r h c => ?_) (Cert.InBwd.reference_run m' ρ')
  have h := h c
  obtain ⟨e0, e1, e2, e3, e4⟩ := hagree c
  exact ⟨h.1.trans (by rw [e0, e1, e2, e3, e4]), h.2.1.trans (by rw [e0, e2, e4]), h.2.2⟩

/-- The input projection's weights' gradient: both runs end with the same results, stated in the same sums. -/
theorem same_results5 : Cert.algebraic_Kernel5Ideal_Reference5Ideal := by
  intro m ρ m' ρ' _ hagree
  refine ⟨_, Cert.TnIn.kernel_run m ρ, ?_⟩
  refine (θ_run Cert.Reference5Ideal.defs _ _).mono (fun r h c => ?_) (Cert.TnIn.reference_run m' ρ')
  have h := h c
  obtain ⟨e0, e1⟩ := hagree c
  exact ⟨h.1.trans (by rw [e0, e1]), h.2⟩

/-- The down projection's weights' gradient: both runs end with the same results, stated in the same sums. -/
theorem same_results8 : Cert.algebraic_Kernel8Ideal_Reference8Ideal := by
  intro m ρ m' ρ' _ hagree
  refine ⟨_, Cert.TnDown.kernel_run m ρ, ?_⟩
  refine (θ_run Cert.Reference8Ideal.defs _ _).mono (fun r h c => ?_) (Cert.TnDown.reference_run m' ρ')
  have h := h c
  obtain ⟨e0, e1⟩ := hagree c
  exact ⟨h.1.trans (by rw [e0, e1]), h.2⟩

/-- The output projection's weights' gradient: both runs end with the same results, stated in the same sums. -/
theorem same_results9 : Cert.algebraic_Kernel9Ideal_Reference9Ideal := by
  intro m ρ m' ρ' _ hagree
  refine ⟨_, Cert.TnOut.kernel_run m ρ, ?_⟩
  refine (θ_run Cert.Reference9Ideal.defs _ _).mono (fun r h c => ?_) (Cert.TnOut.reference_run m' ρ')
  have h := h c
  obtain ⟨e0, e1⟩ := hagree c
  exact ⟨h.1.trans (by rw [e0, e1]), h.2⟩

/-- The mixers' projections' weights' gradient: both runs end with the same results, stated in the same sums. -/
theorem same_results10 : Cert.algebraic_Kernel10Ideal_Reference10Ideal := by
  intro m ρ m' ρ' _ hagree
  refine ⟨_, Cert.TnProj.kernel_run m ρ, ?_⟩
  refine (θ_run Cert.Reference10Ideal.defs _ _).mono (fun r h c => ?_) (Cert.TnProj.reference_run m' ρ')
  have h := h c
  obtain ⟨e0, e1⟩ := hagree c
  exact ⟨h.1.trans (by rw [e0, e1]), h.2⟩

/-- The gated unit's weights' gradient: both runs end with the same results, stated in the same sums. -/
theorem same_results11 : Cert.algebraic_Kernel11Ideal_Reference11Ideal := by
  intro m ρ m' ρ' _ hagree
  refine ⟨_, Cert.TnGlu.kernel_run m ρ, ?_⟩
  refine (θ_run Cert.Reference11Ideal.defs _ _).mono (fun r h c => ?_) (Cert.TnGlu.reference_run m' ρ')
  have h := h c
  obtain ⟨e0, e1⟩ := hagree c
  exact ⟨h.1.trans (by rw [e0, e1]), h.2⟩

/-- The pooling groups' weights' gradient: both runs end with the same results, stated in the same sums. -/
theorem same_results12 : Cert.algebraic_Kernel12Ideal_Reference12Ideal := by
  intro m ρ m' ρ' _ hagree
  refine ⟨_, Cert.GroupTn.kernel_run m ρ, ?_⟩
  refine (θ_run Cert.Reference12Ideal.defs _ _).mono (fun r h c => ?_) (Cert.GroupTn.reference_run m' ρ')
  have h := h c
  obtain ⟨e0, e1⟩ := hagree c
  exact ⟨h.1.trans (by rw [e0, e1]), h.2⟩

/-! The printed forward calls have the idealized ones' text, so the frames, proved for any float values, are theirs too. -/

theorem same_defs7 : Cert.Kernel7.defs (F := Bits) = Cert.Kernel7Ideal.defs (F := Bits) := by
  refine congrArg (Pipeline.defs Cert.Kernel7.pcfgs) ?_
  unfold Cert.Kernel7.defs₀ Cert.Kernel7Ideal.defs₀
  refine congrArg Defs.onTc (funext fun l => ?_)
  match l with
  | 0 => rfl

theorem frame_kernel7 : Cert.quiescent_Kernel7 := fun m ρ _ => by
  rw [same_defs7]
  exact Cert.Kernel7Ideal.InFwd.frame (F := Bits) m ρ

theorem same_defs6 : Cert.Kernel6.defs (F := Bits) = Cert.Kernel6Ideal.defs (F := Bits) := by
  refine congrArg (Pipeline.defs Cert.Kernel6.pcfgs) ?_
  unfold Cert.Kernel6.defs₀ Cert.Kernel6Ideal.defs₀
  refine congrArg Defs.onTc (funext fun l => ?_)
  match l with
  | 0 => rfl

theorem frame_kernel6 : Cert.quiescent_Kernel6 := fun m ρ _ => by
  rw [same_defs6]
  exact Cert.Kernel6Ideal.FfnFwd.frame (F := Bits) m ρ

/-- The forward input projection: both runs end with the same results, stated in the same sums. -/
theorem same_results7 : Cert.algebraic_Kernel7Ideal_Reference7Ideal := by
  intro m ρ m' ρ' _ hagree
  refine ⟨_, _, Cert.InFwd.kernel_run m ρ, ?_⟩
  refine (θ_run Cert.Reference7Ideal.defs _ _).mono (fun r h c => ?_) (Cert.InFwd.reference_run m' ρ')
  have h := h c
  obtain ⟨e0, e1, e2⟩ := hagree c
  exact ⟨h.1.trans (by rw [e0, e1, e2]), h.2.1.trans (by rw [e0, e1]), h.2.2⟩

/-- The forward feed-forward: both runs end with the same results, stated in the same sums. -/
theorem same_results6 : Cert.algebraic_Kernel6Ideal_Reference6Ideal := by
  intro m ρ m' ρ' _ hagree
  refine ⟨_, _, _, _, Cert.FfnFwd.kernel_run m ρ, ?_⟩
  refine (θ_run Cert.Reference6Ideal.defs _ _).mono (fun r h c => ?_) (Cert.FfnFwd.reference_run m' ρ')
  have h := h c
  obtain ⟨e0, e1, e2, e3, e4⟩ := hagree c
  exact ⟨h.1.trans (by rw [e0, e1, e2, e3, e4]), h.2.1.trans (by rw [e0, e1, e2]), h.2.2.1.trans (by rw [e0, e1, e3]), h.2.2.2.1.trans (by rw [e0, e1]), h.2.2.2.2⟩

/-- The backward feed-forward, for arguments that are real. -/
theorem same_results3 : Cert.algebraic_Kernel3Ideal_Reference3Ideal_pre_finite (hPre_finite := Cert.Pre_finite.Gen.facts) := by
  intro m ρ m' ρ' hpre hagree
  refine ⟨_, _, _, _, _, Cert.FfnBwd.kernel_run m ρ, ?_⟩
  refine (θ_run Cert.Reference3Ideal.defs _ _).mono (fun r h c => ?_) (Cert.FfnBwd.reference_run m' ρ' fun c => ?_)
  · have h := h c
    obtain ⟨e0, e1, e2, e3, e4, e5⟩ := hagree c
    exact ⟨h.1.trans (by rw [e0, e1, e2, e3, e4, e5]), h.2.1.trans (by rw [e0, e1, e2, e3, e4, e5]),
      h.2.2.1.trans (by rw [e0, e1, e2, e3, e4, e5]), h.2.2.2.1.trans (by rw [e0, e1, e2, e3, e5]),
      h.2.2.2.2.1.trans (by rw [e1, e2, e3, e4]), h.2.2.2.2.2⟩
  · obtain ⟨e0, e1, e2, e3, e4, e5⟩ := hagree c
    rw [e0, e1, e2, e4, e5]
    exact Cert.FfnBwd.reals_of_finite _ _ _ _ _ _ (hpre c)

theorem reference13_frame : Cert.quiescent_Reference13Ideal := fun m ρ _ =>
  (θ_run Cert.Reference13Ideal.defs _ _).mono
    (fun r h => ⟨fun c => (h c).2, Idealize.ShloMosaic.sem_eq_zero_of_no_sems (by decide) r.2⟩)
    (Cert.Reference13Ideal.Value.run m ρ)

/-- The merge of the three mixers: both runs end with the same result, stated in the same sums. -/
theorem same_results13 : Cert.algebraic_Kernel13Ideal_Reference13Ideal := by
  intro m ρ m' ρ' _ hagree
  refine ⟨_, Cert.Merge.kernel_run m ρ, ?_⟩
  refine (θ_run Cert.Reference13Ideal.defs _ _).mono (fun r h c => ?_) (Cert.Merge.reference_run m' ρ')
  have h := h c
  obtain ⟨e0, e1, e2, e3, e4, e5, e6, e7, e8, e9, e10, e11, e12, e13, e14, e15⟩ := hagree c
  exact ⟨h.1.trans (by rw [e0, e1, e2, e3, e4, e5, e6, e7, e8, e9, e10, e11, e12, e13, e14, e15]), h.2⟩

theorem reference15_frame : Cert.quiescent_Reference15Ideal := fun m ρ _ =>
  (θ_run Cert.Reference15Ideal.defs _ _).mono
    (fun r h => ⟨fun c => (h c).2, Idealize.ShloMosaic.sem_eq_zero_of_no_sems (by decide) r.2⟩)
    (Cert.Reference15Ideal.Value.run m ρ)

/-- The forward convolution: both runs end with the same result, stated in the same sums. -/
theorem same_results15 : Cert.algebraic_Kernel15Ideal_Reference15Ideal := by
  intro m ρ m' ρ' _ hagree
  refine ⟨_, Cert.ConvFwd.kernel_run m ρ, ?_⟩
  refine (θ_run Cert.Reference15Ideal.defs _ _).mono (fun r h c => ?_) (Cert.ConvFwd.reference_run m' ρ')
  have h := h c
  obtain ⟨e0, e1, e2⟩ := hagree c
  exact ⟨h.1.trans (by rw [e0, e1, e2]), h.2⟩

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel7.Gen.facts,
    Cert.Kernel7Ideal.Gen.facts,
    Cert.Reference7Ideal.Gen.facts,
    Cert.Kernel6.Gen.facts,
    Cert.Kernel6Ideal.Gen.facts,
    Cert.Reference6Ideal.Gen.facts,
    Cert.Kernel13.Gen.facts,
    Cert.Kernel13Ideal.Gen.facts,
    Cert.Reference13Ideal.Gen.facts,
    Cert.Kernel15.Gen.facts,
    Cert.Kernel15Ideal.Gen.facts,
    Cert.Reference15Ideal.Gen.facts,
    Cert.Pre_finite.Gen.facts,
    fun m ρ _ => Cert.Kernel.Gen.frame m ρ,
    fun m ρ _ => Cert.KernelIdeal.Gen.frame m ρ,
    reference_frame,
    fun m ρ _ => Cert.Kernel2.Gen.frame m ρ,
    fun m ρ _ => Cert.Kernel2Ideal.Gen.frame m ρ,
    reference2_frame,
    fun m ρ _ => Cert.Kernel3.Gen.frame m ρ,
    fun m ρ _ => Cert.Kernel3Ideal.Gen.frame m ρ,
    fun m ρ _ => Cert.Kernel3Ideal.Gen.frame m ρ,
    reference3_frame,
    fun m ρ _ => reference3_frame m ρ trivial,
    fun m ρ _ => Cert.Kernel4.Gen.frame m ρ,
    fun m ρ _ => Cert.Kernel4Ideal.Gen.frame m ρ,
    reference4_frame,
    fun m ρ _ => Cert.Kernel5.Gen.frame m ρ,
    fun m ρ _ => Cert.Kernel5Ideal.Gen.frame m ρ,
    reference5_frame,
    fun m ρ _ => Cert.Kernel8.Gen.frame m ρ,
    fun m ρ _ => Cert.Kernel8Ideal.Gen.frame m ρ,
    reference8_frame,
    fun m ρ _ => Cert.Kernel9.Gen.frame m ρ,
    fun m ρ _ => Cert.Kernel9Ideal.Gen.frame m ρ,
    reference9_frame,
    fun m ρ _ => Cert.Kernel10.Gen.frame m ρ,
    fun m ρ _ => Cert.Kernel10Ideal.Gen.frame m ρ,
    reference10_frame,
    fun m ρ _ => Cert.Kernel11.Gen.frame m ρ,
    fun m ρ _ => Cert.Kernel11Ideal.Gen.frame m ρ,
    reference11_frame,
    fun m ρ _ => Cert.Kernel12.Gen.frame m ρ,
    fun m ρ _ => Cert.Kernel12Ideal.Gen.frame m ρ,
    reference12_frame,
    frame_kernel7,
    fun m ρ _ => Cert.Kernel7Ideal.InFwd.frame m ρ,
    reference7_frame,
    frame_kernel6,
    fun m ρ _ => Cert.Kernel6Ideal.FfnFwd.frame m ρ,
    reference6_frame,
    fun m ρ _ => Cert.Kernel13.Gen.frame m ρ,
    fun m ρ _ => Cert.Kernel13Ideal.Gen.frame m ρ,
    reference13_frame,
    fun m ρ _ => Cert.Kernel15.Gen.frame m ρ,
    fun m ρ _ => Cert.Kernel15Ideal.Gen.frame m ρ,
    reference15_frame,
    trivial,
    same_gradients,
    trivial,
    same_results2,
    trivial,
    same_results3,
    trivial,
    same_results4,
    trivial,
    same_results5,
    trivial,
    same_results8,
    trivial,
    same_results9,
    trivial,
    same_results10,
    trivial,
    same_results11,
    trivial,
    same_results12,
    trivial,
    same_results7,
    trivial,
    same_results6,
    trivial,
    same_results13,
    trivial,
    same_results15⟩

end Cert.Proof

end
